-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Sproj (m : (ℓ : Loc Cert.Sproj.nD Cert.Sproj.τ Cert.Sproj.sig) → Buf (Elt Bits) ℓ) : Prop :=
  True

def Pre_SprojIdeal (m : (ℓ : Loc Cert.SprojIdeal.nD Cert.SprojIdeal.τ Cert.SprojIdeal.sig) → Buf (Elt Ideal) ℓ) : Prop :=
  True

def Pre_SprojRefIdeal (m : (ℓ : Loc Cert.SprojRefIdeal.nD Cert.SprojRefIdeal.τ Cert.SprojRefIdeal.sig) → Buf (Elt Ideal) ℓ) : Prop :=
  True

def Pre_Sgla (m : (ℓ : Loc Cert.Sgla.nD Cert.Sgla.τ Cert.Sgla.sig) → Buf (Elt Bits) ℓ) : Prop :=
  True

def Pre_SglaIdeal (m : (ℓ : Loc Cert.SglaIdeal.nD Cert.SglaIdeal.τ Cert.SglaIdeal.sig) → Buf (Elt Ideal) ℓ) : Prop :=
  True

def Pre_SglaRefIdeal (m : (ℓ : Loc Cert.SglaRefIdeal.nD Cert.SglaRefIdeal.τ Cert.SglaRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Pgla (m : (ℓ : Loc Cert.Pgla.nD Cert.Pgla.τ Cert.Pgla.sig) → Buf (Elt Bits) ℓ) : Prop :=
  True

def Pre_PglaIdeal (m : (ℓ : Loc Cert.PglaIdeal.nD Cert.PglaIdeal.τ Cert.PglaIdeal.sig) → Buf (Elt Ideal) ℓ) : Prop :=
  True

def Pre_PglaIdeal_gla_finite [hPre_gla_finite : Cert.Pre_gla_finite.Facts] (m : (ℓ : Loc Cert.PglaIdeal.nD Cert.PglaIdeal.τ Cert.PglaIdeal.sig) → Buf (Elt Ideal) ℓ) : Prop :=
  ∀ c : Dev Cert.PglaIdeal.nD,
    (Cert.Pre_gla_finite.fn (F := Ideal) (m ((c.tc : Thread Cert.PglaIdeal.nD Cert.PglaIdeal.τ).loc Cert.PglaIdeal.main_arg0)) (m ((c.tc : Thread Cert.PglaIdeal.nD Cert.PglaIdeal.τ).loc Cert.PglaIdeal.main_arg1)) (m ((c.tc : Thread Cert.PglaIdeal.nD Cert.PglaIdeal.τ).loc Cert.PglaIdeal.main_arg2)) (m ((c.tc : Thread Cert.PglaIdeal.nD Cert.PglaIdeal.τ).loc Cert.PglaIdeal.main_arg3)) (m ((c.tc : Thread Cert.PglaIdeal.nD Cert.PglaIdeal.τ).loc Cert.PglaIdeal.main_arg4)) (m ((c.tc : Thread Cert.PglaIdeal.nD Cert.PglaIdeal.τ).loc Cert.PglaIdeal.main_arg5))) = (fun _ => 1#1)

def Pre_PglaRefIdeal (m : (ℓ : Loc Cert.PglaRefIdeal.nD Cert.PglaRefIdeal.τ Cert.PglaRefIdeal.sig) → Buf (Elt Ideal) ℓ) : Prop :=
  True

def Pre_PglaRefIdeal_gla_finite [hPre_gla_finite : Cert.Pre_gla_finite.Facts] (m : (ℓ : Loc Cert.PglaRefIdeal.nD Cert.PglaRefIdeal.τ Cert.PglaRefIdeal.sig) → Buf (Elt Ideal) ℓ) : Prop :=
  ∀ c : Dev Cert.PglaRefIdeal.nD,
    (Cert.Pre_gla_finite.fn (F := Ideal) (m ((c.tc : Thread Cert.PglaRefIdeal.nD Cert.PglaRefIdeal.τ).loc Cert.PglaRefIdeal.main_arg0)) (m ((c.tc : Thread Cert.PglaRefIdeal.nD Cert.PglaRefIdeal.τ).loc Cert.PglaRefIdeal.main_arg1)) (m ((c.tc : Thread Cert.PglaRefIdeal.nD Cert.PglaRefIdeal.τ).loc Cert.PglaRefIdeal.main_arg2)) (m ((c.tc : Thread Cert.PglaRefIdeal.nD Cert.PglaRefIdeal.τ).loc Cert.PglaRefIdeal.main_arg3)) (m ((c.tc : Thread Cert.PglaRefIdeal.nD Cert.PglaRefIdeal.τ).loc Cert.PglaRefIdeal.main_arg4)) (m ((c.tc : Thread Cert.PglaRefIdeal.nD Cert.PglaRefIdeal.τ).loc Cert.PglaRefIdeal.main_arg5))) = (fun _ => 1#1)

def Pre_Sswa (m : (ℓ : Loc Cert.Sswa.nD Cert.Sswa.τ Cert.Sswa.sig) → Buf (Elt Bits) ℓ) : Prop :=
  True

def Pre_SswaIdeal (m : (ℓ : Loc Cert.SswaIdeal.nD Cert.SswaIdeal.τ Cert.SswaIdeal.sig) → Buf (Elt Ideal) ℓ) : Prop :=
  True

def Pre_SswaIdeal_ssw_finite [hPre_ssw_finite : Cert.Pre_ssw_finite.Facts] (m : (ℓ : Loc Cert.SswaIdeal.nD Cert.SswaIdeal.τ Cert.SswaIdeal.sig) → Buf (Elt Ideal) ℓ) : Prop :=
  ∀ c : Dev Cert.SswaIdeal.nD,
    (Cert.Pre_ssw_finite.fn (F := Ideal) (m ((c.tc : Thread Cert.SswaIdeal.nD Cert.SswaIdeal.τ).loc Cert.SswaIdeal.main_arg0)) (m ((c.tc : Thread Cert.SswaIdeal.nD Cert.SswaIdeal.τ).loc Cert.SswaIdeal.main_arg1)) (m ((c.tc : Thread Cert.SswaIdeal.nD Cert.SswaIdeal.τ).loc Cert.SswaIdeal.main_arg2)) (m ((c.tc : Thread Cert.SswaIdeal.nD Cert.SswaIdeal.τ).loc Cert.SswaIdeal.main_arg3)) (m ((c.tc : Thread Cert.SswaIdeal.nD Cert.SswaIdeal.τ).loc Cert.SswaIdeal.main_arg4)) (m ((c.tc : Thread Cert.SswaIdeal.nD Cert.SswaIdeal.τ).loc Cert.SswaIdeal.main_arg5))) = (fun _ => 1#1)

def Pre_SswaRefIdeal (m : (ℓ : Loc Cert.SswaRefIdeal.nD Cert.SswaRefIdeal.τ Cert.SswaRefIdeal.sig) → Buf (Elt Ideal) ℓ) : Prop :=
  True

def Pre_SswaRefIdeal_ssw_finite [hPre_ssw_finite : Cert.Pre_ssw_finite.Facts] (m : (ℓ : Loc Cert.SswaRefIdeal.nD Cert.SswaRefIdeal.τ Cert.SswaRefIdeal.sig) → Buf (Elt Ideal) ℓ) : Prop :=
  ∀ c : Dev Cert.SswaRefIdeal.nD,
    (Cert.Pre_ssw_finite.fn (F := Ideal) (m ((c.tc : Thread Cert.SswaRefIdeal.nD Cert.SswaRefIdeal.τ).loc Cert.SswaRefIdeal.main_arg0)) (m ((c.tc : Thread Cert.SswaRefIdeal.nD Cert.SswaRefIdeal.τ).loc Cert.SswaRefIdeal.main_arg1)) (m ((c.tc : Thread Cert.SswaRefIdeal.nD Cert.SswaRefIdeal.τ).loc Cert.SswaRefIdeal.main_arg2)) (m ((c.tc : Thread Cert.SswaRefIdeal.nD Cert.SswaRefIdeal.τ).loc Cert.SswaRefIdeal.main_arg3)) (m ((c.tc : Thread Cert.SswaRefIdeal.nD Cert.SswaRefIdeal.τ).loc Cert.SswaRefIdeal.main_arg4)) (m ((c.tc : Thread Cert.SswaRefIdeal.nD Cert.SswaRefIdeal.τ).loc Cert.SswaRefIdeal.main_arg5))) = (fun _ => 1#1)

def Pre_Soutproj (m : (ℓ : Loc Cert.Soutproj.nD Cert.Soutproj.τ Cert.Soutproj.sig) → Buf (Elt Bits) ℓ) : Prop :=
  True

def Pre_SoutprojIdeal (m : (ℓ : Loc Cert.SoutprojIdeal.nD Cert.SoutprojIdeal.τ Cert.SoutprojIdeal.sig) → Buf (Elt Ideal) ℓ) : Prop :=
  True

def Pre_SoutprojRefIdeal (m : (ℓ : Loc Cert.SoutprojRefIdeal.nD Cert.SoutprojRefIdeal.τ Cert.SoutprojRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2)
      ∧ r.2.mem ((c.tc : Thread Cert.Adaln.nD Cert.Adaln.τ).loc Cert.Adaln.main_arg3) = m ((c.tc : Thread Cert.Adaln.nD Cert.Adaln.τ).loc Cert.Adaln.main_arg3))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
      ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2)
      ∧ r.2.mem ((c.tc : Thread Cert.AdalnRefIdeal.nD Cert.AdalnRefIdeal.τ).loc Cert.AdalnRefIdeal.main_arg3) = m ((c.tc : Thread Cert.AdalnRefIdeal.nD Cert.AdalnRefIdeal.τ).loc Cert.AdalnRefIdeal.main_arg3))
      ∧ r.2.sem = fun _ => 0)

def quiescent_Sproj [hSproj : Cert.Sproj.Facts] : Prop :=
  ∀ (m : (ℓ : Loc Cert.Sproj.nD Cert.Sproj.τ Cert.Sproj.sig) → Buf (Elt Bits) ℓ) (g : Dev Cert.Sproj.nD → PrngReg), Pre_Sproj m →
    θ_run (Cert.Sproj.defs (F := Bits)) (onTc (τ := Cert.Sproj.τ) (Cert.Sproj.main (F := Bits))) ⟨m, fun _ => 0, g⟩ (fun r => (∀ c : Dev Cert.Sproj.nD,
      r.2.mem ((c.tc : Thread Cert.Sproj.nD Cert.Sproj.τ).loc Cert.Sproj.main_arg0) = m ((c.tc : Thread Cert.Sproj.nD Cert.Sproj.τ).loc Cert.Sproj.main_arg0)
      ∧ r.2.mem ((c.tc : Thread Cert.Sproj.nD Cert.Sproj.τ).loc Cert.Sproj.main_arg1) = m ((c.tc : Thread Cert.Sproj.nD Cert.Sproj.τ).loc Cert.Sproj.main_arg1)
      ∧ r.2.mem ((c.tc : Thread Cert.Sproj.nD Cert.Sproj.τ).loc Cert.Sproj.main_arg2) = m ((c.tc : Thread Cert.Sproj.nD Cert.Sproj.τ).loc Cert.Sproj.main_arg2)
      ∧ r.2.mem ((c.tc : Thread Cert.Sproj.nD Cert.Sproj.τ).loc Cert.Sproj.main_arg3) = m ((c.tc : Thread Cert.Sproj.nD Cert.Sproj.τ).loc Cert.Sproj.main_arg3)
      ∧ r.2.mem ((c.tc : Thread Cert.Sproj.nD Cert.Sproj.τ).loc Cert.Sproj.main_arg4) = m ((c.tc : Thread Cert.Sproj.nD Cert.Sproj.τ).loc Cert.Sproj.main_arg4)
      ∧ r.2.mem ((c.tc : Thread Cert.Sproj.nD Cert.Sproj.τ).loc Cert.Sproj.main_arg5) = m ((c.tc : Thread Cert.Sproj.nD Cert.Sproj.τ).loc Cert.Sproj.main_arg5))
      ∧ r.2.sem = fun _ => 0)

def quiescent_SprojIdeal [hSprojIdeal : Cert.SprojIdeal.Facts] : Prop :=
  ∀ (m : (ℓ : Loc Cert.SprojIdeal.nD Cert.SprojIdeal.τ Cert.SprojIdeal.sig) → Buf (Elt Ideal) ℓ) (g : Dev Cert.SprojIdeal.nD → PrngReg), Pre_SprojIdeal m →
    θ_run (Cert.SprojIdeal.defs (F := Ideal)) (onTc (τ := Cert.SprojIdeal.τ) (Cert.SprojIdeal.main (F := Ideal))) ⟨m, fun _ => 0, g⟩ (fun r => (∀ c : Dev Cert.SprojIdeal.nD,
      r.2.mem ((c.tc : Thread Cert.SprojIdeal.nD Cert.SprojIdeal.τ).loc Cert.SprojIdeal.main_arg0) = m ((c.tc : Thread Cert.SprojIdeal.nD Cert.SprojIdeal.τ).loc Cert.SprojIdeal.main_arg0)
      ∧ r.2.mem ((c.tc : Thread Cert.SprojIdeal.nD Cert.SprojIdeal.τ).loc Cert.SprojIdeal.main_arg1) = m ((c.tc : Thread Cert.SprojIdeal.nD Cert.SprojIdeal.τ).loc Cert.SprojIdeal.main_arg1)
      ∧ r.2.mem ((c.tc : Thread Cert.SprojIdeal.nD Cert.SprojIdeal.τ).loc Cert.SprojIdeal.main_arg2) = m ((c.tc : Thread Cert.SprojIdeal.nD Cert.SprojIdeal.τ).loc Cert.SprojIdeal.main_arg2)
      ∧ r.2.mem ((c.tc : Thread Cert.SprojIdeal.nD Cert.SprojIdeal.τ).loc Cert.SprojIdeal.main_arg3) = m ((c.tc : Thread Cert.SprojIdeal.nD Cert.SprojIdeal.τ).loc Cert.SprojIdeal.main_arg3)
      ∧ r.2.mem ((c.tc : Thread Cert.SprojIdeal.nD Cert.SprojIdeal.τ).loc Cert.SprojIdeal.main_arg4) = m ((c.tc : Thread Cert.SprojIdeal.nD Cert.SprojIdeal.τ).loc Cert.SprojIdeal.main_arg4)
      ∧ r.2.mem ((c.tc : Thread Cert.SprojIdeal.nD Cert.SprojIdeal.τ).loc Cert.SprojIdeal.main_arg5) = m ((c.tc : Thread Cert.SprojIdeal.nD Cert.SprojIdeal.τ).loc Cert.SprojIdeal.main_arg5))
      ∧ r.2.sem = fun _ => 0)

def quiescent_SprojRefIdeal [hSprojRefIdeal : Cert.SprojRefIdeal.Facts] : Prop :=
  ∀ (m : (ℓ : Loc Cert.SprojRefIdeal.nD Cert.SprojRefIdeal.τ Cert.SprojRefIdeal.sig) → Buf (Elt Ideal) ℓ) (g : Dev Cert.SprojRefIdeal.nD → PrngReg), Pre_SprojRefIdeal m →
    θ_run (Cert.SprojRefIdeal.defs (F := Ideal)) (onTc (τ := Cert.SprojRefIdeal.τ) (Cert.SprojRefIdeal.main (F := Ideal))) ⟨m, fun _ => 0, g⟩ (fun r => (∀ c : Dev Cert.SprojRefIdeal.nD,
      r.2.mem ((c.tc : Thread Cert.SprojRefIdeal.nD Cert.SprojRefIdeal.τ).loc Cert.SprojRefIdeal.main_arg0) = m ((c.tc : Thread Cert.SprojRefIdeal.nD Cert.SprojRefIdeal.τ).loc Cert.SprojRefIdeal.main_arg0)
      ∧ r.2.mem ((c.tc : Thread Cert.SprojRefIdeal.nD Cert.SprojRefIdeal.τ).loc Cert.SprojRefIdeal.main_arg1) = m ((c.tc : Thread Cert.SprojRefIdeal.nD Cert.SprojRefIdeal.τ).loc Cert.SprojRefIdeal.main_arg1)
      ∧ r.2.mem ((c.tc : Thread Cert.SprojRefIdeal.nD Cert.SprojRefIdeal.τ).loc Cert.SprojRefIdeal.main_arg2) = m ((c.tc : Thread Cert.SprojRefIdeal.nD Cert.SprojRefIdeal.τ).loc Cert.SprojRefIdeal.main_arg2)
      ∧ r.2.mem ((c.tc : Thread Cert.SprojRefIdeal.nD Cert.SprojRefIdeal.τ).loc Cert.SprojRefIdeal.main_arg3) = m ((c.tc : Thread Cert.SprojRefIdeal.nD Cert.SprojRefIdeal.τ).loc Cert.SprojRefIdeal.main_arg3)
      ∧ r.2.mem ((c.tc : Thread Cert.SprojRefIdeal.nD Cert.SprojRefIdeal.τ).loc Cert.SprojRefIdeal.main_arg4) = m ((c.tc : Thread Cert.SprojRefIdeal.nD Cert.SprojRefIdeal.τ).loc Cert.SprojRefIdeal.main_arg4)
      ∧ r.2.mem ((c.tc : Thread Cert.SprojRefIdeal.nD Cert.SprojRefIdeal.τ).loc Cert.SprojRefIdeal.main_arg5) = m ((c.tc : Thread Cert.SprojRefIdeal.nD Cert.SprojRefIdeal.τ).loc Cert.SprojRefIdeal.main_arg5))
      ∧ r.2.sem = fun _ => 0)

def quiescent_Sgla [hSgla : Cert.Sgla.Facts] : Prop :=
  ∀ (m : (ℓ : Loc Cert.Sgla.nD Cert.Sgla.τ Cert.Sgla.sig) → Buf (Elt Bits) ℓ) (g : Dev Cert.Sgla.nD → PrngReg), Pre_Sgla m →
    θ_run (Cert.Sgla.defs (F := Bits)) (onTc (τ := Cert.Sgla.τ) (Cert.Sgla.main (F := Bits))) ⟨m, fun _ => 0, g⟩ (fun r => (∀ c : Dev Cert.Sgla.nD,
      r.2.mem ((c.tc : Thread Cert.Sgla.nD Cert.Sgla.τ).loc Cert.Sgla.main_arg0) = m ((c.tc : Thread Cert.Sgla.nD Cert.Sgla.τ).loc Cert.Sgla.main_arg0)
      ∧ r.2.mem ((c.tc : Thread Cert.Sgla.nD Cert.Sgla.τ).loc Cert.Sgla.main_arg1) = m ((c.tc : Thread Cert.Sgla.nD Cert.Sgla.τ).loc Cert.Sgla.main_arg1)
      ∧ r.2.mem ((c.tc : Thread Cert.Sgla.nD Cert.Sgla.τ).loc Cert.Sgla.main_arg2) = m ((c.tc : Thread Cert.Sgla.nD Cert.Sgla.τ).loc Cert.Sgla.main_arg2)
      ∧ r.2.mem ((c.tc : Thread Cert.Sgla.nD Cert.Sgla.τ).loc Cert.Sgla.main_arg3) = m ((c.tc : Thread Cert.Sgla.nD Cert.Sgla.τ).loc Cert.Sgla.main_arg3)
      ∧ r.2.mem ((c.tc : Thread Cert.Sgla.nD Cert.Sgla.τ).loc Cert.Sgla.main_arg4) = m ((c.tc : Thread Cert.Sgla.nD Cert.Sgla.τ).loc Cert.Sgla.main_arg4)
      ∧ r.2.mem ((c.tc : Thread Cert.Sgla.nD Cert.Sgla.τ).loc Cert.Sgla.main_arg5) = m ((c.tc : Thread Cert.Sgla.nD Cert.Sgla.τ).loc Cert.Sgla.main_arg5)
      ∧ r.2.mem ((c.tc : Thread Cert.Sgla.nD Cert.Sgla.τ).loc Cert.Sgla.main_arg6) = m ((c.tc : Thread Cert.Sgla.nD Cert.Sgla.τ).loc Cert.Sgla.main_arg6))
      ∧ r.2.sem = fun _ => 0)

def quiescent_SglaIdeal [hSglaIdeal : Cert.SglaIdeal.Facts] : Prop :=
  ∀ (m : (ℓ : Loc Cert.SglaIdeal.nD Cert.SglaIdeal.τ Cert.SglaIdeal.sig) → Buf (Elt Ideal) ℓ) (g : Dev Cert.SglaIdeal.nD → PrngReg), Pre_SglaIdeal m →
    θ_run (Cert.SglaIdeal.defs (F := Ideal)) (onTc (τ := Cert.SglaIdeal.τ) (Cert.SglaIdeal.main (F := Ideal))) ⟨m, fun _ => 0, g⟩ (fun r => (∀ c : Dev Cert.SglaIdeal.nD,
      r.2.mem ((c.tc : Thread Cert.SglaIdeal.nD Cert.SglaIdeal.τ).loc Cert.SglaIdeal.main_arg0) = m ((c.tc : Thread Cert.SglaIdeal.nD Cert.SglaIdeal.τ).loc Cert.SglaIdeal.main_arg0)
      ∧ r.2.mem ((c.tc : Thread Cert.SglaIdeal.nD Cert.SglaIdeal.τ).loc Cert.SglaIdeal.main_arg1) = m ((c.tc : Thread Cert.SglaIdeal.nD Cert.SglaIdeal.τ).loc Cert.SglaIdeal.main_arg1)
      ∧ r.2.mem ((c.tc : Thread Cert.SglaIdeal.nD Cert.SglaIdeal.τ).loc Cert.SglaIdeal.main_arg2) = m ((c.tc : Thread Cert.SglaIdeal.nD Cert.SglaIdeal.τ).loc Cert.SglaIdeal.main_arg2)
      ∧ r.2.mem ((c.tc : Thread Cert.SglaIdeal.nD Cert.SglaIdeal.τ).loc Cert.SglaIdeal.main_arg3) = m ((c.tc : Thread Cert.SglaIdeal.nD Cert.SglaIdeal.τ).loc Cert.SglaIdeal.main_arg3)
      ∧ r.2.mem ((c.tc : Thread Cert.SglaIdeal.nD Cert.SglaIdeal.τ).loc Cert.SglaIdeal.main_arg4) = m ((c.tc : Thread Cert.SglaIdeal.nD Cert.SglaIdeal.τ).loc Cert.SglaIdeal.main_arg4)
      ∧ r.2.mem ((c.tc : Thread Cert.SglaIdeal.nD Cert.SglaIdeal.τ).loc Cert.SglaIdeal.main_arg5) = m ((c.tc : Thread Cert.SglaIdeal.nD Cert.SglaIdeal.τ).loc Cert.SglaIdeal.main_arg5)
      ∧ r.2.mem ((c.tc : Thread Cert.SglaIdeal.nD Cert.SglaIdeal.τ).loc Cert.SglaIdeal.main_arg6) = m ((c.tc : Thread Cert.SglaIdeal.nD Cert.SglaIdeal.τ).loc Cert.SglaIdeal.main_arg6))
      ∧ r.2.sem = fun _ => 0)

def quiescent_SglaRefIdeal [hSglaRefIdeal : Cert.SglaRefIdeal.Facts] : Prop :=
  ∀ (m : (ℓ : Loc Cert.SglaRefIdeal.nD Cert.SglaRefIdeal.τ Cert.SglaRefIdeal.sig) → Buf (Elt Ideal) ℓ) (g : Dev Cert.SglaRefIdeal.nD → PrngReg), Pre_SglaRefIdeal m →
    θ_run (Cert.SglaRefIdeal.defs (F := Ideal)) (onTc (τ := Cert.SglaRefIdeal.τ) (Cert.SglaRefIdeal.main (F := Ideal))) ⟨m, fun _ => 0, g⟩ (fun r => (∀ c : Dev Cert.SglaRefIdeal.nD,
      r.2.mem ((c.tc : Thread Cert.SglaRefIdeal.nD Cert.SglaRefIdeal.τ).loc Cert.SglaRefIdeal.main_arg0) = m ((c.tc : Thread Cert.SglaRefIdeal.nD Cert.SglaRefIdeal.τ).loc Cert.SglaRefIdeal.main_arg0)
      ∧ r.2.mem ((c.tc : Thread Cert.SglaRefIdeal.nD Cert.SglaRefIdeal.τ).loc Cert.SglaRefIdeal.main_arg1) = m ((c.tc : Thread Cert.SglaRefIdeal.nD Cert.SglaRefIdeal.τ).loc Cert.SglaRefIdeal.main_arg1)
      ∧ r.2.mem ((c.tc : Thread Cert.SglaRefIdeal.nD Cert.SglaRefIdeal.τ).loc Cert.SglaRefIdeal.main_arg2) = m ((c.tc : Thread Cert.SglaRefIdeal.nD Cert.SglaRefIdeal.τ).loc Cert.SglaRefIdeal.main_arg2)
      ∧ r.2.mem ((c.tc : Thread Cert.SglaRefIdeal.nD Cert.SglaRefIdeal.τ).loc Cert.SglaRefIdeal.main_arg3) = m ((c.tc : Thread Cert.SglaRefIdeal.nD Cert.SglaRefIdeal.τ).loc Cert.SglaRefIdeal.main_arg3)
      ∧ r.2.mem ((c.tc : Thread Cert.SglaRefIdeal.nD Cert.SglaRefIdeal.τ).loc Cert.SglaRefIdeal.main_arg4) = m ((c.tc : Thread Cert.SglaRefIdeal.nD Cert.SglaRefIdeal.τ).loc Cert.SglaRefIdeal.main_arg4)
      ∧ r.2.mem ((c.tc : Thread Cert.SglaRefIdeal.nD Cert.SglaRefIdeal.τ).loc Cert.SglaRefIdeal.main_arg5) = m ((c.tc : Thread Cert.SglaRefIdeal.nD Cert.SglaRefIdeal.τ).loc Cert.SglaRefIdeal.main_arg5)
      ∧ r.2.mem ((c.tc : Thread Cert.SglaRefIdeal.nD Cert.SglaRefIdeal.τ).loc Cert.SglaRefIdeal.main_arg6) = m ((c.tc : Thread Cert.SglaRefIdeal.nD Cert.SglaRefIdeal.τ).loc Cert.SglaRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def quiescent_Pgla [hPgla : Cert.Pgla.Facts] : Prop :=
  ∀ (m : (ℓ : Loc Cert.Pgla.nD Cert.Pgla.τ Cert.Pgla.sig) → Buf (Elt Bits) ℓ) (g : Dev Cert.Pgla.nD → PrngReg), Pre_Pgla m →
    θ_run (Cert.Pgla.defs (F := Bits)) (onTc (τ := Cert.Pgla.τ) (Cert.Pgla.main (F := Bits))) ⟨m, fun _ => 0, g⟩ (fun r => (∀ c : Dev Cert.Pgla.nD,
      r.2.mem ((c.tc : Thread Cert.Pgla.nD Cert.Pgla.τ).loc Cert.Pgla.main_arg0) = m ((c.tc : Thread Cert.Pgla.nD Cert.Pgla.τ).loc Cert.Pgla.main_arg0)
      ∧ r.2.mem ((c.tc : Thread Cert.Pgla.nD Cert.Pgla.τ).loc Cert.Pgla.main_arg1) = m ((c.tc : Thread Cert.Pgla.nD Cert.Pgla.τ).loc Cert.Pgla.main_arg1)
      ∧ r.2.mem ((c.tc : Thread Cert.Pgla.nD Cert.Pgla.τ).loc Cert.Pgla.main_arg2) = m ((c.tc : Thread Cert.Pgla.nD Cert.Pgla.τ).loc Cert.Pgla.main_arg2)
      ∧ r.2.mem ((c.tc : Thread Cert.Pgla.nD Cert.Pgla.τ).loc Cert.Pgla.main_arg3) = m ((c.tc : Thread Cert.Pgla.nD Cert.Pgla.τ).loc Cert.Pgla.main_arg3)
      ∧ r.2.mem ((c.tc : Thread Cert.Pgla.nD Cert.Pgla.τ).loc Cert.Pgla.main_arg4) = m ((c.tc : Thread Cert.Pgla.nD Cert.Pgla.τ).loc Cert.Pgla.main_arg4)
      ∧ r.2.mem ((c.tc : Thread Cert.Pgla.nD Cert.Pgla.τ).loc Cert.Pgla.main_arg5) = m ((c.tc : Thread Cert.Pgla.nD Cert.Pgla.τ).loc Cert.Pgla.main_arg5))
      ∧ r.2.sem = fun _ => 0)

def quiescent_PglaIdeal [hPglaIdeal : Cert.PglaIdeal.Facts] : Prop :=
  ∀ (m : (ℓ : Loc Cert.PglaIdeal.nD Cert.PglaIdeal.τ Cert.PglaIdeal.sig) → Buf (Elt Ideal) ℓ) (g : Dev Cert.PglaIdeal.nD → PrngReg), Pre_PglaIdeal m →
    θ_run (Cert.PglaIdeal.defs (F := Ideal)) (onTc (τ := Cert.PglaIdeal.τ) (Cert.PglaIdeal.main (F := Ideal))) ⟨m, fun _ => 0, g⟩ (fun r => (∀ c : Dev Cert.PglaIdeal.nD,
      r.2.mem ((c.tc : Thread Cert.PglaIdeal.nD Cert.PglaIdeal.τ).loc Cert.PglaIdeal.main_arg0) = m ((c.tc : Thread Cert.PglaIdeal.nD Cert.PglaIdeal.τ).loc Cert.PglaIdeal.main_arg0)
      ∧ r.2.mem ((c.tc : Thread Cert.PglaIdeal.nD Cert.PglaIdeal.τ).loc Cert.PglaIdeal.main_arg1) = m ((c.tc : Thread Cert.PglaIdeal.nD Cert.PglaIdeal.τ).loc Cert.PglaIdeal.main_arg1)
      ∧ r.2.mem ((c.tc : Thread Cert.PglaIdeal.nD Cert.PglaIdeal.τ).loc Cert.PglaIdeal.main_arg2) = m ((c.tc : Thread Cert.PglaIdeal.nD Cert.PglaIdeal.τ).loc Cert.PglaIdeal.main_arg2)
      ∧ r.2.mem ((c.tc : Thread Cert.PglaIdeal.nD Cert.PglaIdeal.τ).loc Cert.PglaIdeal.main_arg3) = m ((c.tc : Thread Cert.PglaIdeal.nD Cert.PglaIdeal.τ).loc Cert.PglaIdeal.main_arg3)
      ∧ r.2.mem ((c.tc : Thread Cert.PglaIdeal.nD Cert.PglaIdeal.τ).loc Cert.PglaIdeal.main_arg4) = m ((c.tc : Thread Cert.PglaIdeal.nD Cert.PglaIdeal.τ).loc Cert.PglaIdeal.main_arg4)
      ∧ r.2.mem ((c.tc : Thread Cert.PglaIdeal.nD Cert.PglaIdeal.τ).loc Cert.PglaIdeal.main_arg5) = m ((c.tc : Thread Cert.PglaIdeal.nD Cert.PglaIdeal.τ).loc Cert.PglaIdeal.main_arg5))
      ∧ r.2.sem = fun _ => 0)

def quiescent_PglaIdeal_pre_gla_finite [hPglaIdeal : Cert.PglaIdeal.Facts] [hPre_gla_finite : Cert.Pre_gla_finite.Facts] : Prop :=
  ∀ (m : (ℓ : Loc Cert.PglaIdeal.nD Cert.PglaIdeal.τ Cert.PglaIdeal.sig) → Buf (Elt Ideal) ℓ) (g : Dev Cert.PglaIdeal.nD → PrngReg), Pre_PglaIdeal_gla_finite m →
    θ_run (Cert.PglaIdeal.defs (F := Ideal)) (onTc (τ := Cert.PglaIdeal.τ) (Cert.PglaIdeal.main (F := Ideal))) ⟨m, fun _ => 0, g⟩ (fun r => (∀ c : Dev Cert.PglaIdeal.nD,
      r.2.mem ((c.tc : Thread Cert.PglaIdeal.nD Cert.PglaIdeal.τ).loc Cert.PglaIdeal.main_arg0) = m ((c.tc : Thread Cert.PglaIdeal.nD Cert.PglaIdeal.τ).loc Cert.PglaIdeal.main_arg0)
      ∧ r.2.mem ((c.tc : Thread Cert.PglaIdeal.nD Cert.PglaIdeal.τ).loc Cert.PglaIdeal.main_arg1) = m ((c.tc : Thread Cert.PglaIdeal.nD Cert.PglaIdeal.τ).loc Cert.PglaIdeal.main_arg1)
      ∧ r.2.mem ((c.tc : Thread Cert.PglaIdeal.nD Cert.PglaIdeal.τ).loc Cert.PglaIdeal.main_arg2) = m ((c.tc : Thread Cert.PglaIdeal.nD Cert.PglaIdeal.τ).loc Cert.PglaIdeal.main_arg2)
      ∧ r.2.mem ((c.tc : Thread Cert.PglaIdeal.nD Cert.PglaIdeal.τ).loc Cert.PglaIdeal.main_arg3) = m ((c.tc : Thread Cert.PglaIdeal.nD Cert.PglaIdeal.τ).loc Cert.PglaIdeal.main_arg3)
      ∧ r.2.mem ((c.tc : Thread Cert.PglaIdeal.nD Cert.PglaIdeal.τ).loc Cert.PglaIdeal.main_arg4) = m ((c.tc : Thread Cert.PglaIdeal.nD Cert.PglaIdeal.τ).loc Cert.PglaIdeal.main_arg4)
      ∧ r.2.mem ((c.tc : Thread Cert.PglaIdeal.nD Cert.PglaIdeal.τ).loc Cert.PglaIdeal.main_arg5) = m ((c.tc : Thread Cert.PglaIdeal.nD Cert.PglaIdeal.τ).loc Cert.PglaIdeal.main_arg5))
      ∧ r.2.sem = fun _ => 0)

def quiescent_PglaRefIdeal [hPglaRefIdeal : Cert.PglaRefIdeal.Facts] : Prop :=
  ∀ (m : (ℓ : Loc Cert.PglaRefIdeal.nD Cert.PglaRefIdeal.τ Cert.PglaRefIdeal.sig) → Buf (Elt Ideal) ℓ) (g : Dev Cert.PglaRefIdeal.nD → PrngReg), Pre_PglaRefIdeal m →
    θ_run (Cert.PglaRefIdeal.defs (F := Ideal)) (onTc (τ := Cert.PglaRefIdeal.τ) (Cert.PglaRefIdeal.main (F := Ideal))) ⟨m, fun _ => 0, g⟩ (fun r => (∀ c : Dev Cert.PglaRefIdeal.nD,
      r.2.mem ((c.tc : Thread Cert.PglaRefIdeal.nD Cert.PglaRefIdeal.τ).loc Cert.PglaRefIdeal.main_arg0) = m ((c.tc : Thread Cert.PglaRefIdeal.nD Cert.PglaRefIdeal.τ).loc Cert.PglaRefIdeal.main_arg0)
      ∧ r.2.mem ((c.tc : Thread Cert.PglaRefIdeal.nD Cert.PglaRefIdeal.τ).loc Cert.PglaRefIdeal.main_arg1) = m ((c.tc : Thread Cert.PglaRefIdeal.nD Cert.PglaRefIdeal.τ).loc Cert.PglaRefIdeal.main_arg1)
      ∧ r.2.mem ((c.tc : Thread Cert.PglaRefIdeal.nD Cert.PglaRefIdeal.τ).loc Cert.PglaRefIdeal.main_arg2) = m ((c.tc : Thread Cert.PglaRefIdeal.nD Cert.PglaRefIdeal.τ).loc Cert.PglaRefIdeal.main_arg2)
      ∧ r.2.mem ((c.tc : Thread Cert.PglaRefIdeal.nD Cert.PglaRefIdeal.τ).loc Cert.PglaRefIdeal.main_arg3) = m ((c.tc : Thread Cert.PglaRefIdeal.nD Cert.PglaRefIdeal.τ).loc Cert.PglaRefIdeal.main_arg3)
      ∧ r.2.mem ((c.tc : Thread Cert.PglaRefIdeal.nD Cert.PglaRefIdeal.τ).loc Cert.PglaRefIdeal.main_arg4) = m ((c.tc : Thread Cert.PglaRefIdeal.nD Cert.PglaRefIdeal.τ).loc Cert.PglaRefIdeal.main_arg4)
      ∧ r.2.mem ((c.tc : Thread Cert.PglaRefIdeal.nD Cert.PglaRefIdeal.τ).loc Cert.PglaRefIdeal.main_arg5) = m ((c.tc : Thread Cert.PglaRefIdeal.nD Cert.PglaRefIdeal.τ).loc Cert.PglaRefIdeal.main_arg5))
      ∧ r.2.sem = fun _ => 0)

def quiescent_PglaRefIdeal_pre_gla_finite [hPglaRefIdeal : Cert.PglaRefIdeal.Facts] [hPre_gla_finite : Cert.Pre_gla_finite.Facts] : Prop :=
  ∀ (m : (ℓ : Loc Cert.PglaRefIdeal.nD Cert.PglaRefIdeal.τ Cert.PglaRefIdeal.sig) → Buf (Elt Ideal) ℓ) (g : Dev Cert.PglaRefIdeal.nD → PrngReg), Pre_PglaRefIdeal_gla_finite m →
    θ_run (Cert.PglaRefIdeal.defs (F := Ideal)) (onTc (τ := Cert.PglaRefIdeal.τ) (Cert.PglaRefIdeal.main (F := Ideal))) ⟨m, fun _ => 0, g⟩ (fun r => (∀ c : Dev Cert.PglaRefIdeal.nD,
      r.2.mem ((c.tc : Thread Cert.PglaRefIdeal.nD Cert.PglaRefIdeal.τ).loc Cert.PglaRefIdeal.main_arg0) = m ((c.tc : Thread Cert.PglaRefIdeal.nD Cert.PglaRefIdeal.τ).loc Cert.PglaRefIdeal.main_arg0)
      ∧ r.2.mem ((c.tc : Thread Cert.PglaRefIdeal.nD Cert.PglaRefIdeal.τ).loc Cert.PglaRefIdeal.main_arg1) = m ((c.tc : Thread Cert.PglaRefIdeal.nD Cert.PglaRefIdeal.τ).loc Cert.PglaRefIdeal.main_arg1)
      ∧ r.2.mem ((c.tc : Thread Cert.PglaRefIdeal.nD Cert.PglaRefIdeal.τ).loc Cert.PglaRefIdeal.main_arg2) = m ((c.tc : Thread Cert.PglaRefIdeal.nD Cert.PglaRefIdeal.τ).loc Cert.PglaRefIdeal.main_arg2)
      ∧ r.2.mem ((c.tc : Thread Cert.PglaRefIdeal.nD Cert.PglaRefIdeal.τ).loc Cert.PglaRefIdeal.main_arg3) = m ((c.tc : Thread Cert.PglaRefIdeal.nD Cert.PglaRefIdeal.τ).loc Cert.PglaRefIdeal.main_arg3)
      ∧ r.2.mem ((c.tc : Thread Cert.PglaRefIdeal.nD Cert.PglaRefIdeal.τ).loc Cert.PglaRefIdeal.main_arg4) = m ((c.tc : Thread Cert.PglaRefIdeal.nD Cert.PglaRefIdeal.τ).loc Cert.PglaRefIdeal.main_arg4)
      ∧ r.2.mem ((c.tc : Thread Cert.PglaRefIdeal.nD Cert.PglaRefIdeal.τ).loc Cert.PglaRefIdeal.main_arg5) = m ((c.tc : Thread Cert.PglaRefIdeal.nD Cert.PglaRefIdeal.τ).loc Cert.PglaRefIdeal.main_arg5))
      ∧ r.2.sem = fun _ => 0)

def quiescent_Sswa [hSswa : Cert.Sswa.Facts] : Prop :=
  ∀ (m : (ℓ : Loc Cert.Sswa.nD Cert.Sswa.τ Cert.Sswa.sig) → Buf (Elt Bits) ℓ) (g : Dev Cert.Sswa.nD → PrngReg), Pre_Sswa m →
    θ_run (Cert.Sswa.defs (F := Bits)) (onTc (τ := Cert.Sswa.τ) (Cert.Sswa.main (F := Bits))) ⟨m, fun _ => 0, g⟩ (fun r => (∀ c : Dev Cert.Sswa.nD,
      r.2.mem ((c.tc : Thread Cert.Sswa.nD Cert.Sswa.τ).loc Cert.Sswa.main_arg0) = m ((c.tc : Thread Cert.Sswa.nD Cert.Sswa.τ).loc Cert.Sswa.main_arg0)
      ∧ r.2.mem ((c.tc : Thread Cert.Sswa.nD Cert.Sswa.τ).loc Cert.Sswa.main_arg1) = m ((c.tc : Thread Cert.Sswa.nD Cert.Sswa.τ).loc Cert.Sswa.main_arg1)
      ∧ r.2.mem ((c.tc : Thread Cert.Sswa.nD Cert.Sswa.τ).loc Cert.Sswa.main_arg2) = m ((c.tc : Thread Cert.Sswa.nD Cert.Sswa.τ).loc Cert.Sswa.main_arg2)
      ∧ r.2.mem ((c.tc : Thread Cert.Sswa.nD Cert.Sswa.τ).loc Cert.Sswa.main_arg3) = m ((c.tc : Thread Cert.Sswa.nD Cert.Sswa.τ).loc Cert.Sswa.main_arg3)
      ∧ r.2.mem ((c.tc : Thread Cert.Sswa.nD Cert.Sswa.τ).loc Cert.Sswa.main_arg4) = m ((c.tc : Thread Cert.Sswa.nD Cert.Sswa.τ).loc Cert.Sswa.main_arg4)
      ∧ r.2.mem ((c.tc : Thread Cert.Sswa.nD Cert.Sswa.τ).loc Cert.Sswa.main_arg5) = m ((c.tc : Thread Cert.Sswa.nD Cert.Sswa.τ).loc Cert.Sswa.main_arg5))
      ∧ r.2.sem = fun _ => 0)

def quiescent_SswaIdeal [hSswaIdeal : Cert.SswaIdeal.Facts] : Prop :=
  ∀ (m : (ℓ : Loc Cert.SswaIdeal.nD Cert.SswaIdeal.τ Cert.SswaIdeal.sig) → Buf (Elt Ideal) ℓ) (g : Dev Cert.SswaIdeal.nD → PrngReg), Pre_SswaIdeal m →
    θ_run (Cert.SswaIdeal.defs (F := Ideal)) (onTc (τ := Cert.SswaIdeal.τ) (Cert.SswaIdeal.main (F := Ideal))) ⟨m, fun _ => 0, g⟩ (fun r => (∀ c : Dev Cert.SswaIdeal.nD,
      r.2.mem ((c.tc : Thread Cert.SswaIdeal.nD Cert.SswaIdeal.τ).loc Cert.SswaIdeal.main_arg0) = m ((c.tc : Thread Cert.SswaIdeal.nD Cert.SswaIdeal.τ).loc Cert.SswaIdeal.main_arg0)
      ∧ r.2.mem ((c.tc : Thread Cert.SswaIdeal.nD Cert.SswaIdeal.τ).loc Cert.SswaIdeal.main_arg1) = m ((c.tc : Thread Cert.SswaIdeal.nD Cert.SswaIdeal.τ).loc Cert.SswaIdeal.main_arg1)
      ∧ r.2.mem ((c.tc : Thread Cert.SswaIdeal.nD Cert.SswaIdeal.τ).loc Cert.SswaIdeal.main_arg2) = m ((c.tc : Thread Cert.SswaIdeal.nD Cert.SswaIdeal.τ).loc Cert.SswaIdeal.main_arg2)
      ∧ r.2.mem ((c.tc : Thread Cert.SswaIdeal.nD Cert.SswaIdeal.τ).loc Cert.SswaIdeal.main_arg3) = m ((c.tc : Thread Cert.SswaIdeal.nD Cert.SswaIdeal.τ).loc Cert.SswaIdeal.main_arg3)
      ∧ r.2.mem ((c.tc : Thread Cert.SswaIdeal.nD Cert.SswaIdeal.τ).loc Cert.SswaIdeal.main_arg4) = m ((c.tc : Thread Cert.SswaIdeal.nD Cert.SswaIdeal.τ).loc Cert.SswaIdeal.main_arg4)
      ∧ r.2.mem ((c.tc : Thread Cert.SswaIdeal.nD Cert.SswaIdeal.τ).loc Cert.SswaIdeal.main_arg5) = m ((c.tc : Thread Cert.SswaIdeal.nD Cert.SswaIdeal.τ).loc Cert.SswaIdeal.main_arg5))
      ∧ r.2.sem = fun _ => 0)

def quiescent_SswaIdeal_pre_ssw_finite [hSswaIdeal : Cert.SswaIdeal.Facts] [hPre_ssw_finite : Cert.Pre_ssw_finite.Facts] : Prop :=
  ∀ (m : (ℓ : Loc Cert.SswaIdeal.nD Cert.SswaIdeal.τ Cert.SswaIdeal.sig) → Buf (Elt Ideal) ℓ) (g : Dev Cert.SswaIdeal.nD → PrngReg), Pre_SswaIdeal_ssw_finite m →
    θ_run (Cert.SswaIdeal.defs (F := Ideal)) (onTc (τ := Cert.SswaIdeal.τ) (Cert.SswaIdeal.main (F := Ideal))) ⟨m, fun _ => 0, g⟩ (fun r => (∀ c : Dev Cert.SswaIdeal.nD,
      r.2.mem ((c.tc : Thread Cert.SswaIdeal.nD Cert.SswaIdeal.τ).loc Cert.SswaIdeal.main_arg0) = m ((c.tc : Thread Cert.SswaIdeal.nD Cert.SswaIdeal.τ).loc Cert.SswaIdeal.main_arg0)
      ∧ r.2.mem ((c.tc : Thread Cert.SswaIdeal.nD Cert.SswaIdeal.τ).loc Cert.SswaIdeal.main_arg1) = m ((c.tc : Thread Cert.SswaIdeal.nD Cert.SswaIdeal.τ).loc Cert.SswaIdeal.main_arg1)
      ∧ r.2.mem ((c.tc : Thread Cert.SswaIdeal.nD Cert.SswaIdeal.τ).loc Cert.SswaIdeal.main_arg2) = m ((c.tc : Thread Cert.SswaIdeal.nD Cert.SswaIdeal.τ).loc Cert.SswaIdeal.main_arg2)
      ∧ r.2.mem ((c.tc : Thread Cert.SswaIdeal.nD Cert.SswaIdeal.τ).loc Cert.SswaIdeal.main_arg3) = m ((c.tc : Thread Cert.SswaIdeal.nD Cert.SswaIdeal.τ).loc Cert.SswaIdeal.main_arg3)
      ∧ r.2.mem ((c.tc : Thread Cert.SswaIdeal.nD Cert.SswaIdeal.τ).loc Cert.SswaIdeal.main_arg4) = m ((c.tc : Thread Cert.SswaIdeal.nD Cert.SswaIdeal.τ).loc Cert.SswaIdeal.main_arg4)
      ∧ r.2.mem ((c.tc : Thread Cert.SswaIdeal.nD Cert.SswaIdeal.τ).loc Cert.SswaIdeal.main_arg5) = m ((c.tc : Thread Cert.SswaIdeal.nD Cert.SswaIdeal.τ).loc Cert.SswaIdeal.main_arg5))
      ∧ r.2.sem = fun _ => 0)

def quiescent_SswaRefIdeal [hSswaRefIdeal : Cert.SswaRefIdeal.Facts] : Prop :=
  ∀ (m : (ℓ : Loc Cert.SswaRefIdeal.nD Cert.SswaRefIdeal.τ Cert.SswaRefIdeal.sig) → Buf (Elt Ideal) ℓ) (g : Dev Cert.SswaRefIdeal.nD → PrngReg), Pre_SswaRefIdeal m →
    θ_run (Cert.SswaRefIdeal.defs (F := Ideal)) (onTc (τ := Cert.SswaRefIdeal.τ) (Cert.SswaRefIdeal.main (F := Ideal))) ⟨m, fun _ => 0, g⟩ (fun r => (∀ c : Dev Cert.SswaRefIdeal.nD,
      r.2.mem ((c.tc : Thread Cert.SswaRefIdeal.nD Cert.SswaRefIdeal.τ).loc Cert.SswaRefIdeal.main_arg0) = m ((c.tc : Thread Cert.SswaRefIdeal.nD Cert.SswaRefIdeal.τ).loc Cert.SswaRefIdeal.main_arg0)
      ∧ r.2.mem ((c.tc : Thread Cert.SswaRefIdeal.nD Cert.SswaRefIdeal.τ).loc Cert.SswaRefIdeal.main_arg1) = m ((c.tc : Thread Cert.SswaRefIdeal.nD Cert.SswaRefIdeal.τ).loc Cert.SswaRefIdeal.main_arg1)
      ∧ r.2.mem ((c.tc : Thread Cert.SswaRefIdeal.nD Cert.SswaRefIdeal.τ).loc Cert.SswaRefIdeal.main_arg2) = m ((c.tc : Thread Cert.SswaRefIdeal.nD Cert.SswaRefIdeal.τ).loc Cert.SswaRefIdeal.main_arg2)
      ∧ r.2.mem ((c.tc : Thread Cert.SswaRefIdeal.nD Cert.SswaRefIdeal.τ).loc Cert.SswaRefIdeal.main_arg3) = m ((c.tc : Thread Cert.SswaRefIdeal.nD Cert.SswaRefIdeal.τ).loc Cert.SswaRefIdeal.main_arg3)
      ∧ r.2.mem ((c.tc : Thread Cert.SswaRefIdeal.nD Cert.SswaRefIdeal.τ).loc Cert.SswaRefIdeal.main_arg4) = m ((c.tc : Thread Cert.SswaRefIdeal.nD Cert.SswaRefIdeal.τ).loc Cert.SswaRefIdeal.main_arg4)
      ∧ r.2.mem ((c.tc : Thread Cert.SswaRefIdeal.nD Cert.SswaRefIdeal.τ).loc Cert.SswaRefIdeal.main_arg5) = m ((c.tc : Thread Cert.SswaRefIdeal.nD Cert.SswaRefIdeal.τ).loc Cert.SswaRefIdeal.main_arg5))
      ∧ r.2.sem = fun _ => 0)

def quiescent_SswaRefIdeal_pre_ssw_finite [hSswaRefIdeal : Cert.SswaRefIdeal.Facts] [hPre_ssw_finite : Cert.Pre_ssw_finite.Facts] : Prop :=
  ∀ (m : (ℓ : Loc Cert.SswaRefIdeal.nD Cert.SswaRefIdeal.τ Cert.SswaRefIdeal.sig) → Buf (Elt Ideal) ℓ) (g : Dev Cert.SswaRefIdeal.nD → PrngReg), Pre_SswaRefIdeal_ssw_finite m →
    θ_run (Cert.SswaRefIdeal.defs (F := Ideal)) (onTc (τ := Cert.SswaRefIdeal.τ) (Cert.SswaRefIdeal.main (F := Ideal))) ⟨m, fun _ => 0, g⟩ (fun r => (∀ c : Dev Cert.SswaRefIdeal.nD,
      r.2.mem ((c.tc : Thread Cert.SswaRefIdeal.nD Cert.SswaRefIdeal.τ).loc Cert.SswaRefIdeal.main_arg0) = m ((c.tc : Thread Cert.SswaRefIdeal.nD Cert.SswaRefIdeal.τ).loc Cert.SswaRefIdeal.main_arg0)
      ∧ r.2.mem ((c.tc : Thread Cert.SswaRefIdeal.nD Cert.SswaRefIdeal.τ).loc Cert.SswaRefIdeal.main_arg1) = m ((c.tc : Thread Cert.SswaRefIdeal.nD Cert.SswaRefIdeal.τ).loc Cert.SswaRefIdeal.main_arg1)
      ∧ r.2.mem ((c.tc : Thread Cert.SswaRefIdeal.nD Cert.SswaRefIdeal.τ).loc Cert.SswaRefIdeal.main_arg2) = m ((c.tc : Thread Cert.SswaRefIdeal.nD Cert.SswaRefIdeal.τ).loc Cert.SswaRefIdeal.main_arg2)
      ∧ r.2.mem ((c.tc : Thread Cert.SswaRefIdeal.nD Cert.SswaRefIdeal.τ).loc Cert.SswaRefIdeal.main_arg3) = m ((c.tc : Thread Cert.SswaRefIdeal.nD Cert.SswaRefIdeal.τ).loc Cert.SswaRefIdeal.main_arg3)
      ∧ r.2.mem ((c.tc : Thread Cert.SswaRefIdeal.nD Cert.SswaRefIdeal.τ).loc Cert.SswaRefIdeal.main_arg4) = m ((c.tc : Thread Cert.SswaRefIdeal.nD Cert.SswaRefIdeal.τ).loc Cert.SswaRefIdeal.main_arg4)
      ∧ r.2.mem ((c.tc : Thread Cert.SswaRefIdeal.nD Cert.SswaRefIdeal.τ).loc Cert.SswaRefIdeal.main_arg5) = m ((c.tc : Thread Cert.SswaRefIdeal.nD Cert.SswaRefIdeal.τ).loc Cert.SswaRefIdeal.main_arg5))
      ∧ r.2.sem = fun _ => 0)

def quiescent_Soutproj [hSoutproj : Cert.Soutproj.Facts] : Prop :=
  ∀ (m : (ℓ : Loc Cert.Soutproj.nD Cert.Soutproj.τ Cert.Soutproj.sig) → Buf (Elt Bits) ℓ) (g : Dev Cert.Soutproj.nD → PrngReg), Pre_Soutproj m →
    θ_run (Cert.Soutproj.defs (F := Bits)) (onTc (τ := Cert.Soutproj.τ) (Cert.Soutproj.main (F := Bits))) ⟨m, fun _ => 0, g⟩ (fun r => (∀ c : Dev Cert.Soutproj.nD,
      r.2.mem ((c.tc : Thread Cert.Soutproj.nD Cert.Soutproj.τ).loc Cert.Soutproj.main_arg0) = m ((c.tc : Thread Cert.Soutproj.nD Cert.Soutproj.τ).loc Cert.Soutproj.main_arg0)
      ∧ r.2.mem ((c.tc : Thread Cert.Soutproj.nD Cert.Soutproj.τ).loc Cert.Soutproj.main_arg1) = m ((c.tc : Thread Cert.Soutproj.nD Cert.Soutproj.τ).loc Cert.Soutproj.main_arg1)
      ∧ r.2.mem ((c.tc : Thread Cert.Soutproj.nD Cert.Soutproj.τ).loc Cert.Soutproj.main_arg2) = m ((c.tc : Thread Cert.Soutproj.nD Cert.Soutproj.τ).loc Cert.Soutproj.main_arg2)
      ∧ r.2.mem ((c.tc : Thread Cert.Soutproj.nD Cert.Soutproj.τ).loc Cert.Soutproj.main_arg3) = m ((c.tc : Thread Cert.Soutproj.nD Cert.Soutproj.τ).loc Cert.Soutproj.main_arg3)
      ∧ r.2.mem ((c.tc : Thread Cert.Soutproj.nD Cert.Soutproj.τ).loc Cert.Soutproj.main_arg4) = m ((c.tc : Thread Cert.Soutproj.nD Cert.Soutproj.τ).loc Cert.Soutproj.main_arg4)
      ∧ r.2.mem ((c.tc : Thread Cert.Soutproj.nD Cert.Soutproj.τ).loc Cert.Soutproj.main_arg5) = m ((c.tc : Thread Cert.Soutproj.nD Cert.Soutproj.τ).loc Cert.Soutproj.main_arg5)
      ∧ r.2.mem ((c.tc : Thread Cert.Soutproj.nD Cert.Soutproj.τ).loc Cert.Soutproj.main_arg6) = m ((c.tc : Thread Cert.Soutproj.nD Cert.Soutproj.τ).loc Cert.Soutproj.main_arg6)
      ∧ r.2.mem ((c.tc : Thread Cert.Soutproj.nD Cert.Soutproj.τ).loc Cert.Soutproj.main_arg7) = m ((c.tc : Thread Cert.Soutproj.nD Cert.Soutproj.τ).loc Cert.Soutproj.main_arg7)
      ∧ r.2.mem ((c.tc : Thread Cert.Soutproj.nD Cert.Soutproj.τ).loc Cert.Soutproj.main_arg8) = m ((c.tc : Thread Cert.Soutproj.nD Cert.Soutproj.τ).loc Cert.Soutproj.main_arg8)
      ∧ r.2.mem ((c.tc : Thread Cert.Soutproj.nD Cert.Soutproj.τ).loc Cert.Soutproj.main_arg9) = m ((c.tc : Thread Cert.Soutproj.nD Cert.Soutproj.τ).loc Cert.Soutproj.main_arg9)
      ∧ r.2.mem ((c.tc : Thread Cert.Soutproj.nD Cert.Soutproj.τ).loc Cert.Soutproj.main_arg10) = m ((c.tc : Thread Cert.Soutproj.nD Cert.Soutproj.τ).loc Cert.Soutproj.main_arg10)
      ∧ r.2.mem ((c.tc : Thread Cert.Soutproj.nD Cert.Soutproj.τ).loc Cert.Soutproj.main_arg11) = m ((c.tc : Thread Cert.Soutproj.nD Cert.Soutproj.τ).loc Cert.Soutproj.main_arg11)
      ∧ r.2.mem ((c.tc : Thread Cert.Soutproj.nD Cert.Soutproj.τ).loc Cert.Soutproj.main_arg12) = m ((c.tc : Thread Cert.Soutproj.nD Cert.Soutproj.τ).loc Cert.Soutproj.main_arg12))
      ∧ r.2.sem = fun _ => 0)

def quiescent_SoutprojIdeal [hSoutprojIdeal : Cert.SoutprojIdeal.Facts] : Prop :=
  ∀ (m : (ℓ : Loc Cert.SoutprojIdeal.nD Cert.SoutprojIdeal.τ Cert.SoutprojIdeal.sig) → Buf (Elt Ideal) ℓ) (g : Dev Cert.SoutprojIdeal.nD → PrngReg), Pre_SoutprojIdeal m →
    θ_run (Cert.SoutprojIdeal.defs (F := Ideal)) (onTc (τ := Cert.SoutprojIdeal.τ) (Cert.SoutprojIdeal.main (F := Ideal))) ⟨m, fun _ => 0, g⟩ (fun r => (∀ c : Dev Cert.SoutprojIdeal.nD,
      r.2.mem ((c.tc : Thread Cert.SoutprojIdeal.nD Cert.SoutprojIdeal.τ).loc Cert.SoutprojIdeal.main_arg0) = m ((c.tc : Thread Cert.SoutprojIdeal.nD Cert.SoutprojIdeal.τ).loc Cert.SoutprojIdeal.main_arg0)
      ∧ r.2.mem ((c.tc : Thread Cert.SoutprojIdeal.nD Cert.SoutprojIdeal.τ).loc Cert.SoutprojIdeal.main_arg1) = m ((c.tc : Thread Cert.SoutprojIdeal.nD Cert.SoutprojIdeal.τ).loc Cert.SoutprojIdeal.main_arg1)
      ∧ r.2.mem ((c.tc : Thread Cert.SoutprojIdeal.nD Cert.SoutprojIdeal.τ).loc Cert.SoutprojIdeal.main_arg2) = m ((c.tc : Thread Cert.SoutprojIdeal.nD Cert.SoutprojIdeal.τ).loc Cert.SoutprojIdeal.main_arg2)
      ∧ r.2.mem ((c.tc : Thread Cert.SoutprojIdeal.nD Cert.SoutprojIdeal.τ).loc Cert.SoutprojIdeal.main_arg3) = m ((c.tc : Thread Cert.SoutprojIdeal.nD Cert.SoutprojIdeal.τ).loc Cert.SoutprojIdeal.main_arg3)
      ∧ r.2.mem ((c.tc : Thread Cert.SoutprojIdeal.nD Cert.SoutprojIdeal.τ).loc Cert.SoutprojIdeal.main_arg4) = m ((c.tc : Thread Cert.SoutprojIdeal.nD Cert.SoutprojIdeal.τ).loc Cert.SoutprojIdeal.main_arg4)
      ∧ r.2.mem ((c.tc : Thread Cert.SoutprojIdeal.nD Cert.SoutprojIdeal.τ).loc Cert.SoutprojIdeal.main_arg5) = m ((c.tc : Thread Cert.SoutprojIdeal.nD Cert.SoutprojIdeal.τ).loc Cert.SoutprojIdeal.main_arg5)
      ∧ r.2.mem ((c.tc : Thread Cert.SoutprojIdeal.nD Cert.SoutprojIdeal.τ).loc Cert.SoutprojIdeal.main_arg6) = m ((c.tc : Thread Cert.SoutprojIdeal.nD Cert.SoutprojIdeal.τ).loc Cert.SoutprojIdeal.main_arg6)
      ∧ r.2.mem ((c.tc : Thread Cert.SoutprojIdeal.nD Cert.SoutprojIdeal.τ).loc Cert.SoutprojIdeal.main_arg7) = m ((c.tc : Thread Cert.SoutprojIdeal.nD Cert.SoutprojIdeal.τ).loc Cert.SoutprojIdeal.main_arg7)
      ∧ r.2.mem ((c.tc : Thread Cert.SoutprojIdeal.nD Cert.SoutprojIdeal.τ).loc Cert.SoutprojIdeal.main_arg8) = m ((c.tc : Thread Cert.SoutprojIdeal.nD Cert.SoutprojIdeal.τ).loc Cert.SoutprojIdeal.main_arg8)
      ∧ r.2.mem ((c.tc : Thread Cert.SoutprojIdeal.nD Cert.SoutprojIdeal.τ).loc Cert.SoutprojIdeal.main_arg9) = m ((c.tc : Thread Cert.SoutprojIdeal.nD Cert.SoutprojIdeal.τ).loc Cert.SoutprojIdeal.main_arg9)
      ∧ r.2.mem ((c.tc : Thread Cert.SoutprojIdeal.nD Cert.SoutprojIdeal.τ).loc Cert.SoutprojIdeal.main_arg10) = m ((c.tc : Thread Cert.SoutprojIdeal.nD Cert.SoutprojIdeal.τ).loc Cert.SoutprojIdeal.main_arg10)
      ∧ r.2.mem ((c.tc : Thread Cert.SoutprojIdeal.nD Cert.SoutprojIdeal.τ).loc Cert.SoutprojIdeal.main_arg11) = m ((c.tc : Thread Cert.SoutprojIdeal.nD Cert.SoutprojIdeal.τ).loc Cert.SoutprojIdeal.main_arg11)
      ∧ r.2.mem ((c.tc : Thread Cert.SoutprojIdeal.nD Cert.SoutprojIdeal.τ).loc Cert.SoutprojIdeal.main_arg12) = m ((c.tc : Thread Cert.SoutprojIdeal.nD Cert.SoutprojIdeal.τ).loc Cert.SoutprojIdeal.main_arg12))
      ∧ r.2.sem = fun _ => 0)

def quiescent_SoutprojRefIdeal [hSoutprojRefIdeal : Cert.SoutprojRefIdeal.Facts] : Prop :=
  ∀ (m : (ℓ : Loc Cert.SoutprojRefIdeal.nD Cert.SoutprojRefIdeal.τ Cert.SoutprojRefIdeal.sig) → Buf (Elt Ideal) ℓ) (g : Dev Cert.SoutprojRefIdeal.nD → PrngReg), Pre_SoutprojRefIdeal m →
    θ_run (Cert.SoutprojRefIdeal.defs (F := Ideal)) (onTc (τ := Cert.SoutprojRefIdeal.τ) (Cert.SoutprojRefIdeal.main (F := Ideal))) ⟨m, fun _ => 0, g⟩ (fun r => (∀ c : Dev Cert.SoutprojRefIdeal.nD,
      r.2.mem ((c.tc : Thread Cert.SoutprojRefIdeal.nD Cert.SoutprojRefIdeal.τ).loc Cert.SoutprojRefIdeal.main_arg0) = m ((c.tc : Thread Cert.SoutprojRefIdeal.nD Cert.SoutprojRefIdeal.τ).loc Cert.SoutprojRefIdeal.main_arg0)
      ∧ r.2.mem ((c.tc : Thread Cert.SoutprojRefIdeal.nD Cert.SoutprojRefIdeal.τ).loc Cert.SoutprojRefIdeal.main_arg1) = m ((c.tc : Thread Cert.SoutprojRefIdeal.nD Cert.SoutprojRefIdeal.τ).loc Cert.SoutprojRefIdeal.main_arg1)
      ∧ r.2.mem ((c.tc : Thread Cert.SoutprojRefIdeal.nD Cert.SoutprojRefIdeal.τ).loc Cert.SoutprojRefIdeal.main_arg2) = m ((c.tc : Thread Cert.SoutprojRefIdeal.nD Cert.SoutprojRefIdeal.τ).loc Cert.SoutprojRefIdeal.main_arg2)
      ∧ r.2.mem ((c.tc : Thread Cert.SoutprojRefIdeal.nD Cert.SoutprojRefIdeal.τ).loc Cert.SoutprojRefIdeal.main_arg3) = m ((c.tc : Thread Cert.SoutprojRefIdeal.nD Cert.SoutprojRefIdeal.τ).loc Cert.SoutprojRefIdeal.main_arg3)
      ∧ r.2.mem ((c.tc : Thread Cert.SoutprojRefIdeal.nD Cert.SoutprojRefIdeal.τ).loc Cert.SoutprojRefIdeal.main_arg4) = m ((c.tc : Thread Cert.SoutprojRefIdeal.nD Cert.SoutprojRefIdeal.τ).loc Cert.SoutprojRefIdeal.main_arg4)
      ∧ r.2.mem ((c.tc : Thread Cert.SoutprojRefIdeal.nD Cert.SoutprojRefIdeal.τ).loc Cert.SoutprojRefIdeal.main_arg5) = m ((c.tc : Thread Cert.SoutprojRefIdeal.nD Cert.SoutprojRefIdeal.τ).loc Cert.SoutprojRefIdeal.main_arg5)
      ∧ r.2.mem ((c.tc : Thread Cert.SoutprojRefIdeal.nD Cert.SoutprojRefIdeal.τ).loc Cert.SoutprojRefIdeal.main_arg6) = m ((c.tc : Thread Cert.SoutprojRefIdeal.nD Cert.SoutprojRefIdeal.τ).loc Cert.SoutprojRefIdeal.main_arg6)
      ∧ r.2.mem ((c.tc : Thread Cert.SoutprojRefIdeal.nD Cert.SoutprojRefIdeal.τ).loc Cert.SoutprojRefIdeal.main_arg7) = m ((c.tc : Thread Cert.SoutprojRefIdeal.nD Cert.SoutprojRefIdeal.τ).loc Cert.SoutprojRefIdeal.main_arg7)
      ∧ r.2.mem ((c.tc : Thread Cert.SoutprojRefIdeal.nD Cert.SoutprojRefIdeal.τ).loc Cert.SoutprojRefIdeal.main_arg8) = m ((c.tc : Thread Cert.SoutprojRefIdeal.nD Cert.SoutprojRefIdeal.τ).loc Cert.SoutprojRefIdeal.main_arg8)
      ∧ r.2.mem ((c.tc : Thread Cert.SoutprojRefIdeal.nD Cert.SoutprojRefIdeal.τ).loc Cert.SoutprojRefIdeal.main_arg9) = m ((c.tc : Thread Cert.SoutprojRefIdeal.nD Cert.SoutprojRefIdeal.τ).loc Cert.SoutprojRefIdeal.main_arg9)
      ∧ r.2.mem ((c.tc : Thread Cert.SoutprojRefIdeal.nD Cert.SoutprojRefIdeal.τ).loc Cert.SoutprojRefIdeal.main_arg10) = m ((c.tc : Thread Cert.SoutprojRefIdeal.nD Cert.SoutprojRefIdeal.τ).loc Cert.SoutprojRefIdeal.main_arg10)
      ∧ r.2.mem ((c.tc : Thread Cert.SoutprojRefIdeal.nD Cert.SoutprojRefIdeal.τ).loc Cert.SoutprojRefIdeal.main_arg11) = m ((c.tc : Thread Cert.SoutprojRefIdeal.nD Cert.SoutprojRefIdeal.τ).loc Cert.SoutprojRefIdeal.main_arg11)
      ∧ r.2.mem ((c.tc : Thread Cert.SoutprojRefIdeal.nD Cert.SoutprojRefIdeal.τ).loc Cert.SoutprojRefIdeal.main_arg12) = m ((c.tc : Thread Cert.SoutprojRefIdeal.nD Cert.SoutprojRefIdeal.τ).loc Cert.SoutprojRefIdeal.main_arg12))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v4)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v4) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v56) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)) (v3 : (c : Dev Cert.ProjIdeal.nD) → Buf (Elt Ideal) ((c.tc : Thread Cert.ProjIdeal.nD Cert.ProjIdeal.τ).loc Cert.ProjIdeal.main_v11_3)) (v4 : (c : Dev Cert.ProjIdeal.nD) → Buf (Elt Ideal) ((c.tc : Thread Cert.ProjIdeal.nD Cert.ProjIdeal.τ).loc Cert.ProjIdeal.main_v11_4)) (v5 : (c : Dev Cert.ProjIdeal.nD) → Buf (Elt Ideal) ((c.tc : Thread Cert.ProjIdeal.nD Cert.ProjIdeal.τ).loc Cert.ProjIdeal.main_v11_5)) (v6 : (c : Dev Cert.ProjIdeal.nD) → Buf (Elt Ideal) ((c.tc : Thread Cert.ProjIdeal.nD Cert.ProjIdeal.τ).loc Cert.ProjIdeal.main_v11_6)) (v7 : (c : Dev Cert.ProjIdeal.nD) → Buf (Elt Ideal) ((c.tc : Thread Cert.ProjIdeal.nD Cert.ProjIdeal.τ).loc Cert.ProjIdeal.main_v11_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_v11_3) = v3 c
          ∧ r.2.mem ((c.tc : Thread Cert.ProjIdeal.nD Cert.ProjIdeal.τ).loc Cert.ProjIdeal.main_v11_4) = v4 c
          ∧ r.2.mem ((c.tc : Thread Cert.ProjIdeal.nD Cert.ProjIdeal.τ).loc Cert.ProjIdeal.main_v11_5) = v5 c
          ∧ r.2.mem ((c.tc : Thread Cert.ProjIdeal.nD Cert.ProjIdeal.τ).loc Cert.ProjIdeal.main_v11_6) = v6 c
          ∧ r.2.mem ((c.tc : Thread Cert.ProjIdeal.nD Cert.ProjIdeal.τ).loc Cert.ProjIdeal.main_v11_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v44) = v0 c
          ∧ r.2.mem ((c.tc : Thread Cert.ProjRefIdeal.nD Cert.ProjRefIdeal.τ).loc Cert.ProjRefIdeal.main_v45) = v1 c
          ∧ r.2.mem ((c.tc : Thread Cert.ProjRefIdeal.nD Cert.ProjRefIdeal.τ).loc Cert.ProjRefIdeal.main_v46) = v2 c
          ∧ r.2.mem ((c.tc : Thread Cert.ProjRefIdeal.nD Cert.ProjRefIdeal.τ).loc Cert.ProjRefIdeal.main_v48) = v3 c
          ∧ r.2.mem ((c.tc : Thread Cert.ProjRefIdeal.nD Cert.ProjRefIdeal.τ).loc Cert.ProjRefIdeal.main_v50) = v4 c
          ∧ r.2.mem ((c.tc : Thread Cert.ProjRefIdeal.nD Cert.ProjRefIdeal.τ).loc Cert.ProjRefIdeal.main_v52) = v5 c
          ∧ r.2.mem ((c.tc : Thread Cert.ProjRefIdeal.nD Cert.ProjRefIdeal.τ).loc Cert.ProjRefIdeal.main_v54) = v6 c
          ∧ r.2.mem ((c.tc : Thread Cert.ProjRefIdeal.nD Cert.ProjRefIdeal.τ).loc Cert.ProjRefIdeal.main_v55) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)
      ∧ m' ((c.tc : Thread Cert.AdalnRefIdeal.nD Cert.AdalnRefIdeal.τ).loc Cert.AdalnRefIdeal.main_arg3) = m ((c.tc : Thread Cert.AdalnIdeal.nD Cert.AdalnIdeal.τ).loc Cert.AdalnIdeal.main_arg3)) →
    ∃ (v0 : (c : Dev Cert.AdalnIdeal.nD) → Buf (Elt Ideal) ((c.tc : Thread Cert.AdalnIdeal.nD Cert.AdalnIdeal.τ).loc Cert.AdalnIdeal.main_v2)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v2) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2)
          ∧ r.2.mem ((c.tc : Thread Cert.AdalnIdeal.nD Cert.AdalnIdeal.τ).loc Cert.AdalnIdeal.main_arg3) = m ((c.tc : Thread Cert.AdalnIdeal.nD Cert.AdalnIdeal.τ).loc Cert.AdalnIdeal.main_arg3))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v10) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2)
          ∧ r.2.mem ((c.tc : Thread Cert.AdalnRefIdeal.nD Cert.AdalnRefIdeal.τ).loc Cert.AdalnRefIdeal.main_arg3) = m' ((c.tc : Thread Cert.AdalnRefIdeal.nD Cert.AdalnRefIdeal.τ).loc Cert.AdalnRefIdeal.main_arg3))

def preserves_Sproj_SprojIdeal : Prop :=
  True

def algebraic_SprojIdeal_SprojRefIdeal [hSprojIdeal : Cert.SprojIdeal.Facts] [hSprojRefIdeal : Cert.SprojRefIdeal.Facts] : Prop :=
  ∀ (m : (ℓ : Loc Cert.SprojIdeal.nD Cert.SprojIdeal.τ Cert.SprojIdeal.sig) → Buf (Elt Ideal) ℓ) (g : Dev Cert.SprojIdeal.nD → PrngReg)
    (m' : (ℓ : Loc Cert.SprojRefIdeal.nD Cert.SprojRefIdeal.τ Cert.SprojRefIdeal.sig) → Buf (Elt Ideal) ℓ) (g' : Dev Cert.SprojRefIdeal.nD → PrngReg), Pre_SprojIdeal m →
    (∀ c : Dev Cert.SprojIdeal.nD,
      m' ((c.tc : Thread Cert.SprojRefIdeal.nD Cert.SprojRefIdeal.τ).loc Cert.SprojRefIdeal.main_arg0) = m ((c.tc : Thread Cert.SprojIdeal.nD Cert.SprojIdeal.τ).loc Cert.SprojIdeal.main_arg0)
      ∧ m' ((c.tc : Thread Cert.SprojRefIdeal.nD Cert.SprojRefIdeal.τ).loc Cert.SprojRefIdeal.main_arg1) = m ((c.tc : Thread Cert.SprojIdeal.nD Cert.SprojIdeal.τ).loc Cert.SprojIdeal.main_arg1)
      ∧ m' ((c.tc : Thread Cert.SprojRefIdeal.nD Cert.SprojRefIdeal.τ).loc Cert.SprojRefIdeal.main_arg2) = m ((c.tc : Thread Cert.SprojIdeal.nD Cert.SprojIdeal.τ).loc Cert.SprojIdeal.main_arg2)
      ∧ m' ((c.tc : Thread Cert.SprojRefIdeal.nD Cert.SprojRefIdeal.τ).loc Cert.SprojRefIdeal.main_arg3) = m ((c.tc : Thread Cert.SprojIdeal.nD Cert.SprojIdeal.τ).loc Cert.SprojIdeal.main_arg3)
      ∧ m' ((c.tc : Thread Cert.SprojRefIdeal.nD Cert.SprojRefIdeal.τ).loc Cert.SprojRefIdeal.main_arg4) = m ((c.tc : Thread Cert.SprojIdeal.nD Cert.SprojIdeal.τ).loc Cert.SprojIdeal.main_arg4)
      ∧ m' ((c.tc : Thread Cert.SprojRefIdeal.nD Cert.SprojRefIdeal.τ).loc Cert.SprojRefIdeal.main_arg5) = m ((c.tc : Thread Cert.SprojIdeal.nD Cert.SprojIdeal.τ).loc Cert.SprojIdeal.main_arg5)) →
    ∃ (v0 : (c : Dev Cert.SprojIdeal.nD) → Buf (Elt Ideal) ((c.tc : Thread Cert.SprojIdeal.nD Cert.SprojIdeal.τ).loc Cert.SprojIdeal.main_v26_0)) (v1 : (c : Dev Cert.SprojIdeal.nD) → Buf (Elt Ideal) ((c.tc : Thread Cert.SprojIdeal.nD Cert.SprojIdeal.τ).loc Cert.SprojIdeal.main_v26_1)) (v2 : (c : Dev Cert.SprojIdeal.nD) → Buf (Elt Ideal) ((c.tc : Thread Cert.SprojIdeal.nD Cert.SprojIdeal.τ).loc Cert.SprojIdeal.main_v26_2)) (v3 : (c : Dev Cert.SprojIdeal.nD) → Buf (Elt Ideal) ((c.tc : Thread Cert.SprojIdeal.nD Cert.SprojIdeal.τ).loc Cert.SprojIdeal.main_v26_3)) (v4 : (c : Dev Cert.SprojIdeal.nD) → Buf (Elt Ideal) ((c.tc : Thread Cert.SprojIdeal.nD Cert.SprojIdeal.τ).loc Cert.SprojIdeal.main_v26_4)) (v5 : (c : Dev Cert.SprojIdeal.nD) → Buf (Elt Ideal) ((c.tc : Thread Cert.SprojIdeal.nD Cert.SprojIdeal.τ).loc Cert.SprojIdeal.main_v26_5)) (v6 : (c : Dev Cert.SprojIdeal.nD) → Buf (Elt Ideal) ((c.tc : Thread Cert.SprojIdeal.nD Cert.SprojIdeal.τ).loc Cert.SprojIdeal.main_v26_6)) (v7 : (c : Dev Cert.SprojIdeal.nD) → Buf (Elt Ideal) ((c.tc : Thread Cert.SprojIdeal.nD Cert.SprojIdeal.τ).loc Cert.SprojIdeal.main_v26_7)),
      θ_run (Cert.SprojIdeal.defs (F := Ideal)) (onTc (τ := Cert.SprojIdeal.τ) (Cert.SprojIdeal.main (F := Ideal))) ⟨m, fun _ => 0, g⟩ (fun r => ∀ c : Dev Cert.SprojIdeal.nD,
          r.2.mem ((c.tc : Thread Cert.SprojIdeal.nD Cert.SprojIdeal.τ).loc Cert.SprojIdeal.main_v26_0) = v0 c
          ∧ r.2.mem ((c.tc : Thread Cert.SprojIdeal.nD Cert.SprojIdeal.τ).loc Cert.SprojIdeal.main_v26_1) = v1 c
          ∧ r.2.mem ((c.tc : Thread Cert.SprojIdeal.nD Cert.SprojIdeal.τ).loc Cert.SprojIdeal.main_v26_2) = v2 c
          ∧ r.2.mem ((c.tc : Thread Cert.SprojIdeal.nD Cert.SprojIdeal.τ).loc Cert.SprojIdeal.main_v26_3) = v3 c
          ∧ r.2.mem ((c.tc : Thread Cert.SprojIdeal.nD Cert.SprojIdeal.τ).loc Cert.SprojIdeal.main_v26_4) = v4 c
          ∧ r.2.mem ((c.tc : Thread Cert.SprojIdeal.nD Cert.SprojIdeal.τ).loc Cert.SprojIdeal.main_v26_5) = v5 c
          ∧ r.2.mem ((c.tc : Thread Cert.SprojIdeal.nD Cert.SprojIdeal.τ).loc Cert.SprojIdeal.main_v26_6) = v6 c
          ∧ r.2.mem ((c.tc : Thread Cert.SprojIdeal.nD Cert.SprojIdeal.τ).loc Cert.SprojIdeal.main_v26_7) = v7 c
          ∧ r.2.mem ((c.tc : Thread Cert.SprojIdeal.nD Cert.SprojIdeal.τ).loc Cert.SprojIdeal.main_arg0) = m ((c.tc : Thread Cert.SprojIdeal.nD Cert.SprojIdeal.τ).loc Cert.SprojIdeal.main_arg0)
          ∧ r.2.mem ((c.tc : Thread Cert.SprojIdeal.nD Cert.SprojIdeal.τ).loc Cert.SprojIdeal.main_arg1) = m ((c.tc : Thread Cert.SprojIdeal.nD Cert.SprojIdeal.τ).loc Cert.SprojIdeal.main_arg1)
          ∧ r.2.mem ((c.tc : Thread Cert.SprojIdeal.nD Cert.SprojIdeal.τ).loc Cert.SprojIdeal.main_arg2) = m ((c.tc : Thread Cert.SprojIdeal.nD Cert.SprojIdeal.τ).loc Cert.SprojIdeal.main_arg2)
          ∧ r.2.mem ((c.tc : Thread Cert.SprojIdeal.nD Cert.SprojIdeal.τ).loc Cert.SprojIdeal.main_arg3) = m ((c.tc : Thread Cert.SprojIdeal.nD Cert.SprojIdeal.τ).loc Cert.SprojIdeal.main_arg3)
          ∧ r.2.mem ((c.tc : Thread Cert.SprojIdeal.nD Cert.SprojIdeal.τ).loc Cert.SprojIdeal.main_arg4) = m ((c.tc : Thread Cert.SprojIdeal.nD Cert.SprojIdeal.τ).loc Cert.SprojIdeal.main_arg4)
          ∧ r.2.mem ((c.tc : Thread Cert.SprojIdeal.nD Cert.SprojIdeal.τ).loc Cert.SprojIdeal.main_arg5) = m ((c.tc : Thread Cert.SprojIdeal.nD Cert.SprojIdeal.τ).loc Cert.SprojIdeal.main_arg5))
      ∧ θ_run (Cert.SprojRefIdeal.defs (F := Ideal)) (onTc (τ := Cert.SprojRefIdeal.τ) (Cert.SprojRefIdeal.main (F := Ideal))) ⟨m', fun _ => 0, g'⟩ (fun r => ∀ c : Dev Cert.SprojRefIdeal.nD,
          r.2.mem ((c.tc : Thread Cert.SprojRefIdeal.nD Cert.SprojRefIdeal.τ).loc Cert.SprojRefIdeal.main_v44) = v0 c
          ∧ r.2.mem ((c.tc : Thread Cert.SprojRefIdeal.nD Cert.SprojRefIdeal.τ).loc Cert.SprojRefIdeal.main_v45) = v1 c
          ∧ r.2.mem ((c.tc : Thread Cert.SprojRefIdeal.nD Cert.SprojRefIdeal.τ).loc Cert.SprojRefIdeal.main_v46) = v2 c
          ∧ r.2.mem ((c.tc : Thread Cert.SprojRefIdeal.nD Cert.SprojRefIdeal.τ).loc Cert.SprojRefIdeal.main_v48) = v3 c
          ∧ r.2.mem ((c.tc : Thread Cert.SprojRefIdeal.nD Cert.SprojRefIdeal.τ).loc Cert.SprojRefIdeal.main_v50) = v4 c
          ∧ r.2.mem ((c.tc : Thread Cert.SprojRefIdeal.nD Cert.SprojRefIdeal.τ).loc Cert.SprojRefIdeal.main_v52) = v5 c
          ∧ r.2.mem ((c.tc : Thread Cert.SprojRefIdeal.nD Cert.SprojRefIdeal.τ).loc Cert.SprojRefIdeal.main_v54) = v6 c
          ∧ r.2.mem ((c.tc : Thread Cert.SprojRefIdeal.nD Cert.SprojRefIdeal.τ).loc Cert.SprojRefIdeal.main_v55) = v7 c
          ∧ r.2.mem ((c.tc : Thread Cert.SprojRefIdeal.nD Cert.SprojRefIdeal.τ).loc Cert.SprojRefIdeal.main_arg0) = m' ((c.tc : Thread Cert.SprojRefIdeal.nD Cert.SprojRefIdeal.τ).loc Cert.SprojRefIdeal.main_arg0)
          ∧ r.2.mem ((c.tc : Thread Cert.SprojRefIdeal.nD Cert.SprojRefIdeal.τ).loc Cert.SprojRefIdeal.main_arg1) = m' ((c.tc : Thread Cert.SprojRefIdeal.nD Cert.SprojRefIdeal.τ).loc Cert.SprojRefIdeal.main_arg1)
          ∧ r.2.mem ((c.tc : Thread Cert.SprojRefIdeal.nD Cert.SprojRefIdeal.τ).loc Cert.SprojRefIdeal.main_arg2) = m' ((c.tc : Thread Cert.SprojRefIdeal.nD Cert.SprojRefIdeal.τ).loc Cert.SprojRefIdeal.main_arg2)
          ∧ r.2.mem ((c.tc : Thread Cert.SprojRefIdeal.nD Cert.SprojRefIdeal.τ).loc Cert.SprojRefIdeal.main_arg3) = m' ((c.tc : Thread Cert.SprojRefIdeal.nD Cert.SprojRefIdeal.τ).loc Cert.SprojRefIdeal.main_arg3)
          ∧ r.2.mem ((c.tc : Thread Cert.SprojRefIdeal.nD Cert.SprojRefIdeal.τ).loc Cert.SprojRefIdeal.main_arg4) = m' ((c.tc : Thread Cert.SprojRefIdeal.nD Cert.SprojRefIdeal.τ).loc Cert.SprojRefIdeal.main_arg4)
          ∧ r.2.mem ((c.tc : Thread Cert.SprojRefIdeal.nD Cert.SprojRefIdeal.τ).loc Cert.SprojRefIdeal.main_arg5) = m' ((c.tc : Thread Cert.SprojRefIdeal.nD Cert.SprojRefIdeal.τ).loc Cert.SprojRefIdeal.main_arg5))

def preserves_Sgla_SglaIdeal : Prop :=
  True

def algebraic_SglaIdeal_SglaRefIdeal [hSglaIdeal : Cert.SglaIdeal.Facts] [hSglaRefIdeal : Cert.SglaRefIdeal.Facts] : Prop :=
  ∀ (m : (ℓ : Loc Cert.SglaIdeal.nD Cert.SglaIdeal.τ Cert.SglaIdeal.sig) → Buf (Elt Ideal) ℓ) (g : Dev Cert.SglaIdeal.nD → PrngReg)
    (m' : (ℓ : Loc Cert.SglaRefIdeal.nD Cert.SglaRefIdeal.τ Cert.SglaRefIdeal.sig) → Buf (Elt Ideal) ℓ) (g' : Dev Cert.SglaRefIdeal.nD → PrngReg), Pre_SglaIdeal m →
    (∀ c : Dev Cert.SglaIdeal.nD,
      m' ((c.tc : Thread Cert.SglaRefIdeal.nD Cert.SglaRefIdeal.τ).loc Cert.SglaRefIdeal.main_arg0) = m ((c.tc : Thread Cert.SglaIdeal.nD Cert.SglaIdeal.τ).loc Cert.SglaIdeal.main_arg0)
      ∧ m' ((c.tc : Thread Cert.SglaRefIdeal.nD Cert.SglaRefIdeal.τ).loc Cert.SglaRefIdeal.main_arg1) = m ((c.tc : Thread Cert.SglaIdeal.nD Cert.SglaIdeal.τ).loc Cert.SglaIdeal.main_arg1)
      ∧ m' ((c.tc : Thread Cert.SglaRefIdeal.nD Cert.SglaRefIdeal.τ).loc Cert.SglaRefIdeal.main_arg2) = m ((c.tc : Thread Cert.SglaIdeal.nD Cert.SglaIdeal.τ).loc Cert.SglaIdeal.main_arg2)
      ∧ m' ((c.tc : Thread Cert.SglaRefIdeal.nD Cert.SglaRefIdeal.τ).loc Cert.SglaRefIdeal.main_arg3) = m ((c.tc : Thread Cert.SglaIdeal.nD Cert.SglaIdeal.τ).loc Cert.SglaIdeal.main_arg3)
      ∧ m' ((c.tc : Thread Cert.SglaRefIdeal.nD Cert.SglaRefIdeal.τ).loc Cert.SglaRefIdeal.main_arg4) = m ((c.tc : Thread Cert.SglaIdeal.nD Cert.SglaIdeal.τ).loc Cert.SglaIdeal.main_arg4)
      ∧ m' ((c.tc : Thread Cert.SglaRefIdeal.nD Cert.SglaRefIdeal.τ).loc Cert.SglaRefIdeal.main_arg5) = m ((c.tc : Thread Cert.SglaIdeal.nD Cert.SglaIdeal.τ).loc Cert.SglaIdeal.main_arg5)
      ∧ m' ((c.tc : Thread Cert.SglaRefIdeal.nD Cert.SglaRefIdeal.τ).loc Cert.SglaRefIdeal.main_arg6) = m ((c.tc : Thread Cert.SglaIdeal.nD Cert.SglaIdeal.τ).loc Cert.SglaIdeal.main_arg6)) →
    ∃ (v0 : (c : Dev Cert.SglaIdeal.nD) → Buf (Elt Ideal) ((c.tc : Thread Cert.SglaIdeal.nD Cert.SglaIdeal.τ).loc Cert.SglaIdeal.main_v1_0)) (v1 : (c : Dev Cert.SglaIdeal.nD) → Buf (Elt Ideal) ((c.tc : Thread Cert.SglaIdeal.nD Cert.SglaIdeal.τ).loc Cert.SglaIdeal.main_v1_1)),
      θ_run (Cert.SglaIdeal.defs (F := Ideal)) (onTc (τ := Cert.SglaIdeal.τ) (Cert.SglaIdeal.main (F := Ideal))) ⟨m, fun _ => 0, g⟩ (fun r => ∀ c : Dev Cert.SglaIdeal.nD,
          r.2.mem ((c.tc : Thread Cert.SglaIdeal.nD Cert.SglaIdeal.τ).loc Cert.SglaIdeal.main_v1_0) = v0 c
          ∧ r.2.mem ((c.tc : Thread Cert.SglaIdeal.nD Cert.SglaIdeal.τ).loc Cert.SglaIdeal.main_v1_1) = v1 c
          ∧ r.2.mem ((c.tc : Thread Cert.SglaIdeal.nD Cert.SglaIdeal.τ).loc Cert.SglaIdeal.main_arg0) = m ((c.tc : Thread Cert.SglaIdeal.nD Cert.SglaIdeal.τ).loc Cert.SglaIdeal.main_arg0)
          ∧ r.2.mem ((c.tc : Thread Cert.SglaIdeal.nD Cert.SglaIdeal.τ).loc Cert.SglaIdeal.main_arg1) = m ((c.tc : Thread Cert.SglaIdeal.nD Cert.SglaIdeal.τ).loc Cert.SglaIdeal.main_arg1)
          ∧ r.2.mem ((c.tc : Thread Cert.SglaIdeal.nD Cert.SglaIdeal.τ).loc Cert.SglaIdeal.main_arg2) = m ((c.tc : Thread Cert.SglaIdeal.nD Cert.SglaIdeal.τ).loc Cert.SglaIdeal.main_arg2)
          ∧ r.2.mem ((c.tc : Thread Cert.SglaIdeal.nD Cert.SglaIdeal.τ).loc Cert.SglaIdeal.main_arg3) = m ((c.tc : Thread Cert.SglaIdeal.nD Cert.SglaIdeal.τ).loc Cert.SglaIdeal.main_arg3)
          ∧ r.2.mem ((c.tc : Thread Cert.SglaIdeal.nD Cert.SglaIdeal.τ).loc Cert.SglaIdeal.main_arg4) = m ((c.tc : Thread Cert.SglaIdeal.nD Cert.SglaIdeal.τ).loc Cert.SglaIdeal.main_arg4)
          ∧ r.2.mem ((c.tc : Thread Cert.SglaIdeal.nD Cert.SglaIdeal.τ).loc Cert.SglaIdeal.main_arg5) = m ((c.tc : Thread Cert.SglaIdeal.nD Cert.SglaIdeal.τ).loc Cert.SglaIdeal.main_arg5)
          ∧ r.2.mem ((c.tc : Thread Cert.SglaIdeal.nD Cert.SglaIdeal.τ).loc Cert.SglaIdeal.main_arg6) = m ((c.tc : Thread Cert.SglaIdeal.nD Cert.SglaIdeal.τ).loc Cert.SglaIdeal.main_arg6))
      ∧ θ_run (Cert.SglaRefIdeal.defs (F := Ideal)) (onTc (τ := Cert.SglaRefIdeal.τ) (Cert.SglaRefIdeal.main (F := Ideal))) ⟨m', fun _ => 0, g'⟩ (fun r => ∀ c : Dev Cert.SglaRefIdeal.nD,
          r.2.mem ((c.tc : Thread Cert.SglaRefIdeal.nD Cert.SglaRefIdeal.τ).loc Cert.SglaRefIdeal.main_v55) = v0 c
          ∧ r.2.mem ((c.tc : Thread Cert.SglaRefIdeal.nD Cert.SglaRefIdeal.τ).loc Cert.SglaRefIdeal.main_v35) = v1 c
          ∧ r.2.mem ((c.tc : Thread Cert.SglaRefIdeal.nD Cert.SglaRefIdeal.τ).loc Cert.SglaRefIdeal.main_arg0) = m' ((c.tc : Thread Cert.SglaRefIdeal.nD Cert.SglaRefIdeal.τ).loc Cert.SglaRefIdeal.main_arg0)
          ∧ r.2.mem ((c.tc : Thread Cert.SglaRefIdeal.nD Cert.SglaRefIdeal.τ).loc Cert.SglaRefIdeal.main_arg1) = m' ((c.tc : Thread Cert.SglaRefIdeal.nD Cert.SglaRefIdeal.τ).loc Cert.SglaRefIdeal.main_arg1)
          ∧ r.2.mem ((c.tc : Thread Cert.SglaRefIdeal.nD Cert.SglaRefIdeal.τ).loc Cert.SglaRefIdeal.main_arg2) = m' ((c.tc : Thread Cert.SglaRefIdeal.nD Cert.SglaRefIdeal.τ).loc Cert.SglaRefIdeal.main_arg2)
          ∧ r.2.mem ((c.tc : Thread Cert.SglaRefIdeal.nD Cert.SglaRefIdeal.τ).loc Cert.SglaRefIdeal.main_arg3) = m' ((c.tc : Thread Cert.SglaRefIdeal.nD Cert.SglaRefIdeal.τ).loc Cert.SglaRefIdeal.main_arg3)
          ∧ r.2.mem ((c.tc : Thread Cert.SglaRefIdeal.nD Cert.SglaRefIdeal.τ).loc Cert.SglaRefIdeal.main_arg4) = m' ((c.tc : Thread Cert.SglaRefIdeal.nD Cert.SglaRefIdeal.τ).loc Cert.SglaRefIdeal.main_arg4)
          ∧ r.2.mem ((c.tc : Thread Cert.SglaRefIdeal.nD Cert.SglaRefIdeal.τ).loc Cert.SglaRefIdeal.main_arg5) = m' ((c.tc : Thread Cert.SglaRefIdeal.nD Cert.SglaRefIdeal.τ).loc Cert.SglaRefIdeal.main_arg5)
          ∧ r.2.mem ((c.tc : Thread Cert.SglaRefIdeal.nD Cert.SglaRefIdeal.τ).loc Cert.SglaRefIdeal.main_arg6) = m' ((c.tc : Thread Cert.SglaRefIdeal.nD Cert.SglaRefIdeal.τ).loc Cert.SglaRefIdeal.main_arg6))

def preserves_Outproj_OutprojIdeal : Prop :=
  True

def algebraic_OutprojIdeal_OutprojRefIdeal_on_prompt_rows [hOutprojIdeal : Cert.OutprojIdeal.Facts] [hOutprojRefIdeal : Cert.OutprojRefIdeal.Facts] [hOn_prompt_rows : Cert.On_prompt_rows.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v14_0)) (v1 : (c : Dev Cert.OutprojIdeal.nD) → Buf (Elt Ideal) ((c.tc : Thread Cert.OutprojIdeal.nD Cert.OutprojIdeal.τ).loc Cert.OutprojIdeal.main_v14_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          (∀ i : (⟨2, ![32896, 2048]⟩ : Shape).Idx, (Cert.On_prompt_rows.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9))).1 i = 1#1 → r.2.mem ((c.tc : Thread Cert.OutprojIdeal.nD Cert.OutprojIdeal.τ).loc Cert.OutprojIdeal.main_v14_0) i = v0 c i)
          ∧ (∀ i : (⟨2, ![32896, 2048]⟩ : Shape).Idx, (Cert.On_prompt_rows.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9))).2 i = 1#1 → r.2.mem ((c.tc : Thread Cert.OutprojIdeal.nD Cert.OutprojIdeal.τ).loc Cert.OutprojIdeal.main_v14_1) i = v1 c i)
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          (∀ i : (⟨2, ![32896, 2048]⟩ : Shape).Idx, (Cert.On_prompt_rows.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9))).1 i = 1#1 → r.2.mem ((c.tc : Thread Cert.OutprojRefIdeal.nD Cert.OutprojRefIdeal.τ).loc Cert.OutprojRefIdeal.main_v37) i = v0 c i)
          ∧ (∀ i : (⟨2, ![32896, 2048]⟩ : Shape).Idx, (Cert.On_prompt_rows.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6)) (m ((c.tc : Thread Cert.OutprojIdeal.nD Cert.OutprojIdeal.τ).loc Cert.OutprojIdeal.main_arg7)) (m ((c.tc : Thread Cert.OutprojIdeal.nD Cert.OutprojIdeal.τ).loc Cert.OutprojIdeal.main_arg8)) (m ((c.tc : Thread Cert.OutprojIdeal.nD Cert.OutprojIdeal.τ).loc Cert.OutprojIdeal.main_arg9))).2 i = 1#1 → r.2.mem ((c.tc : Thread Cert.OutprojRefIdeal.nD Cert.OutprojRefIdeal.τ).loc Cert.OutprojRefIdeal.main_v39) i = v1 c i)
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def preserves_Pgla_PglaIdeal : Prop :=
  True

def algebraic_PglaIdeal_PglaRefIdeal_pre_gla_finite [hPglaIdeal : Cert.PglaIdeal.Facts] [hPglaRefIdeal : Cert.PglaRefIdeal.Facts] [hPre_gla_finite : Cert.Pre_gla_finite.Facts] : Prop :=
  ∀ (m : (ℓ : Loc Cert.PglaIdeal.nD Cert.PglaIdeal.τ Cert.PglaIdeal.sig) → Buf (Elt Ideal) ℓ) (g : Dev Cert.PglaIdeal.nD → PrngReg)
    (m' : (ℓ : Loc Cert.PglaRefIdeal.nD Cert.PglaRefIdeal.τ Cert.PglaRefIdeal.sig) → Buf (Elt Ideal) ℓ) (g' : Dev Cert.PglaRefIdeal.nD → PrngReg), Pre_PglaIdeal_gla_finite m →
    (∀ c : Dev Cert.PglaIdeal.nD,
      m' ((c.tc : Thread Cert.PglaRefIdeal.nD Cert.PglaRefIdeal.τ).loc Cert.PglaRefIdeal.main_arg0) = m ((c.tc : Thread Cert.PglaIdeal.nD Cert.PglaIdeal.τ).loc Cert.PglaIdeal.main_arg0)
      ∧ m' ((c.tc : Thread Cert.PglaRefIdeal.nD Cert.PglaRefIdeal.τ).loc Cert.PglaRefIdeal.main_arg1) = m ((c.tc : Thread Cert.PglaIdeal.nD Cert.PglaIdeal.τ).loc Cert.PglaIdeal.main_arg1)
      ∧ m' ((c.tc : Thread Cert.PglaRefIdeal.nD Cert.PglaRefIdeal.τ).loc Cert.PglaRefIdeal.main_arg2) = m ((c.tc : Thread Cert.PglaIdeal.nD Cert.PglaIdeal.τ).loc Cert.PglaIdeal.main_arg2)
      ∧ m' ((c.tc : Thread Cert.PglaRefIdeal.nD Cert.PglaRefIdeal.τ).loc Cert.PglaRefIdeal.main_arg3) = m ((c.tc : Thread Cert.PglaIdeal.nD Cert.PglaIdeal.τ).loc Cert.PglaIdeal.main_arg3)
      ∧ m' ((c.tc : Thread Cert.PglaRefIdeal.nD Cert.PglaRefIdeal.τ).loc Cert.PglaRefIdeal.main_arg4) = m ((c.tc : Thread Cert.PglaIdeal.nD Cert.PglaIdeal.τ).loc Cert.PglaIdeal.main_arg4)
      ∧ m' ((c.tc : Thread Cert.PglaRefIdeal.nD Cert.PglaRefIdeal.τ).loc Cert.PglaRefIdeal.main_arg5) = m ((c.tc : Thread Cert.PglaIdeal.nD Cert.PglaIdeal.τ).loc Cert.PglaIdeal.main_arg5)) →
    ∃ (v0 : (c : Dev Cert.PglaIdeal.nD) → Buf (Elt Ideal) ((c.tc : Thread Cert.PglaIdeal.nD Cert.PglaIdeal.τ).loc Cert.PglaIdeal.main_v2_0)) (v1 : (c : Dev Cert.PglaIdeal.nD) → Buf (Elt Ideal) ((c.tc : Thread Cert.PglaIdeal.nD Cert.PglaIdeal.τ).loc Cert.PglaIdeal.main_v2_1)),
      θ_run (Cert.PglaIdeal.defs (F := Ideal)) (onTc (τ := Cert.PglaIdeal.τ) (Cert.PglaIdeal.main (F := Ideal))) ⟨m, fun _ => 0, g⟩ (fun r => ∀ c : Dev Cert.PglaIdeal.nD,
          r.2.mem ((c.tc : Thread Cert.PglaIdeal.nD Cert.PglaIdeal.τ).loc Cert.PglaIdeal.main_v2_0) = v0 c
          ∧ r.2.mem ((c.tc : Thread Cert.PglaIdeal.nD Cert.PglaIdeal.τ).loc Cert.PglaIdeal.main_v2_1) = v1 c
          ∧ r.2.mem ((c.tc : Thread Cert.PglaIdeal.nD Cert.PglaIdeal.τ).loc Cert.PglaIdeal.main_arg0) = m ((c.tc : Thread Cert.PglaIdeal.nD Cert.PglaIdeal.τ).loc Cert.PglaIdeal.main_arg0)
          ∧ r.2.mem ((c.tc : Thread Cert.PglaIdeal.nD Cert.PglaIdeal.τ).loc Cert.PglaIdeal.main_arg1) = m ((c.tc : Thread Cert.PglaIdeal.nD Cert.PglaIdeal.τ).loc Cert.PglaIdeal.main_arg1)
          ∧ r.2.mem ((c.tc : Thread Cert.PglaIdeal.nD Cert.PglaIdeal.τ).loc Cert.PglaIdeal.main_arg2) = m ((c.tc : Thread Cert.PglaIdeal.nD Cert.PglaIdeal.τ).loc Cert.PglaIdeal.main_arg2)
          ∧ r.2.mem ((c.tc : Thread Cert.PglaIdeal.nD Cert.PglaIdeal.τ).loc Cert.PglaIdeal.main_arg3) = m ((c.tc : Thread Cert.PglaIdeal.nD Cert.PglaIdeal.τ).loc Cert.PglaIdeal.main_arg3)
          ∧ r.2.mem ((c.tc : Thread Cert.PglaIdeal.nD Cert.PglaIdeal.τ).loc Cert.PglaIdeal.main_arg4) = m ((c.tc : Thread Cert.PglaIdeal.nD Cert.PglaIdeal.τ).loc Cert.PglaIdeal.main_arg4)
          ∧ r.2.mem ((c.tc : Thread Cert.PglaIdeal.nD Cert.PglaIdeal.τ).loc Cert.PglaIdeal.main_arg5) = m ((c.tc : Thread Cert.PglaIdeal.nD Cert.PglaIdeal.τ).loc Cert.PglaIdeal.main_arg5))
      ∧ θ_run (Cert.PglaRefIdeal.defs (F := Ideal)) (onTc (τ := Cert.PglaRefIdeal.τ) (Cert.PglaRefIdeal.main (F := Ideal))) ⟨m', fun _ => 0, g'⟩ (fun r => ∀ c : Dev Cert.PglaRefIdeal.nD,
          r.2.mem ((c.tc : Thread Cert.PglaRefIdeal.nD Cert.PglaRefIdeal.τ).loc Cert.PglaRefIdeal.main_v56) = v0 c
          ∧ r.2.mem ((c.tc : Thread Cert.PglaRefIdeal.nD Cert.PglaRefIdeal.τ).loc Cert.PglaRefIdeal.main_v36) = v1 c
          ∧ r.2.mem ((c.tc : Thread Cert.PglaRefIdeal.nD Cert.PglaRefIdeal.τ).loc Cert.PglaRefIdeal.main_arg0) = m' ((c.tc : Thread Cert.PglaRefIdeal.nD Cert.PglaRefIdeal.τ).loc Cert.PglaRefIdeal.main_arg0)
          ∧ r.2.mem ((c.tc : Thread Cert.PglaRefIdeal.nD Cert.PglaRefIdeal.τ).loc Cert.PglaRefIdeal.main_arg1) = m' ((c.tc : Thread Cert.PglaRefIdeal.nD Cert.PglaRefIdeal.τ).loc Cert.PglaRefIdeal.main_arg1)
          ∧ r.2.mem ((c.tc : Thread Cert.PglaRefIdeal.nD Cert.PglaRefIdeal.τ).loc Cert.PglaRefIdeal.main_arg2) = m' ((c.tc : Thread Cert.PglaRefIdeal.nD Cert.PglaRefIdeal.τ).loc Cert.PglaRefIdeal.main_arg2)
          ∧ r.2.mem ((c.tc : Thread Cert.PglaRefIdeal.nD Cert.PglaRefIdeal.τ).loc Cert.PglaRefIdeal.main_arg3) = m' ((c.tc : Thread Cert.PglaRefIdeal.nD Cert.PglaRefIdeal.τ).loc Cert.PglaRefIdeal.main_arg3)
          ∧ r.2.mem ((c.tc : Thread Cert.PglaRefIdeal.nD Cert.PglaRefIdeal.τ).loc Cert.PglaRefIdeal.main_arg4) = m' ((c.tc : Thread Cert.PglaRefIdeal.nD Cert.PglaRefIdeal.τ).loc Cert.PglaRefIdeal.main_arg4)
          ∧ r.2.mem ((c.tc : Thread Cert.PglaRefIdeal.nD Cert.PglaRefIdeal.τ).loc Cert.PglaRefIdeal.main_arg5) = m' ((c.tc : Thread Cert.PglaRefIdeal.nD Cert.PglaRefIdeal.τ).loc Cert.PglaRefIdeal.main_arg5))

def preserves_Sswa_SswaIdeal : Prop :=
  IdealRules.named_const.Statement Cert.SswaIdeal.κ "mask" .f32 0xF149F2CA#32 ⊥

def algebraic_SswaIdeal_SswaRefIdeal_pre_ssw_finite [hSswaIdeal : Cert.SswaIdeal.Facts] [hSswaRefIdeal : Cert.SswaRefIdeal.Facts] [hPre_ssw_finite : Cert.Pre_ssw_finite.Facts] : Prop :=
  ∀ (m : (ℓ : Loc Cert.SswaIdeal.nD Cert.SswaIdeal.τ Cert.SswaIdeal.sig) → Buf (Elt Ideal) ℓ) (g : Dev Cert.SswaIdeal.nD → PrngReg)
    (m' : (ℓ : Loc Cert.SswaRefIdeal.nD Cert.SswaRefIdeal.τ Cert.SswaRefIdeal.sig) → Buf (Elt Ideal) ℓ) (g' : Dev Cert.SswaRefIdeal.nD → PrngReg), Pre_SswaIdeal_ssw_finite m →
    (∀ c : Dev Cert.SswaIdeal.nD,
      m' ((c.tc : Thread Cert.SswaRefIdeal.nD Cert.SswaRefIdeal.τ).loc Cert.SswaRefIdeal.main_arg0) = m ((c.tc : Thread Cert.SswaIdeal.nD Cert.SswaIdeal.τ).loc Cert.SswaIdeal.main_arg0)
      ∧ m' ((c.tc : Thread Cert.SswaRefIdeal.nD Cert.SswaRefIdeal.τ).loc Cert.SswaRefIdeal.main_arg1) = m ((c.tc : Thread Cert.SswaIdeal.nD Cert.SswaIdeal.τ).loc Cert.SswaIdeal.main_arg1)
      ∧ m' ((c.tc : Thread Cert.SswaRefIdeal.nD Cert.SswaRefIdeal.τ).loc Cert.SswaRefIdeal.main_arg2) = m ((c.tc : Thread Cert.SswaIdeal.nD Cert.SswaIdeal.τ).loc Cert.SswaIdeal.main_arg2)
      ∧ m' ((c.tc : Thread Cert.SswaRefIdeal.nD Cert.SswaRefIdeal.τ).loc Cert.SswaRefIdeal.main_arg3) = m ((c.tc : Thread Cert.SswaIdeal.nD Cert.SswaIdeal.τ).loc Cert.SswaIdeal.main_arg3)
      ∧ m' ((c.tc : Thread Cert.SswaRefIdeal.nD Cert.SswaRefIdeal.τ).loc Cert.SswaRefIdeal.main_arg4) = m ((c.tc : Thread Cert.SswaIdeal.nD Cert.SswaIdeal.τ).loc Cert.SswaIdeal.main_arg4)
      ∧ m' ((c.tc : Thread Cert.SswaRefIdeal.nD Cert.SswaRefIdeal.τ).loc Cert.SswaRefIdeal.main_arg5) = m ((c.tc : Thread Cert.SswaIdeal.nD Cert.SswaIdeal.τ).loc Cert.SswaIdeal.main_arg5)) →
    ∃ (v0 : (c : Dev Cert.SswaIdeal.nD) → Buf (Elt Ideal) ((c.tc : Thread Cert.SswaIdeal.nD Cert.SswaIdeal.τ).loc Cert.SswaIdeal.main_v6)),
      θ_run (Cert.SswaIdeal.defs (F := Ideal)) (onTc (τ := Cert.SswaIdeal.τ) (Cert.SswaIdeal.main (F := Ideal))) ⟨m, fun _ => 0, g⟩ (fun r => ∀ c : Dev Cert.SswaIdeal.nD,
          r.2.mem ((c.tc : Thread Cert.SswaIdeal.nD Cert.SswaIdeal.τ).loc Cert.SswaIdeal.main_v6) = v0 c
          ∧ r.2.mem ((c.tc : Thread Cert.SswaIdeal.nD Cert.SswaIdeal.τ).loc Cert.SswaIdeal.main_arg0) = m ((c.tc : Thread Cert.SswaIdeal.nD Cert.SswaIdeal.τ).loc Cert.SswaIdeal.main_arg0)
          ∧ r.2.mem ((c.tc : Thread Cert.SswaIdeal.nD Cert.SswaIdeal.τ).loc Cert.SswaIdeal.main_arg1) = m ((c.tc : Thread Cert.SswaIdeal.nD Cert.SswaIdeal.τ).loc Cert.SswaIdeal.main_arg1)
          ∧ r.2.mem ((c.tc : Thread Cert.SswaIdeal.nD Cert.SswaIdeal.τ).loc Cert.SswaIdeal.main_arg2) = m ((c.tc : Thread Cert.SswaIdeal.nD Cert.SswaIdeal.τ).loc Cert.SswaIdeal.main_arg2)
          ∧ r.2.mem ((c.tc : Thread Cert.SswaIdeal.nD Cert.SswaIdeal.τ).loc Cert.SswaIdeal.main_arg3) = m ((c.tc : Thread Cert.SswaIdeal.nD Cert.SswaIdeal.τ).loc Cert.SswaIdeal.main_arg3)
          ∧ r.2.mem ((c.tc : Thread Cert.SswaIdeal.nD Cert.SswaIdeal.τ).loc Cert.SswaIdeal.main_arg4) = m ((c.tc : Thread Cert.SswaIdeal.nD Cert.SswaIdeal.τ).loc Cert.SswaIdeal.main_arg4)
          ∧ r.2.mem ((c.tc : Thread Cert.SswaIdeal.nD Cert.SswaIdeal.τ).loc Cert.SswaIdeal.main_arg5) = m ((c.tc : Thread Cert.SswaIdeal.nD Cert.SswaIdeal.τ).loc Cert.SswaIdeal.main_arg5))
      ∧ θ_run (Cert.SswaRefIdeal.defs (F := Ideal)) (onTc (τ := Cert.SswaRefIdeal.τ) (Cert.SswaRefIdeal.main (F := Ideal))) ⟨m', fun _ => 0, g'⟩ (fun r => ∀ c : Dev Cert.SswaRefIdeal.nD,
          r.2.mem ((c.tc : Thread Cert.SswaRefIdeal.nD Cert.SswaRefIdeal.τ).loc Cert.SswaRefIdeal.main_v29) = v0 c
          ∧ r.2.mem ((c.tc : Thread Cert.SswaRefIdeal.nD Cert.SswaRefIdeal.τ).loc Cert.SswaRefIdeal.main_arg0) = m' ((c.tc : Thread Cert.SswaRefIdeal.nD Cert.SswaRefIdeal.τ).loc Cert.SswaRefIdeal.main_arg0)
          ∧ r.2.mem ((c.tc : Thread Cert.SswaRefIdeal.nD Cert.SswaRefIdeal.τ).loc Cert.SswaRefIdeal.main_arg1) = m' ((c.tc : Thread Cert.SswaRefIdeal.nD Cert.SswaRefIdeal.τ).loc Cert.SswaRefIdeal.main_arg1)
          ∧ r.2.mem ((c.tc : Thread Cert.SswaRefIdeal.nD Cert.SswaRefIdeal.τ).loc Cert.SswaRefIdeal.main_arg2) = m' ((c.tc : Thread Cert.SswaRefIdeal.nD Cert.SswaRefIdeal.τ).loc Cert.SswaRefIdeal.main_arg2)
          ∧ r.2.mem ((c.tc : Thread Cert.SswaRefIdeal.nD Cert.SswaRefIdeal.τ).loc Cert.SswaRefIdeal.main_arg3) = m' ((c.tc : Thread Cert.SswaRefIdeal.nD Cert.SswaRefIdeal.τ).loc Cert.SswaRefIdeal.main_arg3)
          ∧ r.2.mem ((c.tc : Thread Cert.SswaRefIdeal.nD Cert.SswaRefIdeal.τ).loc Cert.SswaRefIdeal.main_arg4) = m' ((c.tc : Thread Cert.SswaRefIdeal.nD Cert.SswaRefIdeal.τ).loc Cert.SswaRefIdeal.main_arg4)
          ∧ r.2.mem ((c.tc : Thread Cert.SswaRefIdeal.nD Cert.SswaRefIdeal.τ).loc Cert.SswaRefIdeal.main_arg5) = m' ((c.tc : Thread Cert.SswaRefIdeal.nD Cert.SswaRefIdeal.τ).loc Cert.SswaRefIdeal.main_arg5))

def preserves_Soutproj_SoutprojIdeal : Prop :=
  True

def algebraic_SoutprojIdeal_SoutprojRefIdeal [hSoutprojIdeal : Cert.SoutprojIdeal.Facts] [hSoutprojRefIdeal : Cert.SoutprojRefIdeal.Facts] : Prop :=
  ∀ (m : (ℓ : Loc Cert.SoutprojIdeal.nD Cert.SoutprojIdeal.τ Cert.SoutprojIdeal.sig) → Buf (Elt Ideal) ℓ) (g : Dev Cert.SoutprojIdeal.nD → PrngReg)
    (m' : (ℓ : Loc Cert.SoutprojRefIdeal.nD Cert.SoutprojRefIdeal.τ Cert.SoutprojRefIdeal.sig) → Buf (Elt Ideal) ℓ) (g' : Dev Cert.SoutprojRefIdeal.nD → PrngReg), Pre_SoutprojIdeal m →
    (∀ c : Dev Cert.SoutprojIdeal.nD,
      m' ((c.tc : Thread Cert.SoutprojRefIdeal.nD Cert.SoutprojRefIdeal.τ).loc Cert.SoutprojRefIdeal.main_arg0) = m ((c.tc : Thread Cert.SoutprojIdeal.nD Cert.SoutprojIdeal.τ).loc Cert.SoutprojIdeal.main_arg0)
      ∧ m' ((c.tc : Thread Cert.SoutprojRefIdeal.nD Cert.SoutprojRefIdeal.τ).loc Cert.SoutprojRefIdeal.main_arg1) = m ((c.tc : Thread Cert.SoutprojIdeal.nD Cert.SoutprojIdeal.τ).loc Cert.SoutprojIdeal.main_arg1)
      ∧ m' ((c.tc : Thread Cert.SoutprojRefIdeal.nD Cert.SoutprojRefIdeal.τ).loc Cert.SoutprojRefIdeal.main_arg2) = m ((c.tc : Thread Cert.SoutprojIdeal.nD Cert.SoutprojIdeal.τ).loc Cert.SoutprojIdeal.main_arg2)
      ∧ m' ((c.tc : Thread Cert.SoutprojRefIdeal.nD Cert.SoutprojRefIdeal.τ).loc Cert.SoutprojRefIdeal.main_arg3) = m ((c.tc : Thread Cert.SoutprojIdeal.nD Cert.SoutprojIdeal.τ).loc Cert.SoutprojIdeal.main_arg3)
      ∧ m' ((c.tc : Thread Cert.SoutprojRefIdeal.nD Cert.SoutprojRefIdeal.τ).loc Cert.SoutprojRefIdeal.main_arg4) = m ((c.tc : Thread Cert.SoutprojIdeal.nD Cert.SoutprojIdeal.τ).loc Cert.SoutprojIdeal.main_arg4)
      ∧ m' ((c.tc : Thread Cert.SoutprojRefIdeal.nD Cert.SoutprojRefIdeal.τ).loc Cert.SoutprojRefIdeal.main_arg5) = m ((c.tc : Thread Cert.SoutprojIdeal.nD Cert.SoutprojIdeal.τ).loc Cert.SoutprojIdeal.main_arg5)
      ∧ m' ((c.tc : Thread Cert.SoutprojRefIdeal.nD Cert.SoutprojRefIdeal.τ).loc Cert.SoutprojRefIdeal.main_arg6) = m ((c.tc : Thread Cert.SoutprojIdeal.nD Cert.SoutprojIdeal.τ).loc Cert.SoutprojIdeal.main_arg6)
      ∧ m' ((c.tc : Thread Cert.SoutprojRefIdeal.nD Cert.SoutprojRefIdeal.τ).loc Cert.SoutprojRefIdeal.main_arg7) = m ((c.tc : Thread Cert.SoutprojIdeal.nD Cert.SoutprojIdeal.τ).loc Cert.SoutprojIdeal.main_arg7)
      ∧ m' ((c.tc : Thread Cert.SoutprojRefIdeal.nD Cert.SoutprojRefIdeal.τ).loc Cert.SoutprojRefIdeal.main_arg8) = m ((c.tc : Thread Cert.SoutprojIdeal.nD Cert.SoutprojIdeal.τ).loc Cert.SoutprojIdeal.main_arg8)
      ∧ m' ((c.tc : Thread Cert.SoutprojRefIdeal.nD Cert.SoutprojRefIdeal.τ).loc Cert.SoutprojRefIdeal.main_arg9) = m ((c.tc : Thread Cert.SoutprojIdeal.nD Cert.SoutprojIdeal.τ).loc Cert.SoutprojIdeal.main_arg9)
      ∧ m' ((c.tc : Thread Cert.SoutprojRefIdeal.nD Cert.SoutprojRefIdeal.τ).loc Cert.SoutprojRefIdeal.main_arg10) = m ((c.tc : Thread Cert.SoutprojIdeal.nD Cert.SoutprojIdeal.τ).loc Cert.SoutprojIdeal.main_arg10)
      ∧ m' ((c.tc : Thread Cert.SoutprojRefIdeal.nD Cert.SoutprojRefIdeal.τ).loc Cert.SoutprojRefIdeal.main_arg11) = m ((c.tc : Thread Cert.SoutprojIdeal.nD Cert.SoutprojIdeal.τ).loc Cert.SoutprojIdeal.main_arg11)
      ∧ m' ((c.tc : Thread Cert.SoutprojRefIdeal.nD Cert.SoutprojRefIdeal.τ).loc Cert.SoutprojRefIdeal.main_arg12) = m ((c.tc : Thread Cert.SoutprojIdeal.nD Cert.SoutprojIdeal.τ).loc Cert.SoutprojIdeal.main_arg12)) →
    ∃ (v0 : (c : Dev Cert.SoutprojIdeal.nD) → Buf (Elt Ideal) ((c.tc : Thread Cert.SoutprojIdeal.nD Cert.SoutprojIdeal.τ).loc Cert.SoutprojIdeal.main_v29_0)) (v1 : (c : Dev Cert.SoutprojIdeal.nD) → Buf (Elt Ideal) ((c.tc : Thread Cert.SoutprojIdeal.nD Cert.SoutprojIdeal.τ).loc Cert.SoutprojIdeal.main_v29_1)),
      θ_run (Cert.SoutprojIdeal.defs (F := Ideal)) (onTc (τ := Cert.SoutprojIdeal.τ) (Cert.SoutprojIdeal.main (F := Ideal))) ⟨m, fun _ => 0, g⟩ (fun r => ∀ c : Dev Cert.SoutprojIdeal.nD,
          r.2.mem ((c.tc : Thread Cert.SoutprojIdeal.nD Cert.SoutprojIdeal.τ).loc Cert.SoutprojIdeal.main_v29_0) = v0 c
          ∧ r.2.mem ((c.tc : Thread Cert.SoutprojIdeal.nD Cert.SoutprojIdeal.τ).loc Cert.SoutprojIdeal.main_v29_1) = v1 c
          ∧ r.2.mem ((c.tc : Thread Cert.SoutprojIdeal.nD Cert.SoutprojIdeal.τ).loc Cert.SoutprojIdeal.main_arg0) = m ((c.tc : Thread Cert.SoutprojIdeal.nD Cert.SoutprojIdeal.τ).loc Cert.SoutprojIdeal.main_arg0)
          ∧ r.2.mem ((c.tc : Thread Cert.SoutprojIdeal.nD Cert.SoutprojIdeal.τ).loc Cert.SoutprojIdeal.main_arg1) = m ((c.tc : Thread Cert.SoutprojIdeal.nD Cert.SoutprojIdeal.τ).loc Cert.SoutprojIdeal.main_arg1)
          ∧ r.2.mem ((c.tc : Thread Cert.SoutprojIdeal.nD Cert.SoutprojIdeal.τ).loc Cert.SoutprojIdeal.main_arg2) = m ((c.tc : Thread Cert.SoutprojIdeal.nD Cert.SoutprojIdeal.τ).loc Cert.SoutprojIdeal.main_arg2)
          ∧ r.2.mem ((c.tc : Thread Cert.SoutprojIdeal.nD Cert.SoutprojIdeal.τ).loc Cert.SoutprojIdeal.main_arg3) = m ((c.tc : Thread Cert.SoutprojIdeal.nD Cert.SoutprojIdeal.τ).loc Cert.SoutprojIdeal.main_arg3)
          ∧ r.2.mem ((c.tc : Thread Cert.SoutprojIdeal.nD Cert.SoutprojIdeal.τ).loc Cert.SoutprojIdeal.main_arg4) = m ((c.tc : Thread Cert.SoutprojIdeal.nD Cert.SoutprojIdeal.τ).loc Cert.SoutprojIdeal.main_arg4)
          ∧ r.2.mem ((c.tc : Thread Cert.SoutprojIdeal.nD Cert.SoutprojIdeal.τ).loc Cert.SoutprojIdeal.main_arg5) = m ((c.tc : Thread Cert.SoutprojIdeal.nD Cert.SoutprojIdeal.τ).loc Cert.SoutprojIdeal.main_arg5)
          ∧ r.2.mem ((c.tc : Thread Cert.SoutprojIdeal.nD Cert.SoutprojIdeal.τ).loc Cert.SoutprojIdeal.main_arg6) = m ((c.tc : Thread Cert.SoutprojIdeal.nD Cert.SoutprojIdeal.τ).loc Cert.SoutprojIdeal.main_arg6)
          ∧ r.2.mem ((c.tc : Thread Cert.SoutprojIdeal.nD Cert.SoutprojIdeal.τ).loc Cert.SoutprojIdeal.main_arg7) = m ((c.tc : Thread Cert.SoutprojIdeal.nD Cert.SoutprojIdeal.τ).loc Cert.SoutprojIdeal.main_arg7)
          ∧ r.2.mem ((c.tc : Thread Cert.SoutprojIdeal.nD Cert.SoutprojIdeal.τ).loc Cert.SoutprojIdeal.main_arg8) = m ((c.tc : Thread Cert.SoutprojIdeal.nD Cert.SoutprojIdeal.τ).loc Cert.SoutprojIdeal.main_arg8)
          ∧ r.2.mem ((c.tc : Thread Cert.SoutprojIdeal.nD Cert.SoutprojIdeal.τ).loc Cert.SoutprojIdeal.main_arg9) = m ((c.tc : Thread Cert.SoutprojIdeal.nD Cert.SoutprojIdeal.τ).loc Cert.SoutprojIdeal.main_arg9)
          ∧ r.2.mem ((c.tc : Thread Cert.SoutprojIdeal.nD Cert.SoutprojIdeal.τ).loc Cert.SoutprojIdeal.main_arg10) = m ((c.tc : Thread Cert.SoutprojIdeal.nD Cert.SoutprojIdeal.τ).loc Cert.SoutprojIdeal.main_arg10)
          ∧ r.2.mem ((c.tc : Thread Cert.SoutprojIdeal.nD Cert.SoutprojIdeal.τ).loc Cert.SoutprojIdeal.main_arg11) = m ((c.tc : Thread Cert.SoutprojIdeal.nD Cert.SoutprojIdeal.τ).loc Cert.SoutprojIdeal.main_arg11)
          ∧ r.2.mem ((c.tc : Thread Cert.SoutprojIdeal.nD Cert.SoutprojIdeal.τ).loc Cert.SoutprojIdeal.main_arg12) = m ((c.tc : Thread Cert.SoutprojIdeal.nD Cert.SoutprojIdeal.τ).loc Cert.SoutprojIdeal.main_arg12))
      ∧ θ_run (Cert.SoutprojRefIdeal.defs (F := Ideal)) (onTc (τ := Cert.SoutprojRefIdeal.τ) (Cert.SoutprojRefIdeal.main (F := Ideal))) ⟨m', fun _ => 0, g'⟩ (fun r => ∀ c : Dev Cert.SoutprojRefIdeal.nD,
          r.2.mem ((c.tc : Thread Cert.SoutprojRefIdeal.nD Cert.SoutprojRefIdeal.τ).loc Cert.SoutprojRefIdeal.main_v38) = v0 c
          ∧ r.2.mem ((c.tc : Thread Cert.SoutprojRefIdeal.nD Cert.SoutprojRefIdeal.τ).loc Cert.SoutprojRefIdeal.main_v41) = v1 c
          ∧ r.2.mem ((c.tc : Thread Cert.SoutprojRefIdeal.nD Cert.SoutprojRefIdeal.τ).loc Cert.SoutprojRefIdeal.main_arg0) = m' ((c.tc : Thread Cert.SoutprojRefIdeal.nD Cert.SoutprojRefIdeal.τ).loc Cert.SoutprojRefIdeal.main_arg0)
          ∧ r.2.mem ((c.tc : Thread Cert.SoutprojRefIdeal.nD Cert.SoutprojRefIdeal.τ).loc Cert.SoutprojRefIdeal.main_arg1) = m' ((c.tc : Thread Cert.SoutprojRefIdeal.nD Cert.SoutprojRefIdeal.τ).loc Cert.SoutprojRefIdeal.main_arg1)
          ∧ r.2.mem ((c.tc : Thread Cert.SoutprojRefIdeal.nD Cert.SoutprojRefIdeal.τ).loc Cert.SoutprojRefIdeal.main_arg2) = m' ((c.tc : Thread Cert.SoutprojRefIdeal.nD Cert.SoutprojRefIdeal.τ).loc Cert.SoutprojRefIdeal.main_arg2)
          ∧ r.2.mem ((c.tc : Thread Cert.SoutprojRefIdeal.nD Cert.SoutprojRefIdeal.τ).loc Cert.SoutprojRefIdeal.main_arg3) = m' ((c.tc : Thread Cert.SoutprojRefIdeal.nD Cert.SoutprojRefIdeal.τ).loc Cert.SoutprojRefIdeal.main_arg3)
          ∧ r.2.mem ((c.tc : Thread Cert.SoutprojRefIdeal.nD Cert.SoutprojRefIdeal.τ).loc Cert.SoutprojRefIdeal.main_arg4) = m' ((c.tc : Thread Cert.SoutprojRefIdeal.nD Cert.SoutprojRefIdeal.τ).loc Cert.SoutprojRefIdeal.main_arg4)
          ∧ r.2.mem ((c.tc : Thread Cert.SoutprojRefIdeal.nD Cert.SoutprojRefIdeal.τ).loc Cert.SoutprojRefIdeal.main_arg5) = m' ((c.tc : Thread Cert.SoutprojRefIdeal.nD Cert.SoutprojRefIdeal.τ).loc Cert.SoutprojRefIdeal.main_arg5)
          ∧ r.2.mem ((c.tc : Thread Cert.SoutprojRefIdeal.nD Cert.SoutprojRefIdeal.τ).loc Cert.SoutprojRefIdeal.main_arg6) = m' ((c.tc : Thread Cert.SoutprojRefIdeal.nD Cert.SoutprojRefIdeal.τ).loc Cert.SoutprojRefIdeal.main_arg6)
          ∧ r.2.mem ((c.tc : Thread Cert.SoutprojRefIdeal.nD Cert.SoutprojRefIdeal.τ).loc Cert.SoutprojRefIdeal.main_arg7) = m' ((c.tc : Thread Cert.SoutprojRefIdeal.nD Cert.SoutprojRefIdeal.τ).loc Cert.SoutprojRefIdeal.main_arg7)
          ∧ r.2.mem ((c.tc : Thread Cert.SoutprojRefIdeal.nD Cert.SoutprojRefIdeal.τ).loc Cert.SoutprojRefIdeal.main_arg8) = m' ((c.tc : Thread Cert.SoutprojRefIdeal.nD Cert.SoutprojRefIdeal.τ).loc Cert.SoutprojRefIdeal.main_arg8)
          ∧ r.2.mem ((c.tc : Thread Cert.SoutprojRefIdeal.nD Cert.SoutprojRefIdeal.τ).loc Cert.SoutprojRefIdeal.main_arg9) = m' ((c.tc : Thread Cert.SoutprojRefIdeal.nD Cert.SoutprojRefIdeal.τ).loc Cert.SoutprojRefIdeal.main_arg9)
          ∧ r.2.mem ((c.tc : Thread Cert.SoutprojRefIdeal.nD Cert.SoutprojRefIdeal.τ).loc Cert.SoutprojRefIdeal.main_arg10) = m' ((c.tc : Thread Cert.SoutprojRefIdeal.nD Cert.SoutprojRefIdeal.τ).loc Cert.SoutprojRefIdeal.main_arg10)
          ∧ r.2.mem ((c.tc : Thread Cert.SoutprojRefIdeal.nD Cert.SoutprojRefIdeal.τ).loc Cert.SoutprojRefIdeal.main_arg11) = m' ((c.tc : Thread Cert.SoutprojRefIdeal.nD Cert.SoutprojRefIdeal.τ).loc Cert.SoutprojRefIdeal.main_arg11)
          ∧ r.2.mem ((c.tc : Thread Cert.SoutprojRefIdeal.nD Cert.SoutprojRefIdeal.τ).loc Cert.SoutprojRefIdeal.main_arg12) = m' ((c.tc : Thread Cert.SoutprojRefIdeal.nD Cert.SoutprojRefIdeal.τ).loc Cert.SoutprojRefIdeal.main_arg12))

def Claim : Prop :=
  ∃ (hSwa : Cert.Swa.Facts) (hSwaIdeal : Cert.SwaIdeal.Facts) (hSwaRefIdeal : Cert.SwaRefIdeal.Facts) (hProj : Cert.Proj.Facts) (hProjIdeal : Cert.ProjIdeal.Facts) (hProjRefIdeal : Cert.ProjRefIdeal.Facts) (hAdaln : Cert.Adaln.Facts) (hAdalnIdeal : Cert.AdalnIdeal.Facts) (hAdalnRefIdeal : Cert.AdalnRefIdeal.Facts) (hSproj : Cert.Sproj.Facts) (hSprojIdeal : Cert.SprojIdeal.Facts) (hSprojRefIdeal : Cert.SprojRefIdeal.Facts) (hSgla : Cert.Sgla.Facts) (hSglaIdeal : Cert.SglaIdeal.Facts) (hSglaRefIdeal : Cert.SglaRefIdeal.Facts) (hOutproj : Cert.Outproj.Facts) (hOutprojIdeal : Cert.OutprojIdeal.Facts) (hOutprojRefIdeal : Cert.OutprojRefIdeal.Facts) (hPgla : Cert.Pgla.Facts) (hPglaIdeal : Cert.PglaIdeal.Facts) (hPglaRefIdeal : Cert.PglaRefIdeal.Facts) (hSswa : Cert.Sswa.Facts) (hSswaIdeal : Cert.SswaIdeal.Facts) (hSswaRefIdeal : Cert.SswaRefIdeal.Facts) (hSoutproj : Cert.Soutproj.Facts) (hSoutprojIdeal : Cert.SoutprojIdeal.Facts) (hSoutprojRefIdeal : Cert.SoutprojRefIdeal.Facts) (hPre_swa_finite : Cert.Pre_swa_finite.Facts) (hPre_gla_finite : Cert.Pre_gla_finite.Facts) (hPre_ssw_finite : Cert.Pre_ssw_finite.Facts) (hOn_prompt_rows : Cert.On_prompt_rows.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Proj (hProj := hProj)
    ∧ quiescent_ProjIdeal (hProjIdeal := hProjIdeal)
    ∧ quiescent_ProjRefIdeal (hProjRefIdeal := hProjRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Sproj (hSproj := hSproj)
    ∧ quiescent_SprojIdeal (hSprojIdeal := hSprojIdeal)
    ∧ quiescent_SprojRefIdeal (hSprojRefIdeal := hSprojRefIdeal)
    ∧ quiescent_Sgla (hSgla := hSgla)
    ∧ quiescent_SglaIdeal (hSglaIdeal := hSglaIdeal)
    ∧ quiescent_SglaRefIdeal (hSglaRefIdeal := hSglaRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Pgla (hPgla := hPgla)
    ∧ quiescent_PglaIdeal (hPglaIdeal := hPglaIdeal)
    ∧ quiescent_PglaIdeal_pre_gla_finite (hPglaIdeal := hPglaIdeal) (hPre_gla_finite := hPre_gla_finite)
    ∧ quiescent_PglaRefIdeal (hPglaRefIdeal := hPglaRefIdeal)
    ∧ quiescent_PglaRefIdeal_pre_gla_finite (hPglaRefIdeal := hPglaRefIdeal) (hPre_gla_finite := hPre_gla_finite)
    ∧ quiescent_Sswa (hSswa := hSswa)
    ∧ quiescent_SswaIdeal (hSswaIdeal := hSswaIdeal)
    ∧ quiescent_SswaIdeal_pre_ssw_finite (hSswaIdeal := hSswaIdeal) (hPre_ssw_finite := hPre_ssw_finite)
    ∧ quiescent_SswaRefIdeal (hSswaRefIdeal := hSswaRefIdeal)
    ∧ quiescent_SswaRefIdeal_pre_ssw_finite (hSswaRefIdeal := hSswaRefIdeal) (hPre_ssw_finite := hPre_ssw_finite)
    ∧ quiescent_Soutproj (hSoutproj := hSoutproj)
    ∧ quiescent_SoutprojIdeal (hSoutprojIdeal := hSoutprojIdeal)
    ∧ quiescent_SoutprojRefIdeal (hSoutprojRefIdeal := hSoutprojRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Proj_ProjIdeal
    ∧ algebraic_ProjIdeal_ProjRefIdeal (hProjIdeal := hProjIdeal) (hProjRefIdeal := hProjRefIdeal)
    ∧ preserves_Adaln_AdalnIdeal
    ∧ algebraic_AdalnIdeal_AdalnRefIdeal (hAdalnIdeal := hAdalnIdeal) (hAdalnRefIdeal := hAdalnRefIdeal)
    ∧ preserves_Sproj_SprojIdeal
    ∧ algebraic_SprojIdeal_SprojRefIdeal (hSprojIdeal := hSprojIdeal) (hSprojRefIdeal := hSprojRefIdeal)
    ∧ preserves_Sgla_SglaIdeal
    ∧ algebraic_SglaIdeal_SglaRefIdeal (hSglaIdeal := hSglaIdeal) (hSglaRefIdeal := hSglaRefIdeal)
    ∧ preserves_Outproj_OutprojIdeal
    ∧ algebraic_OutprojIdeal_OutprojRefIdeal_on_prompt_rows (hOutprojIdeal := hOutprojIdeal) (hOutprojRefIdeal := hOutprojRefIdeal) (hOn_prompt_rows := hOn_prompt_rows)
    ∧ preserves_Pgla_PglaIdeal
    ∧ algebraic_PglaIdeal_PglaRefIdeal_pre_gla_finite (hPglaIdeal := hPglaIdeal) (hPglaRefIdeal := hPglaRefIdeal) (hPre_gla_finite := hPre_gla_finite)
    ∧ preserves_Sswa_SswaIdeal
    ∧ algebraic_SswaIdeal_SswaRefIdeal_pre_ssw_finite (hSswaIdeal := hSswaIdeal) (hSswaRefIdeal := hSswaRefIdeal) (hPre_ssw_finite := hPre_ssw_finite)
    ∧ preserves_Soutproj_SoutprojIdeal
    ∧ algebraic_SoutprojIdeal_SoutprojRefIdeal (hSoutprojIdeal := hSoutprojIdeal) (hSoutprojRefIdeal := hSoutprojRefIdeal)
-- ==== On_prompt_rows.lean ====
abbrev S32768x1024 : Shape := ⟨2, ![32768, 1024]⟩
abbrev S16x2048x2048 : Shape := ⟨3, ![16, 2048, 2048]⟩
abbrev S24x12288 : Shape := ⟨2, ![24, 12288]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32896 : Shape := ⟨1, ![32896]⟩
abbrev S_ : Shape := ⟨0, ![]⟩
abbrev S32896x1 : Shape := ⟨2, ![32896, 1]⟩
abbrev S32896x2048 : Shape := ⟨2, ![32896, 2048]⟩

class Facts : Prop where
  bcast_S_S32896 : S_.BroadcastsInDim S32896 (![] : Fin 0 → Fin S32896.rank)
  bcast_S32896_S32896x1_0 : S32896.BroadcastsInDim S32896x1 (![0] : Fin 1 → Fin S32896x1.rank)
  bcast_S32896x1_S32896x2048_0_1 : S32896x1.BroadcastsInDim S32896x2048 (![0, 1] : Fin 2 → Fin S32896x2048.rank)

variable [Facts]

def fn {F : FTy → Type} [FloatOps F] (main_arg0 : FVec F S32768x1024 .bf16) (main_arg1 : FVec F S32768x1024 .bf16) (main_arg2 : FVec F S16x2048x2048 .f32) (main_arg3 : FVec F S24x12288 .f32) (main_arg4 : FVec F S2048 .f32) (main_arg5 : FVec F S2048x2048 .f32) (main_arg6 : FVec F S2048x4 .f32) (main_arg7 : FVec F S4 .f32) (main_arg8 : FVec F S2048x32 .f32) (main_arg9 : FVec F S32 .f32) : IVec S32896x2048 1 × IVec S32896x2048 1 :=
  let main_v0 : IVec S32896 32 := iotaInDim S32896 32 0
  let main_c : IVec S_ 32 := constantI S_ 32 32768#32
  let main_v1 : IVec S32896 32 := broadcastInDim S32896 ![] bcast_S_S32896 main_c
  let main_v2 : IVec S32896 1 := cmpi .slt main_v0 main_v1
  let main_v3 : IVec S32896x1 1 := broadcastInDim S32896x1 ![0] bcast_S32896_S32896x1_0 main_v2
  let main_v4 : IVec S32896x2048 1 := broadcastInDim S32896x2048 ![0, 1] bcast_S32896x1_S32896x2048_0_1 main_v3
  (main_v4, main_v4)
-- ==== Pre_gla_finite.lean ====
abbrev S32768x512 : Shape := ⟨2, ![32768, 512]⟩
abbrev S32768x1024 : Shape := ⟨2, ![32768, 1024]⟩
abbrev S256 : Shape := ⟨1, ![256]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_v16 : IVec S_ 1) (main_v17 : FVec F S32768x512 .f32) : IVec S_ 1 :=
  let main_cst_4 : FVec F S_ .f32 := constant S_ .f32 0x7F800000#32
  let main_v18 : FVec F S32768x512 .f32 := broadcastInDim S32768x512 ![] bcast_S_S32768x512 main_cst_4
  let main_v19 : IVec S32768x512 1 := cmpf .olt main_v17 main_v18
  let main_c_5 : IVec S_ 1 := constantI S_ 1 1#1
  let main_v20 : IVec S_ 1 := (fun x v => Host.reduce IntOp.andi x v reducesTo_S32768x512_S_d0_1 h_S_) main_v19 main_c_5
  let main_v21 : IVec S_ 1 := andi main_v16 main_v20
  main_v21

def fn {F : FTy → Type} [FloatOps F] (main_arg0 : FVec F S32768x512 .bf16) (main_arg1 : FVec F S32768x512 .bf16) (main_arg2 : FVec F S32768x1024 .bf16) (main_arg3 : FVec F S32768x512 .f32) (main_arg4 : FVec F S32768x1024 .bf16) (main_arg5 : FVec F S256 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S32768x1024 .f32 := (extf .f32 · bitsLt_bf16_f32) main_arg2
  let main_v12 : FVec F S32768x1024 .f32 := Host.absf main_v11
  let main_cst_2 : FVec F S_ .f32 := constant S_ .f32 0x7F800000#32
  let main_v13 : FVec F S32768x1024 .f32 := broadcastInDim S32768x1024 ![] bcast_S_S32768x1024 main_cst_2
  let main_v14 : IVec S32768x1024 1 := cmpf .olt main_v12 main_v13
  let main_c_3 : IVec S_ 1 := constantI S_ 1 1#1
  let main_v15 : IVec S_ 1 := (fun x v => Host.reduce IntOp.andi x v reducesTo_S32768x1024_S_d0_1 h_S_) main_v14 main_c_3
  let main_v16 : IVec S_ 1 := andi main_v10 main_v15
  let main_v17 : FVec F S32768x512 .f32 := Host.absf main_arg3
  fn_part1 (F := F) main_v16 main_v17
-- ==== Pre_ssw_finite.lean ====
abbrev S128x1024 : Shape := ⟨2, ![128, 1024]⟩
abbrev S128x128 : Shape := ⟨2, ![128, 128]⟩
abbrev S8x128x2x64 : Shape := ⟨4, ![8, 128, 2, 64]⟩
abbrev S16 : Shape := ⟨1, ![16]⟩
abbrev S_ : Shape := ⟨0, ![]⟩

class Facts : Prop where
  bitsLt_bf16_f32 : FTy.bits .bf16 < FTy.bits .f32
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S8x128x2x64 : S_.BroadcastsInDim S8x128x2x64 (![] : Fin 0 → Fin S8x128x2x64.rank)
  reducesTo_S8x128x2x64_S_d0_1_2_3 : S8x128x2x64.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_v14 : IVec S_ 1) (main_v15 : FVec F S16 .f32) (main_v16 : FVec F S16 .f32) : IVec S_ 1 :=
  let main_v17 : IVec S16 1 := cmpf .olt main_v15 main_v16
  let main_c_5 : IVec S_ 1 := constantI S_ 1 1#1
  let main_v18 : IVec S_ 1 := (fun x v => Host.reduce IntOp.andi x v reducesTo_S16_S_d0 h_S_) main_v17 main_c_5
  let main_v19 : IVec S_ 1 := andi main_v14 main_v18
  main_v19

def fn {F : FTy → Type} [FloatOps F] (main_arg0 : FVec F S128x1024 .bf16) (main_arg1 : FVec F S128x128 .f32) (main_arg2 : FVec F S128x128 .f32) (main_arg3 : FVec F S8x128x2x64 .f32) (main_arg4 : FVec F S8x128x2x64 .f32) (main_arg5 : FVec F S16 .f32) : IVec S_ 1 :=
  let main_v0 : FVec F S128x1024 .f32 := (extf .f32 · bitsLt_bf16_f32) main_arg0
  let main_v1 : FVec F S128x1024 .f32 := Host.absf main_v0
  let main_cst : FVec F S_ .f32 := constant S_ .f32 0x7F800000#32
  let main_v2 : FVec F S128x1024 .f32 := broadcastInDim S128x1024 ![] bcast_S_S128x1024 main_cst
  let main_v3 : IVec S128x1024 1 := cmpf .olt main_v1 main_v2
  let main_c : IVec S_ 1 := constantI S_ 1 1#1
  let main_v4 : IVec S_ 1 := (fun x v => Host.reduce IntOp.andi x v reducesTo_S128x1024_S_d0_1 h_S_) main_v3 main_c
  let main_v5 : FVec F S128x128 .f32 := Host.absf main_arg1
  let main_cst_0 : FVec F S_ .f32 := constant S_ .f32 0x7F800000#32
  let main_v6 : FVec F S128x128 .f32 := broadcastInDim S128x128 ![] bcast_S_S128x128 main_cst_0
  let main_v7 : IVec S128x128 1 := cmpf .olt main_v5 main_v6
  let main_c_1 : IVec S_ 1 := constantI S_ 1 1#1
  let main_v8 : IVec S_ 1 := (fun x v => Host.reduce IntOp.andi x v reducesTo_S128x128_S_d0_1 h_S_) main_v7 main_c_1
  let main_v9 : IVec S_ 1 := andi main_v4 main_v8
  let main_v10 : FVec F S8x128x2x64 .f32 := Host.absf main_arg3
  let main_cst_2 : FVec F S_ .f32 := constant S_ .f32 0x7F800000#32
  let main_v11 : FVec F S8x128x2x64 .f32 := broadcastInDim S8x128x2x64 ![] bcast_S_S8x128x2x64 main_cst_2
  let main_v12 : IVec S8x128x2x64 1 := cmpf .olt main_v10 main_v11
  let main_c_3 : IVec S_ 1 := constantI S_ 1 1#1
  let main_v13 : IVec S_ 1 := (fun x v => Host.reduce IntOp.andi x v reducesTo_S8x128x2x64_S_d0_1_2_3 h_S_) main_v12 main_c_3
  let main_v14 : IVec S_ 1 := andi main_v9 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  fn_part1 (F := F) main_v14 main_v15 main_v16
-- ==== Pre_swa_finite.lean ====
abbrev S32768x1024 : Shape := ⟨2, ![32768, 1024]⟩
abbrev S32768x128 : Shape := ⟨2, ![32768, 128]⟩
abbrev S16 : Shape := ⟨1, ![16]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1024 .bf16) (main_arg1 : FVec F S32768x128 .f32) (main_arg2 : FVec F S32768x128 .f32) (main_arg3 : FVec F S16 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x128 .f32 := Host.absf main_arg1
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v5 main_v6
  let main_c_1 : IVec S_ 1 := constantI S_ 1 1#1
  let main_v8 : IVec S_ 1 := (fun x v => Host.reduce IntOp.andi x v reducesTo_S32768x128_S_d0_1 h_S_) main_v7 main_c_1
  let main_v9 : IVec S_ 1 := andi main_v4 main_v8
  let main_v10 : FVec F S16 .f32 := Host.absf main_arg3
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v9 main_v13
  main_v14
-- ==== Swa.lean ====
abbrev S32768x1024 : Shape := ⟨2, ![32768, 1024]⟩
abbrev S32768x128 : Shape := ⟨2, ![32768, 128]⟩
abbrev S16 : Shape := ⟨1, ![16]⟩
abbrev S2x8 : Shape := ⟨2, ![2, 8]⟩
abbrev S2x8x128 : Shape := ⟨3, ![2, 8, 128]⟩
abbrev S2x1024 : Shape := ⟨2, ![2, 1024]⟩
abbrev S2x1024x1 : Shape := ⟨3, ![2, 1024, 1]⟩
abbrev S128x1024 : Shape := ⟨2, ![128, 1024]⟩
abbrev S128x128 : Shape := ⟨2, ![128, 128]⟩
abbrev S256x128 : Shape := ⟨2, ![256, 128]⟩
abbrev S1024x256 : Shape := ⟨2, ![1024, 256]⟩
abbrev S128x64 : Shape := ⟨2, ![128, 64]⟩
abbrev S1024x64 : Shape := ⟨2, ![1024, 64]⟩
abbrev S256x64 : Shape := ⟨2, ![256, 64]⟩
abbrev S1x1024x1 : Shape := ⟨3, ![1, 1024, 1]⟩
abbrev S1024x1 : Shape := ⟨2, ![1024, 1]⟩
abbrev S1024 : Shape := ⟨1, ![1024]⟩
abbrev S128x512 : Shape := ⟨2, ![128, 512]⟩

abbrev nBuf : Space → Nat
  | .hbm => 9
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x128, .f32⟩
  | .hbm, ⟨3, _⟩ => ⟨S16, .f32⟩
  | .hbm, ⟨4, _⟩ => ⟨S2x8, .f32⟩
  | .hbm, ⟨5, _⟩ => ⟨S2x8x128, .f32⟩
  | .hbm, ⟨6, _⟩ => ⟨S2x1024, .f32⟩
  | .hbm, ⟨7, _⟩ => ⟨S2x1024x1, .f32⟩
  | .hbm, ⟨8, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S2x1024x1, .f32⟩
  | .local _ .vmem, ⟨11, _⟩ => ⟨S128x1024, .bf16⟩
  | .local _ .vmem, ⟨12, _⟩ => ⟨S128x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S32768x1024 : Shape := ⟨2, ![32768, 1024]⟩
abbrev S32768x128 : Shape := ⟨2, ![32768, 128]⟩
abbrev S16 : Shape := ⟨1, ![16]⟩
abbrev S16x2048x2x8x64 : Shape := ⟨5, ![16, 2048, 2, 8, 64]⟩
abbrev S16x2048x2x64 : Shape := ⟨4, ![16, 2048, 2, 64]⟩
abbrev S_ : Shape := ⟨0, ![]⟩
abbrev S16x128x2x64 : Shape := ⟨4, ![16, 128, 2, 64]⟩
abbrev S16x2176x2x64 : Shape := ⟨4, ![16, 2176, 2, 64]⟩
abbrev S16x34x64x2x64 : Shape := ⟨5, ![16, 34, 64, 2, 64]⟩
abbrev S16x32x64x2x64 : Shape := ⟨5, ![16, 32, 64, 2, 64]⟩
abbrev S16x32x192x2x64 : Shape := ⟨5, ![16, 32, 192, 2, 64]⟩
abbrev S16x32x64x2x8x64 : Shape := ⟨6, ![16, 32, 64, 2, 8, 64]⟩
abbrev S16x32x2x192x64x8 : Shape := ⟨6, ![16, 32, 2, 192, 64, 8]⟩
abbrev S16x32x2x8x64x192 : Shape := ⟨6, ![16, 32, 2, 8, 64, 192]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S1x32x1x1x1x192 : Shape := ⟨6, ![1, 32, 1, 1, 1, 192]⟩
abbrev S2x8 : Shape := ⟨2, ![2, 8]⟩
abbrev S1x1x2x8x1x1 : Shape := ⟨6, ![1, 1, 2, 8, 1, 1]⟩
abbrev S16x32x2x8x64x1 : Shape := ⟨6, ![16, 32, 2, 8, 64, 1]⟩
abbrev S16x32x2x8x64x193 : Shape := ⟨6, ![16, 32, 2, 8, 64, 193]⟩
abbrev S16x32x2x8x64 : Shape := ⟨5, ![16, 32, 2, 8, 64]⟩
abbrev S16x32x2x64x8x64 : Shape := ⟨6, ![16, 32, 2, 64, 8, 64]⟩

abbrev nBuf : Space → Nat
  | .hbm => 90
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S32768x128, .f32⟩
  | .hbm, ⟨3, _⟩ => ⟨S16, .f32⟩
  | .hbm, ⟨4, _⟩ => ⟨S32768x1024, .f32⟩
  | .hbm, ⟨5, _⟩ => ⟨S16x2048x2x8x64, .f32⟩
  | .hbm, ⟨6, _⟩ => ⟨S16x2048x2x64, .f32⟩
  | .hbm, ⟨7, _⟩ => ⟨S16x2048x2x64, .f32⟩
  | .hbm, ⟨8, _⟩ => ⟨S_, .f32⟩
  | .hbm, ⟨9, _⟩ => ⟨S16x128x2x64, .f32⟩
  | .hbm, ⟨10, _⟩ => ⟨S16x2176x2x64, .f32⟩
  | .hbm, ⟨11, _⟩ => ⟨S16x34x64x2x64, .f32⟩
  | .hbm, ⟨12, _⟩ => ⟨S16x32x64x2x64, .f32⟩
  | .hbm, ⟨13, _⟩ => ⟨S16x32x64x2x64, .f32⟩
  | .hbm, ⟨14, _⟩ => ⟨S16x32x64x2x64, .f32⟩
  | .hbm, ⟨15, _⟩ => ⟨S16x32x192x2x64, .f32⟩
  | .hbm, ⟨16, _⟩ => ⟨S_, .f32⟩
  | .hbm, ⟨17, _⟩ => ⟨S16x128x2x64, .f32⟩
  | .hbm, ⟨18, _⟩ => ⟨S16x2176x2x64, .f32⟩
  | .hbm, ⟨19, _⟩ => ⟨S16x34x64x2x64, .f32⟩
  | .hbm, ⟨20, _⟩ => ⟨S16x32x64x2x64, .f32⟩
  | .hbm, ⟨21, _⟩ => ⟨S16x32x64x2x64, .f32⟩
  | .hbm, ⟨22, _⟩ => ⟨S16x32x64x2x64, .f32⟩
  | .hbm, ⟨23, _⟩ => ⟨S16x32x192x2x64, .f32⟩
  | .hbm, ⟨24, _⟩ => ⟨S16x32x64x2x8x64, .f32⟩
  | .hbm, ⟨25, _⟩ => ⟨S16x32x2x192x64x8, .f32⟩
  | .hbm, ⟨26, _⟩ => ⟨S16x32x2x8x64x192, .f32⟩
  | .hbm, ⟨27, _⟩ => ⟨S_, .f32⟩
  | .hbm, ⟨28, _⟩ => ⟨S16x32x2x8x64x192, .f32⟩
  | .hbm, ⟨29, _⟩ => ⟨S16x32x2x8x64x192, .f32⟩
  | .hbm, ⟨30, _⟩ => ⟨S32, .i32⟩
  | .hbm, ⟨31, _⟩ => ⟨S32x1, .i32⟩
  | .hbm, ⟨32, _⟩ => ⟨S_, .i32⟩
  | .hbm, ⟨33, _⟩ => ⟨S32x1, .i32⟩
  | .hbm, ⟨34, _⟩ => ⟨S32x1, .i32⟩
  | .hbm, ⟨35, _⟩ => ⟨S192, .i32⟩
  | .hbm, ⟨36, _⟩ => ⟨S1x192, .i32⟩
  | .hbm, ⟨37, _⟩ => ⟨S_, .i32⟩
  | .hbm, ⟨38, _⟩ => ⟨S_, .i32⟩
  | .hbm, ⟨39, _⟩ => ⟨S1x192, .i32⟩
  | .hbm, ⟨40, _⟩ => ⟨S1x192, .i32⟩
  | .hbm, ⟨41, _⟩ => ⟨S1x192, .i32⟩
  | .hbm, ⟨42, _⟩ => ⟨S_, .i32⟩
  | .hbm, ⟨43, _⟩ => ⟨S1x192, .i32⟩
  | .hbm, ⟨44, _⟩ => ⟨S1x192, .i1⟩
  | .hbm, ⟨45, _⟩ => ⟨S1x192, .i32⟩
  | .hbm, ⟨46, _⟩ => ⟨S1x192, .i32⟩
  | .hbm, ⟨47, _⟩ => ⟨S_, .i32⟩
  | .hbm, ⟨48, _⟩ => ⟨S1x192, .i32⟩
  | .hbm, ⟨49, _⟩ => ⟨S1x192, .i1⟩
  | .hbm, ⟨50, _⟩ => ⟨S1x192, .i1⟩
  | .hbm, ⟨51, _⟩ => ⟨S_, .i32⟩
  | .hbm, ⟨52, _⟩ => ⟨S1x192, .i32⟩
  | .hbm, ⟨53, _⟩ => ⟨S1x192, .i32⟩
  | .hbm, ⟨54, _⟩ => ⟨S1x192, .i32⟩
  | .hbm, ⟨55, _⟩ => ⟨S32x192, .i32⟩
  | .hbm, ⟨56, _⟩ => ⟨S32x192, .i32⟩
  | .hbm, ⟨57, _⟩ => ⟨S32x192, .i32⟩
  | .hbm, ⟨58, _⟩ => ⟨S_, .i32⟩
  | .hbm, ⟨59, _⟩ => ⟨S32x192, .i32⟩
  | .hbm, ⟨60, _⟩ => ⟨S32x192, .i1⟩
  | .hbm, ⟨61, _⟩ => ⟨S1x32x1x1x1x192, .i1⟩
  | .hbm, ⟨62, _⟩ => ⟨S_, .f32⟩
  | .hbm, ⟨63, _⟩ => ⟨S_, .f32⟩
  | .hbm, ⟨64, _⟩ => ⟨S16x32x2x8x64x192, .i1⟩
  | .hbm, ⟨65, _⟩ => ⟨S16x32x2x8x64x192, .f32⟩
  | .hbm, ⟨66, _⟩ => ⟨S16x32x2x8x64x192, .f32⟩
  | .hbm, ⟨67, _⟩ => ⟨S2x8, .f32⟩
  | .hbm, ⟨68, _⟩ => ⟨S1x1x2x8x1x1, .f32⟩
  | .hbm, ⟨69, _⟩ => ⟨S16x32x2x8x64x1, .f32⟩
  | .hbm, ⟨70, _⟩ => ⟨S16x32x2x8x64x193, .f32⟩
  | .hbm, ⟨71, _⟩ => ⟨S_, .f32⟩
  | .hbm, ⟨72, _⟩ => ⟨S16x32x2x8x64, .f32⟩
  | .hbm, ⟨73, _⟩ => ⟨S_, .f32⟩
  | .hbm, ⟨74, _⟩ => ⟨S16x32x2x8x64, .f32⟩
  | .hbm, ⟨75, _⟩ => ⟨S16x32x2x8x64, .f32⟩
  | .hbm, ⟨76, _⟩ => ⟨S16x32x2x8x64x1, .f32⟩
  | .hbm, ⟨77, _⟩ => ⟨S16x32x2x8x64x193, .f32⟩
  | .hbm, ⟨78, _⟩ => ⟨S16x32x2x8x64x193, .f32⟩
  | .hbm, ⟨79, _⟩ => ⟨S16x32x2x8x64x193, .f32⟩
  | .hbm, ⟨80, _⟩ => ⟨S_, .f32⟩
  | .hbm, ⟨81, _⟩ => ⟨S16x32x2x8x64, .f32⟩
  | .hbm, ⟨82, _⟩ => ⟨S16x32x2x8x64x1, .f32⟩
  | .hbm, ⟨83, _⟩ => ⟨S16x32x2x8x64x193, .f32⟩
  | .hbm, ⟨84, _⟩ => ⟨S16x32x2x8x64x193, .f32⟩
  | .hbm, ⟨85, _⟩ => ⟨S16x32x2x8x64x192, .f32⟩
  | .hbm, ⟨86, _⟩ => ⟨S16x32x2x64x8x64, .f32⟩
  | .hbm, ⟨87, _⟩ => ⟨S16x32x64x2x8x64, .f32⟩
  | .hbm, ⟨88, _⟩ => ⟨S32768x1024, .f32⟩
  | .hbm, ⟨89, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_cst_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== Proj.lean ====
abbrev S16x2048x2048 : Shape := ⟨3, ![16, 2048, 2048]⟩
abbrev S24x12288 : Shape := ⟨2, ![24, 12288]⟩
abbrev S2048 : Shape := ⟨1, ![2048]⟩
abbrev S2048x4368 : Shape := ⟨2, ![2048, 4368]⟩
abbrev S16x512 : Shape := ⟨2, ![16, 512]⟩
abbrev S512 : Shape := ⟨1, ![512]⟩
abbrev S2048x4352 : Shape := ⟨2, ![2048, 4352]⟩
abbrev S2048x16 : Shape := ⟨2, ![2048, 16]⟩
abbrev S_ : Shape := ⟨0, ![]⟩
abbrev S2048x128 : Shape := ⟨2, ![2048, 128]⟩
abbrev S128x512 : Shape := ⟨2, ![128, 512]⟩
abbrev S144x1x2048 : Shape := ⟨3, ![144, 1, 2048]⟩
abbrev S32768x2048 : Shape := ⟨2, ![32768, 2048]⟩
abbrev S1x2048 : Shape := ⟨2, ![1, 2048]⟩
abbrev S1x512 : Shape := ⟨2, ![1, 512]⟩
abbrev S32768x1024 : Shape := ⟨2, ![32768, 1024]⟩
abbrev S32768x128 : Shape := ⟨2, ![32768, 128]⟩
abbrev S32768x512 : Shape := ⟨2, ![32768, 512]⟩
abbrev S512x2048 : Shape := ⟨2, ![512, 2048]⟩
abbrev S1x1x2048 : Shape := ⟨3, ![1, 1, 2048]⟩
abbrev S512x1024 : Shape := ⟨2, ![512, 1024]⟩
abbrev S512x128 : Shape := ⟨2, ![512, 128]⟩
abbrev S512x512 : Shape := ⟨2, ![512, 512]⟩
abbrev S512x1 : Shape := ⟨2, ![512, 1]⟩
abbrev S2048x1024 : Shape := ⟨2, ![2048, 1024]⟩
abbrev S2048x256 : Shape := ⟨2, ![2048, 256]⟩
abbrev S512x256 : Shape := ⟨2, ![512, 256]⟩
abbrev S2048x512 : Shape := ⟨2, ![2048, 512]⟩

abbrev nBuf : Space → Nat
  | .hbm => 29
  | .vmem => 27
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S2048x4368, .f32⟩
  | .hbm, ⟨4, _⟩ => ⟨S16x512, .f32⟩
  | .hbm, ⟨5, _⟩ => ⟨S512, .f32⟩
  | .hbm, ⟨6, _⟩ => ⟨S2048x4352, .f32⟩
  | .hbm, ⟨7, _⟩ => ⟨S2048x4352, .bf16⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S144x1x2048, .f32⟩
  | .hbm, ⟨18, _⟩ => ⟨S32768x2048, .f32⟩
  | .hbm, ⟨19, _⟩ => ⟨S1x2048, .f32⟩
  | .hbm, ⟨20, _⟩ => ⟨S1x512, .f32⟩
  | .hbm, ⟨21, _⟩ => ⟨S32768x1024, .bf16⟩
  | .hbm, ⟨22, _⟩ => ⟨S32768x128, .f32⟩
  | .hbm, ⟨23, _⟩ => ⟨S32768x128, .f32⟩
  | .hbm, ⟨24, _⟩ => ⟨S32768x512, .bf16⟩
  | .hbm, ⟨25, _⟩ => ⟨S32768x512, .bf16⟩
  | .hbm, ⟨26, _⟩ => ⟨S32768x1024, .bf16⟩
  | .hbm, ⟨27, _⟩ => ⟨S32768x1024, .bf16⟩
  | .hbm, ⟨28, _⟩ => ⟨S32768x512, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x4352, .bf16⟩
  | .local _ .vmem, ⟨8, _⟩ => ⟨S2048x128, .bf16⟩
  | .local _ .vmem, ⟨9, _⟩ => ⟨S128x512, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x512, .f32⟩
  | .local _ .vmem, ⟨26, _⟩ => ⟨S512x512, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S16x2048x2048 : Shape := ⟨3, ![16, 2048, 2048]⟩
abbrev S24x12288 : Shape := ⟨2, ![24, 12288]⟩
abbrev S2048 : Shape := ⟨1, ![2048]⟩
abbrev S2048x4368 : Shape := ⟨2, ![2048, 4368]⟩
abbrev S16x512 : Shape := ⟨2, ![16, 512]⟩
abbrev S512 : Shape := ⟨1, ![512]⟩
abbrev S16x12288 : Shape := ⟨2, ![16, 12288]⟩
abbrev S16x1x12288 : Shape := ⟨3, ![16, 1, 12288]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x4368 : Shape := ⟨3, ![16, 2048, 4368]⟩
abbrev S16x2048x1024 : Shape := ⟨3, ![16, 2048, 1024]⟩
abbrev S16x2048x128 : Shape := ⟨3, ![16, 2048, 128]⟩
abbrev S16x2048x512 : Shape := ⟨3, ![16, 2048, 512]⟩
abbrev S16x2048x16 : Shape := ⟨3, ![16, 2048, 16]⟩
abbrev S1x1x512 : Shape := ⟨3, ![1, 1, 512]⟩
abbrev S32768x1024 : Shape := ⟨2, ![32768, 1024]⟩
abbrev S32768x128 : Shape := ⟨2, ![32768, 128]⟩
abbrev S32768x512 : Shape := ⟨2, ![32768, 512]⟩

abbrev nBuf : Space → Nat
  | .hbm => 82
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S24x12288, .f32⟩
  | .hbm, ⟨2, _⟩ => ⟨S2048, .f32⟩
  | .hbm, ⟨3, _⟩ => ⟨S2048x4368, .f32⟩
  | .hbm, ⟨4, _⟩ => ⟨S16x512, .f32⟩
  | .hbm, ⟨5, _⟩ => ⟨S512, .f32⟩
  | .hbm, ⟨6, _⟩ => ⟨S16x12288, .f32⟩
  | .hbm, ⟨7, _⟩ => ⟨S16x1x12288, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S16x1x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S1x1x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x1x2048, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x4368, .f32⟩
  | .hbm, ⟨38, _⟩ => ⟨S16x2048x1024, .f32⟩
  | .hbm, ⟨39, _⟩ => ⟨S16x2048x128, .f32⟩
  | .hbm, ⟨40, _⟩ => ⟨S16x2048x128, .f32⟩
  | .hbm, ⟨41, _⟩ => ⟨S16x2048x512, .f32⟩
  | .hbm, ⟨42, _⟩ => ⟨S16x2048x512, .f32⟩
  | .hbm, ⟨43, _⟩ => ⟨S16x2048x1024, .f32⟩
  | .hbm, ⟨44, _⟩ => ⟨S16x2048x1024, .f32⟩
  | .hbm, ⟨45, _⟩ => ⟨S16x2048x16, .f32⟩
  | .hbm, ⟨46, _⟩ => ⟨S16x2048x512, .f32⟩
  | .hbm, ⟨47, _⟩ => ⟨S1x1x512, .f32⟩
  | .hbm, ⟨48, _⟩ => ⟨S16x2048x512, .f32⟩
  | .hbm, ⟨49, _⟩ => ⟨S16x2048x512, .f32⟩
  | .hbm, ⟨50, _⟩ => ⟨S16x2048x512, .f32⟩
  | .hbm, ⟨51, _⟩ => ⟨S_, .f32⟩
  | .hbm, ⟨52, _⟩ => ⟨S16x2048x512, .f32⟩
  | .hbm, ⟨53, _⟩ => ⟨S16x2048x512, .f32⟩
  | .hbm, ⟨54, _⟩ => ⟨S16x2048x512, .f32⟩
  | .hbm, ⟨55, _⟩ => ⟨S16x2048x512, .f32⟩
  | .hbm, ⟨56, _⟩ => ⟨S16x2048x512, .i1⟩
  | .hbm, ⟨57, _⟩ => ⟨S16x2048x512, .f32⟩
  | .hbm, ⟨58, _⟩ => ⟨S16x2048x512, .f32⟩
  | .hbm, ⟨59, _⟩ => ⟨S16x2048x512, .f32⟩
  | .hbm, ⟨60, _⟩ => ⟨S16x2048x512, .f32⟩
  | .hbm, ⟨61, _⟩ => ⟨S16x2048x512, .f32⟩
  | .hbm, ⟨62, _⟩ => ⟨S16x2048x512, .f32⟩
  | .hbm, ⟨63, _⟩ => ⟨S16x2048x512, .f32⟩
  | .hbm, ⟨64, _⟩ => ⟨S16x2048x512, .f32⟩
  | .hbm, ⟨65, _⟩ => ⟨S16x2048x512, .f32⟩
  | .hbm, ⟨66, _⟩ => ⟨S_, .f32⟩
  | .hbm, ⟨67, _⟩ => ⟨S16x2048x512, .f32⟩
  | .hbm, ⟨68, _⟩ => ⟨S16x2048x512, .f32⟩
  | .hbm, ⟨69, _⟩ => ⟨S32768x1024, .f32⟩
  | .hbm, ⟨70, _⟩ => ⟨S32768x1024, .bf16⟩
  | .hbm, ⟨71, _⟩ => ⟨S32768x128, .f32⟩
  | .hbm, ⟨72, _⟩ => ⟨S32768x128, .f32⟩
  | .hbm, ⟨73, _⟩ => ⟨S32768x512, .f32⟩
  | .hbm, ⟨74, _⟩ => ⟨S32768x512, .bf16⟩
  | .hbm, ⟨75, _⟩ => ⟨S32768x512, .f32⟩
  | .hbm, ⟨76, _⟩ => ⟨S32768x512, .bf16⟩
  | .hbm, ⟨77, _⟩ => ⟨S32768x1024, .f32⟩
  | .hbm, ⟨78, _⟩ => ⟨S32768x1024, .bf16⟩
  | .hbm, ⟨79, _⟩ => ⟨S32768x1024, .f32⟩
  | .hbm, ⟨80, _⟩ => ⟨S32768x1024, .bf16⟩
  | .hbm, ⟨81, _⟩ => ⟨S32768x512, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Adaln.lean ====
abbrev S16x2048 : Shape := ⟨2, ![16, 2048]⟩
abbrev S8x2048 : Shape := ⟨2, ![8, 2048]⟩
abbrev S2048x12288 : Shape := ⟨2, ![2048, 12288]⟩
abbrev S12288 : Shape := ⟨1, ![12288]⟩
abbrev S24x2048 : Shape := ⟨2, ![24, 2048]⟩
abbrev S1x12288 : Shape := ⟨2, ![1, 12288]⟩
abbrev S24x12288 : Shape := ⟨2, ![24, 12288]⟩
abbrev S2048x1024 : Shape := ⟨2, ![2048, 1024]⟩
abbrev S1x1024 : Shape := ⟨2, ![1, 1024]⟩
abbrev S24x1024 : Shape := ⟨2, ![24, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S8x2048, .f32⟩
  | .hbm, ⟨2, _⟩ => ⟨S2048x12288, .f32⟩
  | .hbm, ⟨3, _⟩ => ⟨S12288, .f32⟩
  | .hbm, ⟨4, _⟩ => ⟨S24x2048, .f32⟩
  | .hbm, ⟨5, _⟩ => ⟨S1x12288, .f32⟩
  | .hbm, ⟨6, _⟩ => ⟨S24x12288, .f32⟩
  | .local _ .vmem, ⟨0, _⟩ => ⟨S24x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S16x2048 : Shape := ⟨2, ![16, 2048]⟩
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S16x12288 : Shape := ⟨2, ![16, 12288]⟩
abbrev S1x12288 : Shape := ⟨2, ![1, 12288]⟩
abbrev S8x12288 : Shape := ⟨2, ![8, 12288]⟩
abbrev S24x12288 : Shape := ⟨2, ![24, 12288]⟩

abbrev nBuf : Space → Nat
  | .hbm => 31
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S8x2048, .f32⟩
  | .hbm, ⟨2, _⟩ => ⟨S2048x12288, .f32⟩
  | .hbm, ⟨3, _⟩ => ⟨S12288, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x12288, .f32⟩
  | .hbm, ⟨14, _⟩ => ⟨S1x12288, .f32⟩
  | .hbm, ⟨15, _⟩ => ⟨S16x12288, .f32⟩
  | .hbm, ⟨16, _⟩ => ⟨S16x12288, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S8x12288, .f32⟩
  | .hbm, ⟨27, _⟩ => ⟨S1x12288, .f32⟩
  | .hbm, ⟨28, _⟩ => ⟨S8x12288, .f32⟩
  | .hbm, ⟨29, _⟩ => ⟨S8x12288, .f32⟩
  | .hbm, ⟨30, _⟩ => ⟨S24x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Sproj.lean ====
abbrev S8x16x2048 : Shape := ⟨3, ![8, 16, 2048]⟩
abbrev S24x12288 : Shape := ⟨2, ![24, 12288]⟩
abbrev S2048 : Shape := ⟨1, ![2048]⟩
abbrev S2048x4368 : Shape := ⟨2, ![2048, 4368]⟩
abbrev S16x512 : Shape := ⟨2, ![16, 512]⟩
abbrev S512 : Shape := ⟨1, ![512]⟩
abbrev S2048x4352 : Shape := ⟨2, ![2048, 4352]⟩
abbrev S2048x16 : Shape := ⟨2, ![2048, 16]⟩
abbrev S_ : Shape := ⟨0, ![]⟩
abbrev S2048x128 : Shape := ⟨2, ![2048, 128]⟩
abbrev S128x512 : Shape := ⟨2, ![128, 512]⟩
abbrev S8x12288 : Shape := ⟨2, ![8, 12288]⟩
abbrev S8x6x2048 : Shape := ⟨3, ![8, 6, 2048]⟩
abbrev S8x16x6x2048 : Shape := ⟨4, ![8, 16, 6, 2048]⟩
abbrev S128x6x2048 : Shape := ⟨3, ![128, 6, 2048]⟩
abbrev S128x1x2048 : Shape := ⟨3, ![128, 1, 2048]⟩
abbrev S128x2048 : Shape := ⟨2, ![128, 2048]⟩
abbrev S1x2048 : Shape := ⟨2, ![1, 2048]⟩
abbrev S1x512 : Shape := ⟨2, ![1, 512]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S2048x1024 : Shape := ⟨2, ![2048, 1024]⟩
abbrev S2048x256 : Shape := ⟨2, ![2048, 256]⟩
abbrev S128x256 : Shape := ⟨2, ![128, 256]⟩
abbrev S2048x512 : Shape := ⟨2, ![2048, 512]⟩

abbrev nBuf : Space → Nat
  | .hbm => 44
  | .vmem => 16
  | .smem => 0
  | _ => 0

abbrev bufTy : (tb : Table) → Fin (tcTables nBuf tb) → BufTy
  | .hbm, ⟨0, _⟩ => ⟨S8x16x2048, .f32⟩
  | .hbm, ⟨1, _⟩ => ⟨S24x12288, .f32⟩
  | .hbm, ⟨2, _⟩ => ⟨S2048, .f32⟩
  | .hbm, ⟨3, _⟩ => ⟨S2048x4368, .f32⟩
  | .hbm, ⟨4, _⟩ => ⟨S16x512, .f32⟩
  | .hbm, ⟨5, _⟩ => ⟨S512, .f32⟩
  | .hbm, ⟨6, _⟩ => ⟨S2048x4352, .f32⟩
  | .hbm, ⟨7, _⟩ => ⟨S2048x4352, .bf16⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S_, .i32⟩
  | .hbm, ⟨14, _⟩ => ⟨S_, .f32⟩
  | .hbm, ⟨15, _⟩ => ⟨S128x512, .f32⟩
  | .hbm, ⟨16, _⟩ => ⟨S128x512, .bf16⟩
  | .hbm, ⟨17, _⟩ => ⟨S8x12288, .f32⟩
  | .hbm, ⟨18, _⟩ => ⟨S8x6x2048, .f32⟩
  | .hbm, ⟨19, _⟩ => ⟨S8x16x6x2048, .f32⟩
  | .hbm, ⟨20, _⟩ => ⟨S128x6x2048, .f32⟩
  | .hbm, ⟨21, _⟩ => ⟨S128x1x2048, .f32⟩
  | .hbm, ⟨22, _⟩ => ⟨S128x2048, .f32⟩
  | .hbm, ⟨23, _⟩ => ⟨S128x1x2048, .f32⟩
  | .hbm, ⟨24, _⟩ => ⟨S128x2048, .f32⟩
  | .hbm, ⟨25, _⟩ => ⟨S128x1x2048, .f32⟩
  | .hbm, ⟨26, _⟩ => ⟨S128x2048, .f32⟩
  | .hbm, ⟨27, _⟩ => ⟨S128x1x2048, .f32⟩
  | .hbm, ⟨28, _⟩ => ⟨S128x2048, .f32⟩
  | .hbm, ⟨29, _⟩ => ⟨S128x1x2048, .f32⟩
  | .hbm, ⟨30, _⟩ => ⟨S128x2048, .f32⟩
  | .hbm, ⟨31, _⟩ => ⟨S128x1x2048, .f32⟩
  | .hbm, ⟨32, _⟩ => ⟨S128x2048, .f32⟩
  | .hbm, ⟨33, _⟩ => ⟨S128x2048, .f32⟩
  | .hbm, ⟨34, _⟩ => ⟨S1x2048, .f32⟩
  | .hbm, ⟨35, _⟩ => ⟨S1x512, .f32⟩
  | .hbm, ⟨36, _⟩ => ⟨S128x1024, .bf16⟩
  | .hbm, ⟨37, _⟩ => ⟨S128x128, .f32⟩
  | .hbm, ⟨38, _⟩ => ⟨S128x128, .f32⟩
  | .hbm, ⟨39, _⟩ => ⟨S128x512, .bf16⟩
  | .hbm, ⟨40, _⟩ => ⟨S128x512, .bf16⟩
  | .hbm, ⟨41, _⟩ => ⟨S128x1024, .bf16⟩
  | .hbm, ⟨42, _⟩ => ⟨S128x1024, .bf16⟩
  | .hbm, ⟨43, _⟩ => ⟨S128x512, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S2048x4352, .bf16⟩
  | .local _ .vmem, ⟨5, _⟩ => ⟨S2048x128, .bf16⟩
  | .local _ .vmem, ⟨6, _⟩ => ⟨S128x512, .bf16⟩
  | .local _ .vmem, ⟨7, _⟩ => ⟨S1x512, .f32⟩
  | .local _ .vmem, ⟨8, _⟩ => ⟨S128x1024, .bf16⟩
  | .local _ .vmem, ⟨9, _⟩ => ⟨S128x128, .f32⟩
  | .local _ .vmem, ⟨10, _⟩ => ⟨S128x128, .f32⟩
  | .local _ .vmem, ⟨11, _⟩ => ⟨S128x512, .bf16⟩
  | .local _ .vmem, ⟨12, _⟩ => ⟨S128x512, .bf16⟩
  | .local _ .vmem, ⟨13, _⟩ => ⟨S128x1024, .bf16⟩
  | .local _ .vmem, ⟨14, _⟩ => ⟨S128x1024, .bf16⟩
  | .local _ .vmem, ⟨15, _⟩ => ⟨S128x512, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v26_4 : Ref sig .tc := ⟨.hbm, 40, rfl⟩
abbrev main_v26_5 : Ref sig .tc := ⟨.hbm, 41, rfl⟩
abbrev main_v26_6 : Ref sig .tc := ⟨.hbm, 42, rfl⟩
abbrev main_v26_7 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== SprojRefIdeal.lean ====
abbrev S8x16x2048 : Shape := ⟨3, ![8, 16, 2048]⟩
abbrev S24x12288 : Shape := ⟨2, ![24, 12288]⟩
abbrev S2048 : Shape := ⟨1, ![2048]⟩
abbrev S2048x4368 : Shape := ⟨2, ![2048, 4368]⟩
abbrev S16x512 : Shape := ⟨2, ![16, 512]⟩
abbrev S512 : Shape := ⟨1, ![512]⟩
abbrev S8x12288 : Shape := ⟨2, ![8, 12288]⟩
abbrev S8x1x12288 : Shape := ⟨3, ![8, 1, 12288]⟩
abbrev S8x1x2048 : Shape := ⟨3, ![8, 1, 2048]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S8x16x4368 : Shape := ⟨3, ![8, 16, 4368]⟩
abbrev S8x16x1024 : Shape := ⟨3, ![8, 16, 1024]⟩
abbrev S8x16x128 : Shape := ⟨3, ![8, 16, 128]⟩
abbrev S8x16x512 : Shape := ⟨3, ![8, 16, 512]⟩
abbrev S8x16x16 : Shape := ⟨3, ![8, 16, 16]⟩
abbrev S1x1x512 : Shape := ⟨3, ![1, 1, 512]⟩
abbrev S128x1024 : Shape := ⟨2, ![128, 1024]⟩
abbrev S128x128 : Shape := ⟨2, ![128, 128]⟩
abbrev S128x512 : Shape := ⟨2, ![128, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S24x12288, .f32⟩
  | .hbm, ⟨2, _⟩ => ⟨S2048, .f32⟩
  | .hbm, ⟨3, _⟩ => ⟨S2048x4368, .f32⟩
  | .hbm, ⟨4, _⟩ => ⟨S16x512, .f32⟩
  | .hbm, ⟨5, _⟩ => ⟨S512, .f32⟩
  | .hbm, ⟨6, _⟩ => ⟨S8x12288, .f32⟩
  | .hbm, ⟨7, _⟩ => ⟨S8x1x12288, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x16x2048, .f32⟩
  | .hbm, ⟨15, _⟩ => ⟨S_, .f32⟩
  | .hbm, ⟨16, _⟩ => ⟨S8x16, .f32⟩
  | .hbm, ⟨17, _⟩ => ⟨S8x16x1, .f32⟩
  | .hbm, ⟨18, _⟩ => ⟨S_, .f32⟩
  | .hbm, ⟨19, _⟩ => ⟨S8x16x1, .f32⟩
  | .hbm, ⟨20, _⟩ => ⟨S8x16x1, .f32⟩
  | .hbm, ⟨21, _⟩ => ⟨S_, .f32⟩
  | .hbm, ⟨22, _⟩ => ⟨S8x16x1, .f32⟩
  | .hbm, ⟨23, _⟩ => ⟨S8x16x1, .f32⟩
  | .hbm, ⟨24, _⟩ => ⟨S8x16x1, .f32⟩
  | .hbm, ⟨25, _⟩ => ⟨S8x16x2048, .f32⟩
  | .hbm, ⟨26, _⟩ => ⟨S8x16x2048, .f32⟩
  | .hbm, ⟨27, _⟩ => ⟨S1x1x2048, .f32⟩
  | .hbm, ⟨28, _⟩ => ⟨S8x16x2048, .f32⟩
  | .hbm, ⟨29, _⟩ => ⟨S8x16x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x16x2048, .f32⟩
  | .hbm, ⟨34, _⟩ => ⟨S8x16x2048, .f32⟩
  | .hbm, ⟨35, _⟩ => ⟨S8x16x2048, .f32⟩
  | .hbm, ⟨36, _⟩ => ⟨S8x16x2048, .f32⟩
  | .hbm, ⟨37, _⟩ => ⟨S8x16x4368, .f32⟩
  | .hbm, ⟨38, _⟩ => ⟨S8x16x1024, .f32⟩
  | .hbm, ⟨39, _⟩ => ⟨S8x16x128, .f32⟩
  | .hbm, ⟨40, _⟩ => ⟨S8x16x128, .f32⟩
  | .hbm, ⟨41, _⟩ => ⟨S8x16x512, .f32⟩
  | .hbm, ⟨42, _⟩ => ⟨S8x16x512, .f32⟩
  | .hbm, ⟨43, _⟩ => ⟨S8x16x1024, .f32⟩
  | .hbm, ⟨44, _⟩ => ⟨S8x16x1024, .f32⟩
  | .hbm, ⟨45, _⟩ => ⟨S8x16x16, .f32⟩
  | .hbm, ⟨46, _⟩ => ⟨S8x16x512, .f32⟩
  | .hbm, ⟨47, _⟩ => ⟨S1x1x512, .f32⟩
  | .hbm, ⟨48, _⟩ => ⟨S8x16x512, .f32⟩
  | .hbm, ⟨49, _⟩ => ⟨S8x16x512, .f32⟩
  | .hbm, ⟨50, _⟩ => ⟨S8x16x512, .f32⟩
  | .hbm, ⟨51, _⟩ => ⟨S_, .f32⟩
  | .hbm, ⟨52, _⟩ => ⟨S8x16x512, .f32⟩
  | .hbm, ⟨53, _⟩ => ⟨S8x16x512, .f32⟩
  | .hbm, ⟨54, _⟩ => ⟨S8x16x512, .f32⟩
  | .hbm, ⟨55, _⟩ => ⟨S8x16x512, .f32⟩
  | .hbm, ⟨56, _⟩ => ⟨S8x16x512, .i1⟩
  | .hbm, ⟨57, _⟩ => ⟨S8x16x512, .f32⟩
  | .hbm, ⟨58, _⟩ => ⟨S8x16x512, .f32⟩
  | .hbm, ⟨59, _⟩ => ⟨S8x16x512, .f32⟩
  | .hbm, ⟨60, _⟩ => ⟨S8x16x512, .f32⟩
  | .hbm, ⟨61, _⟩ => ⟨S8x16x512, .f32⟩
  | .hbm, ⟨62, _⟩ => ⟨S8x16x512, .f32⟩
  | .hbm, ⟨63, _⟩ => ⟨S8x16x512, .f32⟩
  | .hbm, ⟨64, _⟩ => ⟨S8x16x512, .f32⟩
  | .hbm, ⟨65, _⟩ => ⟨S8x16x512, .f32⟩
  | .hbm, ⟨66, _⟩ => ⟨S_, .f32⟩
  | .hbm, ⟨67, _⟩ => ⟨S8x16x512, .f32⟩
  | .hbm, ⟨68, _⟩ => ⟨S8x16x512, .f32⟩
  | .hbm, ⟨69, _⟩ => ⟨S128x1024, .f32⟩
  | .hbm, ⟨70, _⟩ => ⟨S128x1024, .bf16⟩
  | .hbm, ⟨71, _⟩ => ⟨S128x128, .f32⟩
  | .hbm, ⟨72, _⟩ => ⟨S128x128, .f32⟩
  | .hbm, ⟨73, _⟩ => ⟨S128x512, .f32⟩
  | .hbm, ⟨74, _⟩ => ⟨S128x512, .bf16⟩
  | .hbm, ⟨75, _⟩ => ⟨S128x512, .f32⟩
  | .hbm, ⟨76, _⟩ => ⟨S128x512, .bf16⟩
  | .hbm, ⟨77, _⟩ => ⟨S128x1024, .f32⟩
  | .hbm, ⟨78, _⟩ => ⟨S128x1024, .bf16⟩
  | .hbm, ⟨79, _⟩ => ⟨S128x1024, .f32⟩
  | .hbm, ⟨80, _⟩ => ⟨S128x1024, .bf16⟩
  | .hbm, ⟨81, _⟩ => ⟨S128x512, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Sgla.lean ====
abbrev S128x512 : Shape := ⟨2, ![128, 512]⟩
abbrev S128x1024 : Shape := ⟨2, ![128, 1024]⟩
abbrev S256 : Shape := ⟨1, ![256]⟩
abbrev S8x4x128x256 : Shape := ⟨4, ![8, 4, 128, 256]⟩
abbrev S1x256 : Shape := ⟨2, ![1, 256]⟩
abbrev S16x512 : Shape := ⟨2, ![16, 512]⟩
abbrev S16x1024 : Shape := ⟨2, ![16, 1024]⟩
abbrev S1x4x128x256 : Shape := ⟨4, ![1, 4, 128, 256]⟩
abbrev S16x128 : Shape := ⟨2, ![16, 128]⟩
abbrev S16x16 : Shape := ⟨2, ![16, 16]⟩
abbrev S1x128 : Shape := ⟨2, ![1, 128]⟩
abbrev S16x256 : Shape := ⟨2, ![16, 256]⟩
abbrev S1x1x128x256 : Shape := ⟨4, ![1, 1, 128, 256]⟩
abbrev S128x256 : Shape := ⟨2, ![128, 256]⟩
abbrev S128x128 : Shape := ⟨2, ![128, 128]⟩
abbrev S16 : Shape := ⟨1, ![16]⟩
abbrev S16x1 : Shape := ⟨2, ![16, 1]⟩

abbrev nBuf : Space → Nat
  | .hbm => 10
  | .vmem => 17
  | .smem => 0
  | _ => 0

abbrev bufTy : (tb : Table) → Fin (tcTables nBuf tb) → BufTy
  | .hbm, ⟨0, _⟩ => ⟨S128x512, .bf16⟩
  | .hbm, ⟨1, _⟩ => ⟨S128x512, .bf16⟩
  | .hbm, ⟨2, _⟩ => ⟨S128x1024, .bf16⟩
  | .hbm, ⟨3, _⟩ => ⟨S128x512, .f32⟩
  | .hbm, ⟨4, _⟩ => ⟨S128x1024, .bf16⟩
  | .hbm, ⟨5, _⟩ => ⟨S256, .f32⟩
  | .hbm, ⟨6, _⟩ => ⟨S8x4x128x256, .f32⟩
  | .hbm, ⟨7, _⟩ => ⟨S1x256, .f32⟩
  | .hbm, ⟨8, _⟩ => ⟨S128x1024, .bf16⟩
  | .hbm, ⟨9, _⟩ => ⟨S8x4x128x256, .f32⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x1024, .bf16⟩
  | .local _ .vmem, ⟨5, _⟩ => ⟨S16x1024, .bf16⟩
  | .local _ .vmem, ⟨6, _⟩ => ⟨S16x512, .f32⟩
  | .local _ .vmem, ⟨7, _⟩ => ⟨S16x512, .f32⟩
  | .local _ .vmem, ⟨8, _⟩ => ⟨S16x1024, .bf16⟩
  | .local _ .vmem, ⟨9, _⟩ => ⟨S16x1024, .bf16⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S16x1024, .bf16⟩
  | .local _ .vmem, ⟨14, _⟩ => ⟨S16x1024, .bf16⟩
  | .local _ .vmem, ⟨15, _⟩ => ⟨S1x4x128x256, .f32⟩
  | .local _ .vmem, ⟨16, _⟩ => ⟨S1x4x128x256, .f32⟩
  | _, _ => ⟨S128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SglaRefIdeal.lean ====
abbrev S128x512 : Shape := ⟨2, ![128, 512]⟩
abbrev S128x1024 : Shape := ⟨2, ![128, 1024]⟩
abbrev S256 : Shape := ⟨1, ![256]⟩
abbrev S8x4x128x256 : Shape := ⟨4, ![8, 4, 128, 256]⟩
abbrev S8x16x4x128 : Shape := ⟨4, ![8, 16, 4, 128]⟩
abbrev S_ : Shape := ⟨0, ![]⟩
abbrev S8x16x4x256 : Shape := ⟨4, ![8, 16, 4, 256]⟩
abbrev S16x16 : Shape := ⟨2, ![16, 16]⟩
abbrev S8x4x16x16 : Shape := ⟨4, ![8, 4, 16, 16]⟩
abbrev S8x4x256x16 : Shape := ⟨4, ![8, 4, 256, 16]⟩
abbrev S8x1x4x128 : Shape := ⟨4, ![8, 1, 4, 128]⟩
abbrev S8x4x128 : Shape := ⟨3, ![8, 4, 128]⟩
abbrev S8x4x128x1 : Shape := ⟨4, ![8, 4, 128, 1]⟩
abbrev S8x16x1024 : Shape := ⟨3, ![8, 16, 1024]⟩
abbrev S8x16x4 : Shape := ⟨3, ![8, 16, 4]⟩
abbrev S8x16x4x1 : Shape := ⟨4, ![8, 16, 4, 1]⟩
abbrev S1x1x1x256 : Shape := ⟨4, ![1, 1, 1, 256]⟩

abbrev nBuf : Space → Nat
  | .hbm => 90
  | .vmem => 0
  | .smem => 0
  | _ => 0

abbrev bufTy : (tb : Table) → Fin (tcTables nBuf tb) → BufTy
  | .hbm, ⟨0, _⟩ => ⟨S128x512, .bf16⟩
  | .hbm, ⟨1, _⟩ => ⟨S128x512, .bf16⟩
  | .hbm, ⟨2, _⟩ => ⟨S128x1024, .bf16⟩
  | .hbm, ⟨3, _⟩ => ⟨S128x512, .f32⟩
  | .hbm, ⟨4, _⟩ => ⟨S128x1024, .bf16⟩
  | .hbm, ⟨5, _⟩ => ⟨S256, .f32⟩
  | .hbm, ⟨6, _⟩ => ⟨S8x4x128x256, .f32⟩
  | .hbm, ⟨7, _⟩ => ⟨S128x512, .f32⟩
  | .hbm, ⟨8, _⟩ => ⟨S8x16x4x128, .f32⟩
  | .hbm, ⟨9, _⟩ => ⟨S_, .f32⟩
  | .hbm, ⟨10, _⟩ => ⟨S8x16x4x128, .f32⟩
  | .hbm, ⟨11, _⟩ => ⟨S8x16x4x128, .f32⟩
  | .hbm, ⟨12, _⟩ => ⟨S8x16x4x128, .bf16⟩
  | .hbm, ⟨13, _⟩ => ⟨S8x16x4x256, .bf16⟩
  | .hbm, ⟨14, _⟩ => ⟨S8x16x4x128, .f32⟩
  | .hbm, ⟨15, _⟩ => ⟨S8x16x4x128, .f32⟩
  | .hbm, ⟨16, _⟩ => ⟨S8x16x4x256, .f32⟩
  | .hbm, ⟨17, _⟩ => ⟨S_, .f32⟩
  | .hbm, ⟨18, _⟩ => ⟨S_, .f32⟩
  | .hbm, ⟨19, _⟩ => ⟨S8x16x4x128, .f32⟩
  | .hbm, ⟨20, _⟩ => ⟨S8x16x4x128, .f32⟩
  | .hbm, ⟨21, _⟩ => ⟨S8x16x4x128, .f32⟩
  | .hbm, ⟨22, _⟩ => ⟨S8x16x4x128, .f32⟩
  | .hbm, ⟨23, _⟩ => ⟨S8x16x4x128, .f32⟩
  | .hbm, ⟨24, _⟩ => ⟨S8x16x4x128, .f32⟩
  | .hbm, ⟨25, _⟩ => ⟨S_, .i1⟩
  | .hbm, ⟨26, _⟩ => ⟨S16x16, .i1⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i32⟩
  | .hbm, ⟨32, _⟩ => ⟨S16x16, .i1⟩
  | .hbm, ⟨33, _⟩ => ⟨S_, .i1⟩
  | .hbm, ⟨34, _⟩ => ⟨S16x16, .i1⟩
  | .hbm, ⟨35, _⟩ => ⟨S16x16, .i1⟩
  | .hbm, ⟨36, _⟩ => ⟨S8x4x16x16, .f32⟩
  | .hbm, ⟨37, _⟩ => ⟨S_, .f32⟩
  | .hbm, ⟨38, _⟩ => ⟨S_, .f32⟩
  | .hbm, ⟨39, _⟩ => ⟨S8x4x16x16, .i1⟩
  | .hbm, ⟨40, _⟩ => ⟨S8x4x16x16, .f32⟩
  | .hbm, ⟨41, _⟩ => ⟨S8x4x16x16, .f32⟩
  | .hbm, ⟨42, _⟩ => ⟨S8x4x256x16, .f32⟩
  | .hbm, ⟨43, _⟩ => ⟨S8x16x4x256, .f32⟩
  | .hbm, ⟨44, _⟩ => ⟨S8x4x256x16, .f32⟩
  | .hbm, ⟨45, _⟩ => ⟨S8x16x4x256, .f32⟩
  | .hbm, ⟨46, _⟩ => ⟨S8x16x4x256, .f32⟩
  | .hbm, ⟨47, _⟩ => ⟨S8x1x4x128, .f32⟩
  | .hbm, ⟨48, _⟩ => ⟨S8x4x128, .f32⟩
  | .hbm, ⟨49, _⟩ => ⟨S8x4x128, .f32⟩
  | .hbm, ⟨50, _⟩ => ⟨S8x4x128x1, .f32⟩
  | .hbm, ⟨51, _⟩ => ⟨S8x4x128x256, .f32⟩
  | .hbm, ⟨52, _⟩ => ⟨S8x4x128x256, .f32⟩
  | .hbm, ⟨53, _⟩ => ⟨S8x16x4x128, .f32⟩
  | .hbm, ⟨54, _⟩ => ⟨S8x16x4x128, .f32⟩
  | .hbm, ⟨55, _⟩ => ⟨S8x16x4x128, .f32⟩
  | .hbm, ⟨56, _⟩ => ⟨S8x16x4x128, .f32⟩
  | .hbm, ⟨57, _⟩ => ⟨S8x4x128x256, .f32⟩
  | .hbm, ⟨58, _⟩ => ⟨S8x4x128x256, .f32⟩
  | .hbm, ⟨59, _⟩ => ⟨S128x1024, .f32⟩
  | .hbm, ⟨60, _⟩ => ⟨S8x16x1024, .f32⟩
  | .hbm, ⟨61, _⟩ => ⟨S8x16x4x256, .f32⟩
  | .hbm, ⟨62, _⟩ => ⟨S_, .f32⟩
  | .hbm, ⟨63, _⟩ => ⟨S8x16x4, .f32⟩
  | .hbm, ⟨64, _⟩ => ⟨S8x16x4x1, .f32⟩
  | .hbm, ⟨65, _⟩ => ⟨S_, .f32⟩
  | .hbm, ⟨66, _⟩ => ⟨S8x16x4x1, .f32⟩
  | .hbm, ⟨67, _⟩ => ⟨S8x16x4x1, .f32⟩
  | .hbm, ⟨68, _⟩ => ⟨S_, .f32⟩
  | .hbm, ⟨69, _⟩ => ⟨S8x16x4x1, .f32⟩
  | .hbm, ⟨70, _⟩ => ⟨S8x16x4x1, .f32⟩
  | .hbm, ⟨71, _⟩ => ⟨S8x16x4x1, .f32⟩
  | .hbm, ⟨72, _⟩ => ⟨S8x16x4x256, .f32⟩
  | .hbm, ⟨73, _⟩ => ⟨S8x16x4x256, .f32⟩
  | .hbm, ⟨74, _⟩ => ⟨S1x1x1x256, .f32⟩
  | .hbm, ⟨75, _⟩ => ⟨S8x16x4x256, .f32⟩
  | .hbm, ⟨76, _⟩ => ⟨S8x16x4x256, .f32⟩
  | .hbm, ⟨77, _⟩ => ⟨S8x16x1024, .f32⟩
  | .hbm, ⟨78, _⟩ => ⟨S8x16x1024, .f32⟩
  | .hbm, ⟨79, _⟩ => ⟨S8x16x1024, .f32⟩
  | .hbm, ⟨80, _⟩ => ⟨S_, .f32⟩
  | .hbm, ⟨81, _⟩ => ⟨S8x16x1024, .f32⟩
  | .hbm, ⟨82, _⟩ => ⟨S8x16x1024, .f32⟩
  | .hbm, ⟨83, _⟩ => ⟨S_, .f32⟩
  | .hbm, ⟨84, _⟩ => ⟨S8x16x1024, .f32⟩
  | .hbm, ⟨85, _⟩ => ⟨S8x16x1024, .f32⟩
  | .hbm, ⟨86, _⟩ => ⟨S8x16x1024, .f32⟩
  | .hbm, ⟨87, _⟩ => ⟨S8x16x1024, .f32⟩
  | .hbm, ⟨88, _⟩ => ⟨S128x1024, .f32⟩
  | .hbm, ⟨89, _⟩ => ⟨S128x1024, .bf16⟩
  | _, _ => ⟨S128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_call0_cst : Ref sig .tc := ⟨.hbm, 17, rfl⟩
abbrev main_call0_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_0 : Ref sig .tc := ⟨.hbm, 33, rfl⟩
abbrev main_call1_v5 : Ref sig .tc := ⟨.hbm, 34, rfl⟩
abbrev main_v16 : Ref sig .tc := ⟨.hbm, 35, rfl⟩
abbrev main_v17 : Ref sig .tc := ⟨.hbm, 36, rfl⟩
abbrev main_cst_0 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_cst_3 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_v0 : Ref sig .tc := ⟨.hbm, 78, rfl⟩
abbrev main_call3_v1 : Ref sig .tc := ⟨.hbm, 79, rfl⟩
abbrev main_call3_cst : Ref sig .tc := ⟨.hbm, 80, rfl⟩
abbrev main_call3_v2 : Ref sig .tc := ⟨.hbm, 81, rfl⟩
abbrev main_call3_v3 : Ref sig .tc := ⟨.hbm, 82, rfl⟩
abbrev main_call3_cst_0 : Ref sig .tc := ⟨.hbm, 83, rfl⟩
abbrev main_call3_v4 : Ref sig .tc := ⟨.hbm, 84, rfl⟩
abbrev main_call3_v5 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]
-- ==== Outproj.lean ====
abbrev S32768x1024 : Shape := ⟨2, ![32768, 1024]⟩
abbrev S16x2048x2048 : Shape := ⟨3, ![16, 2048, 2048]⟩
abbrev S24x12288 : Shape := ⟨2, ![24, 12288]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S36 : Shape := ⟨1, ![36]⟩
abbrev S128 : Shape := ⟨1, ![128]⟩
abbrev S1x128 : Shape := ⟨2, ![1, 128]⟩
abbrev S144x1x2048 : Shape := ⟨3, ![144, 1, 2048]⟩
abbrev S32768x2048 : Shape := ⟨2, ![32768, 2048]⟩
abbrev S1x2048 : Shape := ⟨2, ![1, 2048]⟩
abbrev S32896x2048 : Shape := ⟨2, ![32896, 2048]⟩
abbrev S32896x128 : Shape := ⟨2, ![32896, 128]⟩
abbrev S256x1024 : Shape := ⟨2, ![256, 1024]⟩
abbrev S256x2048 : Shape := ⟨2, ![256, 2048]⟩
abbrev S1x1x2048 : Shape := ⟨3, ![1, 1, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 31
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S16x2048x2048, .f32⟩
  | .hbm, ⟨3, _⟩ => ⟨S24x12288, .f32⟩
  | .hbm, ⟨4, _⟩ => ⟨S2048, .f32⟩
  | .hbm, ⟨5, _⟩ => ⟨S2048x2048, .f32⟩
  | .hbm, ⟨6, _⟩ => ⟨S2048x4, .f32⟩
  | .hbm, ⟨7, _⟩ => ⟨S4, .f32⟩
  | .hbm, ⟨8, _⟩ => ⟨S2048x32, .f32⟩
  | .hbm, ⟨9, _⟩ => ⟨S32, .f32⟩
  | .hbm, ⟨10, _⟩ => ⟨S2048x36, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S2048x256, .bf16⟩
  | .hbm, ⟨19, _⟩ => ⟨S36, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S144x1x2048, .f32⟩
  | .hbm, ⟨25, _⟩ => ⟨S32768x2048, .f32⟩
  | .hbm, ⟨26, _⟩ => ⟨S2048x2048, .bf16⟩
  | .hbm, ⟨27, _⟩ => ⟨S1x2048, .f32⟩
  | .hbm, ⟨28, _⟩ => ⟨S32896x2048, .f32⟩
  | .hbm, ⟨29, _⟩ => ⟨S32896x2048, .f32⟩
  | .hbm, ⟨30, _⟩ => ⟨S32896x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S2048x2048, .bf16⟩
  | .local _ .vmem, ⟨14, _⟩ => ⟨S2048x256, .bf16⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x128, .f32⟩
  | .local _ .vmem, ⟨21, _⟩ => ⟨S256x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_5 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojRefIdeal.lean ====
abbrev S32768x1024 : Shape := ⟨2, ![32768, 1024]⟩
abbrev S16x2048x2048 : Shape := ⟨3, ![16, 2048, 2048]⟩
abbrev S24x12288 : Shape := ⟨2, ![24, 12288]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S16x12288 : Shape := ⟨2, ![16, 12288]⟩
abbrev S16x1x12288 : Shape := ⟨3, ![16, 1, 12288]⟩
abbrev S16x1x2048 : Shape := ⟨3, ![16, 1, 2048]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩
abbrev S32896x2048 : Shape := ⟨2, ![32896, 2048]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S16x2048x2048, .f32⟩
  | .hbm, ⟨3, _⟩ => ⟨S24x12288, .f32⟩
  | .hbm, ⟨4, _⟩ => ⟨S2048, .f32⟩
  | .hbm, ⟨5, _⟩ => ⟨S2048x2048, .f32⟩
  | .hbm, ⟨6, _⟩ => ⟨S2048x4, .f32⟩
  | .hbm, ⟨7, _⟩ => ⟨S4, .f32⟩
  | .hbm, ⟨8, _⟩ => ⟨S2048x32, .f32⟩
  | .hbm, ⟨9, _⟩ => ⟨S32, .f32⟩
  | .hbm, ⟨10, _⟩ => ⟨S16x12288, .f32⟩
  | .hbm, ⟨11, _⟩ => ⟨S16x1x12288, .f32⟩
  | .hbm, ⟨12, _⟩ => ⟨S16x1x2048, .f32⟩
  | .hbm, ⟨13, _⟩ => ⟨S16x1x2048, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S32768x1024, .f32⟩
  | .hbm, ⟨19, _⟩ => ⟨S16x2048x1024, .f32⟩
  | .hbm, ⟨20, _⟩ => ⟨S32768x1024, .f32⟩
  | .hbm, ⟨21, _⟩ => ⟨S16x2048x1024, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S1x1x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x1x2048, .f32⟩
  | .hbm, ⟨45, _⟩ => ⟨S16x1x2048, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | .hbm, ⟨49, _⟩ => ⟨S16x2048x2048, .f32⟩
  | .hbm, ⟨50, _⟩ => ⟨S32768x2048, .f32⟩
  | .hbm, ⟨51, _⟩ => ⟨S_, .i32⟩
  | .hbm, ⟨52, _⟩ => ⟨S_, .f32⟩
  | .hbm, ⟨53, _⟩ => ⟨S32896x2048, .f32⟩
  | .hbm, ⟨54, _⟩ => ⟨S32768x2048, .f32⟩
  | .hbm, ⟨55, _⟩ => ⟨S_, .i32⟩
  | .hbm, ⟨56, _⟩ => ⟨S_, .f32⟩
  | .hbm, ⟨57, _⟩ => ⟨S32896x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_c_3 : Ref sig .tc := ⟨.hbm, 55, rfl⟩
abbrev main_call1_v0 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Pgla.lean ====
abbrev S32768x512 : Shape := ⟨2, ![32768, 512]⟩
abbrev S32768x1024 : Shape := ⟨2, ![32768, 1024]⟩
abbrev S256 : Shape := ⟨1, ![256]⟩
abbrev S_ : Shape := ⟨0, ![]⟩
abbrev S16x4x128x256 : Shape := ⟨4, ![16, 4, 128, 256]⟩
abbrev S1x256 : Shape := ⟨2, ![1, 256]⟩
abbrev S128x512 : Shape := ⟨2, ![128, 512]⟩
abbrev S128x1024 : Shape := ⟨2, ![128, 1024]⟩
abbrev S1x4x128x256 : Shape := ⟨4, ![1, 4, 128, 256]⟩
abbrev S128x128 : Shape := ⟨2, ![128, 128]⟩
abbrev S1x128 : Shape := ⟨2, ![1, 128]⟩
abbrev S128x256 : Shape := ⟨2, ![128, 256]⟩
abbrev S1x1x128x256 : Shape := ⟨4, ![1, 1, 128, 256]⟩
abbrev S128 : Shape := ⟨1, ![128]⟩
abbrev S128x1 : Shape := ⟨2, ![128, 1]⟩

abbrev nBuf : Space → Nat
  | .hbm => 11
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x512, .f32⟩
  | .hbm, ⟨4, _⟩ => ⟨S32768x1024, .bf16⟩
  | .hbm, ⟨5, _⟩ => ⟨S256, .f32⟩
  | .hbm, ⟨6, _⟩ => ⟨S_, .f32⟩
  | .hbm, ⟨7, _⟩ => ⟨S16x4x128x256, .f32⟩
  | .hbm, ⟨8, _⟩ => ⟨S1x256, .f32⟩
  | .hbm, ⟨9, _⟩ => ⟨S32768x1024, .bf16⟩
  | .hbm, ⟨10, _⟩ => ⟨S16x4x128x256, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x512, .f32⟩
  | .local _ .vmem, ⟨7, _⟩ => ⟨S128x512, .f32⟩
  | .local _ .vmem, ⟨8, _⟩ => ⟨S128x1024, .bf16⟩
  | .local _ .vmem, ⟨9, _⟩ => ⟨S128x1024, .bf16⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S128x1024, .bf16⟩
  | .local _ .vmem, ⟨14, _⟩ => ⟨S128x1024, .bf16⟩
  | .local _ .vmem, ⟨15, _⟩ => ⟨S1x4x128x256, .f32⟩
  | .local _ .vmem, ⟨16, _⟩ => ⟨S1x4x128x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PglaRefIdeal.lean ====
abbrev S32768x512 : Shape := ⟨2, ![32768, 512]⟩
abbrev S32768x1024 : Shape := ⟨2, ![32768, 1024]⟩
abbrev S256 : Shape := ⟨1, ![256]⟩
abbrev S16x2048x4x128 : Shape := ⟨4, ![16, 2048, 4, 128]⟩
abbrev S_ : Shape := ⟨0, ![]⟩
abbrev S16x2048x4x256 : Shape := ⟨4, ![16, 2048, 4, 256]⟩
abbrev S16x4x128x256 : Shape := ⟨4, ![16, 4, 128, 256]⟩
abbrev S2048x2048 : Shape := ⟨2, ![2048, 2048]⟩
abbrev S16x4x2048x2048 : Shape := ⟨4, ![16, 4, 2048, 2048]⟩
abbrev S16x4x256x2048 : Shape := ⟨4, ![16, 4, 256, 2048]⟩
abbrev S16x1x4x128 : Shape := ⟨4, ![16, 1, 4, 128]⟩
abbrev S16x4x128 : Shape := ⟨3, ![16, 4, 128]⟩
abbrev S16x4x128x1 : Shape := ⟨4, ![16, 4, 128, 1]⟩
abbrev S16x2048x1024 : Shape := ⟨3, ![16, 2048, 1024]⟩
abbrev S16x2048x4 : Shape := ⟨3, ![16, 2048, 4]⟩
abbrev S16x2048x4x1 : Shape := ⟨4, ![16, 2048, 4, 1]⟩
abbrev S1x1x1x256 : Shape := ⟨4, ![1, 1, 1, 256]⟩

abbrev nBuf : Space → Nat
  | .hbm => 91
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .bf16⟩
  | .hbm, ⟨3, _⟩ => ⟨S32768x512, .f32⟩
  | .hbm, ⟨4, _⟩ => ⟨S32768x1024, .bf16⟩
  | .hbm, ⟨5, _⟩ => ⟨S256, .f32⟩
  | .hbm, ⟨6, _⟩ => ⟨S32768x512, .f32⟩
  | .hbm, ⟨7, _⟩ => ⟨S16x2048x4x128, .f32⟩
  | .hbm, ⟨8, _⟩ => ⟨S_, .f32⟩
  | .hbm, ⟨9, _⟩ => ⟨S16x2048x4x128, .f32⟩
  | .hbm, ⟨10, _⟩ => ⟨S16x2048x4x128, .f32⟩
  | .hbm, ⟨11, _⟩ => ⟨S16x2048x4x128, .bf16⟩
  | .hbm, ⟨12, _⟩ => ⟨S16x2048x4x256, .bf16⟩
  | .hbm, ⟨13, _⟩ => ⟨S_, .f32⟩
  | .hbm, ⟨14, _⟩ => ⟨S16x4x128x256, .f32⟩
  | .hbm, ⟨15, _⟩ => ⟨S16x2048x4x128, .f32⟩
  | .hbm, ⟨16, _⟩ => ⟨S16x2048x4x128, .f32⟩
  | .hbm, ⟨17, _⟩ => ⟨S16x2048x4x256, .f32⟩
  | .hbm, ⟨18, _⟩ => ⟨S_, .f32⟩
  | .hbm, ⟨19, _⟩ => ⟨S_, .f32⟩
  | .hbm, ⟨20, _⟩ => ⟨S16x2048x4x128, .f32⟩
  | .hbm, ⟨21, _⟩ => ⟨S16x2048x4x128, .f32⟩
  | .hbm, ⟨22, _⟩ => ⟨S16x2048x4x128, .f32⟩
  | .hbm, ⟨23, _⟩ => ⟨S16x2048x4x128, .f32⟩
  | .hbm, ⟨24, _⟩ => ⟨S16x2048x4x128, .f32⟩
  | .hbm, ⟨25, _⟩ => ⟨S16x2048x4x128, .f32⟩
  | .hbm, ⟨26, _⟩ => ⟨S_, .i1⟩
  | .hbm, ⟨27, _⟩ => ⟨S2048x2048, .i1⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .i1⟩
  | .hbm, ⟨35, _⟩ => ⟨S2048x2048, .i1⟩
  | .hbm, ⟨36, _⟩ => ⟨S2048x2048, .i1⟩
  | .hbm, ⟨37, _⟩ => ⟨S16x4x2048x2048, .f32⟩
  | .hbm, ⟨38, _⟩ => ⟨S_, .f32⟩
  | .hbm, ⟨39, _⟩ => ⟨S_, .f32⟩
  | .hbm, ⟨40, _⟩ => ⟨S16x4x2048x2048, .i1⟩
  | .hbm, ⟨41, _⟩ => ⟨S16x4x2048x2048, .f32⟩
  | .hbm, ⟨42, _⟩ => ⟨S16x4x2048x2048, .f32⟩
  | .hbm, ⟨43, _⟩ => ⟨S16x4x256x2048, .f32⟩
  | .hbm, ⟨44, _⟩ => ⟨S16x2048x4x256, .f32⟩
  | .hbm, ⟨45, _⟩ => ⟨S16x4x256x2048, .f32⟩
  | .hbm, ⟨46, _⟩ => ⟨S16x2048x4x256, .f32⟩
  | .hbm, ⟨47, _⟩ => ⟨S16x2048x4x256, .f32⟩
  | .hbm, ⟨48, _⟩ => ⟨S16x1x4x128, .f32⟩
  | .hbm, ⟨49, _⟩ => ⟨S16x4x128, .f32⟩
  | .hbm, ⟨50, _⟩ => ⟨S16x4x128, .f32⟩
  | .hbm, ⟨51, _⟩ => ⟨S16x4x128x1, .f32⟩
  | .hbm, ⟨52, _⟩ => ⟨S16x4x128x256, .f32⟩
  | .hbm, ⟨53, _⟩ => ⟨S16x4x128x256, .f32⟩
  | .hbm, ⟨54, _⟩ => ⟨S16x2048x4x128, .f32⟩
  | .hbm, ⟨55, _⟩ => ⟨S16x2048x4x128, .f32⟩
  | .hbm, ⟨56, _⟩ => ⟨S16x2048x4x128, .f32⟩
  | .hbm, ⟨57, _⟩ => ⟨S16x2048x4x128, .f32⟩
  | .hbm, ⟨58, _⟩ => ⟨S16x4x128x256, .f32⟩
  | .hbm, ⟨59, _⟩ => ⟨S16x4x128x256, .f32⟩
  | .hbm, ⟨60, _⟩ => ⟨S32768x1024, .f32⟩
  | .hbm, ⟨61, _⟩ => ⟨S16x2048x1024, .f32⟩
  | .hbm, ⟨62, _⟩ => ⟨S16x2048x4x256, .f32⟩
  | .hbm, ⟨63, _⟩ => ⟨S_, .f32⟩
  | .hbm, ⟨64, _⟩ => ⟨S16x2048x4, .f32⟩
  | .hbm, ⟨65, _⟩ => ⟨S16x2048x4x1, .f32⟩
  | .hbm, ⟨66, _⟩ => ⟨S_, .f32⟩
  | .hbm, ⟨67, _⟩ => ⟨S16x2048x4x1, .f32⟩
  | .hbm, ⟨68, _⟩ => ⟨S16x2048x4x1, .f32⟩
  | .hbm, ⟨69, _⟩ => ⟨S_, .f32⟩
  | .hbm, ⟨70, _⟩ => ⟨S16x2048x4x1, .f32⟩
  | .hbm, ⟨71, _⟩ => ⟨S16x2048x4x1, .f32⟩
  | .hbm, ⟨72, _⟩ => ⟨S16x2048x4x1, .f32⟩
  | .hbm, ⟨73, _⟩ => ⟨S16x2048x4x256, .f32⟩
  | .hbm, ⟨74, _⟩ => ⟨S16x2048x4x256, .f32⟩
  | .hbm, ⟨75, _⟩ => ⟨S1x1x1x256, .f32⟩
  | .hbm, ⟨76, _⟩ => ⟨S16x2048x4x256, .f32⟩
  | .hbm, ⟨77, _⟩ => ⟨S16x2048x4x256, .f32⟩
  | .hbm, ⟨78, _⟩ => ⟨S16x2048x1024, .f32⟩
  | .hbm, ⟨79, _⟩ => ⟨S16x2048x1024, .f32⟩
  | .hbm, ⟨80, _⟩ => ⟨S16x2048x1024, .f32⟩
  | .hbm, ⟨81, _⟩ => ⟨S_, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S16x2048x1024, .f32⟩
  | .hbm, ⟨89, _⟩ => ⟨S32768x1024, .f32⟩
  | .hbm, ⟨90, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_call0_cst : Ref sig .tc := ⟨.hbm, 18, rfl⟩
abbrev main_call0_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_2 : Ref sig .tc := ⟨.hbm, 63, rfl⟩
abbrev main_v40 : Ref sig .tc := ⟨.hbm, 64, rfl⟩
abbrev main_v41 : Ref sig .tc := ⟨.hbm, 65, rfl⟩
abbrev main_cst_3 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩

abbrev nD : Nat := 1
abbrev τ : Topo := Topo.v7x

variable {F : FTy → Type} [FloatOps F]
-- ==== Sswa.lean ====
abbrev S128x1024 : Shape := ⟨2, ![128, 1024]⟩
abbrev S128x128 : Shape := ⟨2, ![128, 128]⟩
abbrev S8x128x2x64 : Shape := ⟨4, ![8, 128, 2, 64]⟩
abbrev S16 : Shape := ⟨1, ![16]⟩
abbrev S1024x128 : Shape := ⟨2, ![1024, 128]⟩
abbrev S2x8 : Shape := ⟨2, ![2, 8]⟩
abbrev S2x8x16 : Shape := ⟨3, ![2, 8, 16]⟩
abbrev S2x128 : Shape := ⟨2, ![2, 128]⟩
abbrev S2x128x1 : Shape := ⟨3, ![2, 128, 1]⟩
abbrev S16x1024 : Shape := ⟨2, ![16, 1024]⟩
abbrev S16x128 : Shape := ⟨2, ![16, 128]⟩
abbrev S112x128 : Shape := ⟨2, ![112, 128]⟩
abbrev S256x128 : Shape := ⟨2, ![256, 128]⟩
abbrev S128x256 : Shape := ⟨2, ![128, 256]⟩
abbrev S16x64 : Shape := ⟨2, ![16, 64]⟩
abbrev S128x64 : Shape := ⟨2, ![128, 64]⟩
abbrev S256x64 : Shape := ⟨2, ![256, 64]⟩
abbrev S1x128x1 : Shape := ⟨3, ![1, 128, 1]⟩
abbrev S128x1 : Shape := ⟨2, ![128, 1]⟩
abbrev S128 : Shape := ⟨1, ![128]⟩
abbrev S16x512 : Shape := ⟨2, ![16, 512]⟩

abbrev nBuf : Space → Nat
  | .hbm => 13
  | .vmem => 13
  | .smem => 0
  | _ => 0

abbrev bufTy : (tb : Table) → Fin (tcTables nBuf tb) → BufTy
  | .hbm, ⟨0, _⟩ => ⟨S128x1024, .bf16⟩
  | .hbm, ⟨1, _⟩ => ⟨S128x128, .f32⟩
  | .hbm, ⟨2, _⟩ => ⟨S128x128, .f32⟩
  | .hbm, ⟨3, _⟩ => ⟨S8x128x2x64, .f32⟩
  | .hbm, ⟨4, _⟩ => ⟨S8x128x2x64, .f32⟩
  | .hbm, ⟨5, _⟩ => ⟨S16, .f32⟩
  | .hbm, ⟨6, _⟩ => ⟨S1024x128, .f32⟩
  | .hbm, ⟨7, _⟩ => ⟨S1024x128, .f32⟩
  | .hbm, ⟨8, _⟩ => ⟨S2x8, .f32⟩
  | .hbm, ⟨9, _⟩ => ⟨S2x8x16, .f32⟩
  | .hbm, ⟨10, _⟩ => ⟨S2x128, .f32⟩
  | .hbm, ⟨11, _⟩ => ⟨S2x128x1, .f32⟩
  | .hbm, ⟨12, _⟩ => ⟨S128x1024, .bf16⟩
  | .local _ .vmem, ⟨0, _⟩ => ⟨S16x1024, .bf16⟩
  | .local _ .vmem, ⟨1, _⟩ => ⟨S16x1024, .bf16⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S2x128x1, .f32⟩
  | .local _ .vmem, ⟨11, _⟩ => ⟨S16x1024, .bf16⟩
  | .local _ .vmem, ⟨12, _⟩ => ⟨S16x1024, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SswaIdeal.lean ====
variable {F : FTy → Type} [FloatOps F] [Named F]
def κ : String → Option EReal := fun
  | "mask" => some ⊥
  | _ => none
-- ==== SswaRefIdeal.lean ====
abbrev S128x1024 : Shape := ⟨2, ![128, 1024]⟩
abbrev S128x128 : Shape := ⟨2, ![128, 128]⟩
abbrev S8x128x2x64 : Shape := ⟨4, ![8, 128, 2, 64]⟩
abbrev S16 : Shape := ⟨1, ![16]⟩
abbrev S8x16x2x8x64 : Shape := ⟨5, ![8, 16, 2, 8, 64]⟩
abbrev S8x16x2x64 : Shape := ⟨4, ![8, 16, 2, 64]⟩
abbrev S8x144x2x64 : Shape := ⟨4, ![8, 144, 2, 64]⟩
abbrev S8x2x144x16x8 : Shape := ⟨5, ![8, 2, 144, 16, 8]⟩
abbrev S8x2x8x16x144 : Shape := ⟨5, ![8, 2, 8, 16, 144]⟩
abbrev S_ : Shape := ⟨0, ![]⟩
abbrev S2x8 : Shape := ⟨2, ![2, 8]⟩
abbrev S1x2x8x1x1 : Shape := ⟨5, ![1, 2, 8, 1, 1]⟩
abbrev S8x2x8x16x1 : Shape := ⟨5, ![8, 2, 8, 16, 1]⟩
abbrev S8x2x8x16x145 : Shape := ⟨5, ![8, 2, 8, 16, 145]⟩
abbrev S8x2x8x16 : Shape := ⟨4, ![8, 2, 8, 16]⟩
abbrev S8x2x64x8x16 : Shape := ⟨5, ![8, 2, 64, 8, 16]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x128, .f32⟩
  | .hbm, ⟨2, _⟩ => ⟨S128x128, .f32⟩
  | .hbm, ⟨3, _⟩ => ⟨S8x128x2x64, .f32⟩
  | .hbm, ⟨4, _⟩ => ⟨S8x128x2x64, .f32⟩
  | .hbm, ⟨5, _⟩ => ⟨S16, .f32⟩
  | .hbm, ⟨6, _⟩ => ⟨S128x1024, .f32⟩
  | .hbm, ⟨7, _⟩ => ⟨S8x16x2x8x64, .f32⟩
  | .hbm, ⟨8, _⟩ => ⟨S8x16x2x64, .f32⟩
  | .hbm, ⟨9, _⟩ => ⟨S8x16x2x64, .f32⟩
  | .hbm, ⟨10, _⟩ => ⟨S8x144x2x64, .f32⟩
  | .hbm, ⟨11, _⟩ => ⟨S8x144x2x64, .f32⟩
  | .hbm, ⟨12, _⟩ => ⟨S8x2x144x16x8, .f32⟩
  | .hbm, ⟨13, _⟩ => ⟨S8x2x8x16x144, .f32⟩
  | .hbm, ⟨14, _⟩ => ⟨S_, .f32⟩
  | .hbm, ⟨15, _⟩ => ⟨S8x2x8x16x144, .f32⟩
  | .hbm, ⟨16, _⟩ => ⟨S8x2x8x16x144, .f32⟩
  | .hbm, ⟨17, _⟩ => ⟨S2x8, .f32⟩
  | .hbm, ⟨18, _⟩ => ⟨S1x2x8x1x1, .f32⟩
  | .hbm, ⟨19, _⟩ => ⟨S8x2x8x16x1, .f32⟩
  | .hbm, ⟨20, _⟩ => ⟨S8x2x8x16x145, .f32⟩
  | .hbm, ⟨21, _⟩ => ⟨S_, .f32⟩
  | .hbm, ⟨22, _⟩ => ⟨S8x2x8x16, .f32⟩
  | .hbm, ⟨23, _⟩ => ⟨S_, .f32⟩
  | .hbm, ⟨24, _⟩ => ⟨S8x2x8x16, .f32⟩
  | .hbm, ⟨25, _⟩ => ⟨S8x2x8x16, .f32⟩
  | .hbm, ⟨26, _⟩ => ⟨S8x2x8x16x1, .f32⟩
  | .hbm, ⟨27, _⟩ => ⟨S8x2x8x16x145, .f32⟩
  | .hbm, ⟨28, _⟩ => ⟨S8x2x8x16x145, .f32⟩
  | .hbm, ⟨29, _⟩ => ⟨S8x2x8x16x145, .f32⟩
  | .hbm, ⟨30, _⟩ => ⟨S_, .f32⟩
  | .hbm, ⟨31, _⟩ => ⟨S8x2x8x16, .f32⟩
  | .hbm, ⟨32, _⟩ => ⟨S8x2x8x16x1, .f32⟩
  | .hbm, ⟨33, _⟩ => ⟨S8x2x8x16x145, .f32⟩
  | .hbm, ⟨34, _⟩ => ⟨S8x2x8x16x145, .f32⟩
  | .hbm, ⟨35, _⟩ => ⟨S8x2x8x16x144, .f32⟩
  | .hbm, ⟨36, _⟩ => ⟨S8x2x64x8x16, .f32⟩
  | .hbm, ⟨37, _⟩ => ⟨S8x16x2x8x64, .f32⟩
  | .hbm, ⟨38, _⟩ => ⟨S128x1024, .f32⟩
  | .hbm, ⟨39, _⟩ => ⟨S128x1024, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Soutproj.lean ====
abbrev S128x1024 : Shape := ⟨2, ![128, 1024]⟩
abbrev S8x16x2048 : Shape := ⟨3, ![8, 16, 2048]⟩
abbrev S24x12288 : Shape := ⟨2, ![24, 12288]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32896x2048 : Shape := ⟨2, ![32896, 2048]⟩
abbrev S32896x128 : Shape := ⟨2, ![32896, 128]⟩
abbrev S2048x36 : Shape := ⟨2, ![2048, 36]⟩
abbrev S_ : Shape := ⟨0, ![]⟩
abbrev S2048x128 : Shape := ⟨2, ![2048, 128]⟩
abbrev S2048x256 : Shape := ⟨2, ![2048, 256]⟩
abbrev S36 : Shape := ⟨1, ![36]⟩
abbrev S128 : Shape := ⟨1, ![128]⟩
abbrev S1x128 : Shape := ⟨2, ![1, 128]⟩
abbrev S8x12288 : Shape := ⟨2, ![8, 12288]⟩
abbrev S8x6x2048 : Shape := ⟨3, ![8, 6, 2048]⟩
abbrev S8x16x6x2048 : Shape := ⟨4, ![8, 16, 6, 2048]⟩
abbrev S128x6x2048 : Shape := ⟨3, ![128, 6, 2048]⟩
abbrev S128x1x2048 : Shape := ⟨3, ![128, 1, 2048]⟩
abbrev S128x2048 : Shape := ⟨2, ![128, 2048]⟩
abbrev S1x2048 : Shape := ⟨2, ![1, 2048]⟩
abbrev S128x128 : Shape := ⟨2, ![128, 128]⟩
abbrev S1024x2048 : Shape := ⟨2, ![1024, 2048]⟩
abbrev S128x1 : Shape := ⟨2, ![128, 1]⟩
abbrev S128x256 : Shape := ⟨2, ![128, 256]⟩

abbrev nBuf : Space → Nat
  | .hbm => 49
  | .vmem => 13
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S8x16x2048, .f32⟩
  | .hbm, ⟨3, _⟩ => ⟨S24x12288, .f32⟩
  | .hbm, ⟨4, _⟩ => ⟨S2048, .f32⟩
  | .hbm, ⟨5, _⟩ => ⟨S2048x2048, .f32⟩
  | .hbm, ⟨6, _⟩ => ⟨S2048x4, .f32⟩
  | .hbm, ⟨7, _⟩ => ⟨S4, .f32⟩
  | .hbm, ⟨8, _⟩ => ⟨S2048x32, .f32⟩
  | .hbm, ⟨9, _⟩ => ⟨S32, .f32⟩
  | .hbm, ⟨10, _⟩ => ⟨S32896x2048, .f32⟩
  | .hbm, ⟨11, _⟩ => ⟨S32896x2048, .f32⟩
  | .hbm, ⟨12, _⟩ => ⟨S32896x128, .f32⟩
  | .hbm, ⟨13, _⟩ => ⟨S2048x36, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S2048x128, .f32⟩
  | .hbm, ⟨19, _⟩ => ⟨S2048x128, .f32⟩
  | .hbm, ⟨20, _⟩ => ⟨S2048x128, .bf16⟩
  | .hbm, ⟨21, _⟩ => ⟨S2048x256, .bf16⟩
  | .hbm, ⟨22, _⟩ => ⟨S36, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S8x12288, .f32⟩
  | .hbm, ⟨28, _⟩ => ⟨S8x6x2048, .f32⟩
  | .hbm, ⟨29, _⟩ => ⟨S8x16x6x2048, .f32⟩
  | .hbm, ⟨30, _⟩ => ⟨S128x6x2048, .f32⟩
  | .hbm, ⟨31, _⟩ => ⟨S128x1x2048, .f32⟩
  | .hbm, ⟨32, _⟩ => ⟨S128x2048, .f32⟩
  | .hbm, ⟨33, _⟩ => ⟨S128x1x2048, .f32⟩
  | .hbm, ⟨34, _⟩ => ⟨S128x2048, .f32⟩
  | .hbm, ⟨35, _⟩ => ⟨S128x1x2048, .f32⟩
  | .hbm, ⟨36, _⟩ => ⟨S128x2048, .f32⟩
  | .hbm, ⟨37, _⟩ => ⟨S128x1x2048, .f32⟩
  | .hbm, ⟨38, _⟩ => ⟨S128x2048, .f32⟩
  | .hbm, ⟨39, _⟩ => ⟨S128x1x2048, .f32⟩
  | .hbm, ⟨40, _⟩ => ⟨S128x2048, .f32⟩
  | .hbm, ⟨41, _⟩ => ⟨S128x1x2048, .f32⟩
  | .hbm, ⟨42, _⟩ => ⟨S128x2048, .f32⟩
  | .hbm, ⟨43, _⟩ => ⟨S128x2048, .f32⟩
  | .hbm, ⟨44, _⟩ => ⟨S2048x2048, .bf16⟩
  | .hbm, ⟨45, _⟩ => ⟨S1x2048, .f32⟩
  | .hbm, ⟨46, _⟩ => ⟨S32896x2048, .f32⟩
  | .hbm, ⟨47, _⟩ => ⟨S32896x2048, .f32⟩
  | .hbm, ⟨48, _⟩ => ⟨S32896x128, .f32⟩
  | .local _ .vmem, ⟨0, _⟩ => ⟨S128x1024, .bf16⟩
  | .local _ .vmem, ⟨1, _⟩ => ⟨S128x1024, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x2048, .f32⟩
  | .local _ .vmem, ⟨7, _⟩ => ⟨S2048x2048, .bf16⟩
  | .local _ .vmem, ⟨8, _⟩ => ⟨S2048x256, .bf16⟩
  | .local _ .vmem, ⟨9, _⟩ => ⟨S1x128, .f32⟩
  | .local _ .vmem, ⟨10, _⟩ => ⟨S128x2048, .f32⟩
  | .local _ .vmem, ⟨11, _⟩ => ⟨S128x2048, .f32⟩
  | .local _ .vmem, ⟨12, _⟩ => ⟨S128x128, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_call1_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SoutprojRefIdeal.lean ====
abbrev S128x1024 : Shape := ⟨2, ![128, 1024]⟩
abbrev S8x16x2048 : Shape := ⟨3, ![8, 16, 2048]⟩
abbrev S24x12288 : Shape := ⟨2, ![24, 12288]⟩
abbrev S2048 : Shape := ⟨1, ![2048]⟩
abbrev S2048x2048 : Shape := ⟨2, ![2048, 2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S32896x2048 : Shape := ⟨2, ![32896, 2048]⟩
abbrev S32896x128 : Shape := ⟨2, ![32896, 128]⟩
abbrev S8x12288 : Shape := ⟨2, ![8, 12288]⟩
abbrev S8x1x12288 : Shape := ⟨3, ![8, 1, 12288]⟩
abbrev S8x1x2048 : Shape := ⟨3, ![8, 1, 2048]⟩
abbrev S8x16x1024 : Shape := ⟨3, ![8, 16, 1024]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S32768x2048 : Shape := ⟨2, ![32768, 2048]⟩
abbrev S128x2048 : Shape := ⟨2, ![128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S8x16x2048, .f32⟩
  | .hbm, ⟨3, _⟩ => ⟨S24x12288, .f32⟩
  | .hbm, ⟨4, _⟩ => ⟨S2048, .f32⟩
  | .hbm, ⟨5, _⟩ => ⟨S2048x2048, .f32⟩
  | .hbm, ⟨6, _⟩ => ⟨S2048x4, .f32⟩
  | .hbm, ⟨7, _⟩ => ⟨S4, .f32⟩
  | .hbm, ⟨8, _⟩ => ⟨S2048x32, .f32⟩
  | .hbm, ⟨9, _⟩ => ⟨S32, .f32⟩
  | .hbm, ⟨10, _⟩ => ⟨S32896x2048, .f32⟩
  | .hbm, ⟨11, _⟩ => ⟨S32896x2048, .f32⟩
  | .hbm, ⟨12, _⟩ => ⟨S32896x128, .f32⟩
  | .hbm, ⟨13, _⟩ => ⟨S8x12288, .f32⟩
  | .hbm, ⟨14, _⟩ => ⟨S8x1x12288, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x1x2048, .f32⟩
  | .hbm, ⟨20, _⟩ => ⟨S8x1x2048, .f32⟩
  | .hbm, ⟨21, _⟩ => ⟨S128x1024, .f32⟩
  | .hbm, ⟨22, _⟩ => ⟨S8x16x1024, .f32⟩
  | .hbm, ⟨23, _⟩ => ⟨S128x1024, .f32⟩
  | .hbm, ⟨24, _⟩ => ⟨S8x16x1024, .f32⟩
  | .hbm, ⟨25, _⟩ => ⟨S8x16x2048, .f32⟩
  | .hbm, ⟨26, _⟩ => ⟨S8x16x2048, .f32⟩
  | .hbm, ⟨27, _⟩ => ⟨S8x16x2048, .f32⟩
  | .hbm, ⟨28, _⟩ => ⟨S8x16x2048, .f32⟩
  | .hbm, ⟨29, _⟩ => ⟨S8x16x2048, .f32⟩
  | .hbm, ⟨30, _⟩ => ⟨S8x16x2048, .f32⟩
  | .hbm, ⟨31, _⟩ => ⟨S_, .f32⟩
  | .hbm, ⟨32, _⟩ => ⟨S8x16, .f32⟩
  | .hbm, ⟨33, _⟩ => ⟨S8x16x1, .f32⟩
  | .hbm, ⟨34, _⟩ => ⟨S_, .f32⟩
  | .hbm, ⟨35, _⟩ => ⟨S8x16x1, .f32⟩
  | .hbm, ⟨36, _⟩ => ⟨S8x16x1, .f32⟩
  | .hbm, ⟨37, _⟩ => ⟨S_, .f32⟩
  | .hbm, ⟨38, _⟩ => ⟨S8x16x1, .f32⟩
  | .hbm, ⟨39, _⟩ => ⟨S8x16x1, .f32⟩
  | .hbm, ⟨40, _⟩ => ⟨S8x16x1, .f32⟩
  | .hbm, ⟨41, _⟩ => ⟨S8x16x2048, .f32⟩
  | .hbm, ⟨42, _⟩ => ⟨S8x16x2048, .f32⟩
  | .hbm, ⟨43, _⟩ => ⟨S1x1x2048, .f32⟩
  | .hbm, ⟨44, _⟩ => ⟨S8x16x2048, .f32⟩
  | .hbm, ⟨45, _⟩ => ⟨S8x16x2048, .f32⟩
  | .hbm, ⟨46, _⟩ => ⟨S_, .f32⟩
  | .hbm, ⟨47, _⟩ => ⟨S8x1x2048, .f32⟩
  | .hbm, ⟨48, _⟩ => ⟨S8x1x2048, .f32⟩
  | .hbm, ⟨49, _⟩ => ⟨S8x16x2048, .f32⟩
  | .hbm, ⟨50, _⟩ => ⟨S8x16x2048, .f32⟩
  | .hbm, ⟨51, _⟩ => ⟨S8x16x2048, .f32⟩
  | .hbm, ⟨52, _⟩ => ⟨S8x16x2048, .f32⟩
  | .hbm, ⟨53, _⟩ => ⟨S32768x2048, .f32⟩
  | .hbm, ⟨54, _⟩ => ⟨S128x2048, .f32⟩
  | .hbm, ⟨55, _⟩ => ⟨S32896x2048, .f32⟩
  | .hbm, ⟨56, _⟩ => ⟨S32768x2048, .f32⟩
  | .hbm, ⟨57, _⟩ => ⟨S128x2048, .f32⟩
  | .hbm, ⟨58, _⟩ => ⟨S32896x2048, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.ProjValue.lean ====
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The modulated, normalized activations: the row's RMS normalization times the gain, scaled by `1 + sc` and shifted by
    `sh`, where `sh` is the modulation's component 0 and `sc` its component 1. -/
def hn (X : FVec Ideal S16x2048x2048 .f32) (M : FVec Ideal S24x12288 .f32) (G : FVec Ideal S2048 .f32)
    (b : Fin 16) (s d : Fin 2048) : EReal :=
  X (ix3 b s d) * Ideal.rsqrt (Ideal.div (∑ k : Fin 2048, X (ix3 b s k) * X (ix3 b s k)) (Ideal.ofBits .f32 0x45000000#32)
      + Ideal.ofBits .f32 0x358637BD#32) * G (ix1 d)
    * (1 + M (ix2 ⟨b.val, by omega⟩ ⟨2048 + d.val, by omega⟩)) + M (ix2 ⟨b.val, by omega⟩ ⟨d.val, by omega⟩)

/-- The grid's points: each window's block index, and which sequence and which of its four row blocks a point is. -/
theorem idx : ∀ t : Fin cfg0.N, win0_0.index t = ![t.val, 0] ∧ win0_1.index t = ![t.val / 4 * 6, 0, 0]
    ∧ win0_2.index t = ![t.val / 4 * 6 + 1, 0, 0] ∧ win0_3.index t = ![0, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ t.val < 64 :=
  (by decide +kernel : ∀ t : Fin grid0.N, _)

/-- The sequence a grid point works on. -/
def seqOf (t : Fin cfg0.N) : Fin 16 := ⟨t.val / 4, by have := (idx t).2.2.2.2.2.2.2.2.2.2.2.2.2.2.2.2; omega⟩
/-- The row of that sequence at row `r` of the point's block. -/
def rowOf (t : Fin cfg0.N) (r : Fin 512) : Fin 2048 := ⟨t.val % 4 * 512 + r.val, by omega⟩

/-- The arguments as launched: the activations, the modulation table, the gain, the input projection, the gate's
    second factor and its bias. -/
abbrev aX (c : Dev nD) : FVec Ideal S16x2048x2048 .f32 := m ((c : Thread nD τ).loc main_arg0)
abbrev aM (c : Dev nD) : FVec Ideal S24x12288 .f32 := m ((c : Thread nD τ).loc main_arg1)
abbrev aG (c : Dev nD) : FVec Ideal S2048 .f32 := m ((c : Thread nD τ).loc main_arg2)
abbrev aW (c : Dev nD) : FVec Ideal S2048x4368 .f32 := m ((c : Thread nD τ).loc main_arg3)
abbrev aU (c : Dev nD) : FVec Ideal S16x512 .f32 := m ((c : Thread nD τ).loc main_arg4)
abbrev aB (c : Dev nD) : FVec Ideal S512 .f32 := m ((c : Thread nD τ).loc main_arg5)

/-! ## What the host line hands to the call -/

/-- The columns of the projection that are used at their own width. -/
def wMain (W : FVec Ideal S2048x4368 .f32) : FVec Ideal S2048x4352 .bf16 :=
  truncf .bf16 (extractStridedSlice S2048x4352 ![0, 0] W slices_S2048x4368_S2048x4352_0_0) bitsLt_bf16_f32
/-- The gate's sixteen columns, padded with zeros to 128. -/
def wAb (W : FVec Ideal S2048x4368 .f32) : FVec Ideal S2048x128 .bf16 :=
  truncf .bf16 (pad S2048x128 ![0, 0] ![0, 112] ![0, 0] (extractStridedSlice S2048x16 ![0, 4352] W slices_S2048x4368_S2048x16_0_4352)
    (sitofp (F := Ideal) .f32 (constantI S_ 32 0#32)) pads_S2048x16_S2048x128_000_01120 h_S_) bitsLt_bf16_f32
/-- The gate's second factor, its sixteen rows padded with zeros to 128. -/
def wGate (U : FVec Ideal S16x512 .f32) : FVec Ideal S128x512 .bf16 :=
  truncf .bf16 (pad S128x512 ![0, 0] ![112, 0] ![0, 0] U
    (sitofp (F := Ideal) .f32 (constantI S_ 32 0#32)) pads_S16x512_S128x512_01120_000 h_S_) bitsLt_bf16_f32

theorem V_main_v8 (c : Dev nD) : V m c main_v8 = shapeCast S32768x2048 (aX m c) shapeCasts_S16x2048x2048_S32768x2048 := by
  simp only [V, hostOps0, hostOps0_1, hostOps0_2, hostOps0_3, hostOps0_4, List.flatten_cons, List.flatten_nil,
    List.append_nil, List.cons_append, List.nil_append]
  entry_read
  rfl

theorem V_main_v7 (c : Dev nD) : V m c main_v7 = shapeCast S144x1x2048 (aM m c) shapeCasts_S24x12288_S144x1x2048 := by
  simp only [V, hostOps0, hostOps0_1, hostOps0_2, hostOps0_3, hostOps0_4, List.flatten_cons, List.flatten_nil,
    List.append_nil, List.cons_append, List.nil_append]
  entry_read
  rfl

theorem V_main_v9 (c : Dev nD) : V m c main_v9 = shapeCast S1x2048 (aG m c) shapeCasts_S2048_S1x2048 := by
  simp only [V, hostOps0, hostOps0_1, hostOps0_2, hostOps0_3, hostOps0_4, List.flatten_cons, List.flatten_nil,
    List.append_nil, List.cons_append, List.nil_append]
  entry_read
  rfl

theorem V_main_v10 (c : Dev nD) : V m c main_v10 = shapeCast S1x512 (aB m c) shapeCasts_S512_S1x512 := by
  simp only [V, hostOps0, hostOps0_1, hostOps0_2, hostOps0_3, hostOps0_4, List.flatten_cons, List.flatten_nil,
    List.append_nil, List.cons_append, List.nil_append]
  entry_read
  rfl

theorem V_main_v1 (c : Dev nD) : V m c main_v1 = wMain (aW m c) := by
  simp only [V, hostOps0, hostOps0_1, hostOps0_2, hostOps0_3, hostOps0_4, List.flatten_cons, List.flatten_nil,
    List.append_nil, List.cons_append, List.nil_append]
  entry_read
  rfl

theorem V_main_v4 (c : Dev nD) : V m c main_v4 = wAb (aW m c) := by
  simp only [V, hostOps0, hostOps0_1, hostOps0_2, hostOps0_3, hostOps0_4, List.flatten_cons, List.flatten_nil,
    List.append_nil, List.cons_append, List.nil_append]
  entry_read
  rfl

theorem V_main_v6 (c : Dev nD) : V m c main_v6 = wGate (aU m c) := by
  simp only [V, hostOps0, hostOps0_1, hostOps0_2, hostOps0_3, hostOps0_4, List.flatten_cons, List.flatten_nil,
    List.append_nil, List.cons_append, List.nil_append]
  entry_read
  rfl

/-! ## The input blocks at coordinates -/

theorem blk0 (c : Dev nD) (t : Fin cfg0.N) (r : Fin 512) (d : Fin 2048) :
    iblk m c 0 t (ix2 r d : S512x2048.Idx) = aX m c (ix3 (seqOf t) (rowOf t r) d) := by
  have e : ∀ (A : FVec Ideal S16x2048x2048 .f32) (i : Fin 32768), shapeCast S32768x2048 A shapeCasts_S16x2048x2048_S32768x2048 (ix2 i d)
      = A (ix3 ⟨i.val / 2048, by omega⟩ ⟨i.val % 2048, by omega⟩ d) := by
    intro A i; pointwise
  have ht := (idx t).2.2.2.2.2.2.2.2.2.2.2.2.2.2.2.2
  have h : ((cfg0.win 0).blk t).view.emb (ix2 r d : S512x2048.Idx) = (ix2 ⟨t.val * 512 + r.val, by omega⟩ d : S32768x2048.Idx) := by
    blk_ext [idx t]
  refine (congrArg (V m c main_v8) h).trans ?_
  rw [V_main_v8, e]
  blk_ext [seqOf, rowOf]

theorem blk1 (c : Dev nD) (t : Fin cfg0.N) (d : Fin 2048) :
    iblk m c 1 t (ix3 0 0 d : S1x1x2048.Idx) = aM m c (ix2 ⟨(seqOf t).val, by omega⟩ ⟨d.val, by omega⟩) := by
  have e : ∀ (A : FVec Ideal S24x12288 .f32) (i : Fin 144), shapeCast S144x1x2048 A shapeCasts_S24x12288_S144x1x2048 (ix3 i 0 d)
      = A (ix2 ⟨i.val / 6, by omega⟩ ⟨i.val % 6 * 2048 + d.val, by omega⟩) := by
    intro A i; pointwise
  have ht := (idx t).2.2.2.2.2.2.2.2.2.2.2.2.2.2.2.2
  have h : ((cfg0.win 1).blk t).view.emb (ix3 0 0 d : S1x1x2048.Idx) = (ix3 ⟨t.val / 4 * 6, by omega⟩ 0 d : S144x1x2048.Idx) := by
    blk_ext [idx t]
  refine (congrArg (V m c main_v7) h).trans ?_
  rw [V_main_v7, e]
  blk_ext [seqOf]

theorem blk2 (c : Dev nD) (t : Fin cfg0.N) (d : Fin 2048) :
    iblk m c 2 t (ix3 0 0 d : S1x1x2048.Idx) = aM m c (ix2 ⟨(seqOf t).val, by omega⟩ ⟨2048 + d.val, by omega⟩) := by
  have e : ∀ (A : FVec Ideal S24x12288 .f32) (i : Fin 144), shapeCast S144x1x2048 A shapeCasts_S24x12288_S144x1x2048 (ix3 i 0 d)
      = A (ix2 ⟨i.val / 6, by omega⟩ ⟨i.val % 6 * 2048 + d.val, by omega⟩) := by
    intro A i; pointwise
  have ht := (idx t).2.2.2.2.2.2.2.2.2.2.2.2.2.2.2.2
  have h : ((cfg0.win 2).blk t).view.emb (ix3 0 0 d : S1x1x2048.Idx) = (ix3 ⟨t.val / 4 * 6 + 1, by omega⟩ 0 d : S144x1x2048.Idx) := by
    blk_ext [idx t]
  refine (congrArg (V m c main_v7) h).trans ?_
  rw [V_main_v7, e]
  blk_ext [seqOf]

theorem blk3 (c : Dev nD) (t : Fin cfg0.N) (d : Fin 2048) :
    iblk m c 3 t (ix2 0 d : S1x2048.Idx) = aG m c (ix1 d) := by
  have h : ((cfg0.win 3).blk t).view.emb (ix2 0 d : S1x2048.Idx) = (ix2 0 d : S1x2048.Idx) := by
    blk_ext [idx t]
  refine (congrArg (V m c main_v9) h).trans ?_
  rw [V_main_v9]
  pointwise

theorem blk4 (c : Dev nD) (t : Fin cfg0.N) (k : Fin 2048) (o : Fin 4352) :
    iblk m c 4 t (ix2 k o : S2048x4352.Idx) = aW m c (ix2 k ⟨o.val, by omega⟩) := by
  have h : ((cfg0.win 4).blk t).view.emb (ix2 k o : S2048x4352.Idx) = (ix2 k o : S2048x4352.Idx) := by
    blk_ext [idx t]
  refine (congrArg (V m c main_v1) h).trans ?_
  rw [V_main_v1]
  pointwise [wMain]
  blk_ext

theorem sitofp_zero : (FloatOps.sitofp .f32 (0#32 : BitVec 32) : Ideal .f32) = (0 : EReal) := by
  show (((0#32 : BitVec 32).toInt : ℝ) : EReal) = 0
  simp

/-- A padded gate column beyond the sixteenth is zero. -/
theorem blk5 (c : Dev nD) (t : Fin cfg0.N) (k : Fin 2048) (o : Fin 128) :
    iblk m c 5 t (ix2 k o : S2048x128.Idx) = if h : o.val < 16 then aW m c (ix2 k ⟨4352 + o.val, by omega⟩) else 0 := by
  have h : ((cfg0.win 5).blk t).view.emb (ix2 k o : S2048x128.Idx) = (ix2 k o : S2048x128.Idx) := by
    blk_ext [idx t]
  refine (congrArg (V m c main_v4) h).trans ?_
  rw [V_main_v4]
  pointwise [wAb, sitofp_zero]

theorem blk6 (c : Dev nD) (t : Fin cfg0.N) (k : Fin 128) (o : Fin 512) :
    iblk m c 6 t (ix2 k o : S128x512.Idx) = if h : k.val < 16 then aU m c (ix2 ⟨k.val, h⟩ o) else 0 := by
  have h : ((cfg0.win 6).blk t).view.emb (ix2 k o : S128x512.Idx) = (ix2 k o : S128x512.Idx) := by
    blk_ext [idx t]
  refine (congrArg (V m c main_v6) h).trans ?_
  rw [V_main_v6]
  pointwise [wGate, sitofp_zero]

theorem blk7 (c : Dev nD) (t : Fin cfg0.N) (o : Fin 512) :
    iblk m c 7 t (ix2 0 o : S1x512.Idx) = aB m c (ix1 o) := by
  have h : ((cfg0.win 7).blk t).view.emb (ix2 0 o : S1x512.Idx) = (ix2 0 o : S1x512.Idx) := by
    blk_ext [idx t]
  refine (congrArg (V m c main_v10) h).trans ?_
  rw [V_main_v10]
  pointwise

/-! ## The activations, in the call and in the reference -/

theorem pay2_apply (c : Dev nD) (t : Fin cfg0.N) (r : Fin 512) (d : Fin 2048) :
    k0_pay2 (iblk m c 0 t) (iblk m c 3 t) (iblk m c 2 t) (iblk m c 1 t) (ix2 r d)
      = hn (aX m c) (aM m c) (aG m c) (seqOf t) (rowOf t r) d := by
  pointwise [k0_pay2, hn, blk0, blk1, blk2, blk3]

/-- The activations as the later stores name them. -/
theorem pay14_eq (x0 : Vec Ideal S512x2048 .f32) (x1 x2 : Vec Ideal S1x1x2048 .f32) (x3 : Vec Ideal S1x2048 .f32)
    (x4 : Vec Ideal S2048x4352 .bf16) (x5 : Vec Ideal S2048x128 .bf16) (x6 : Vec Ideal S128x512 .bf16) (x7 : Vec Ideal S1x512 .f32) :
    k0_pay14 x0 x1 x2 x3 x4 x5 x6 x7 = k0_pay2 x0 x3 x2 x1 := by
  have h2 : (![0, 0] : Fin 2 → Nat) = fun _ => 0 := by funext a; fin_cases a <;> rfl
  have h3 : (![0, 0, 0] : Fin 3 → Nat) = fun _ => 0 := by funext a; fin_cases a <;> rfl
  unfold k0_pay14
  rw [show View.ld x0 r0_0 = x0 from View.ld_unit_zero h2 _ x0, show View.ld x3 r0_1 = x3 from View.ld_unit_zero h2 _ x3,
    show View.ld x2 r0_2 = x2 from View.ld_unit_zero h3 _ x2, show View.ld x1 r0_2 = x1 from View.ld_unit_zero h3 _ x1]

theorem ref_hn (X : FVec Ideal S16x2048x2048 .f32) (M : FVec Ideal S24x12288 .f32) (G : FVec Ideal S2048 .f32)
    (b : Fin 16) (s d : Fin 2048) :
    Cert.ProjRefIdeal.Read.val_main_v26 (F := Ideal) X M G (ix3 b s d) = hn X M G b s d := by
  open Cert.ProjRefIdeal.Read in
  pointwise [hn, val_main_v26, val_main_v25, val_main_v24, val_main_v23, val_main_v22, val_main_v21, val_main_cst_2, val_main_v20,
    val_main_v19, val_main_v18, val_main_v17, val_main_v16, val_main_v15, val_main_v14, val_main_v13, val_main_cst_1, val_main_v12,
    val_main_v11, val_main_cst_0, val_main_v10, val_main_v9, val_main_cst, val_main_v8, val_main_v3, val_main_v2, val_main_v1, val_main_v0]

/-- The reference's projection: one row of the activations against one column. -/
theorem ref_proj (X : FVec Ideal S16x2048x2048 .f32) (M : FVec Ideal S24x12288 .f32) (G : FVec Ideal S2048 .f32)
    (W : FVec Ideal S2048x4368 .f32) (b : Fin 16) (s : Fin 2048) (o : Fin 4368) :
    Cert.ProjRefIdeal.Read.val_main_v27 (F := Ideal) X M G W (ix3 b s o) = ∑ k : Fin 2048, hn X M G b s k * W (ix2 k o) := by
  open Cert.ProjRefIdeal.Read in
  pointwise [val_main_v27, ref_hn]

/-! ## Each result array -/

theorem seq_eq (t : Fin cfg0.N) (r : Fin 512) (h) : (⟨(t.val * 512 + r.val) / 2048, h⟩ : Fin 16) = seqOf t :=
  Fin.ext (by have := r.isLt; simp only [seqOf]; omega)
theorem row_eq (t : Fin cfg0.N) (r : Fin 512) (h) : (⟨(t.val * 512 + r.val) % 2048, h⟩ : Fin 2048) = rowOf t r :=
  Fin.ext (by have := r.isLt; simp only [rowOf]; omega)

theorem lt64 (t : Fin cfg0.N) : t.val < 64 := (idx t).2.2.2.2.2.2.2.2.2.2.2.2.2.2.2.2

open Cert.ProjRefIdeal.Read in
theorem point8 (c : Dev nD) (t : Fin cfg0.N) (y : S512x1024.Idx) :
    out0_8 (iblk m c 0 t) (iblk m c 1 t) (iblk m c 2 t) (iblk m c 3 t) (iblk m c 4 t) (iblk m c 5 t) (iblk m c 6 t) (iblk m c 7 t) y
      = val_main_v44 (F := Ideal) (aX m c) (aM m c) (aG m c) (aW m c) (((cfg0.win 8).blk t).view.emb y) := by
  frame_out
  idx_vars y
  have ht := lt64 t
  have h : ((cfg0.win 8).blk t).view.emb (ix2 y0 y1 : S512x1024.Idx) = (ix2 ⟨t.val * 512 + y0.val, by omega⟩ y1 : S32768x1024.Idx) := by
    blk_ext [idx t]
  rw [h]
  pointwise [k0_pay3, pay2_apply, blk4, val_main_v44, val_main_v43, val_main_v28, ref_proj, seq_eq, row_eq]

open Cert.ProjRefIdeal.Read in
theorem point9 (c : Dev nD) (t : Fin cfg0.N) (y : S512x128.Idx) :
    out0_9 (iblk m c 0 t) (iblk m c 1 t) (iblk m c 2 t) (iblk m c 3 t) (iblk m c 4 t) (iblk m c 5 t) (iblk m c 6 t) (iblk m c 7 t) y
      = val_main_v45 (F := Ideal) (aX m c) (aM m c) (aG m c) (aW m c) (((cfg0.win 9).blk t).view.emb y) := by
  frame_out
  idx_vars y
  have ht := lt64 t
  have h : ((cfg0.win 9).blk t).view.emb (ix2 y0 y1 : S512x128.Idx) = (ix2 ⟨t.val * 512 + y0.val, by omega⟩ y1 : S32768x128.Idx) := by
    blk_ext [idx t]
  rw [h]
  pointwise [k0_pay6, k0_pay5, k0_pay4, k0_pay13, pay14_eq, k0_pay15, pay2_apply, blk4, val_main_v45, val_main_v29, ref_proj, seq_eq, row_eq]

open Cert.ProjRefIdeal.Read in
theorem point10 (c : Dev nD) (t : Fin cfg0.N) (y : S512x128.Idx) :
    out0_10 (iblk m c 0 t) (iblk m c 1 t) (iblk m c 2 t) (iblk m c 3 t) (iblk m c 4 t) (iblk m c 5 t) (iblk m c 6 t) (iblk m c 7 t) y
      = val_main_v46 (F := Ideal) (aX m c) (aM m c) (aG m c) (aW m c) (((cfg0.win 10).blk t).view.emb y) := by
  frame_out
  idx_vars y
  have ht := lt64 t
  have h : ((cfg0.win 10).blk t).view.emb (ix2 y0 y1 : S512x128.Idx) = (ix2 ⟨t.val * 512 + y0.val, by omega⟩ y1 : S32768x128.Idx) := by
    blk_ext [idx t]
  rw [h]
  pointwise [k0_pay7, k0_pay5, k0_pay4, k0_pay13, pay14_eq, k0_pay15, pay2_apply, blk4, val_main_v46, val_main_v30, ref_proj, seq_eq, row_eq]
  simp only [show 1024 + (128 + y1.val) = 1152 + y1.val by omega]

open Cert.ProjRefIdeal.Read in
theorem point11 (c : Dev nD) (t : Fin cfg0.N) (y : S512x512.Idx) :
    out0_11 (iblk m c 0 t) (iblk m c 1 t) (iblk m c 2 t) (iblk m c 3 t) (iblk m c 4 t) (iblk m c 5 t) (iblk m c 6 t) (iblk m c 7 t) y
      = val_main_v48 (F := Ideal) (aX m c) (aM m c) (aG m c) (aW m c) (((cfg0.win 11).blk t).view.emb y) := by
  frame_out
  idx_vars y
  have ht := lt64 t
  have h : ((cfg0.win 11).blk t).view.emb (ix2 y0 y1 : S512x512.Idx) = (ix2 ⟨t.val * 512 + y0.val, by omega⟩ y1 : S32768x512.Idx) := by
    blk_ext [idx t]
  rw [h]
  pointwise [k0_pay8, pay14_eq, pay2_apply, blk4, val_main_v48, val_main_v47, val_main_v31, ref_proj, seq_eq, row_eq]

open Cert.ProjRefIdeal.Read in
theorem point12 (c : Dev nD) (t : Fin cfg0.N) (y : S512x512.Idx) :
    out0_12 (iblk m c 0 t) (iblk m c 1 t) (iblk m c 2 t) (iblk m c 3 t) (iblk m c 4 t) (iblk m c 5 t) (iblk m c 6 t) (iblk m c 7 t) y
      = val_main_v50 (F := Ideal) (aX m c) (aM m c) (aG m c) (aW m c) (((cfg0.win 12).blk t).view.emb y) := by
  frame_out
  idx_vars y
  have ht := lt64 t
  have h : ((cfg0.win 12).blk t).view.emb (ix2 y0 y1 : S512x512.Idx) = (ix2 ⟨t.val * 512 + y0.val, by omega⟩ y1 : S32768x512.Idx) := by
    blk_ext [idx t]
  rw [h]
  pointwise [k0_pay9, pay14_eq, pay2_apply, blk4, val_main_v50, val_main_v49, val_main_v32, ref_proj, seq_eq, row_eq]

open Cert.ProjRefIdeal.Read in
theorem point13 (c : Dev nD) (t : Fin cfg0.N) (y : S512x1024.Idx) :
    out0_13 (iblk m c 0 t) (iblk m c 1 t) (iblk m c 2 t) (iblk m c 3 t) (iblk m c 4 t) (iblk m c 5 t) (iblk m c 6 t) (iblk m c 7 t) y
      = val_main_v52 (F := Ideal) (aX m c) (aM m c) (aG m c) (aW m c) (((cfg0.win 13).blk t).view.emb y) := by
  frame_out
  idx_vars y
  have ht := lt64 t
  have h : ((cfg0.win 13).blk t).view.emb (ix2 y0 y1 : S512x1024.Idx) = (ix2 ⟨t.val * 512 + y0.val, by omega⟩ y1 : S32768x1024.Idx) := by
    blk_ext [idx t]
  rw [h]
  pointwise [k0_pay10, pay14_eq, pay2_apply, blk4, val_main_v52, val_main_v51, val_main_v33, ref_proj, seq_eq, row_eq]

open Cert.ProjRefIdeal.Read in
theorem point14 (c : Dev nD) (t : Fin cfg0.N) (y : S512x1024.Idx) :
    out0_14 (iblk m c 0 t) (iblk m c 1 t) (iblk m c 2 t) (iblk m c 3 t) (iblk m c 4 t) (iblk m c 5 t) (iblk m c 6 t) (iblk m c 7 t) y
      = val_main_v54 (F := Ideal) (aX m c) (aM m c) (aG m c) (aW m c) (((cfg0.win 14).blk t).view.emb y) := by
  frame_out
  idx_vars y
  have ht := lt64 t
  have h : ((cfg0.win 14).blk t).view.emb (ix2 y0 y1 : S512x1024.Idx) = (ix2 ⟨t.val * 512 + y0.val, by omega⟩ y1 : S32768x1024.Idx) := by
    blk_ext [idx t]
  rw [h]
  pointwise [k0_pay11, pay14_eq, pay2_apply, blk4, val_main_v54, val_main_v53, val_main_v34, ref_proj, seq_eq, row_eq]

theorem absf_eq (z : EReal) : (FloatOps.absf (F := Ideal) (φ := .f32) z : EReal) = max z (-z) := rfl

/-- The logarithm of one plus an exponential is no `⊥`. -/
theorem log1p_exp_ne_bot (w : EReal) : Ideal.log1p (Ideal.exp w) ≠ ⊥ := by
  have key : ∀ r : ℝ, 0 ≤ r → Ideal.log ((1 : EReal) + (r : EReal)) ≠ ⊥ := by
    intro r hr
    rw [← EReal.coe_one, ← EReal.coe_add]
    show (if 1 + r ≤ 0 then ⊥ else (Real.log (1 + r) : EReal)) ≠ ⊥
    rw [if_neg (by linarith)]
    exact EReal.coe_ne_bot _
  induction w with
  | bot => exact key 0 le_rfl
  | top => exact show (⊤ : EReal) ≠ ⊥ from by decide
  | coe r => exact key (Real.exp r) (Real.exp_pos r).le

/-- The two spellings of the logarithm of the sigmoid. -/
theorem log_sigmoid_eq (z : EReal) :
    min z 0 - Ideal.log1p (Ideal.exp (0 - max z (-z))) = -(max (-z) 0 + Ideal.log1p (Ideal.exp (-(max (-z) (- -z))))) := by
  have hm : -(max (-z) 0) = min z 0 := by
    rcases le_total z 0 with h | h
    · rw [min_eq_left h, max_eq_left (by rw [← neg_zero, EReal.neg_le_neg_iff]; exact h), neg_neg]
    · rw [min_eq_right h, max_eq_right (by rw [← neg_zero, EReal.neg_le_neg_iff]; exact h), neg_zero]
  rw [neg_neg, max_comm (-z) z, sub_eq_add_neg 0, zero_add, EReal.neg_add (.inl ?_) (.inr (log1p_exp_ne_bot _)), hm]
  exact ne_of_gt (lt_of_lt_of_le EReal.bot_lt_zero (le_max_right _ _))

open Cert.ProjRefIdeal.Read in
theorem point15 (c : Dev nD) (t : Fin cfg0.N) (y : S512x512.Idx) :
    out0_15 (iblk m c 0 t) (iblk m c 1 t) (iblk m c 2 t) (iblk m c 3 t) (iblk m c 4 t) (iblk m c 5 t) (iblk m c 6 t) (iblk m c 7 t) y
      = val_main_v55 (F := Ideal) (aX m c) (aM m c) (aG m c) (aW m c) (aU m c) (aB m c) (((cfg0.win 15).blk t).view.emb y) := by
  frame_out
  idx_vars y
  have ht := lt64 t
  have h : ((cfg0.win 15).blk t).view.emb (ix2 y0 y1 : S512x512.Idx) = (ix2 ⟨t.val * 512 + y0.val, by omega⟩ y1 : S32768x512.Idx) := by
    blk_ext [idx t]
  rw [h]
  pointwise [k0_pay1, k0_pay12, pay14_eq, pay2_apply, blk5, blk6, blk7, val_main_v55, val_main_v42, val_main_v41, val_main_cst_3, val_main_v40, val_main_call0_call0_cst, val_main_call0_call0_v0, val_main_call0_call0_v1, val_main_call0_call0_v10, val_main_call0_call0_v11, val_main_call0_call0_v2, val_main_call0_call0_v3, val_main_call0_call0_v4, val_main_call0_call0_v5, val_main_call0_call0_v6, val_main_call0_call0_v7, val_main_call0_call0_v8, val_main_call0_call0_v9, val_main_call0_v0, val_main_call0_v1, val_main_v39, val_main_v38, val_main_v37, val_main_v36, val_main_v35, ref_proj, seq_eq, row_eq, absf_eq]
  simp only [mul_zero, Finset.sum_const_zero, add_zero, ne_eq, not_true_eq_false, if_false]
  rw [log_sigmoid_eq]

/-! ## The arrays after the run -/

open Cert.ProjRefIdeal.Read in
theorem final8 (c : Dev nD) : (dats m 0 c).arrAt 8 (cfgs 0).N = val_main_v44 (F := Ideal) (aX m c) (aM m c) (aG m c) (aW m c) := by
  refine (dats m 0 c).arrAt_eq_of_covers 8 _ (by decide +kernel) fun t _ y => ?_
  blk_simp
  rw [after0_8]
  exact point8 m c t y

open Cert.ProjRefIdeal.Read in
theorem final9 (c : Dev nD) : (dats m 0 c).arrAt 9 (cfgs 0).N = val_main_v45 (F := Ideal) (aX m c) (aM m c) (aG m c) (aW m c) := by
  refine (dats m 0 c).arrAt_eq_of_covers 9 _ (by decide +kernel) fun t _ y => ?_
  blk_simp
  rw [after0_9]
  exact point9 m c t y

open Cert.ProjRefIdeal.Read in
theorem final10 (c : Dev nD) : (dats m 0 c).arrAt 10 (cfgs 0).N = val_main_v46 (F := Ideal) (aX m c) (aM m c) (aG m c) (aW m c) := by
  refine (dats m 0 c).arrAt_eq_of_covers 10 _ (by decide +kernel) fun t _ y => ?_
  blk_simp
  rw [after0_10]
  exact point10 m c t y

open Cert.ProjRefIdeal.Read in
theorem final11 (c : Dev nD) : (dats m 0 c).arrAt 11 (cfgs 0).N = val_main_v48 (F := Ideal) (aX m c) (aM m c) (aG m c) (aW m c) := by
  refine (dats m 0 c).arrAt_eq_of_covers 11 _ (by decide +kernel) fun t _ y => ?_
  blk_simp
  rw [after0_11]
  exact point11 m c t y

open Cert.ProjRefIdeal.Read in
theorem final12 (c : Dev nD) : (dats m 0 c).arrAt 12 (cfgs 0).N = val_main_v50 (F := Ideal) (aX m c) (aM m c) (aG m c) (aW m c) := by
  refine (dats m 0 c).arrAt_eq_of_covers 12 _ (by decide +kernel) fun t _ y => ?_
  blk_simp
  rw [after0_12]
  exact point12 m c t y

open Cert.ProjRefIdeal.Read in
theorem final13 (c : Dev nD) : (dats m 0 c).arrAt 13 (cfgs 0).N = val_main_v52 (F := Ideal) (aX m c) (aM m c) (aG m c) (aW m c) := by
  refine (dats m 0 c).arrAt_eq_of_covers 13 _ (by decide +kernel) fun t _ y => ?_
  blk_simp
  rw [after0_13]
  exact point13 m c t y

open Cert.ProjRefIdeal.Read in
theorem final14 (c : Dev nD) : (dats m 0 c).arrAt 14 (cfgs 0).N = val_main_v54 (F := Ideal) (aX m c) (aM m c) (aG m c) (aW m c) := by
  refine (dats m 0 c).arrAt_eq_of_covers 14 _ (by decide +kernel) fun t _ y => ?_
  blk_simp
  rw [after0_14]
  exact point14 m c t y

open Cert.ProjRefIdeal.Read in
theorem final15 (c : Dev nD) : (dats m 0 c).arrAt 15 (cfgs 0).N
    = val_main_v55 (F := Ideal) (aX m c) (aM m c) (aG m c) (aW m c) (aU m c) (aB m c) := by
  refine (dats m 0 c).arrAt_eq_of_covers 15 _ (by decide +kernel) fun t _ y => ?_
  blk_simp
  rw [after0_15]
  exact point15 m c t y

end Cert.ProjIdeal.Value

end
-- ==== Proof.ProjClaim.lean ====
module

public import proofs.«01_k».proof.Defs
public import proofs.«01_k».proof.Proof.ProjValue
public import proofs.«01_k».proof.Proof.Gen.Proj.Frame
public import proofs.«01_k».proof.Proof.Gen.ProjIdeal.Frame
public import proofs.«01_k».proof.Proof.Gen.ProjRefIdeal.Run
public import Idealize.ShloMosaic.Adequacy
public import Idealize.ShloMosaic.Init

/-! The claims about the projection call: what its kernel leaves in its eight results is what the
    reference's eight results hold, and both programs leave their arguments alone. -/

@[expose] public section

set_option maxRecDepth 16384

noncomputable section

namespace Cert.ProjClaim

open Idealize.ShloMosaic Idealize.SL.Sem

/-- The reference ends with its arguments as it found them and every semaphore at zero. -/
theorem ref_frame : Cert.quiescent_ProjRefIdeal (hProjRefIdeal := Cert.ProjRefIdeal.Gen.facts) :=
  fun m ρ _ => (θ_run Cert.ProjRefIdeal.defs _ _).mono
    (fun r h => ⟨fun c => ⟨(h c).2.2.2.2.2.2.2.2.1, (h c).2.2.2.2.2.2.2.2.2.1, (h c).2.2.2.2.2.2.2.2.2.2.1,
        (h c).2.2.2.2.2.2.2.2.2.2.2.1, (h c).2.2.2.2.2.2.2.2.2.2.2.2.1, (h c).2.2.2.2.2.2.2.2.2.2.2.2.2⟩,
      Idealize.ShloMosaic.sem_eq_zero_of_no_sems (by decide) r.2⟩)
    (Cert.ProjRefIdeal.Value.run (F := Ideal) m ρ)

open Cert.ProjIdeal.Value in
/-- The kernel and the reference end with equal results. -/
theorem equal : Cert.algebraic_ProjIdeal_ProjRefIdeal (hProjIdeal := Cert.ProjIdeal.Gen.facts)
    (hProjRefIdeal := Cert.ProjRefIdeal.Gen.facts) := by
  intro m ρ m' ρ' _ hagree
  refine ⟨fun c => Cert.ProjRefIdeal.Read.val_main_v44 (F := Ideal) (aX m c) (aM m c) (aG m c) (aW m c),
    fun c => Cert.ProjRefIdeal.Read.val_main_v45 (F := Ideal) (aX m c) (aM m c) (aG m c) (aW m c),
    fun c => Cert.ProjRefIdeal.Read.val_main_v46 (F := Ideal) (aX m c) (aM m c) (aG m c) (aW m c),
    fun c => Cert.ProjRefIdeal.Read.val_main_v48 (F := Ideal) (aX m c) (aM m c) (aG m c) (aW m c),
    fun c => Cert.ProjRefIdeal.Read.val_main_v50 (F := Ideal) (aX m c) (aM m c) (aG m c) (aW m c),
    fun c => Cert.ProjRefIdeal.Read.val_main_v52 (F := Ideal) (aX m c) (aM m c) (aG m c) (aW m c),
    fun c => Cert.ProjRefIdeal.Read.val_main_v54 (F := Ideal) (aX m c) (aM m c) (aG m c) (aW m c),
    fun c => Cert.ProjRefIdeal.Read.val_main_v55 (F := Ideal) (aX m c) (aM m c) (aG m c) (aW m c) (aU m c) (aB m c),
    ?_, ?_⟩
  · refine (θ_run Cert.ProjIdeal.defs _ _).mono (fun r h c => ?_) (Cert.ProjIdeal.Value.run_blocks m ρ)
    obtain ⟨h0, h1, h2, h3, h4, h5, h6, h7, hargs⟩ := h c
    exact ⟨h0.trans (final8 m c), h1.trans (final9 m c), h2.trans (final10 m c),
      h3.trans (final11 m c), h4.trans (final12 m c), h5.trans (final13 m c),
      h6.trans (final14 m c), h7.trans (final15 m c), hargs⟩
  · refine (θ_run Cert.ProjRefIdeal.defs _ _).mono (fun r h c => ?_)
      (Cert.ProjRefIdeal.Value.run (F := Ideal) m' ρ')
    obtain ⟨a0, a1, a2, a3, a4, a5⟩ := hagree c
    obtain ⟨h0, h1, h2, h3, h4, h5, h6, h7, hargs⟩ := h c
    have e0 := h0.trans (Cert.ProjRefIdeal.Read.val_main_v44_eq _ _ _ _)
    clear h0
    have e1 := h1.trans (Cert.ProjRefIdeal.Read.val_main_v45_eq _ _ _ _)
    clear h1
    have e2 := h2.trans (Cert.ProjRefIdeal.Read.val_main_v46_eq _ _ _ _)
    clear h2
    have e3 := h3.trans (Cert.ProjRefIdeal.Read.val_main_v48_eq _ _ _ _)
    clear h3
    have e4 := h4.trans (Cert.ProjRefIdeal.Read.val_main_v50_eq _ _ _ _)
    clear h4
    have e5 := h5.trans (Cert.ProjRefIdeal.Read.val_main_v52_eq _ _ _ _)
    clear h5
    have e6 := h6.trans (Cert.ProjRefIdeal.Read.val_main_v54_eq _ _ _ _)
    clear h6
    have e7 := h7.trans (Cert.ProjRefIdeal.Read.val_main_v55_eq m' c)
    clear h7
    rw [a0, a1, a2, a3] at e0
    rw [a0, a1, a2, a3] at e1
    rw [a0, a1, a2, a3] at e2
    rw [a0, a1, a2, a3] at e3
    rw [a0, a1, a2, a3] at e4
    rw [a0, a1, a2, a3] at e5
    rw [a0, a1, a2, a3] at e6
    rw [a0, a1, a2, a3, a4, a5] at e7
    exact ⟨e0, e1, e2, e3, e4, e5, e6, e7, hargs⟩

end Cert.ProjClaim

end
-- ==== Proof.Softmax.lean ====
module

public import Idealize.ShloMosaic.Lib.Pointwise

/-! The softmax with a sink over the extended reals: weighting first and dividing once by the sum, over all the columns of
    which some are masked, is dividing each weight by the sum over the unmasked ones. -/

@[expose] public section

noncomputable section

open Idealize.ShloMosaic

namespace Cert.Softmax

/-- The pattern of minus infinity. -/
theorem neg_inf : Ideal.ofBits .f32 0xFF800000#32 = ⊥ := by simp [Ideal.ofBits, Ideal.ieee]

/-- A factor that is a real and not negative goes into a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction with
  | empty => simp
  | insert a s ha ih =>
    rw [Finset.sum_insert ha, Finset.sum_insert ha, ← ih,
      EReal.right_distrib_of_nonneg_of_ne_top (EReal.coe_nonneg.mpr hc) (EReal.coe_ne_top c)]

/-- The exponential of a score less a real maximum is a real, not negative, and zero where the score is masked. -/
theorem exp_sub_real (s : EReal) (hs : s ≠ ⊤) (M : ℝ) : ∃ p : ℝ, 0 ≤ p ∧ Ideal.exp (s - (M : EReal)) = (p : EReal) := by
  induction s with
  | bot => exact ⟨0, le_rfl, by rw [EReal.bot_sub]; rfl⟩
  | top => exact absurd rfl hs
  | coe r => exact ⟨Real.exp (r - M), (Real.exp_pos _).le, by rw [← EReal.coe_sub]; rfl⟩

/-- Both forms, given the columns' scores `s` with `⊥` at the masked ones, of which `e` picks a set holding every unmasked one. -/
theorem weighted_eq {n k : ℕ} (s w : Fin n → EReal) (sink : ℝ) (e : Fin k → Fin n) (he : Function.Injective e)
    (hs : ∀ i, s i ≠ ⊤) (hout : ∀ i, (∀ j, e j ≠ i) → s i = ⊥) (w' : Fin k → EReal)
    (hw : ∀ j, s (e j) ≠ ⊥ → w' j = w (e j)) (M M' : EReal)
    (hM : M = max (Finset.univ.fold max ⊥ s) sink)
    (hM' : M' = Finset.univ.fold max ⊥ (Fin.lastCases (motive := fun _ : Fin (k + 1) => EReal) (sink : EReal) fun j => s (e j))) :
    Ideal.div (∑ i, Ideal.exp (s i - M) * w i) ((∑ i, Ideal.exp (s i - M)) + Ideal.exp (sink - M))
      = ∑ j, w' j * Ideal.div (Ideal.exp (s (e j) - M'))
          (∑ i : Fin (k + 1), Ideal.exp ((Fin.lastCases (motive := fun _ : Fin (k + 1) => EReal) (sink : EReal) fun j => s (e j)) i - M')) := by
  have hMM : M' = M := by
    rw [hM, hM']
    apply le_antisymm
    · rw [Finset.fold_max_le]
      refine ⟨bot_le, fun i _ => ?_⟩
      refine Fin.lastCases ?_ (fun j => ?_) i
      · rw [Fin.lastCases_last]; exact le_max_right _ _
      · rw [Fin.lastCases_castSucc]
        exact le_max_of_le_left ((Finset.le_fold_max _).mpr (.inr ⟨e j, Finset.mem_univ _, le_rfl⟩))
    · refine max_le ?_ ?_
      · rw [Finset.fold_max_le]
        refine ⟨bot_le, fun i _ => ?_⟩
        by_cases h : ∃ j, e j = i
        · obtain ⟨j, rfl⟩ := h
          exact (Finset.le_fold_max _).mpr (.inr ⟨j.castSucc, Finset.mem_univ _, by rw [Fin.lastCases_castSucc]⟩)
        · rw [hout i fun j hj => h ⟨j, hj⟩]; exact bot_le
      · exact (Finset.le_fold_max _).mpr (.inr ⟨Fin.last k, Finset.mem_univ _, by rw [Fin.lastCases_last]⟩)
  have hbot : M ≠ ⊥ := by
    rw [hM]; exact ne_of_gt (lt_of_lt_of_le (EReal.bot_lt_coe sink) (le_max_right _ _))
  have htop : M ≠ ⊤ := by
    rw [hM]
    refine ne_of_lt (max_lt ?_ (EReal.coe_lt_top sink))
    rw [Finset.fold_max_lt]
    exact ⟨bot_lt_top, fun i _ => lt_top_iff_ne_top.mpr (hs i)⟩
  rw [hMM]
  clear hM hM' hMM
  obtain ⟨r, rfl⟩ : ∃ r : ℝ, M = (r : EReal) := ⟨M.toReal, (EReal.coe_toReal htop hbot).symm⟩
  choose p hp hpe using fun i => exp_sub_real (s i) (hs i) r
  have hz : ∀ i, s i = ⊥ → p i = 0 := by
    intro i hi
    have h := hpe i
    rw [hi, EReal.bot_sub] at h
    exact EReal.coe_eq_zero.mp h.symm
  have hse : Ideal.exp ((sink : EReal) - (r : EReal)) = ((Real.exp (sink - r) : ℝ) : EReal) := by
    rw [← EReal.coe_sub]; rfl
  rw [Fin.sum_univ_castSucc]
  simp only [Fin.lastCases_last, Fin.lastCases_castSucc, hpe, hse]
  have hsum : ∀ f : Fin n → EReal, (∀ i, s i = ⊥ → f i = 0) → ∑ i, f i = ∑ j, f (e j) := fun f hf =>
    (Finset.sum_of_injOn e he.injOn (fun _ _ => Finset.mem_coe.mpr (Finset.mem_univ _))
      (fun i _ hi => hf i (hout i fun j hj => hi ⟨j, Finset.mem_coe.mpr (Finset.mem_univ _), hj⟩)) fun _ _ => rfl).symm
  rw [hsum (fun i => (p i : EReal)) fun i hi => by rw [hz i hi]; rfl,
    hsum (fun i => (p i : EReal) * w i) fun i hi => by rw [hz i hi, EReal.coe_zero, zero_mul]]
  have hD : (∑ j, ((p (e j) : ℝ) : EReal)) + ((Real.exp (sink - r) : ℝ) : EReal)
      = (((∑ j, p (e j)) + Real.exp (sink - r) : ℝ) : EReal) := by
    rw [EReal.coe_add]
    congr 1
    exact (map_sum (⟨⟨Real.toEReal, EReal.coe_zero⟩, EReal.coe_add⟩ : ℝ →+ EReal) _ _).symm
  have hpos : 0 < (∑ j, p (e j)) + Real.exp (sink - r) :=
    add_pos_of_nonneg_of_pos (Finset.sum_nonneg fun j _ => hp _) (Real.exp_pos _)
  rw [hD]
  generalize (∑ j, p (e j)) + Real.exp (sink - r) = D at hpos ⊢
  have hdiv : ∀ x : EReal, Ideal.div x (D : EReal) = x * ((D⁻¹ : ℝ) : EReal) := by
    intro x
    rw [Ideal.div, if_neg (by exact_mod_cast hpos.ne'), EReal.coe_inv]
  rw [hdiv, sum_mul_real _ _ _ (inv_nonneg.mpr hpos.le)]
  refine Finset.sum_congr rfl fun j _ => ?_
  rw [hdiv]
  by_cases h : s (e j) = ⊥
  · rw [hz _ h, EReal.coe_zero, zero_mul, zero_mul, mul_zero]
  · rw [hw j h, mul_comm ((p (e j) : ℝ) : EReal) (w (e j)), mul_assoc]

end Cert.Softmax

end
-- ==== Proof.SwaHead.lean ====
module

public import proofs.«01_k».proof.Proof.Gen.SwaIdeal.Value
public import proofs.«01_k».proof.Proof.Softmax
public import Idealize.ShloMosaic.Lib.Pipeline.ValueKit
public import Idealize.ShloMosaic.Lib.Pointwise

/-! One block of the windowed attention: each query head's rows against a window of keys and values, with the sink. -/

@[expose] public section

set_option maxRecDepth 16384

noncomputable section

open Idealize.ShloMosaic Idealize.ShloMosaic.TcCoe Idealize.SL.Sem

namespace Cert.SwaIdeal.Value

open Cert.SwaIdeal Cert.SwaIdeal.Gen

/-- The named mask is minus infinity. -/
theorem mask_bot : Named.named (F := Ideal) κ "mask" (φ := .f32) 0xF149F2CA#32 = ⊥ :=
  IdealRules.named_const.ideal_named_scalar _ _ _ _ rfl

/-- The scores of a stack of query rows: the scaled inner product where the window allows it, else masked. -/
def scores (Q : FVec Ideal S1024x64 .bf16) (K : FVec Ideal S256x64 .bf16) (ok : IVec S1024x256 1) :
    FVec Ideal S1024x256 .f32 :=
  select ok (mulf (matmul dot_S1024x64_S256x64_S1024x256_1_1_0_0_n_n none Q K (constant S1024x256 .f32 0x00000000#32))
    (broadcast S1024x256 (Scalar.ofBits .f32 0x3E000000#32))) (broadcast S1024x256 (Named.named κ "mask" 0xF149F2CA#32))

/-- The rows' maximum, the sink among the scores. -/
def top (s : FVec Ideal S1024x256 .f32) (z : FVec Ideal S1024x1 .f32) : FVec Ideal S1024x1 .f32 :=
  maximumf (shapeCast S1024x1 (multiReduction .maximumf [1] S1024 s 0xFF800000#32 reduces_S1024x256_S1024 (.inl rfl) rfl)
    shapeCasts_S1024_S1024x1) z

/-- The rows' exponentials. -/
def pexp (s : FVec Ideal S1024x256 .f32) (z : FVec Ideal S1024x1 .f32) : FVec Ideal S1024x256 .f32 :=
  exp (subf s (broadcastTo S1024x256 (top s z) broadcasts_S1024x1_S1024x256))

/-- The stack's attention: the weighted values over the sum of the weights and the sink's. -/
def attend (V : FVec Ideal S256x64 .bf16) (s : FVec Ideal S1024x256 .f32) (z : FVec Ideal S1024x1 .f32) :
    FVec Ideal S1024x64 .f32 :=
  divf (matmul dot_S1024x256_S256x64_S1024x64_1_0_0_1_n_n none (truncf .bf16 (pexp s z) bitsLt_bf16_f32) V
      (constant S1024x64 .f32 0x00000000#32))
    (broadcastTo S1024x64 (addf (shapeCast S1024x1 (multiReduction .add [1] S1024 (pexp s z) 0x00000000#32
      reduces_S1024x256_S1024 (.inl rfl) rfl) shapeCasts_S1024_S1024x1) (exp (subf z (top s z)))) broadcasts_S1024x1_S1024x64)

/-- The heads' stacks back side by side. -/
def unstack (x : FVec Ideal S1024x64 .f32) : FVec Ideal S128x512 .f32 :=
  concatenate S128x512 1 [⟨S128x64, extractStridedSlice S128x64 ![0, 0] x slices_S1024x64_o0_0_S128x64⟩,
    ⟨S128x64, extractStridedSlice S128x64 ![128, 0] x slices_S1024x64_o128_0_S128x64⟩,
    ⟨S128x64, extractStridedSlice S128x64 ![256, 0] x slices_S1024x64_o256_0_S128x64⟩,
    ⟨S128x64, extractStridedSlice S128x64 ![384, 0] x slices_S1024x64_o384_0_S128x64⟩,
    ⟨S128x64, extractStridedSlice S128x64 ![512, 0] x slices_S1024x64_o512_0_S128x64⟩,
    ⟨S128x64, extractStridedSlice S128x64 ![640, 0] x slices_S1024x64_o640_0_S128x64⟩,
    ⟨S128x64, extractStridedSlice S128x64 ![768, 0] x slices_S1024x64_o768_0_S128x64⟩,
    ⟨S128x64, extractStridedSlice S128x64 ![896, 0] x slices_S1024x64_o896_0_S128x64⟩]
    concatenates_S128x64_S128x64_S128x64_S128x64_S128x64_S128x64_S128x64_S128x64_S128x512_d1

theorem scores_apply (Q : FVec Ideal S1024x64 .bf16) (K : FVec Ideal S256x64 .bf16) (ok : IVec S1024x256 1)
    (R : Fin 1024) (i : Fin 256) : scores Q K ok (ix2 R i)
      = if ok (ix2 R i) = 1#1 then (∑ k : Fin 64, Q (ix2 R k) * K (ix2 i k)) * Ideal.ofBits .f32 0x3E000000#32 else ⊥ := by
  pointwise [scores, mask_bot]
  rfl

theorem top_apply (s : FVec Ideal S1024x256 .f32) (z : FVec Ideal S1024x1 .f32) (R : Fin 1024) :
    top s z (ix2 R 0) = max (Finset.univ.fold max ⊥ fun i : Fin 256 => s (ix2 R i)) (z (ix2 R 0)) := by
  pointwise [top, Ideal.multiReduction_maximumf_single, Softmax.neg_inf]

theorem pexp_apply (s : FVec Ideal S1024x256 .f32) (z : FVec Ideal S1024x1 .f32) (R : Fin 1024) (i : Fin 256) :
    pexp s z (ix2 R i) = Ideal.exp (s (ix2 R i) - top s z (ix2 R 0)) := by
  pointwise [pexp]

theorem attend_apply (V : FVec Ideal S256x64 .bf16) (s : FVec Ideal S1024x256 .f32) (z : FVec Ideal S1024x1 .f32)
    (R : Fin 1024) (d : Fin 64) : attend V s z (ix2 R d)
      = Ideal.div (∑ i : Fin 256, Ideal.exp (s (ix2 R i) - top s z (ix2 R 0)) * V (ix2 i d))
          ((∑ i : Fin 256, Ideal.exp (s (ix2 R i) - top s z (ix2 R 0))) + Ideal.exp (z (ix2 R 0) - top s z (ix2 R 0))) := by
  pointwise [attend, pexp_apply]

theorem unstack_apply (x : FVec Ideal S1024x64 .f32) (g : Fin 8) (r : Fin 128) (d : Fin 64) :
    unstack x (ix2 r ⟨g.val * 64 + d.val, by omega⟩) = x (ix2 ⟨g.val * 128 + r.val, by omega⟩ d) := by
  have key : ∀ {a a' : Fin 1024} {b b' : Fin 64}, a.val = a'.val → b.val = b'.val → x (ix2 a b) = x (ix2 a' b') :=
    fun h h' => by rw [Fin.ext h, Fin.ext h']
  pointwise [unstack]
  split_ifs <;> exact key (by dsimp only; omega) (by dsimp only; omega)

/-- The chunk of 64 a row or column number falls in, as the kernel computes it. -/
def chunkOf (x : BitVec 32) : BitVec 32 :=
  Scalar.select (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem chunkOf_ofNat : ∀ n : Fin 256, chunkOf (BitVec.ofNat 32 n.val) = BitVec.ofNat 32 (n.val / 64) := by
  decide +kernel

/-- The position of a stacked row in its block. -/
theorem row_apply (R : Fin 1024) (i : Fin 256) : k0_pay4 (ix2 R i) = BitVec.ofNat 32 (R.val % 128) := by
  pointwise [k0_pay4]
  revert R
  decide +kernel

/-- Which chunks of the window a row's chunk allows. -/
theorem allow : ∀ (a : Fin 4) (b : Fin 2) (h : Fin 2) (u : Fin 16),
    IntOp.andi (IntOp.andi (IntOp.cmpi .sge (BitVec.ofNat 32 a.val) (BitVec.ofNat 32 b.val))
        (IntOp.cmpi .sle (BitVec.ofNat 32 a.val) (IntOp.addi (BitVec.ofNat 32 b.val) 2#32)))
      (IntOp.ori (BitVec.ofNat 1 h.val) (Scalar.cmpi .sgt (BitVec.ofNat 32 u.val) 0#32)) = 1#1
      ↔ b.val ≤ a.val ∧ a.val ≤ b.val + 2 ∧ (h.val = 1 ∨ 0 < u.val) := by
  decide +kernel

theorem later : ∀ i : Fin 256, IntOp.cmpi .sge (BitVec.ofNat 32 i.val) 128#32 = BitVec.ofNat 1 (i.val / 128) := by
  decide +kernel

/-- The kernel's window of block `u`: the row's own chunk and the two before it, none before the first block. -/
theorem mask_apply (u : Fin 16) (R : Fin 1024) (i : Fin 256) :
    k0_pay7 (BitVec.ofNat 32 u.val) (iota .tc S1024x256 32 [1] iota_S1024x256_d1_w32) k0_pay4 64#32 k0_pay5 k0_pay6
        (Scalar.extui (Scalar.cmpi .sgt 64#32 0#32)) (Scalar.extui (Scalar.cmpi .slt 64#32 0#32)) (ix2 R i) = 1#1
      ↔ R.val % 128 / 64 ≤ i.val / 64 ∧ i.val / 64 ≤ R.val % 128 / 64 + 2 ∧ (128 ≤ i.val ∨ 0 < u.val) := by
  have h : k0_pay7 (BitVec.ofNat 32 u.val) (iota .tc S1024x256 32 [1] iota_S1024x256_d1_w32) k0_pay4 64#32 k0_pay5 k0_pay6
        (Scalar.extui (Scalar.cmpi .sgt 64#32 0#32)) (Scalar.extui (Scalar.cmpi .slt 64#32 0#32)) (ix2 R i)
      = IntOp.andi (IntOp.andi (IntOp.cmpi .sge (chunkOf (BitVec.ofNat 32 i.val)) (chunkOf (k0_pay4 (ix2 R i))))
          (IntOp.cmpi .sle (chunkOf (BitVec.ofNat 32 i.val)) (IntOp.addi (chunkOf (k0_pay4 (ix2 R i))) 2#32)))
        (IntOp.ori (IntOp.cmpi .sge (BitVec.ofNat 32 i.val) 128#32) (Scalar.cmpi .sgt (BitVec.ofNat 32 u.val) 0#32)) := by
    pointwise [k0_pay7, k0_pay5, k0_pay6]
    rfl
  have hr := chunkOf_ofNat ⟨R.val % 128, by omega⟩
  dsimp only at hr
  rw [h, row_apply, chunkOf_ofNat i, hr, later]
  have := allow ⟨i.val / 64, by omega⟩ ⟨R.val % 128 / 64, by omega⟩ ⟨i.val / 128, by omega⟩ u
  dsimp only at this
  rw [this]
  omega

/-- The first head group's queries, stacked. -/
def stack0 (q : Vec Ideal S128x1024 .bf16) : FVec Ideal S1024x64 .bf16 :=
  concatenate S1024x64 0 [⟨S128x64, extractStridedSlice S128x64 ![0, 0] q slices_S128x1024_o0_0_S128x64⟩,
    ⟨S128x64, extractStridedSlice S128x64 ![0, 64] q slices_S128x1024_o0_64_S128x64⟩,
    ⟨S128x64, extractStridedSlice S128x64 ![0, 128] q slices_S128x1024_o0_128_S128x64⟩,
    ⟨S128x64, extractStridedSlice S128x64 ![0, 192] q slices_S128x1024_o0_192_S128x64⟩,
    ⟨S128x64, extractStridedSlice S128x64 ![0, 256] q slices_S128x1024_o0_256_S128x64⟩,
    ⟨S128x64, extractStridedSlice S128x64 ![0, 320] q slices_S128x1024_o0_320_S128x64⟩,
    ⟨S128x64, extractStridedSlice S128x64 ![0, 384] q slices_S128x1024_o0_384_S128x64⟩,
    ⟨S128x64, extractStridedSlice S128x64 ![0, 448] q slices_S128x1024_o0_448_S128x64⟩]
    concatenates_S128x64_S128x64_S128x64_S128x64_S128x64_S128x64_S128x64_S128x64_S1024x64_d0

/-- The second head group's. -/
def stack1 (q : Vec Ideal S128x1024 .bf16) : FVec Ideal S1024x64 .bf16 :=
  concatenate S1024x64 0 [⟨S128x64, k0_pay9 q⟩, ⟨S128x64, k0_pay10 q⟩, ⟨S128x64, k0_pay11 q⟩, ⟨S128x64, k0_pay12 q⟩,
    ⟨S128x64, k0_pay13 q⟩, ⟨S128x64, k0_pay14 q⟩, ⟨S128x64, k0_pay15 q⟩, ⟨S128x64, k0_pay16 q⟩]
    concatenates_S128x64_S128x64_S128x64_S128x64_S128x64_S128x64_S128x64_S128x64_S1024x64_d0

set_option maxHeartbeats 2000000 in
theorem stack0_apply (q : Vec Ideal S128x1024 .bf16) (g : Fin 8) (r : Fin 128) (d : Fin 64) :
    stack0 q (ix2 ⟨g.val * 128 + r.val, by omega⟩ d) = q (ix2 r ⟨g.val * 64 + d.val, by omega⟩) := by
  have key : ∀ {a a' : Fin 128} {b b' : Fin 1024}, a.val = a'.val → b.val = b'.val → q (ix2 a b) = q (ix2 a' b') :=
    fun h h' => by rw [Fin.ext h, Fin.ext h']
  pointwise [stack0]
  split_ifs <;> exact key (by dsimp only; omega) (by dsimp only; omega)

set_option maxHeartbeats 2000000 in
theorem stack1_apply (q : Vec Ideal S128x1024 .bf16) (g : Fin 8) (r : Fin 128) (d : Fin 64) :
    stack1 q (ix2 ⟨g.val * 128 + r.val, by omega⟩ d) = q (ix2 r ⟨512 + g.val * 64 + d.val, by omega⟩) := by
  have key : ∀ {a a' : Fin 128} {b b' : Fin 1024}, a.val = a'.val → b.val = b'.val → q (ix2 a b) = q (ix2 a' b') :=
    fun h h' => by rw [Fin.ext h, Fin.ext h']
  pointwise [stack1, k0_pay9, k0_pay10, k0_pay11, k0_pay12, k0_pay13, k0_pay14, k0_pay15, k0_pay16]
  split_ifs <;> exact key (by dsimp only; omega) (by dsimp only; omega)

/-- The half of the window's keys or values that a head group takes. -/
def half0 (x : FVec Ideal S256x128 .bf16) : FVec Ideal S256x64 .bf16 :=
  extractStridedSlice S256x64 ![0, 0] x slices_S256x128_o0_0_S256x64
def half1 (x : FVec Ideal S256x128 .bf16) : FVec Ideal S256x64 .bf16 :=
  extractStridedSlice S256x64 ![0, 64] x slices_S256x128_o0_64_S256x64

theorem half0_apply (x : FVec Ideal S256x128 .bf16) (i : Fin 256) (d : Fin 64) :
    half0 x (ix2 i d) = x (ix2 i ⟨d.val, by omega⟩) := by pointwise [half0]
theorem half1_apply (x : FVec Ideal S256x128 .bf16) (i : Fin 256) (d : Fin 64) :
    half1 x (ix2 i d) = x (ix2 i ⟨64 + d.val, by omega⟩) := by pointwise [half1]

/-- A head group's sinks, one per stacked row. -/
def sinkCol (z : Vec Ideal S1x1024x1 .f32) : FVec Ideal S1024x1 .f32 := shapeCast S1024x1 z shapeCasts_S1x1024x1_S1024x1

theorem sinkCol_apply (z : Vec Ideal S1x1024x1 .f32) (R : Fin 1024) : sinkCol z (ix2 R 0) = z (ix3 0 R 0) := by
  pointwise [sinkCol]

theorem pay8_eq (K V : FVec Ideal S256x128 .bf16) (ok : IVec S1024x256 1) (q : Vec Ideal S128x1024 .bf16)
    (z : Vec Ideal S1x1024x1 .f32) : k0_pay8 K V ok q z
      = unstack (attend (half0 V) (scores (stack0 q) (half0 K) ok) (sinkCol z)) := rfl

theorem pay1_eq (K V : FVec Ideal S256x128 .bf16) (ok : IVec S1024x256 1) (q : Vec Ideal S128x1024 .bf16)
    (x : FVec Ideal S128x512 .f32) (z : Vec Ideal S1x1024x1 .f32) :
    k0_pay1 K V ok x (k0_pay9 q) (k0_pay10 q) (k0_pay11 q) (k0_pay12 q) (k0_pay13 q) (k0_pay14 q) (k0_pay15 q)
        (k0_pay16 q) z
      = truncf .bf16 (concatenate S128x1024 1 [⟨S128x512, x⟩,
          ⟨S128x512, unstack (attend (half1 V) (scores (stack1 q) (half1 K) ok) (sinkCol z))⟩]
          concatenates_S128x512_S128x512_S128x1024_d1) bitsLt_bf16_f32 := rfl

end Cert.SwaIdeal.Value

end
-- ==== Proof.SwaBlocks.lean ====
module

public import proofs.«01_k».proof.Proof.SwaHead

/-! The windowed attention's call: what each of its blocks holds, as the softmax over the row's own band of keys. -/

@[expose] public section

set_option maxRecDepth 16384

noncomputable section

open Idealize.ShloMosaic Idealize.ShloMosaic.TcCoe Idealize.SL.Sem
open Idealize.ShloMosaic.Pipeline (Dat)

namespace Cert.SwaIdeal.Value

open Cert.SwaIdeal Cert.SwaIdeal.Gen

/-! ## The attention of one query row -/

/-- The keys or values of sequence `b` with a window of zeros before them, at position `p`, head `j`, component `d`. -/
def keyRow (x : FVec Ideal S32768x128 .f32) (b : Fin 16) (p : Fin 2176) (j : Fin 2) (d : Fin 64) : EReal :=
  if h : p.val < 128 then 0 else x (ix2 ⟨b.val * 2048 + (p.val - 128), by omega⟩ ⟨j.val * 64 + d.val, by omega⟩)

/-- Position `mm` of the band of the row at `T`, counted in the padded sequence. -/
def band (T : Fin 2048) (mm : Fin 192) : Fin 2176 := ⟨T.val / 64 * 64 + mm.val, by omega⟩

/-- The row's score against position `mm` of its band: masked before the sequence's start. -/
def score (Q : FVec Ideal S32768x1024 .bf16) (K : FVec Ideal S32768x128 .f32) (b : Fin 16) (T : Fin 2048)
    (j : Fin 2) (g : Fin 8) (mm : Fin 192) : EReal :=
  if 2 ≤ T.val / 64 + mm.val / 64 then
    (∑ k : Fin 64, Q (ix2 ⟨b.val * 2048 + T.val, by omega⟩ ⟨(j.val * 8 + g.val) * 64 + k.val, by omega⟩)
      * keyRow K b (band T mm) j k) * Ideal.ofBits .f32 0x3E000000#32
  else ⊥

/-- The scores with the sink after them. -/
def withSink (s : Fin 192 → EReal) (z : EReal) : Fin 193 → EReal :=
  Fin.lastCases (motive := fun _ : Fin (192 + 1) => EReal) z s

/-- The softmax over the band and the sink, weighting the values. -/
def sinkMean (s w : Fin 192 → EReal) (z : EReal) : EReal :=
  ∑ mm, w mm * Ideal.div (Ideal.exp (s mm - Finset.univ.fold max ⊥ (withSink s z)))
    (∑ i, Ideal.exp (withSink s z i - Finset.univ.fold max ⊥ (withSink s z)))

/-- The attention's output for the row at `T` of sequence `b`, query head `(j, g)`, component `d`. -/
def attn (Q : FVec Ideal S32768x1024 .bf16) (K V : FVec Ideal S32768x128 .f32) (S : FVec Ideal S16 .f32)
    (b : Fin 16) (T : Fin 2048) (j : Fin 2) (g : Fin 8) (d : Fin 64) : EReal :=
  sinkMean (score Q K b T j g) (fun mm => keyRow V b (band T mm) j d) (S (ix1 ⟨j.val * 8 + g.val, by omega⟩))

/-- A sum of reals is a real. -/
theorem real_sum {ι : Type} (s : Finset ι) (f : ι → EReal) (h : ∀ i, ∃ r : ℝ, f i = r) : ∃ r : ℝ, ∑ i ∈ s, f i = r := by
  choose r hr using h
  refine ⟨∑ i ∈ s, r i, ?_⟩
  simp only [hr]
  exact (map_sum (⟨⟨Real.toEReal, EReal.coe_zero⟩, EReal.coe_add⟩ : ℝ →+ EReal) _ _).symm

/-- The scale is a real. -/
theorem scale_real : ∃ r : ℝ, Ideal.ofBits .f32 0x3E000000#32 = r := by
  have h : Ideal.ofBits .f32 0x3E000000#32 = ((1 / 8 : ℝ) : EReal) := by
    have e : Ideal.ofBits .f32 0x3E000000#32 = ((8388608 * (2 ^ 26)⁻¹ : ℝ) : EReal) := by
      simp [Ideal.ofBits, Ideal.ieee]
    rw [e]
    norm_num
  exact ⟨_, h⟩

theorem score_ne_top (Q : FVec Ideal S32768x1024 .bf16) (K : FVec Ideal S32768x128 .f32)
    (hQ : ∀ i, ∃ r : ℝ, Q i = r) (hK : ∀ i, ∃ r : ℝ, K i = r) (b : Fin 16) (T : Fin 2048) (j : Fin 2) (g : Fin 8)
    (mm : Fin 192) : score Q K b T j g mm ≠ ⊤ := by
  unfold score
  split
  · obtain ⟨r, hr⟩ := real_sum Finset.univ (fun k : Fin 64 =>
      Q (ix2 ⟨b.val * 2048 + T.val, by omega⟩ ⟨(j.val * 8 + g.val) * 64 + k.val, by omega⟩) * keyRow K b (band T mm) j k)
      (fun k => by
        obtain ⟨a, ha⟩ := hQ (ix2 ⟨b.val * 2048 + T.val, by omega⟩ ⟨(j.val * 8 + g.val) * 64 + k.val, by omega⟩)
        have hk : ∃ r : ℝ, keyRow K b (band T mm) j k = r := by
          unfold keyRow
          split
          · exact ⟨0, rfl⟩
          · exact hK _
        obtain ⟨a', ha'⟩ := hk
        exact ⟨a * a', by rw [ha, ha', EReal.coe_mul]⟩)
    obtain ⟨a, ha⟩ := scale_real
    rw [hr, ha, ← EReal.coe_mul]
    exact EReal.coe_ne_top _
  · exact bot_ne_top

/-- The stack's attention at one row, when its unmasked scores are those of the row's band. -/
theorem attend_eq (V : FVec Ideal S256x64 .bf16) (s : FVec Ideal S1024x256 .f32) (z : FVec Ideal S1024x1 .f32)
    (R : Fin 1024) (d : Fin 64) (s' w' : Fin 192 → EReal) (e : Fin 192 → Fin 256) (sink : ℝ) (hz : z (ix2 R 0) = sink)
    (he : Function.Injective e) (hs : ∀ mm, s (ix2 R (e mm)) = s' mm)
    (hout : ∀ i, (∀ mm, e mm ≠ i) → s (ix2 R i) = ⊥) (ht : ∀ mm, s' mm ≠ ⊤)
    (hw : ∀ mm, s' mm ≠ ⊥ → w' mm = V (ix2 (e mm) d)) :
    attend V s z (ix2 R d) = sinkMean s' w' sink := by
  have hs' : s' = fun mm => s (ix2 R (e mm)) := funext fun mm => (hs mm).symm
  rw [attend_apply, top_apply, hz]
  subst hs'
  refine Softmax.weighted_eq (fun i => s (ix2 R i)) (fun i => V (ix2 i d)) sink e he (fun i => ?_) hout w' hw _ _ rfl rfl
  by_cases h : ∃ mm, e mm = i
  · obtain ⟨mm, rfl⟩ := h
    exact ht mm
  · rw [hout i fun mm hm => h ⟨mm, hm⟩]
    exact bot_ne_top

/-! ## The buffers at the call's entry, and the blocks -/

variable (m : (ℓ : Loc nD τ sig) → Buf (Elt Ideal) ℓ)

abbrev aQ (c : Dev nD) : FVec Ideal S32768x1024 .bf16 := m ((c : Thread nD τ).loc main_arg0)
abbrev aK (c : Dev nD) : FVec Ideal S32768x128 .f32 := m ((c : Thread nD τ).loc main_arg1)
abbrev aV (c : Dev nD) : FVec Ideal S32768x128 .f32 := m ((c : Thread nD τ).loc main_arg2)
abbrev aS (c : Dev nD) : FVec Ideal S16 .f32 := m ((c : Thread nD τ).loc main_arg3)

/-- The block before block `n`, itself for the first of a sequence. -/
def prev (n : Nat) : Nat := if n % 16 = 0 then n else n - 1

theorem prev_lt {n : Nat} (h : n < 256) : prev n < 256 := by unfold prev; split <;> omega

theorem idx : ∀ t : Fin cfg0.N, win0_0.index t = ![t.val, 0] ∧ win0_1.index t = ![prev t.val, 0]
    ∧ win0_2.index t = ![prev t.val, 0] ∧ win0_3.index t = ![t.val, 0] ∧ win0_4.index t = ![t.val, 0]
    ∧ win0_5.index t = ![0, 0, 0] ∧ win0_6.index t = ![t.val, 0] :=
  (by decide +kernel : ∀ t : Fin grid0.N, _)

theorem coord : ∀ t : Fin cfg0.N, (grid0.coords t 1).val = t.val % 16 :=
  (by decide +kernel : ∀ t : Fin grid0.N, (grid0.coords t 1).val = t.val % 16)

theorem V_main_v3 (c : Dev nD) : V m c main_v3 = shapeCast S2x1024x1 (shapeCast S2x1024
    (broadcastInDim S2x8x128 ![0, 1] bcast_S2x8_S2x8x128_0_1 (shapeCast S2x8 (aS m c) shapeCasts_S16_S2x8))
    shapeCasts_S2x8x128_S2x1024) shapeCasts_S2x1024_S2x1024x1 := by
  simp only [V, hostOps0, List.flatten_cons, List.flatten_nil,
    List.append_nil, List.cons_append, List.nil_append]
  entry_read
  rfl

theorem N_eq (t : Fin cfg0.N) : t.val < 256 := t.isLt

theorem blk0 (c : Dev nD) (t : Fin cfg0.N) (r : Fin 128) (d : Fin 1024) :
    iblk m c 0 t (ix2 r d : S128x1024.Idx) = aQ m c (ix2 ⟨t.val * 128 + r.val, by have := N_eq t; omega⟩ d) := by
  have ht := N_eq t
  have h : ((cfg0.win 0).blk t).view.emb (ix2 r d : S128x1024.Idx)
      = (ix2 ⟨t.val * 128 + r.val, by omega⟩ d : S32768x1024.Idx) := by
    blk_ext [idx t]
  exact (congrArg (V m c main_arg0) h).trans (by rw [V_main_arg0])

theorem blk1 (c : Dev nD) (t : Fin cfg0.N) (r d : Fin 128) :
    iblk m c 1 t (ix2 r d : S128x128.Idx) = aK m c (ix2 ⟨prev t.val * 128 + r.val, by have := prev_lt (N_eq t); omega⟩ d) := by
  have ht := prev_lt (N_eq t)
  have h : ((cfg0.win 1).blk t).view.emb (ix2 r d : S128x128.Idx)
      = (ix2 ⟨prev t.val * 128 + r.val, by omega⟩ d : S32768x128.Idx) := by
    blk_ext [idx t]
  exact (congrArg (V m c main_arg1) h).trans (by rw [V_main_arg1])

theorem blk2 (c : Dev nD) (t : Fin cfg0.N) (r d : Fin 128) :
    iblk m c 2 t (ix2 r d : S128x128.Idx) = aV m c (ix2 ⟨prev t.val * 128 + r.val, by have := prev_lt (N_eq t); omega⟩ d) := by
  have ht := prev_lt (N_eq t)
  have h : ((cfg0.win 2).blk t).view.emb (ix2 r d : S128x128.Idx)
      = (ix2 ⟨prev t.val * 128 + r.val, by omega⟩ d : S32768x128.Idx) := by
    blk_ext [idx t]
  exact (congrArg (V m c main_arg2) h).trans (by rw [V_main_arg2])

theorem blk3 (c : Dev nD) (t : Fin cfg0.N) (r d : Fin 128) :
    iblk m c 3 t (ix2 r d : S128x128.Idx) = aK m c (ix2 ⟨t.val * 128 + r.val, by have := N_eq t; omega⟩ d) := by
  have ht := N_eq t
  have h : ((cfg0.win 3).blk t).view.emb (ix2 r d : S128x128.Idx)
      = (ix2 ⟨t.val * 128 + r.val, by omega⟩ d : S32768x128.Idx) := by
    blk_ext [idx t]
  exact (congrArg (V m c main_arg1) h).trans (by rw [V_main_arg1])

theorem blk4 (c : Dev nD) (t : Fin cfg0.N) (r d : Fin 128) :
    iblk m c 4 t (ix2 r d : S128x128.Idx) = aV m c (ix2 ⟨t.val * 128 + r.val, by have := N_eq t; omega⟩ d) := by
  have ht := N_eq t
  have h : ((cfg0.win 4).blk t).view.emb (ix2 r d : S128x128.Idx)
      = (ix2 ⟨t.val * 128 + r.val, by omega⟩ d : S32768x128.Idx) := by
    blk_ext [idx t]
  exact (congrArg (V m c main_arg2) h).trans (by rw [V_main_arg2])

theorem blk5 (c : Dev nD) (t : Fin cfg0.N) (j : Fin 2) (g : Fin 8) (r : Fin 128) :
    iblk m c 5 t (ix3 j ⟨g.val * 128 + r.val, by omega⟩ 0 : S2x1024x1.Idx) = aS m c (ix1 ⟨j.val * 8 + g.val, by omega⟩) := by
  have h : ((cfg0.win 5).blk t).view.emb (ix3 j ⟨g.val * 128 + r.val, by omega⟩ 0 : S2x1024x1.Idx)
      = (ix3 j ⟨g.val * 128 + r.val, by omega⟩ 0 : S2x1024x1.Idx) := by
    blk_ext [idx t]
  refine (congrArg (V m c main_v3) h).trans ?_
  rw [V_main_v3]
  pointwise
  blk_ext

/-- The window's keys, where they are a key of the sequence. -/
theorem keys_apply (x0 x1 : Vec Ideal S128x128 .f32) (x : FVec Ideal S32768x128 .f32) (t : Fin 256)
    (h0 : ∀ r d : Fin 128, x0 (ix2 r d) = x (ix2 ⟨t.val * 128 + r.val, by omega⟩ d))
    (h1 : ∀ r d : Fin 128, x1 (ix2 r d) = x (ix2 ⟨prev t.val * 128 + r.val, by have := prev_lt t.isLt; omega⟩ d))
    (i : Fin 256) (hi : 128 ≤ i.val ∨ 0 < t.val % 16) (j : Fin 2) (d : Fin 64) :
    k0_pay2 x0 x1 (ix2 i ⟨j.val * 64 + d.val, by omega⟩)
      = keyRow x ⟨t.val / 16, by omega⟩ ⟨t.val % 16 * 128 + i.val, by omega⟩ j d := by
  have key : ∀ {a a' : Fin 32768} {b b' : Fin 128}, a.val = a'.val → b.val = b'.val → x (ix2 a b) = x (ix2 a' b') :=
    fun h h' => by rw [Fin.ext h, Fin.ext h']
  have hp : 0 < t.val % 16 → prev t.val = t.val - 1 := fun h => by unfold prev; rw [if_neg (by omega)]
  pointwise [k0_pay2, keyRow, h0, h1]
  have hn : ¬(t.val % 16 * 128 + i.val < 128) := by omega
  rw [dif_neg hn]
  by_cases ha : i.val < 128
  · have := hp (by omega)
    rw [dif_pos ha]
    exact key (by dsimp only; omega) rfl
  · rw [dif_neg ha]
    exact key (by dsimp only; omega) rfl

/-- The kernel's window at grid point `t`. -/
def okAt (t : Fin cfg0.N) : IVec S1024x256 1 :=
  k0_pay7 (BitVec.ofNat 32 (grid0.coords t 1).val) (iota .tc S1024x256 32 [1] iota_S1024x256_d1_w32) k0_pay4 64#32 k0_pay5 k0_pay6
    (Scalar.extui (Scalar.cmpi .sgt 64#32 0#32)) (Scalar.extui (Scalar.cmpi .slt 64#32 0#32))

theorem okAt_apply (t : Fin cfg0.N) (R : Fin 1024) (i : Fin 256) : okAt t (ix2 R i) = 1#1
    ↔ R.val % 128 / 64 ≤ i.val / 64 ∧ i.val / 64 ≤ R.val % 128 / 64 + 2 ∧ (128 ≤ i.val ∨ 0 < t.val % 16) := by
  unfold okAt
  rw [coord t]
  exact mask_apply ⟨t.val % 16, by omega⟩ R i

/-- One row of one head's stack: the attention of the query row it holds. -/
theorem row_attn (c : Dev nD) (t : Fin cfg0.N) (hQr : ∀ i, ∃ r : ℝ, aQ m c i = r) (hKr : ∀ i, ∃ r : ℝ, aK m c i = r)
    (hSr : ∀ i, ∃ r : ℝ, aS m c i = r) (j : Fin 2) (g : Fin 8) (r : Fin 128) (d : Fin 64)
    (Q : FVec Ideal S1024x64 .bf16) (K V : FVec Ideal S256x64 .bf16) (z : FVec Ideal S1024x1 .f32)
    (hQ : ∀ k, Q (ix2 ⟨g.val * 128 + r.val, by omega⟩ k)
      = aQ m c (ix2 ⟨t.val * 128 + r.val, by have := N_eq t; omega⟩ ⟨(j.val * 8 + g.val) * 64 + k.val, by omega⟩))
    (hK : ∀ i k, K (ix2 i k) = k0_pay2 (iblk m c 3 t) (iblk m c 1 t) (ix2 i ⟨j.val * 64 + k.val, by omega⟩))
    (hV : ∀ i k, V (ix2 i k) = k0_pay2 (iblk m c 4 t) (iblk m c 2 t) (ix2 i ⟨j.val * 64 + k.val, by omega⟩))
    (hz : z (ix2 ⟨g.val * 128 + r.val, by omega⟩ 0) = aS m c (ix1 ⟨j.val * 8 + g.val, by omega⟩)) :
    attend V (scores Q K (okAt t)) z (ix2 ⟨g.val * 128 + r.val, by omega⟩ d)
      = attn (aQ m c) (aK m c) (aV m c) (aS m c) ⟨t.val / 16, by have := N_eq t; omega⟩ ⟨t.val % 16 * 128 + r.val, by omega⟩ j g d := by
  have hN := N_eq t
  obtain ⟨sink, hsink⟩ := hSr (ix1 ⟨j.val * 8 + g.val, by omega⟩)
  have hk := fun i hi k => keys_apply (iblk m c 3 t) (iblk m c 1 t) (aK m c) ⟨t.val, hN⟩ (blk3 m c t) (blk1 m c t) i hi j k
  have hv := fun i hi k => keys_apply (iblk m c 4 t) (iblk m c 2 t) (aV m c) ⟨t.val, hN⟩ (blk4 m c t) (blk2 m c t) i hi j k
  have hband : ∀ mm : Fin 192, (⟨t.val % 16 * 128 + (r.val / 64 * 64 + mm.val), by omega⟩ : Fin 2176)
      = band ⟨t.val % 16 * 128 + r.val, by omega⟩ mm := fun mm => Fin.ext (by dsimp only [band]; omega)
  have hrow : (⟨t.val / 16 * 2048 + (t.val % 16 * 128 + r.val), by omega⟩ : Fin 32768) = ⟨t.val * 128 + r.val, by omega⟩ :=
    Fin.ext (by dsimp only; omega)
  unfold attn
  rw [hsink]
  refine attend_eq V _ z _ d _ _ (fun mm => ⟨r.val / 64 * 64 + mm.val, by omega⟩) sink (hz.trans hsink) ?_ ?_ ?_
    (score_ne_top _ _ hQr hKr _ _ j g) ?_
  · intro a b h
    have := congrArg Fin.val h
    exact Fin.ext (by dsimp only at this; omega)
  · intro mm
    rw [scores_apply]
    unfold score
    by_cases h : 2 ≤ (t.val % 16 * 128 + r.val) / 64 + mm.val / 64
    · have hi : 128 ≤ r.val / 64 * 64 + mm.val ∨ 0 < t.val % 16 := by omega
      rw [if_pos ((okAt_apply t _ _).mpr ⟨by dsimp only; omega, by dsimp only; omega, hi⟩), if_pos h]
      congr 1
      refine Finset.sum_congr rfl fun k _ => ?_
      rw [hQ k, hK, hk _ hi k, hband mm, hrow]
    · rw [if_neg (fun h' => h (by
        have h3 := ((okAt_apply t _ _).mp h').2.2
        dsimp only at h3
        omega)), if_neg h]
  · intro i hi
    rw [scores_apply, if_neg]
    intro h
    obtain ⟨h1, h2, h3⟩ := (okAt_apply t _ _).mp h
    dsimp only at h1 h2
    exact hi ⟨i.val - r.val / 64 * 64, by omega⟩ (Fin.ext (by dsimp only; omega))
  · intro mm hne
    have h : 2 ≤ (t.val % 16 * 128 + r.val) / 64 + mm.val / 64 := by
      by_contra h
      exact hne (by unfold score; rw [if_neg h])
    have hi : 128 ≤ r.val / 64 * 64 + mm.val ∨ 0 < t.val % 16 := by omega
    rw [hV, hv _ hi d, hband mm]

theorem pay17_eq (i : grid0.Coords) (x0 : Vec Ideal S128x1024 .bf16) (x1 x2 x3 x4 : Vec Ideal S128x128 .f32)
    (x5 : Vec Ideal S2x1024x1 .f32) : k0_pay17 i x0 x1 x2 x3 x4 x5 = k0_pay2 x3 x1 := by
  have h2 : (![0, 0] : Fin 2 → Nat) = fun _ => 0 := by funext a; fin_cases a <;> rfl
  unfold k0_pay17
  rw [show View.ld x3 r0_0 = x3 from View.ld_unit_zero h2 _ x3, show View.ld x1 r0_0 = x1 from View.ld_unit_zero h2 _ x1]

theorem pay18_eq (i : grid0.Coords) (x0 : Vec Ideal S128x1024 .bf16) (x1 x2 x3 x4 : Vec Ideal S128x128 .f32)
    (x5 : Vec Ideal S2x1024x1 .f32) : k0_pay18 i x0 x1 x2 x3 x4 x5 = k0_pay2 x4 x2 := by
  have h2 : (![0, 0] : Fin 2 → Nat) = fun _ => 0 := by funext a; fin_cases a <;> rfl
  unfold k0_pay18
  rw [show View.ld x4 r0_0 = x4 from View.ld_unit_zero h2 _ x4, show View.ld x2 r0_0 = x2 from View.ld_unit_zero h2 _ x2]
  rfl

/-- What point `t` stores at row `r`, query head `(j, g)`, component `d`. -/
theorem out_apply (c : Dev nD) (t : Fin cfg0.N) (hQr : ∀ i, ∃ r : ℝ, aQ m c i = r) (hKr : ∀ i, ∃ r : ℝ, aK m c i = r)
    (hSr : ∀ i, ∃ r : ℝ, aS m c i = r) (r : Fin 128) (j : Fin 2) (g : Fin 8) (d : Fin 64) :
    out0_6 (grid0.coords t) (iblk m c 0 t) (iblk m c 1 t) (iblk m c 2 t) (iblk m c 3 t) (iblk m c 4 t) (iblk m c 5 t)
        (ix2 r ⟨(j.val * 8 + g.val) * 64 + d.val, by omega⟩)
      = attn (aQ m c) (aK m c) (aV m c) (aS m c) ⟨t.val / 16, by have := N_eq t; omega⟩ ⟨t.val % 16 * 128 + r.val, by omega⟩ j g d := by
  have hN := N_eq t
  have e7 : k0_pay19 (grid0.coords t) (iblk m c 0 t) (iblk m c 1 t) (iblk m c 2 t) (iblk m c 3 t) (iblk m c 4 t) (iblk m c 5 t)
      = okAt t := rfl
  have hz0 : View.ld (iblk m c 5 t) r0_2 (ix3 0 ⟨g.val * 128 + r.val, by omega⟩ 0) = aS m c (ix1 ⟨0 * 8 + g.val, by omega⟩) := by
    refine Eq.trans ?_ (blk5 m c t 0 g r)
    refine congrArg (iblk m c 5 t) (funext fun a => ?_)
    fin_cases a <;> refine Fin.ext ((Rect.idx_unit_val _ _ _ _ _).trans ?_)
    · rfl
    · exact Nat.zero_add _
    · rfl
  have hz1 : View.ld (iblk m c 5 t) r0_3 (ix3 0 ⟨g.val * 128 + r.val, by omega⟩ 0) = aS m c (ix1 ⟨1 * 8 + g.val, by omega⟩) := by
    refine Eq.trans ?_ (blk5 m c t 1 g r)
    refine congrArg (iblk m c 5 t) (funext fun a => ?_)
    fin_cases a <;> refine Fin.ext ((Rect.idx_unit_val _ _ _ _ _).trans ?_)
    · rfl
    · exact Nat.zero_add _
    · rfl
  have key : ∀ {a a' : Fin 512} {x : FVec Ideal S128x512 .f32}, a.val = a'.val → x (ix2 r a) = x (ix2 r a') :=
    fun h => by rw [Fin.ext h]
  frame_out
  rw [pay17_eq, pay18_eq, e7, pay8_eq, pay1_eq]
  fin_cases j
  · have hA := row_attn m c t hQr hKr hSr 0 g r d (stack0 (iblk m c 0 t)) (half0 (k0_pay2 (iblk m c 3 t) (iblk m c 1 t)))
      (half0 (k0_pay2 (iblk m c 4 t) (iblk m c 2 t))) (sinkCol (View.ld (iblk m c 5 t) r0_2))
      (fun k => by rw [stack0_apply, blk0]; exact congrArg (fun o => aQ m c (ix2 _ o)) (Fin.ext (by simp)))
      (fun i k => by rw [half0_apply]; exact congrArg (fun o => k0_pay2 _ _ (ix2 i o)) (Fin.ext (by simp)))
      (fun i k => by rw [half0_apply]; exact congrArg (fun o => k0_pay2 _ _ (ix2 i o)) (Fin.ext (by simp)))
      (by rw [sinkCol_apply, hz0]; rfl)
    refine Eq.trans ?_ ((unstack_apply _ g r d).trans hA)
    pointwise
    rw [dif_pos (by omega)]
    rfl
  · have hA := row_attn m c t hQr hKr hSr 1 g r d (stack1 (iblk m c 0 t)) (half1 (k0_pay2 (iblk m c 3 t) (iblk m c 1 t)))
      (half1 (k0_pay2 (iblk m c 4 t) (iblk m c 2 t))) (sinkCol (View.ld (iblk m c 5 t) r0_3))
      (fun k => by rw [stack1_apply, blk0]; exact congrArg (fun o => aQ m c (ix2 _ o)) (Fin.ext (by simp; omega)))
      (fun i k => by rw [half1_apply]; exact congrArg (fun o => k0_pay2 _ _ (ix2 i o)) (Fin.ext (by simp)))
      (fun i k => by rw [half1_apply]; exact congrArg (fun o => k0_pay2 _ _ (ix2 i o)) (Fin.ext (by simp)))
      (by rw [sinkCol_apply, hz1]; rfl)
    refine Eq.trans ?_ ((unstack_apply _ g r d).trans hA)
    pointwise
    rw [dif_neg (by omega)]
    exact key (by dsimp only; omega)

end Cert.SwaIdeal.Value

end
-- ==== Proof.SwaRead.lean ====
module

public import proofs.«01_k».proof.Proof.SwaBlocks
public import proofs.«01_k».proof.Proof.Gen.SwaRefIdeal.Read

/-! The windowed attention of the reference at one row, head and component. -/

@[expose] public section

set_option maxRecDepth 16384

noncomputable section

open Idealize.ShloMosaic Idealize.ShloMosaic.TcCoe Idealize.SL.Sem

namespace Cert.SwaIdeal.Value

open Cert.SwaRefIdeal Cert.SwaRefIdeal.Read

variable (Q : FVec Ideal S32768x1024 .bf16) (K V : FVec Ideal S32768x128 .f32) (S : FVec Ideal S16 .f32)

/-- The padded keys. -/
theorem v5_apply (b : Fin 16) (p : Fin 2176) (j : Fin 2) (k : Fin 64) :
    val_main_v5 (F := Ideal) K (ix4 b p j k) = keyRow K b p j k := by
  pointwise [val_main_v5, val_main_v4, val_main_cst, val_main_v2, keyRow]

/-- The keys of chunk `n`'s band. -/
theorem v10_apply (b : Fin 16) (n : Fin 32) (mm : Fin 192) (j : Fin 2) (k : Fin 64) :
    val_main_v10 (F := Ideal) K (ix5 b n mm j k) = keyRow K b ⟨n.val * 64 + mm.val, by omega⟩ j k := by
  have key : ∀ {a a' : Fin 2176}, a.val = a'.val → keyRow K b a j k = keyRow K b a' j k := fun h => by rw [Fin.ext h]
  pointwise [val_main_v10, val_main_v9, val_main_v8, val_main_v7, val_main_v6, v5_apply]
  by_cases h0 : mm.val < 64
  · rw [dif_pos h0]
  · rw [dif_neg h0]
    by_cases h1 : mm.val - 64 < 64
    · rw [dif_pos h1]
      exact key (by dsimp only; omega)
    · rw [dif_neg h1]
      exact key (by dsimp only; omega)

/-- The values' band is built as the keys' is. -/
theorem v17_apply (b : Fin 16) (n : Fin 32) (mm : Fin 192) (j : Fin 2) (k : Fin 64) :
    val_main_v17 (F := Ideal) V (ix5 b n mm j k) = keyRow V b ⟨n.val * 64 + mm.val, by omega⟩ j k :=
  v10_apply V b n mm j k

/-- The chunk of a position of the band. -/
theorem v29_apply (mm : Fin 192) : val_main_v29 (F := Ideal) (ix2 0 mm) = BitVec.ofNat 32 (mm.val / 64) := by
  pointwise [val_main_v29, val_main_call0_v13,
    val_main_call0_v12, val_main_call0_c_0, val_main_call0_v11, val_main_call0_v10, val_main_call0_v9, val_main_call0_c,
    val_main_call0_v8, val_main_call0_v7, val_main_call0_v6, val_main_call0_v5, val_main_call0_v4, val_main_call0_v3,
    val_main_call0_v2, val_main_call0_v1, val_main_call0_v0, val_main_c_2, val_main_v28, val_main_v27, signi]
  revert mm
  decide +kernel

theorem from_start : ∀ (n : Fin 32) (a : Fin 3),
    IntOp.cmpi .sge (IntOp.addi (IntOp.subi (BitVec.ofNat 32 n.val) 2#32) (BitVec.ofNat 32 a.val)) 0#32 = 1#1
      ↔ 2 ≤ n.val + a.val := by
  decide +kernel

/-- The reference's mask: the position's chunk is not before the sequence. -/
theorem mask_ref (n : Fin 32) (mm : Fin 192) :
    val_main_v34 (F := Ideal) (ix2 n mm) = 1#1 ↔ 2 ≤ n.val + mm.val / 64 := by
  have := from_start n ⟨mm.val / 64, by omega⟩
  pointwise [val_main_v34, val_main_v33, val_main_c_3, val_main_v32, val_main_v31, val_main_v30, v29_apply, val_main_v26,
    val_main_v25, val_main_c, val_main_v24, val_main_v23]
  exact this

end Cert.SwaIdeal.Value

end
-- ==== Proof.SwaScores.lean ====
module

public import proofs.«01_k».proof.Proof.SwaRead

/-! The reference's scores over the band and the sink, and their maximum. -/

@[expose] public section

set_option maxRecDepth 16384

noncomputable section

open Idealize.ShloMosaic Idealize.ShloMosaic.TcCoe Idealize.SL.Sem

namespace Cert.SwaIdeal.Value

open Cert.SwaRefIdeal Cert.SwaRefIdeal.Read

variable (Q : FVec Ideal S32768x1024 .bf16) (K V : FVec Ideal S32768x128 .f32) (S : FVec Ideal S16 .f32)

/-- A row's scores. -/
theorem v36_apply (b : Fin 16) (n : Fin 32) (j : Fin 2) (g : Fin 8) (r : Fin 64) (mm : Fin 192) :
    val_main_v36 (F := Ideal) Q K (ix6 b n j g r mm) = score Q K b ⟨n.val * 64 + r.val, by omega⟩ j g mm := by
  have hb : band ⟨n.val * 64 + r.val, by omega⟩ mm = ⟨n.val * 64 + mm.val, by omega⟩ :=
    Fin.ext (by dsimp only [band]; omega)
  have hn : (n.val * 64 + r.val) / 64 = n.val := by omega
  unfold score
  dsimp only
  rw [hb, hn]
  pointwise [val_main_v36, val_main_call1_v2, val_main_call1_v1, val_main_call1_v0, val_main_cst_4, val_main_v35, val_main_v22,
    val_main_v21, val_main_cst_1, val_main_v20, val_main_v19, val_main_v18, val_main_v1, val_main_v0, v10_apply, mask_ref]
  have hm := mask_ref n mm
  have hq : (∑ x : Fin 64, keyRow K b ⟨n.val * 64 + mm.val, by omega⟩ j x
        * Q (ix2 ⟨b.val * 2048 + n.val * 64 + r.val, by omega⟩ ⟨j.val * 512 + g.val * 64 + x.val, by omega⟩))
      = ∑ k : Fin 64, Q (ix2 ⟨b.val * 2048 + (n.val * 64 + r.val), by omega⟩ ⟨(j.val * 8 + g.val) * 64 + k.val, by omega⟩)
        * keyRow K b ⟨n.val * 64 + mm.val, by omega⟩ j k := by
    have key : ∀ {a a' : Fin 32768} {o o' : Fin 1024}, a.val = a'.val → o.val = o'.val → Q (ix2 a o) = Q (ix2 a' o') :=
      fun h h' => by rw [Fin.ext h, Fin.ext h']
    refine Finset.sum_congr rfl fun x _ => ?_
    rw [mul_comm]
    exact congrArg (· * _) (key (by dsimp only; omega) (by dsimp only; omega))
  rw [hq]
  by_cases h : 2 ≤ n.val + mm.val / 64
  · rw [if_pos h, hm.mpr h]
    rfl
  · rw [if_neg h]
    refine (if_neg (c := val_main_v34 (F := Ideal) (ix2 n mm) = 1#1) fun h' => h (hm.mp h')).trans ?_
    exact Softmax.neg_inf

/-- The scores and the sink. -/
theorem v40_apply (b : Fin 16) (n : Fin 32) (j : Fin 2) (g : Fin 8) (r : Fin 64) (i : Fin 193) :
    val_main_v40 (F := Ideal) Q K S (ix6 b n j g r i)
      = withSink (score Q K b ⟨n.val * 64 + r.val, by omega⟩ j g) (S (ix1 ⟨j.val * 8 + g.val, by omega⟩)) i := by
  pointwise [val_main_v40, v36_apply, val_main_v39, val_main_v38, val_main_v37]
  by_cases h : i.val < 192
  · rw [dif_pos h]
    exact (Fin.lastCases_castSucc (motive := fun _ : Fin (192 + 1) => EReal) (i := ⟨i.val, h⟩) ..).symm
  · rw [dif_neg h]
    have : i = Fin.last 192 := Fin.ext (by rw [Fin.val_last]; omega)
    rw [this]
    exact (Fin.lastCases_last (motive := fun _ : Fin (192 + 1) => EReal) ..).symm

/-- The reduced index with the band's position put back. -/
theorem lift_ix (h : S16x32x2x8x64x193.Reduces [5] S16x32x2x8x64) (b : Fin 16) (n : Fin 32) (j : Fin 2) (g : Fin 8) (r : Fin 64)
    (k : Fin 193) : h.lift (ix5 b n j g r) k = ix6 b n j g r k := by
  funext a
  apply Fin.ext
  fin_cases a <;> rfl

theorem v41_apply (b : Fin 16) (n : Fin 32) (j : Fin 2) (g : Fin 8) (r : Fin 64) :
    val_main_v41 (F := Ideal) Q K S (ix5 b n j g r)
      = Finset.univ.fold max ⊥ (withSink (score Q K b ⟨n.val * 64 + r.val, by omega⟩ j g) (S (ix1 ⟨j.val * 8 + g.val, by omega⟩))) := by
  have h : S16x32x2x8x64x193.Reduces [5] S16x32x2x8x64 := by decide
  unfold val_main_v41
  rw [Host.reduce_eq_fold_single FloatOps.maximumf _ _ _ h]
  have hf : (val_main_v40 (F := Ideal) Q K S ∘ h.lift (ix5 b n j g r))
      = withSink (score Q K b ⟨n.val * 64 + r.val, by omega⟩ j g) (S (ix1 ⟨j.val * 8 + g.val, by omega⟩)) :=
    funext fun k => (congrArg _ (lift_ix h b n j g r k)).trans (v40_apply Q K S b n j g r k)
  rw [hf]
  exact congrArg (fun x => Finset.fold max x _ (Finset.univ : Finset (Fin 193))) Softmax.neg_inf

end Cert.SwaIdeal.Value

end
-- ==== Proof.SwaRef.lean ====
module

public import proofs.«01_k».proof.Proof.SwaScores

/-! The reference's softmax over the band and the sink, and its result at one row, head and component. -/

@[expose] public section

set_option maxRecDepth 16384

noncomputable section

open Idealize.ShloMosaic Idealize.ShloMosaic.TcCoe Idealize.SL.Sem

namespace Cert.SwaIdeal.Value

open Cert.SwaRefIdeal Cert.SwaRefIdeal.Read

variable (Q : FVec Ideal S32768x1024 .bf16) (K V : FVec Ideal S32768x128 .f32) (S : FVec Ideal S16 .f32)

theorem v43_apply (b : Fin 16) (n : Fin 32) (j : Fin 2) (g : Fin 8) (r : Fin 64) :
    val_main_v43 (F := Ideal) Q K S (ix5 b n j g r) = val_main_v41 (F := Ideal) Q K S (ix5 b n j g r) := by
  rw [val_main_v43_apply, val_main_v42_apply]
  generalize val_main_v41 (F := Ideal) Q K S (ix5 b n j g r) = y
  exact (congrArg (max · y) Softmax.neg_inf).trans (max_eq_right bot_le)

theorem v47_apply (b : Fin 16) (n : Fin 32) (j : Fin 2) (g : Fin 8) (r : Fin 64) (i : Fin 193) :
    val_main_v47 (F := Ideal) Q K S (ix6 b n j g r i)
      = Ideal.exp (val_main_v40 (F := Ideal) Q K S (ix6 b n j g r i) - val_main_v41 (F := Ideal) Q K S (ix5 b n j g r)) := by
  pointwise [val_main_v47, val_main_v46, val_main_v45, val_main_v44, v43_apply]

theorem v48_apply (b : Fin 16) (n : Fin 32) (j : Fin 2) (g : Fin 8) (r : Fin 64) :
    val_main_v48 (F := Ideal) Q K S (ix5 b n j g r)
      = ∑ i : Fin 193, val_main_v47 (F := Ideal) Q K S (ix6 b n j g r i) := by
  have h : S16x32x2x8x64x193.Reduces [5] S16x32x2x8x64 := by decide
  unfold val_main_v48
  refine (Ideal.hostReduceAdd_single _ h _ _ _).trans ?_
  have h0 : val_main_cst_7 (F := Ideal) ix0 = 0 := by pointwise [val_main_cst_7]
  refine (congrArg (· + _) h0).trans ((zero_add _).trans ?_)
  exact Finset.sum_congr rfl fun k _ => congrArg _ (lift_ix h b n j g r k)

theorem withSink_cast (s : Fin 192 → EReal) (z : EReal) (mm : Fin 192) (h : mm.val < 193) : withSink s z ⟨mm.val, h⟩ = s mm :=
  Fin.lastCases_castSucc (motive := fun _ : Fin (192 + 1) => EReal) ..

/-- The reference's weights of the band's positions. -/
theorem v52_apply (b : Fin 16) (n : Fin 32) (j : Fin 2) (g : Fin 8) (r : Fin 64) (mm : Fin 192) :
    val_main_v52 (F := Ideal) Q K S (ix6 b n j g r mm)
      = Ideal.div (val_main_v47 (F := Ideal) Q K S (ix6 b n j g r ⟨mm.val, by omega⟩)) (val_main_v48 (F := Ideal) Q K S (ix5 b n j g r)) := by
  pointwise [val_main_v52, val_main_v51, val_main_v50, val_main_v49]

theorem v53_apply (b : Fin 16) (n : Fin 32) (j : Fin 2) (g : Fin 8) (r : Fin 64) (d : Fin 64) :
    (∑ mm : Fin 192, keyRow V b ⟨n.val * 64 + mm.val, by omega⟩ j d * val_main_v52 (F := Ideal) Q K S (ix6 b n j g r mm))
      = attn Q K V S b ⟨n.val * 64 + r.val, by omega⟩ j g d := by
  unfold attn sinkMean
  refine Finset.sum_congr rfl fun mm _ => ?_
  rw [v52_apply, v48_apply]
  simp only [v47_apply, v41_apply, v40_apply]
  rw [withSink_cast]
  have hb : band ⟨n.val * 64 + r.val, by omega⟩ mm = ⟨n.val * 64 + mm.val, by omega⟩ :=
    Fin.ext (by dsimp only [band]; omega)
  rw [hb]

/-- The reference's attention. -/
theorem ref_apply (b : Fin 16) (T : Fin 2048) (j : Fin 2) (g : Fin 8) (d : Fin 64) :
    val_main_v56 (F := Ideal) Q K V S (ix2 ⟨b.val * 2048 + T.val, by omega⟩ ⟨(j.val * 8 + g.val) * 64 + d.val, by omega⟩)
      = attn Q K V S b T j g d := by
  have hT : T = ⟨(⟨T.val / 64, by omega⟩ : Fin 32).val * 64 + (⟨T.val % 64, by omega⟩ : Fin 64).val, by dsimp only; omega⟩ :=
    Fin.ext (by dsimp only; omega)
  refine Eq.trans ?_ ((v53_apply Q K V S b ⟨T.val / 64, by omega⟩ j g ⟨T.val % 64, by omega⟩ d).trans (by rw [← hT]))
  pointwise [val_main_v56, val_main_v55, val_main_v54, val_main_v53, v17_apply]
  have e2 : (b.val * 2048 + T.val) / 64 % 32 = T.val / 64 := by omega
  have e3 : (b.val * 2048 + T.val) % 64 = T.val % 64 := by omega
  simp only [e2, e3]

variable (m : (ℓ : Loc Cert.SwaIdeal.nD Cert.SwaIdeal.τ Cert.SwaIdeal.sig) → Buf (Elt Ideal) ℓ)

open Cert.SwaIdeal Cert.SwaIdeal.Gen in
/-- What each point stores is the reference's result there. -/
theorem point6 (c : Dev Cert.SwaIdeal.nD) (t : Fin cfg0.N) (hQr : ∀ i, ∃ r : ℝ, aQ m c i = r) (hKr : ∀ i, ∃ r : ℝ, aK m c i = r)
    (hSr : ∀ i, ∃ r : ℝ, aS m c i = r) (y : Cert.SwaIdeal.S128x1024.Idx) :
    out0_6 (grid0.coords t) (iblk m c 0 t) (iblk m c 1 t) (iblk m c 2 t) (iblk m c 3 t) (iblk m c 4 t) (iblk m c 5 t) y
      = val_main_v56 (F := Ideal) (aQ m c) (aK m c) (aV m c) (aS m c) (((cfg0.win 6).blk t).view.emb y) := by
  have hN := N_eq t
  idx_vars y
  have hy : y1 = ⟨((⟨y1.val / 512, by omega⟩ : Fin 2).val * 8 + (⟨y1.val / 64 % 8, by omega⟩ : Fin 8).val) * 64
      + (⟨y1.val % 64, by omega⟩ : Fin 64).val, by dsimp only; omega⟩ := Fin.ext (by dsimp only; omega)
  have h : ((cfg0.win 6).blk t).view.emb (ix2 y0 y1 : Cert.SwaIdeal.S128x1024.Idx)
      = (ix2 ⟨(⟨t.val / 16, by omega⟩ : Fin 16).val * 2048 + (⟨t.val % 16 * 128 + y0.val, by omega⟩ : Fin 2048).val, by dsimp only; omega⟩ y1
        : Cert.SwaIdeal.S32768x1024.Idx) := by
    blk_ext [idx t]
  rw [h, hy]
  exact (out_apply m c t hQr hKr hSr y0 _ _ _).trans (ref_apply _ _ _ _ _ _ _ _ _).symm

open Cert.SwaIdeal Cert.SwaIdeal.Gen in
/-- The kernel's result array is the reference's. -/
theorem final6 (c : Dev Cert.SwaIdeal.nD) (hQr : ∀ i, ∃ r : ℝ, aQ m c i = r) (hKr : ∀ i, ∃ r : ℝ, aK m c i = r)
    (hSr : ∀ i, ∃ r : ℝ, aS m c i = r) :
    (dats m 0 c).arrAt 6 cfg0.N = val_main_v56 (F := Ideal) (aQ m c) (aK m c) (aV m c) (aS m c) := by
  refine (dats m 0 c).arrAt_eq_of_covers 6 _ (by decide +kernel) fun t _ y => ?_
  blk_simp
  rw [after0_6]
  exact point6 m c t hQr hKr hSr y

end Cert.SwaIdeal.Value

end
-- ==== Proof.SwaClaim.lean ====
module

public import proofs.«01_k».proof.Defs
public import proofs.«01_k».proof.Proof.SwaRef
public import proofs.«01_k».proof.Proof.Gen.Swa.Frame
public import proofs.«01_k».proof.Proof.Gen.SwaIdeal.Frame
public import proofs.«01_k».proof.Proof.Gen.SwaRefIdeal.Run
public import proofs.«01_k».proof.Proof.Gen.Pre_swa_finite
public import Idealize.ShloMosaic.Lib.ReduceAll
public import Idealize.ShloMosaic.Adequacy
public import Idealize.ShloMosaic.Init

/-! The claims about the windowed attention: where the queries, keys and sinks are finite the kernel's result is the
    reference's, and both programs leave their arguments alone. -/

@[expose] public section

set_option maxRecDepth 16384

noncomputable section

namespace Cert.SwaClaim

open Idealize.ShloMosaic Idealize.SL.Sem

/-- The reference ends with its arguments as it found them and every semaphore at zero. -/
theorem ref_frame : Cert.quiescent_SwaRefIdeal (hSwaRefIdeal := Cert.SwaRefIdeal.Gen.facts) :=
  fun m ρ _ => (θ_run Cert.SwaRefIdeal.defs _ _).mono
    (fun r h => ⟨fun c => (h c).2, Idealize.ShloMosaic.sem_eq_zero_of_no_sems (by decide) r.2⟩)
    (Cert.SwaRefIdeal.Value.run (F := Ideal) m ρ)

/-- A value whose absolute value is below plus infinity is a real. -/
theorem real_of_abs_lt (x : EReal) (h : FloatOps.cmpf (F := Ideal) (φ := .f32) .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  have hlt : max x (-x) < ⊤ := by
    by_contra hn
    have : FloatOps.cmpf (F := Ideal) (φ := .f32) .olt (max x (-x)) ⊤ = 0#1 := by
      show BitVec.ofBool (decide (max x (-x) < ⊤)) = 0#1
      rw [decide_eq_false hn]
      rfl
    rw [this] at h
    exact absurd h (by decide)
  induction x with
  | bot => simp at hlt
  | top => simp at hlt
  | coe r => exact ⟨r, rfl⟩

/-- Where the precondition holds the queries, the keys and the sinks are reals. -/
theorem reals (Q : FVec Ideal Cert.SwaIdeal.S32768x1024 .bf16) (K V : FVec Ideal Cert.SwaIdeal.S32768x128 .f32)
    (S : FVec Ideal Cert.SwaIdeal.S16 .f32) (h : Cert.Pre_swa_finite.fn (F := Ideal) Q K V S = fun _ => 1#1) :
    (∀ i, ∃ r : ℝ, Q i = r) ∧ (∀ i, ∃ r : ℝ, K i = r) ∧ (∀ i, ∃ r : ℝ, S i = r) := by
  have and1 : ∀ a b : BitVec 1, IntOp.andi a b = 1#1 → a = 1#1 ∧ b = 1#1 := by decide
  have h0 := congrFun h ix0
  obtain ⟨h1, hS⟩ := and1 _ _ h0
  obtain ⟨hQ, hK⟩ := and1 _ _ h1
  exact ⟨fun i => real_of_abs_lt _ (Host.reduce_andi_all _ _ _ _ _ hQ i),
    fun i => real_of_abs_lt _ (Host.reduce_andi_all _ _ _ _ _ hK i),
    fun i => real_of_abs_lt _ (Host.reduce_andi_all _ _ _ _ _ hS i)⟩

open Cert.SwaIdeal.Value in
/-- Where the precondition holds the kernel and the reference end with equal results. -/
theorem equal : Cert.algebraic_SwaIdeal_SwaRefIdeal_pre_swa_finite (hSwaIdeal := Cert.SwaIdeal.Gen.facts)
    (hSwaRefIdeal := Cert.SwaRefIdeal.Gen.facts) (hPre_swa_finite := Cert.Pre_swa_finite.Gen.facts) := by
  intro m ρ m' ρ' hpre hagree
  refine ⟨fun c => Cert.SwaRefIdeal.Read.val_main_v56 (F := Ideal) (aQ m c) (aK m c) (aV m c) (aS m c), ?_, ?_⟩
  · refine (θ_run Cert.SwaIdeal.defs _ _).mono (fun r h c => ?_) (Cert.SwaIdeal.Value.run_blocks m ρ)
    obtain ⟨h0, hargs⟩ := h c
    obtain ⟨hQ, hK, hS⟩ := reals (aQ m c) (aK m c) (aV m c) (aS m c) (hpre c)
    exact ⟨h0.trans (final6 m c hQ hK hS), hargs⟩
  · refine (θ_run Cert.SwaRefIdeal.defs _ _).mono (fun r h c => ?_)
      (Cert.SwaRefIdeal.Value.run (F := Ideal) m' ρ')
    obtain ⟨a0, a1, a2, a3⟩ := hagree c
    obtain ⟨h0, hargs⟩ := h c
    have e0 := h0.trans (Cert.SwaRefIdeal.Read.val_main_v56_eq m' c)
    clear h0
    rw [a0, a1, a2, a3] at e0
    exact ⟨e0, hargs⟩

end Cert.SwaClaim

end
-- ==== Proof.OutprojValue.lean ====
module

public import proofs.«01_k».proof.Proof.Gen.OutprojIdeal.Value
public import proofs.«01_k».proof.Proof.Gen.OutprojRefIdeal.Read
public import Idealize.ShloMosaic.Lib.Pipeline.ValueKit
public import Idealize.ShloMosaic.Lib.Pointwise

/-! What the output projection leaves in its rows of the prompt: the residual sum, and its normalized and modulated
    copy, equal to the reference's. -/

@[expose] public section

set_option maxRecDepth 16384

noncomputable section

open Idealize.ShloMosaic Idealize.ShloMosaic.TcCoe Idealize.SL.Sem
open Idealize.ShloMosaic.Pipeline (Dat)

namespace Cert.OutprojIdeal.Value

open Cert.OutprojIdeal Cert.OutprojIdeal.Gen

variable (m : (ℓ : Loc nD τ sig) → Buf (Elt Ideal) ℓ)

/-- The residual sum: the activations plus the gate (the modulation's component 2) times the two attentions' rows
    against the two halves of the projection. -/
def res (A B : FVec Ideal S32768x1024 .bf16) (X : FVec Ideal S16x2048x2048 .f32) (M : FVec Ideal S24x12288 .f32)
    (W : FVec Ideal S2048x2048 .f32) (b : Fin 16) (s d : Fin 2048) : EReal :=
  X (ix3 b s d) + M (ix2 ⟨b.val, by omega⟩ ⟨4096 + d.val, by omega⟩)
    * ((∑ k : Fin 1024, A (ix2 ⟨b.val * 2048 + s.val, by omega⟩ k) * W (ix2 ⟨k.val, by omega⟩ d))
      + ∑ k : Fin 1024, B (ix2 ⟨b.val * 2048 + s.val, by omega⟩ k) * W (ix2 ⟨1024 + k.val, by omega⟩ d))

/-- Its normalized copy: the row's RMS normalization times the gain, scaled by `1 + sc` and shifted by `sh`, the
    modulation's components 4 and 3. -/
def hn (A B : FVec Ideal S32768x1024 .bf16) (X : FVec Ideal S16x2048x2048 .f32) (M : FVec Ideal S24x12288 .f32)
    (G : FVec Ideal S2048 .f32) (W : FVec Ideal S2048x2048 .f32) (b : Fin 16) (s d : Fin 2048) : EReal :=
  res A B X M W b s d * Ideal.rsqrt (Ideal.div (∑ k : Fin 2048, res A B X M W b s k * res A B X M W b s k)
      (Ideal.ofBits .f32 0x45000000#32) + Ideal.ofBits .f32 0x358637BD#32) * G (ix1 d)
    * (1 + M (ix2 ⟨b.val, by omega⟩ ⟨8192 + d.val, by omega⟩)) + M (ix2 ⟨b.val, by omega⟩ ⟨6144 + d.val, by omega⟩)

/-- The grid's points: each window's block index. -/
theorem idx : ∀ t : Fin cfg0.N, win0_0.index t = ![min t.val 127, 0] ∧ win0_1.index t = ![min t.val 127, 0]
    ∧ win0_2.index t = ![min t.val 127, 0] ∧ win0_3.index t = ![min t.val 127 / 8 * 6 + 2, 0, 0]
    ∧ win0_4.index t = ![min t.val 127 / 8 * 6 + 3, 0, 0] ∧ win0_5.index t = ![min t.val 127 / 8 * 6 + 4, 0, 0]
    ∧ win0_6.index t = ![0, 0] ∧ win0_7.index t = ![0, 0] ∧ win0_10.index t = ![t.val, 0] ∧ win0_11.index t = ![t.val, 0] :=
  (by decide +kernel : ∀ t : Fin grid0.N, _)

/-- The sequence a grid point of the prompt works on. -/
def seqOf (t : Fin cfg0.N) (ht : t.val < 128) : Fin 16 := ⟨t.val / 8, by omega⟩
/-- The row of that sequence at row `r` of the point's block. -/
def rowOf (t : Fin cfg0.N) (r : Fin 256) : Fin 2048 := ⟨t.val % 8 * 256 + r.val, by omega⟩

/-- The arguments as launched: the two attentions' rows, the activations, the modulation table, the gain and the
    projection. -/
abbrev aA (c : Dev nD) : FVec Ideal S32768x1024 .bf16 := m ((c : Thread nD τ).loc main_arg0)
abbrev aB (c : Dev nD) : FVec Ideal S32768x1024 .bf16 := m ((c : Thread nD τ).loc main_arg1)
abbrev aX (c : Dev nD) : FVec Ideal S16x2048x2048 .f32 := m ((c : Thread nD τ).loc main_arg2)
abbrev aM (c : Dev nD) : FVec Ideal S24x12288 .f32 := m ((c : Thread nD τ).loc main_arg3)
abbrev aG (c : Dev nD) : FVec Ideal S2048 .f32 := m ((c : Thread nD τ).loc main_arg4)
abbrev aW (c : Dev nD) : FVec Ideal S2048x2048 .f32 := m ((c : Thread nD τ).loc main_arg5)

/-! ## What the host line hands to the call -/

theorem V_main_arg0 (c : Dev nD) : V m c main_arg0 = aA m c := by
  simp only [V, hostOps0, hostOps0_1, hostOps0_2, hostOps0_3, hostOps0_4, List.flatten_cons, List.flatten_nil,
    List.append_nil, List.cons_append, List.nil_append]
  entry_read
  rfl

theorem V_main_arg1 (c : Dev nD) : V m c main_arg1 = aB m c := by
  simp only [V, hostOps0, hostOps0_1, hostOps0_2, hostOps0_3, hostOps0_4, List.flatten_cons, List.flatten_nil,
    List.append_nil, List.cons_append, List.nil_append]
  entry_read
  rfl

theorem V_main_v11 (c : Dev nD) : V m c main_v11 = shapeCast S32768x2048 (aX m c) shapeCasts_S16x2048x2048_S32768x2048 := by
  simp only [V, hostOps0, hostOps0_1, hostOps0_2, hostOps0_3, hostOps0_4, List.flatten_cons, List.flatten_nil,
    List.append_nil, List.cons_append, List.nil_append]
  entry_read
  rfl

theorem V_main_v10 (c : Dev nD) : V m c main_v10 = shapeCast S144x1x2048 (aM m c) shapeCasts_S24x12288_S144x1x2048 := by
  simp only [V, hostOps0, hostOps0_1, hostOps0_2, hostOps0_3, hostOps0_4, List.flatten_cons, List.flatten_nil,
    List.append_nil, List.cons_append, List.nil_append]
  entry_read
  rfl

theorem V_main_v12 (c : Dev nD) : V m c main_v12 = (truncf .bf16 (aW m c) bitsLt_bf16_f32 : FVec Ideal S2048x2048 .bf16) := by
  simp only [V, hostOps0, hostOps0_1, hostOps0_2, hostOps0_3, hostOps0_4, List.flatten_cons, List.flatten_nil,
    List.append_nil, List.cons_append, List.nil_append]
  entry_read
  rfl

theorem V_main_v13 (c : Dev nD) : V m c main_v13 = shapeCast S1x2048 (aG m c) shapeCasts_S2048_S1x2048 := by
  simp only [V, hostOps0, hostOps0_1, hostOps0_2, hostOps0_3, hostOps0_4, List.flatten_cons, List.flatten_nil,
    List.append_nil, List.cons_append, List.nil_append]
  entry_read
  rfl

/-! ## The input blocks at coordinates -/

theorem blk0 (c : Dev nD) (t : Fin cfg0.N) (ht : t.val < 128) (r : Fin 256) (k : Fin 1024) :
    iblk m c 0 t (ix2 r k : S256x1024.Idx) = aA m c (ix2 ⟨(seqOf t ht).val * 2048 + (rowOf t r).val, by omega⟩ k) := by
  have h : ((cfg0.win 0).blk t).view.emb (ix2 r k : S256x1024.Idx)
      = (ix2 ⟨(seqOf t ht).val * 2048 + (rowOf t r).val, by omega⟩ k : S32768x1024.Idx) := by
    blk_ext [idx t, seqOf, rowOf]
  exact (congrArg (V m c main_arg0) h).trans (by rw [V_main_arg0])

theorem blk1 (c : Dev nD) (t : Fin cfg0.N) (ht : t.val < 128) (r : Fin 256) (k : Fin 1024) :
    iblk m c 1 t (ix2 r k : S256x1024.Idx) = aB m c (ix2 ⟨(seqOf t ht).val * 2048 + (rowOf t r).val, by omega⟩ k) := by
  have h : ((cfg0.win 1).blk t).view.emb (ix2 r k : S256x1024.Idx)
      = (ix2 ⟨(seqOf t ht).val * 2048 + (rowOf t r).val, by omega⟩ k : S32768x1024.Idx) := by
    blk_ext [idx t, seqOf, rowOf]
  exact (congrArg (V m c main_arg1) h).trans (by rw [V_main_arg1])

theorem blk2 (c : Dev nD) (t : Fin cfg0.N) (ht : t.val < 128) (r : Fin 256) (d : Fin 2048) :
    iblk m c 2 t (ix2 r d : S256x2048.Idx) = aX m c (ix3 (seqOf t ht) (rowOf t r) d) := by
  have e : ∀ (A : FVec Ideal S16x2048x2048 .f32) (i : Fin 32768), shapeCast S32768x2048 A shapeCasts_S16x2048x2048_S32768x2048 (ix2 i d)
      = A (ix3 ⟨i.val / 2048, by omega⟩ ⟨i.val % 2048, by omega⟩ d) := by
    intro A i; pointwise
  have h : ((cfg0.win 2).blk t).view.emb (ix2 r d : S256x2048.Idx) = (ix2 ⟨t.val * 256 + r.val, by omega⟩ d : S32768x2048.Idx) := by
    blk_ext [idx t]
  refine (congrArg (V m c main_v11) h).trans ?_
  rw [V_main_v11, e]
  blk_ext [seqOf, rowOf]

theorem mod_read (A : FVec Ideal S24x12288 .f32) (i : Fin 144) (d : Fin 2048) :
    shapeCast S144x1x2048 A shapeCasts_S24x12288_S144x1x2048 (ix3 i 0 d)
      = A (ix2 ⟨i.val / 6, by omega⟩ ⟨i.val % 6 * 2048 + d.val, by omega⟩) := by
  pointwise

theorem blk3 (c : Dev nD) (t : Fin cfg0.N) (ht : t.val < 128) (d : Fin 2048) :
    iblk m c 3 t (ix3 0 0 d : S1x1x2048.Idx) = aM m c (ix2 ⟨(seqOf t ht).val, by omega⟩ ⟨4096 + d.val, by omega⟩) := by
  have h : ((cfg0.win 3).blk t).view.emb (ix3 0 0 d : S1x1x2048.Idx) = (ix3 ⟨t.val / 8 * 6 + 2, by omega⟩ 0 d : S144x1x2048.Idx) := by
    blk_ext [idx t]
  refine (congrArg (V m c main_v10) h).trans ?_
  rw [V_main_v10, mod_read]
  blk_ext [seqOf]

theorem blk4 (c : Dev nD) (t : Fin cfg0.N) (ht : t.val < 128) (d : Fin 2048) :
    iblk m c 4 t (ix3 0 0 d : S1x1x2048.Idx) = aM m c (ix2 ⟨(seqOf t ht).val, by omega⟩ ⟨6144 + d.val, by omega⟩) := by
  have h : ((cfg0.win 4).blk t).view.emb (ix3 0 0 d : S1x1x2048.Idx) = (ix3 ⟨t.val / 8 * 6 + 3, by omega⟩ 0 d : S144x1x2048.Idx) := by
    blk_ext [idx t]
  refine (congrArg (V m c main_v10) h).trans ?_
  rw [V_main_v10, mod_read]
  blk_ext [seqOf]

theorem blk5 (c : Dev nD) (t : Fin cfg0.N) (ht : t.val < 128) (d : Fin 2048) :
    iblk m c 5 t (ix3 0 0 d : S1x1x2048.Idx) = aM m c (ix2 ⟨(seqOf t ht).val, by omega⟩ ⟨8192 + d.val, by omega⟩) := by
  have h : ((cfg0.win 5).blk t).view.emb (ix3 0 0 d : S1x1x2048.Idx) = (ix3 ⟨t.val / 8 * 6 + 4, by omega⟩ 0 d : S144x1x2048.Idx) := by
    blk_ext [idx t]
  refine (congrArg (V m c main_v10) h).trans ?_
  rw [V_main_v10, mod_read]
  blk_ext [seqOf]

theorem blk6 (c : Dev nD) (t : Fin cfg0.N) (d : Fin 2048) :
    iblk m c 6 t (ix2 0 d : S1x2048.Idx) = aG m c (ix1 d) := by
  have h : ((cfg0.win 6).blk t).view.emb (ix2 0 d : S1x2048.Idx) = (ix2 0 d : S1x2048.Idx) := by
    blk_ext [idx t]
  refine (congrArg (V m c main_v13) h).trans ?_
  rw [V_main_v13]
  pointwise

theorem blk7 (c : Dev nD) (t : Fin cfg0.N) (k d : Fin 2048) :
    iblk m c 7 t (ix2 k d : S2048x2048.Idx) = aW m c (ix2 k d) := by
  have h : ((cfg0.win 7).blk t).view.emb (ix2 k d : S2048x2048.Idx) = (ix2 k d : S2048x2048.Idx) := by
    blk_ext [idx t]
  refine (congrArg (V m c main_v12) h).trans ?_
  rw [V_main_v12]
  pointwise

/-! ## The two halves of the projection, as loaded -/

theorem top_apply (x : Vec Ideal S2048x2048 .bf16) (k : Fin 1024) (d : Fin 2048) :
    View.ld x r0_1 (ix2 k d) = x (ix2 ⟨k.val, by omega⟩ d) := by
  refine congrArg x (funext fun a => ?_)
  fin_cases a <;> refine Fin.ext ((Rect.idx_unit_val _ _ _ _ _).trans ?_)
  · exact Nat.zero_add _
  · exact Nat.zero_add _

theorem bot_apply (x : Vec Ideal S2048x2048 .bf16) (k : Fin 1024) (d : Fin 2048) :
    View.ld x r0_2 (ix2 k d) = x (ix2 ⟨1024 + k.val, by omega⟩ d) := by
  refine congrArg x (funext fun a => ?_)
  fin_cases a <;> refine Fin.ext ((Rect.idx_unit_val _ _ _ _ _).trans ?_)
  · rfl
  · exact Nat.zero_add _

theorem pay2_apply (c : Dev nD) (t : Fin cfg0.N) (ht : t.val < 128) (r : Fin 256) (d : Fin 2048) :
    k0_pay2 (iblk m c 0 t) (View.ld (iblk m c 7 t) r0_1) (iblk m c 1 t) (View.ld (iblk m c 7 t) r0_2) (iblk m c 2 t) (iblk m c 3 t) (ix2 r d)
      = res (aA m c) (aB m c) (aX m c) (aM m c) (aW m c) (seqOf t ht) (rowOf t r) d := by
  pointwise [k0_pay2, res, top_apply, bot_apply, blk0 m c t ht, blk1 m c t ht, blk2 m c t ht, blk3 m c t ht, blk7]

theorem pay3_apply (c : Dev nD) (t : Fin cfg0.N) (ht : t.val < 128) (r : Fin 256) (d : Fin 2048) :
    k0_pay4 (k0_pay3 (iblk m c 0 t) (View.ld (iblk m c 7 t) r0_1) (iblk m c 1 t) (View.ld (iblk m c 7 t) r0_2) (iblk m c 2 t) (iblk m c 3 t) (iblk m c 6 t))
        (iblk m c 5 t) (iblk m c 4 t) (ix2 r d)
      = hn (aA m c) (aB m c) (aX m c) (aM m c) (aG m c) (aW m c) (seqOf t ht) (rowOf t r) d := by
  pointwise [k0_pay4, k0_pay3, hn, pay2_apply m c t ht, blk4 m c t ht, blk5 m c t ht, blk6]

/-! ## The reference at coordinates -/

theorem sum_halves (f : Fin 2048 → EReal) :
    ∑ k : Fin 2048, f k = (∑ k : Fin 1024, f ⟨k.val, by omega⟩) + ∑ k : Fin 1024, f ⟨1024 + k.val, by omega⟩ :=
  Fin.sum_univ_add (a := 1024) (b := 1024) f

theorem ref_cat_lo (A B : FVec Ideal S32768x1024 .bf16) (b : Fin 16) (s : Fin 2048) (k : Fin 1024) :
    Cert.OutprojRefIdeal.Read.val_main_v12 (F := Ideal) A B (ix3 b s ⟨k.val, by omega⟩) = A (ix2 ⟨b.val * 2048 + s.val, by omega⟩ k) := by
  open Cert.OutprojRefIdeal.Read in
  pointwise [val_main_v12, val_main_v11, val_main_v10, val_main_v9, val_main_v8]

theorem ref_cat_hi (A B : FVec Ideal S32768x1024 .bf16) (b : Fin 16) (s : Fin 2048) (k : Fin 1024) :
    Cert.OutprojRefIdeal.Read.val_main_v12 (F := Ideal) A B (ix3 b s ⟨1024 + k.val, by omega⟩) = B (ix2 ⟨b.val * 2048 + s.val, by omega⟩ k) := by
  open Cert.OutprojRefIdeal.Read in
  pointwise [val_main_v12, val_main_v11, val_main_v10, val_main_v9, val_main_v8]

theorem ref_dot (A B : FVec Ideal S32768x1024 .bf16) (W : FVec Ideal S2048x2048 .f32) (b : Fin 16) (s d : Fin 2048) :
    Cert.OutprojRefIdeal.Read.val_main_v13 (F := Ideal) A B W (ix3 b s d)
      = (∑ k : Fin 1024, A (ix2 ⟨b.val * 2048 + s.val, by omega⟩ k) * W (ix2 ⟨k.val, by omega⟩ d))
      + ∑ k : Fin 1024, B (ix2 ⟨b.val * 2048 + s.val, by omega⟩ k) * W (ix2 ⟨1024 + k.val, by omega⟩ d) := by
  have h : Cert.OutprojRefIdeal.Read.val_main_v13 (F := Ideal) A B W (ix3 b s d)
      = ∑ k : Fin 2048, Cert.OutprojRefIdeal.Read.val_main_v12 (F := Ideal) A B (ix3 b s k) * W (ix2 k d) := by
    open Cert.OutprojRefIdeal.Read in
    pointwise [val_main_v13]
  rw [h, sum_halves]
  simp only [ref_cat_lo, ref_cat_hi]

theorem ref_res (A B : FVec Ideal S32768x1024 .bf16) (X : FVec Ideal S16x2048x2048 .f32) (M : FVec Ideal S24x12288 .f32)
    (W : FVec Ideal S2048x2048 .f32) (b : Fin 16) (s d : Fin 2048) :
    Cert.OutprojRefIdeal.Read.val_main_v16 (F := Ideal) A B X M W (ix3 b s d) = res A B X M W b s d := by
  open Cert.OutprojRefIdeal.Read in
  pointwise [res, val_main_v16, val_main_v15, val_main_v14, ref_dot, val_main_v4, val_main_v1, val_main_v0]

theorem ref_hn (A B : FVec Ideal S32768x1024 .bf16) (X : FVec Ideal S16x2048x2048 .f32) (M : FVec Ideal S24x12288 .f32)
    (G : FVec Ideal S2048 .f32) (W : FVec Ideal S2048x2048 .f32) (b : Fin 16) (s d : Fin 2048) :
    Cert.OutprojRefIdeal.Read.val_main_v35 (F := Ideal) A B X M G W (ix3 b s d) = hn A B X M G W b s d := by
  open Cert.OutprojRefIdeal.Read in
  pointwise [hn, ref_res, val_main_v35, val_main_v34, val_main_v33, val_main_v32, val_main_v31, val_main_v30, val_main_cst_2,
    val_main_v29, val_main_v28, val_main_v27, val_main_v26, val_main_v25, val_main_v24, val_main_v23, val_main_v22,
    val_main_cst_1, val_main_v21, val_main_v20, val_main_cst_0, val_main_v19, val_main_v18, val_main_cst, val_main_v17,
    val_main_v6, val_main_v5, val_main_v1, val_main_v0]

theorem seq_eq (t : Fin cfg0.N) (ht : t.val < 128) (r : Fin 256) (h) : (⟨(t.val * 256 + r.val) / 2048, h⟩ : Fin 16) = seqOf t ht :=
  Fin.ext (by have := r.isLt; simp only [seqOf]; omega)
theorem row_eq (t : Fin cfg0.N) (r : Fin 256) (h) : (⟨(t.val * 256 + r.val) % 2048, h⟩ : Fin 2048) = rowOf t r :=
  Fin.ext (by have := r.isLt; simp only [rowOf]; omega)

theorem ref_x1 (A B : FVec Ideal S32768x1024 .bf16) (X : FVec Ideal S16x2048x2048 .f32) (M : FVec Ideal S24x12288 .f32)
    (W : FVec Ideal S2048x2048 .f32) (i : Fin 32896) (hi : i.val < 32768) (d : Fin 2048) :
    Cert.OutprojRefIdeal.Read.val_main_v37 (F := Ideal) A B X M W (ix2 i d)
      = res A B X M W ⟨i.val / 2048, by omega⟩ ⟨i.val % 2048, by omega⟩ d := by
  open Cert.OutprojRefIdeal.Read in
  pointwise [val_main_v37, val_main_v36, ref_res]
  exact dif_pos hi

theorem ref_h2 (A B : FVec Ideal S32768x1024 .bf16) (X : FVec Ideal S16x2048x2048 .f32) (M : FVec Ideal S24x12288 .f32)
    (G : FVec Ideal S2048 .f32) (W : FVec Ideal S2048x2048 .f32) (i : Fin 32896) (hi : i.val < 32768) (d : Fin 2048) :
    Cert.OutprojRefIdeal.Read.val_main_v39 (F := Ideal) A B X M G W (ix2 i d)
      = hn A B X M G W ⟨i.val / 2048, by omega⟩ ⟨i.val % 2048, by omega⟩ d := by
  open Cert.OutprojRefIdeal.Read in
  pointwise [val_main_v39, val_main_v38, ref_hn]
  exact dif_pos hi

/-! ## What a point of the prompt leaves -/

/-- The values the second store works on, over whole loads. -/
theorem pay23_eq (x0 x1 : Vec Ideal S256x1024 .bf16) (x2 : Vec Ideal S256x2048 .f32) (x3 x4 x5 : Vec Ideal S1x1x2048 .f32)
    (x6 : Vec Ideal S1x2048 .f32) (x7 : Vec Ideal S2048x2048 .bf16) (x8 : Vec Ideal S2048x256 .bf16) (x9 : Vec Ideal S1x128 .f32) :
    k0_pay23 x0 x1 x2 x3 x4 x5 x6 x7 x8 x9 = k0_pay3 x0 (View.ld x7 r0_1) x1 (View.ld x7 r0_2) x2 x3 x6 := by
  have h2 : (![0, 0] : Fin 2 → Nat) = fun _ => 0 := by funext a; fin_cases a <;> rfl
  have h3 : (![0, 0, 0] : Fin 3 → Nat) = fun _ => 0 := by funext a; fin_cases a <;> rfl
  unfold k0_pay23
  rw [show View.ld x0 r0_0 = x0 from View.ld_unit_zero h2 _ x0, show View.ld x1 r0_0 = x1 from View.ld_unit_zero h2 _ x1,
    show View.ld x2 r0_3 = x2 from View.ld_unit_zero h2 _ x2, show View.ld x3 r0_4 = x3 from View.ld_unit_zero h3 _ x3,
    show View.ld x6 r0_5 = x6 from View.ld_unit_zero h2 _ x6]

theorem point10 (c : Dev nD) (t : Fin cfg0.N) (ht : t.val < 128) (r : Fin 256) (d : Fin 2048) :
    out0_10 (iblk m c 0 t) (iblk m c 1 t) (iblk m c 2 t) (iblk m c 3 t) (iblk m c 4 t) (iblk m c 5 t) (iblk m c 6 t) (iblk m c 7 t)
        (iblk m c 8 t) (iblk m c 9 t) (ix2 r d)
      = res (aA m c) (aB m c) (aX m c) (aM m c) (aW m c) (seqOf t ht) (rowOf t r) d := by
  refine Eq.trans ?_ (pay2_apply m c t ht r d)
  frame_out
  rfl

theorem point11 (c : Dev nD) (t : Fin cfg0.N) (ht : t.val < 128) (r : Fin 256) (d : Fin 2048) :
    out0_11 (iblk m c 0 t) (iblk m c 1 t) (iblk m c 2 t) (iblk m c 3 t) (iblk m c 4 t) (iblk m c 5 t) (iblk m c 6 t) (iblk m c 7 t)
        (iblk m c 8 t) (iblk m c 9 t) (ix2 r d)
      = hn (aA m c) (aB m c) (aX m c) (aM m c) (aG m c) (aW m c) (seqOf t ht) (rowOf t r) d := by
  refine Eq.trans ?_ (pay3_apply m c t ht r d)
  frame_out
  rw [pay23_eq]
  rfl

/-! ## The arrays after the run, in the prompt's rows -/

theorem emb10 (t : Fin cfg0.N) (y : ((cfg0.win 10).xblock (cfg0.grid.coords t)).Idx) (r : Fin 256) (d : Fin 2048)
    (hy : (cfg0.win 10).xinj (cfg0.grid.coords t) y = (ix2 r d : S256x2048.Idx)) (hr : t.val < 128) :
    ((cfg0.win 10).blk t).view.emb y = (ix2 ⟨t.val * 256 + r.val, by omega⟩ d : S32896x2048.Idx) := by
  have h0 : (y 0).val = r.val := congrArg (fun z : S256x2048.Idx => (z 0).val) hy
  have h1 : (y 1).val = d.val := congrArg (fun z : S256x2048.Idx => (z 1).val) hy
  blk_ext [idx t, h0, h1]

theorem emb11 (t : Fin cfg0.N) (y : ((cfg0.win 11).xblock (cfg0.grid.coords t)).Idx) (r : Fin 256) (d : Fin 2048)
    (hy : (cfg0.win 11).xinj (cfg0.grid.coords t) y = (ix2 r d : S256x2048.Idx)) (hr : t.val < 128) :
    ((cfg0.win 11).blk t).view.emb y = (ix2 ⟨t.val * 256 + r.val, by omega⟩ d : S32896x2048.Idx) := by
  have h0 : (y 0).val = r.val := congrArg (fun z : S256x2048.Idx => (z 0).val) hy
  have h1 : (y 1).val = d.val := congrArg (fun z : S256x2048.Idx => (z 1).val) hy
  blk_ext [idx t, h0, h1]

open Cert.OutprojRefIdeal.Read in
theorem final10 (c : Dev nD) (i : S32896x2048.Idx) : (i 0).val < 32768 →
    (dats m 0 c).arrAt 10 (cfgs 0).N i = val_main_v37 (F := Ideal) (aA m c) (aB m c) (aX m c) (aM m c) (aW m c) i := by
  refine (dats m 0 c).arrAt_forall_of_covers 10 (fun i v => (i 0).val < 32768 → v = val_main_v37 (F := Ideal) (aA m c) (aB m c) (aX m c) (aM m c) (aW m c) i)
    (by decide +kernel) (fun t _ y => ?_) i
  blk_simp
  rw [after0_10]
  intro hi
  have ht : t.val < 128 := by
    have e : win0_10.index t 0 = t.val := by rw [(idx t).2.2.2.2.2.2.2.2.1]; rfl
    rw [e] at hi
    omega
  obtain ⟨r, d, hy⟩ : ∃ (r : Fin 256) (d : Fin 2048), (cfg0.win 10).xinj (cfg0.grid.coords t) y = (ix2 r d : S256x2048.Idx) :=
    ⟨_, _, (ix2_eta (n0 := 256) (n1 := 2048) _).symm⟩
  refine (congrArg _ hy).trans ((point10 m c t ht r d).trans ?_)
  refine Eq.trans ?_ (congrArg (val_main_v37 (F := Ideal) (aA m c) (aB m c) (aX m c) (aM m c) (aW m c)) (emb10 t y r d hy ht)).symm
  rw [ref_x1 _ _ _ _ _ _ (show t.val * 256 + r.val < 32768 by omega), seq_eq t ht, row_eq]

open Cert.OutprojRefIdeal.Read in
theorem final11 (c : Dev nD) (i : S32896x2048.Idx) : (i 0).val < 32768 →
    (dats m 0 c).arrAt 11 (cfgs 0).N i = val_main_v39 (F := Ideal) (aA m c) (aB m c) (aX m c) (aM m c) (aG m c) (aW m c) i := by
  refine (dats m 0 c).arrAt_forall_of_covers 11 (fun i v => (i 0).val < 32768 → v = val_main_v39 (F := Ideal) (aA m c) (aB m c) (aX m c) (aM m c) (aG m c) (aW m c) i)
    (by decide +kernel) (fun t _ y => ?_) i
  blk_simp
  rw [after0_11]
  intro hi
  have ht : t.val < 128 := by
    have e : win0_11.index t 0 = t.val := by rw [(idx t).2.2.2.2.2.2.2.2.2]; rfl
    rw [e] at hi
    omega
  obtain ⟨r, d, hy⟩ : ∃ (r : Fin 256) (d : Fin 2048), (cfg0.win 11).xinj (cfg0.grid.coords t) y = (ix2 r d : S256x2048.Idx) :=
    ⟨_, _, (ix2_eta (n0 := 256) (n1 := 2048) _).symm⟩
  refine (congrArg _ hy).trans ((point11 m c t ht r d).trans ?_)
  refine Eq.trans ?_ (congrArg (val_main_v39 (F := Ideal) (aA m c) (aB m c) (aX m c) (aM m c) (aG m c) (aW m c)) (emb11 t y r d hy ht)).symm
  rw [ref_h2 _ _ _ _ _ _ _ (show t.val * 256 + r.val < 32768 by omega), seq_eq t ht, row_eq]

end Cert.OutprojIdeal.Value
-- ==== Proof.OutprojClaim.lean ====
module

public import proofs.«01_k».proof.Defs
public import proofs.«01_k».proof.Proof.OutprojValue
public import proofs.«01_k».proof.Proof.Gen.Outproj.Frame
public import proofs.«01_k».proof.Proof.Gen.OutprojIdeal.Frame
public import proofs.«01_k».proof.Proof.Gen.OutprojRefIdeal.Run
public import proofs.«01_k».proof.Proof.Gen.On_prompt_rows
public import Idealize.ShloMosaic.Adequacy
public import Idealize.ShloMosaic.Init

/-! The claims about the output projection: in the prompt's rows its kernel leaves what the reference leaves,
    and both programs leave their arguments alone. -/

@[expose] public section

set_option maxRecDepth 16384

noncomputable section

namespace Cert.OutprojClaim

open Idealize.ShloMosaic Idealize.SL.Sem

/-- The reference ends with its arguments as it found them and every semaphore at zero. -/
theorem ref_frame : Cert.quiescent_OutprojRefIdeal (hOutprojRefIdeal := Cert.OutprojRefIdeal.Gen.facts) :=
  fun m ρ _ => (θ_run Cert.OutprojRefIdeal.defs _ _).mono
    (fun r h => ⟨fun c => (h c).2.2, Idealize.ShloMosaic.sem_eq_zero_of_no_sems (by decide) r.2⟩)
    (Cert.OutprojRefIdeal.Value.run (F := Ideal) m ρ)

/-- The mask of the prompt's rows selects a row only below 32768. -/
theorem row_lt (i : (⟨2, ![32896, 2048]⟩ : Shape).Idx)
    (h : (Scalar.cmpi .slt (BitVec.ofNat 32 (i 0).val) 32768#32) = 1#1) : (i 0).val < 32768 := by
  have hi : (i 0).val < 32896 := (i 0).isLt
  generalize (i 0).val = n at h hi ⊢
  by_contra hn
  have e : (BitVec.ofNat 32 n).slt 32768#32 = false := by
    have e1 : (BitVec.ofNat 32 n).toInt = (n : Int) := by
      rw [BitVec.toInt_eq_toNat_of_lt (by rw [BitVec.toNat_ofNat]; omega), BitVec.toNat_ofNat]
      omega
    have e2 : (32768#32 : BitVec 32).toInt = 32768 := by decide
    rw [BitVec.slt, e1, e2, decide_eq_false_iff_not]
    omega
  have h' : BitVec.ofBool ((BitVec.ofNat 32 n).slt 32768#32) = 1#1 := h
  rw [e] at h'
  exact absurd h' (by decide)

open Cert.OutprojIdeal.Value in
/-- The kernel and the reference end with equal results in the prompt's rows. -/
theorem equal : Cert.algebraic_OutprojIdeal_OutprojRefIdeal_on_prompt_rows (hOutprojIdeal := Cert.OutprojIdeal.Gen.facts)
    (hOutprojRefIdeal := Cert.OutprojRefIdeal.Gen.facts) (hOn_prompt_rows := Cert.On_prompt_rows.Gen.facts) := by
  intro m ρ m' ρ' _ hagree
  refine ⟨fun c => Cert.OutprojRefIdeal.Read.val_main_v37 (F := Ideal) (aA m c) (aB m c) (aX m c) (aM m c) (aW m c),
    fun c => Cert.OutprojRefIdeal.Read.val_main_v39 (F := Ideal) (aA m c) (aB m c) (aX m c) (aM m c) (aG m c) (aW m c), ?_, ?_⟩
  · refine (θ_run Cert.OutprojIdeal.defs _ _).mono (fun r h c => ?_) (Cert.OutprojIdeal.Value.run_blocks m ρ)
    obtain ⟨h0, h1, -, hargs⟩ := h c
    exact ⟨fun i hi => (congrFun h0 i).trans (final10 m c i (row_lt i hi)),
      fun i hi => (congrFun h1 i).trans (final11 m c i (row_lt i hi)), hargs⟩
  · refine (θ_run Cert.OutprojRefIdeal.defs _ _).mono (fun r h c => ?_)
      (Cert.OutprojRefIdeal.Value.run (F := Ideal) m' ρ')
    obtain ⟨a0, a1, a2, a3, a4, a5, -⟩ := hagree c
    obtain ⟨h0, h1, hargs⟩ := h c
    have e0 := h0.trans (Cert.OutprojRefIdeal.Read.val_main_v37_eq _ _ _ _ _)
    clear h0
    have e1 := h1.trans (Cert.OutprojRefIdeal.Read.val_main_v39_eq m' c)
    clear h1
    rw [a0, a1, a2, a3, a5] at e0
    rw [a0, a1, a2, a3, a4, a5] at e1
    exact ⟨fun i _ => congrFun e0 i, fun i _ => congrFun e1 i, hargs⟩

end Cert.OutprojClaim

end
-- ==== Proof.Gla.lean ====
module

public import Idealize.ShloMosaic.Lib.Pipeline.ValueKit
public import Idealize.ShloMosaic.Lib.Pointwise

/-! Gated linear attention over one block of `c` positions, for one head, on the extended reals; and the running sum of
    the log decays, taken in doubling steps or in one window. -/

@[expose] public section

noncomputable section

open Idealize.ShloMosaic

namespace Cert.Gla

/-! ## Running sums -/

/-- The sum of the last `n` entries up to `r`, as many as there are. -/
def win {c : ℕ} (x : Fin c → EReal) (n : ℕ) (r : Fin c) : EReal :=
  ∑ i ∈ Finset.range n, if i ≤ r.val then x ⟨r.val - i, by omega⟩ else 0

theorem win_one {c : ℕ} (x : Fin c → EReal) (r : Fin c) : win x 1 r = x r := by
  simp [win]

/-- A window is doubled by adding to it the window ending `n` places before. -/
theorem win_double {c : ℕ} (x : Fin c → EReal) (n : ℕ) (r : Fin c) :
    win x n r + (if h : n ≤ r.val then win x n ⟨r.val - n, by omega⟩ else 0) = win x (n + n) r := by
  have e : win x (n + n) r = win x n r + ∑ i ∈ Finset.range n, if n + i ≤ r.val then x ⟨r.val - (n + i), by omega⟩ else 0 :=
    Finset.sum_range_add _ _ _
  rw [e]
  congr 1
  by_cases h : n ≤ r.val
  · rw [dif_pos h]
    refine Finset.sum_congr rfl fun i _ => ?_
    by_cases hi : n + i ≤ r.val
    · rw [if_pos (show i ≤ r.val - n by omega), if_pos hi]
      exact congrArg x (Fin.ext (by dsimp only; omega))
    · rw [if_neg (show ¬ i ≤ r.val - n by omega), if_neg hi]
  · rw [dif_neg h]
    refine (Finset.sum_eq_zero fun i _ => ?_).symm
    rw [if_neg (by omega)]

/-- A window counted from its far end. -/
theorem win_reflect {c : ℕ} (x : Fin c → EReal) (n : ℕ) (r : Fin c) :
    (∑ i ∈ Finset.range n, if h : n - 1 ≤ r.val + i ∧ r.val + i - (n - 1) < c then x ⟨r.val + i - (n - 1), h.2⟩ else 0)
      = win x n r := by
  unfold win
  rw [← Finset.sum_range_reflect]
  refine Finset.sum_congr rfl fun i hi => ?_
  have hi := Finset.mem_range.mp hi
  by_cases h : i ≤ r.val
  · rw [dif_pos ⟨by omega, by omega⟩, if_pos h]
    exact congrArg x (Fin.ext (by dsimp only; omega))
  · rw [dif_neg (by omega), if_neg h]

/-- Adding a list's terms one after the other gives their sum. -/
theorem foldl_add {n : ℕ} (f : Fin n → EReal) : (List.finRange n).foldl (fun r i => r + f i) 0 = ∑ i, f i := by
  rw [← List.sum_ofFn, List.ofFn_eq_map, List.sum_eq_foldl, List.foldl_map]

/-! ## One block of the attention -/

section
variable {c : ℕ} (Q K L : Fin c → Fin 128 → EReal) (V : Fin c → Fin 256 → EReal) (S : Fin 128 → Fin 256 → EReal)

/-- The log decay from the block's start up to position `r`. -/
def cum (r : Fin c) (k : Fin 128) : EReal := win (fun i => L i k) c r

/-- The causal score of position `r` against position `s`. -/
def causal (r s : Fin c) : EReal :=
  if s.val ≤ r.val then ∑ k, (Q r k * Ideal.exp (cum L r k)) * (K s k * Ideal.exp (-(cum L s k))) else 0

/-- The output at position `r`: what the state carried in gives, and what the block's own positions give. -/
def out (r : Fin c) (v : Fin 256) : EReal :=
  (∑ k, (Q r k * Ideal.exp (cum L r k)) * S k v) + ∑ s, causal Q K L r s * V s v

/-- The state after the block, whose last position is `l`. -/
def next (l : Fin c) (k : Fin 128) (v : Fin 256) : EReal :=
  S k v * Ideal.exp (cum L l k) + ∑ s, (K s k * Ideal.exp (cum L l k - cum L s k)) * V s v

/-- A row normalized, scaled by `g` and gated by the sigmoid-weighted `z`. -/
def gated (o : Fin 256 → EReal) (g z : EReal) (v : Fin 256) : EReal :=
  o v * Ideal.rsqrt (Ideal.div (∑ i, o i * o i) (Ideal.ofBits .f32 0x43800000#32) + Ideal.ofBits .f32 0x358637BD#32) * g
    * Ideal.div z (Ideal.ofBits .f32 0x3F800000#32 + Ideal.exp (-z))
end

variable {c : ℕ} {Q Q' K K' L L' : Fin c → Fin 128 → EReal} {V V' : Fin c → Fin 256 → EReal} {S S' : Fin 128 → Fin 256 → EReal}

theorem out_congr (hQ : ∀ i k, Q i k = Q' i k) (hK : ∀ i k, K i k = K' i k) (hL : ∀ i k, L i k = L' i k)
    (hV : ∀ i d, V i d = V' i d) (hS : ∀ k d, S k d = S' k d) (r : Fin c) (v : Fin 256) :
    out Q K L V S r v = out Q' K' L' V' S' r v := by
  obtain rfl : Q = Q' := funext fun i => funext (hQ i)
  obtain rfl : K = K' := funext fun i => funext (hK i)
  obtain rfl : L = L' := funext fun i => funext (hL i)
  obtain rfl : V = V' := funext fun i => funext (hV i)
  obtain rfl : S = S' := funext fun i => funext (hS i)
  rfl

theorem next_congr (hK : ∀ i k, K i k = K' i k) (hL : ∀ i k, L i k = L' i k)
    (hV : ∀ i d, V i d = V' i d) (hS : ∀ k d, S k d = S' k d) (l : Fin c) (k : Fin 128) (v : Fin 256) :
    next K L V S l k v = next K' L' V' S' l k v := by
  obtain rfl : K = K' := funext fun i => funext (hK i)
  obtain rfl : L = L' := funext fun i => funext (hL i)
  obtain rfl : V = V' := funext fun i => funext (hV i)
  obtain rfl : S = S' := funext fun i => funext (hS i)
  rfl

theorem gated_congr {o o' : Fin 256 → EReal} {g g' z z' : EReal} (ho : ∀ i, o i = o' i) (hg : g = g') (hz : z = z')
    (v : Fin 256) : gated o g z v = gated o' g' z' v := by
  obtain rfl : o = o' := funext ho
  rw [hg, hz]

/-- Dividing by `1 + exp (-x)` is multiplying by the quotient of one. -/
theorem div_one_add_exp (z x : EReal) : Ideal.div z (1 + Ideal.exp (-x)) = z * Ideal.div 1 (1 + Ideal.exp (-x)) := by
  have h : (1 + Ideal.exp (-x) : EReal) ≠ 0 := by
    have hp : (0 : EReal) ≤ Ideal.exp (-x) := by
      induction (-x) with
      | bot => exact le_of_eq Ideal.exp_bot.symm
      | top => exact (show (0 : EReal) ≤ ⊤ from le_top)
      | coe r => rw [Ideal.exp_coe]; exact_mod_cast (Real.exp_pos r).le
    exact ne_of_gt (lt_of_lt_of_le zero_lt_one (le_add_of_nonneg_right hp))
  show (if _ then _ else _) = z * (if _ then _ else _)
  rw [if_neg h, if_neg h, one_mul]

end Cert.Gla

end
-- ==== Proof.SglaHead.lean ====
module

public import proofs.«01_k».proof.Proof.Gen.SglaIdeal.Value
public import proofs.«01_k».proof.Proof.Gla
public import Idealize.ShloMosaic.Lib.Pipeline.ValueKit
public import Idealize.ShloMosaic.Lib.Pointwise

/-! The running streams' gated linear attention: what one head's stored values are. -/

@[expose] public section

set_option maxRecDepth 16384

noncomputable section

open Idealize.ShloMosaic Idealize.ShloMosaic.TcCoe Idealize.SL.Sem

namespace Cert.SglaIdeal.Value

open Cert.SglaIdeal Cert.SglaIdeal.Gen

/-- One doubling step of the running sum: the rows from `n` on gain the row `n` places before. -/
def step (n : ℕ) (x : FVec Ideal S16x128 .f32) : FVec Ideal S16x128 .f32 :=
  addf x (select (cmpi .sge (iota .tc S16x128 32 [0] iota_S16x128_d0_w32) (broadcast S16x128 (BitVec.ofNat 32 n)))
    (dynamicRotate 0 (BitVec.ofNat 32 n) none x rotates_S16x128_d0) (broadcast S16x128 (Scalar.ofBits .f32 0x00000000#32)))

theorem reached : ∀ n r : Fin 16, (IntOp.cmpi .sge (BitVec.ofNat 32 r.val) (BitVec.ofNat 32 n.val) = 1#1) ↔ n.val ≤ r.val := by
  decide +kernel

theorem step_apply (n : Fin 16) (x : FVec Ideal S16x128 .f32) (r : Fin 16) (k : Fin 128) :
    step n.val x (ix2 r k) = x (ix2 r k) + if h : n.val ≤ r.val then x (ix2 ⟨r.val - n.val, by omega⟩ k) else 0 := by
  have hn : (BitVec.ofNat 32 n.val).toNat = n.val := by rw [BitVec.toNat_ofNat]; omega
  pointwise [step]
  refine congrArg (x (ix2 r k) + ·) ?_
  by_cases h : n.val ≤ r.val
  · refine (if_pos ((reached n r).mpr h)).trans ?_
    rw [dif_pos h]
    exact congrArg (fun i => x (ix2 i k)) (Fin.ext (by dsimp only; rw [hn]; omega))
  · rw [dif_neg h]
    exact if_neg fun h' => h ((reached n r).mp h')

theorem pay3_steps (l : Vec Ideal S16x128 .f32) : k0_pay3 (F := Ideal) l = step 8 (step 4 (step 2 (step 1 l))) := rfl

/-- The doubling steps leave the running sums. -/
theorem cum_apply (l : Vec Ideal S16x128 .f32) (r : Fin 16) (k : Fin 128) :
    k0_pay3 (F := Ideal) l (ix2 r k) = Gla.cum (fun i k => l (ix2 i k)) r k := by
  have h1 : ∀ r, step 1 l (ix2 r k) = Gla.win (fun i => l (ix2 i k)) 2 r := fun r => by
    rw [← Gla.win_double _ 1 r]
    simp only [Gla.win_one]
    exact step_apply 1 l r k
  have h2 : ∀ r, step 2 (step 1 l) (ix2 r k) = Gla.win (fun i => l (ix2 i k)) 4 r := fun r => by
    rw [← Gla.win_double _ 2 r]
    refine (step_apply 2 _ r k).trans ?_
    simp only [h1]
    rfl
  have h4 : ∀ r, step 4 (step 2 (step 1 l)) (ix2 r k) = Gla.win (fun i => l (ix2 i k)) 8 r := fun r => by
    rw [← Gla.win_double _ 4 r]
    refine (step_apply 4 _ r k).trans ?_
    simp only [h2]
    rfl
  rw [pay3_steps]
  unfold Gla.cum
  rw [← Gla.win_double _ 8 r]
  refine (step_apply 8 _ r k).trans ?_
  simp only [h4]
  rfl

/-- A head's output row, before the normalization. -/
def headOut (q k : Vec Ideal S16x128 .bf16) (l : Vec Ideal S16x128 .f32) (v : Vec Ideal S16x256 .bf16)
    (s : Vec Ideal S1x1x128x256 .f32) : FVec Ideal S16x256 .f32 :=
  k0_pay8 (F := Ideal) k0_pay2 (k0_pay3 l) (k0_pay5 q) k v s

/-- A head's state after the block. -/
def headNext (k : Vec Ideal S16x128 .bf16) (l : Vec Ideal S16x128 .f32) (v : Vec Ideal S16x256 .bf16)
    (s : Vec Ideal S1x1x128x256 .f32) : FVec Ideal S1x1x128x256 .f32 :=
  k0_pay9 (F := Ideal) (k0_pay3 l) (k0_pay4 l) k v s

/-- A head's output, normalized and gated. -/
def headGate (o : FVec Ideal S16x256 .f32) (g : Vec Ideal S1x256 .f32) (z : Vec Ideal S16x256 .bf16) : FVec Ideal S16x256 .bf16 :=
  k0_pay24 (F := Ideal) o g z

/-- A query as the kernel scales it. -/
def scaled (q : Vec Ideal S16x128 .bf16) (r : Fin 16) (k : Fin 128) : EReal :=
  q (ix2 r k) * Ideal.ofBits .f32 0x3DB504F3#32

theorem pay5_apply (q : Vec Ideal S16x128 .bf16) (r : Fin 16) (k : Fin 128) :
    k0_pay5 (F := Ideal) q (ix2 r k) = scaled q r k := by
  pointwise [k0_pay5, scaled]

theorem pay2_apply (r s : Fin 16) : k0_pay2 (ix2 r s) = IntOp.cmpi .sge (BitVec.ofNat 32 r.val) (BitVec.ofNat 32 s.val) := by
  pointwise [k0_pay2]

theorem headOut_apply (q k : Vec Ideal S16x128 .bf16) (l : Vec Ideal S16x128 .f32) (v : Vec Ideal S16x256 .bf16)
    (s : Vec Ideal S1x1x128x256 .f32) (r : Fin 16) (d : Fin 256) :
    headOut q k l v s (ix2 r d) = Gla.out (scaled q) (fun i k' => k (ix2 i k')) (fun i k => l (ix2 i k))
      (fun i d => v (ix2 i d)) (fun k d => s (ix4 0 0 k d)) r d := by
  pointwise [headOut, k0_pay8, k0_pay7, k0_pay6, cum_apply, pay5_apply, pay2_apply, Gla.out, Gla.causal]
  refine congrArg (_ + ·) (Finset.sum_congr rfl fun i _ => ?_)
  simp only [zero_sub]
  by_cases h : i.val ≤ r.val
  · rw [if_pos h]
    exact if_pos ((reached i r).mpr h)
  · rw [if_neg h, zero_mul]
    exact if_neg fun h' => h ((reached i r).mp h')

theorem headNext_apply (k : Vec Ideal S16x128 .bf16) (l : Vec Ideal S16x128 .f32) (v : Vec Ideal S16x256 .bf16)
    (s : Vec Ideal S1x1x128x256 .f32) (k' : Fin 128) (d : Fin 256) :
    headNext k l v s (ix4 0 0 k' d) = Gla.next (fun i k' => k (ix2 i k')) (fun i k => l (ix2 i k))
      (fun i d => v (ix2 i d)) (fun k d => s (ix4 0 0 k d)) 15 k' d := by
  pointwise [headNext, k0_pay9, k0_pay7, k0_pay6, k0_pay4, cum_apply, Gla.next]
  rw [dite_eq_ite, ite_self]

theorem headGate_apply (o : FVec Ideal S16x256 .f32) (g : Vec Ideal S1x256 .f32) (z : Vec Ideal S16x256 .bf16) (r : Fin 16) (d : Fin 256) :
    headGate o g z (ix2 r d) = Gla.gated (fun i => o (ix2 r i)) (g (ix2 0 d)) (z (ix2 r d)) d := by
  pointwise [headGate, k0_pay24, Gla.gated]
  rw [zero_sub]

/-! ## The printed payloads are these -/

theorem pay9_eq (k : Vec Ideal S16x128 .bf16) (l : Vec Ideal S16x128 .f32) (v : Vec Ideal S16x256 .bf16)
    (s : Vec Ideal S1x1x128x256 .f32) : k0_pay9 (F := Ideal) (k0_pay3 l) (k0_pay4 l) k v s = headNext k l v s := rfl

theorem pay11_eq (o : FVec Ideal S16x256 .f32) (g : Vec Ideal S1x256 .f32) (z : Vec Ideal S16x256 .bf16)
    (q k : Vec Ideal S16x128 .bf16) (l : Vec Ideal S16x128 .f32) (v : Vec Ideal S16x256 .bf16) (s : Vec Ideal S1x1x128x256 .f32) :
    k0_pay11 (F := Ideal) (k0_pay8 k0_pay2 (k0_pay3 l) (k0_pay5 q) k v s) (k0_pay10 k0_pay2 (k0_pay3 l) (k0_pay5 q) k v s)
      (FloatOps.ofBits FTy.f32 1132462080#32) g z = headGate (headOut q k l v s) g z := rfl

end Cert.SglaIdeal.Value

end
-- ==== Proof.SglaBlocks.lean ====
module

public import proofs.«01_k».proof.Proof.SglaHead
public import Idealize.ShloMosaic.Lib.Pipeline.ReadBack

/-! The running streams' gated linear attention: what the call leaves in its two outputs, as functions of the arguments. -/

@[expose] public section

set_option maxRecDepth 16384

noncomputable section

open Idealize.ShloMosaic Idealize.ShloMosaic.TcCoe Idealize.SL.Sem
open Idealize.ShloMosaic.Pipeline (Dat)

namespace Cert.SglaIdeal.Value

open Cert.SglaIdeal Cert.SglaIdeal.Gen

/-- Position `r` of stream `b`, component `k` of head `h`'s keys and component `d` of its values. -/
abbrev pos (b : Fin 8) (r : Fin 16) : Fin 128 := ⟨b.val * 16 + r.val, by omega⟩
abbrev keyCol (h : Fin 4) (k : Fin 128) : Fin 512 := ⟨h.val * 128 + k.val, by omega⟩
abbrev valCol (h : Fin 4) (d : Fin 256) : Fin 1024 := ⟨h.val * 256 + d.val, by omega⟩

/-- The state a stream's head ends with. -/
def nextAt (K : FVec Ideal S128x512 .bf16) (L : FVec Ideal S128x512 .f32) (V : FVec Ideal S128x1024 .bf16)
    (S : FVec Ideal S8x4x128x256 .f32) (b : Fin 8) (h : Fin 4) (k : Fin 128) (d : Fin 256) : EReal :=
  Gla.next (fun i k => K (ix2 (pos b i) (keyCol h k))) (fun i k => L (ix2 (pos b i) (keyCol h k)))
    (fun i d => V (ix2 (pos b i) (valCol h d))) (fun k d => S (ix4 b h k d)) 15 k d

/-- The attention's output of a stream's head, before its normalization. -/
def outAt (Q K : FVec Ideal S128x512 .bf16) (L : FVec Ideal S128x512 .f32) (V : FVec Ideal S128x1024 .bf16)
    (S : FVec Ideal S8x4x128x256 .f32) (b : Fin 8) (h : Fin 4) (r : Fin 16) (d : Fin 256) : EReal :=
  Gla.out (fun i k => Q (ix2 (pos b i) (keyCol h k)) * Ideal.ofBits .f32 0x3DB504F3#32) (fun i k => K (ix2 (pos b i) (keyCol h k)))
    (fun i k => L (ix2 (pos b i) (keyCol h k))) (fun i d => V (ix2 (pos b i) (valCol h d))) (fun k d => S (ix4 b h k d)) r d

/-- The output: the head's row, normalized, scaled and gated. -/
def gatedAt (Q K : FVec Ideal S128x512 .bf16) (L : FVec Ideal S128x512 .f32) (V Z : FVec Ideal S128x1024 .bf16)
    (G : FVec Ideal S256 .f32) (S : FVec Ideal S8x4x128x256 .f32) (b : Fin 8) (h : Fin 4) (r : Fin 16) (d : Fin 256) : EReal :=
  Gla.gated (fun i => outAt Q K L V S b h r i) (G (ix1 d)) (Z (ix2 (pos b r) (valCol h d))) d

/-! ## One head's loads -/

theorem ld_key {e : EltTy} (x : Vec Ideal S16x512 e) (h : Fin 4) (inb) (r : Fin 16) (k : Fin 128) :
    View.ld x (Rect.unit ![0, h.val * 128] ![16, 128] inb) (ix2 r k : S16x128.Idx) = x (ix2 r (keyCol h k)) :=
  View.ld_unit_apply_of _ _ _ _ _ _ fun a => by
    fin_cases a
    · exact (Nat.zero_add _).symm
    · rfl

theorem ld_val {e : EltTy} (x : Vec Ideal S16x1024 e) (h : Fin 4) (inb) (r : Fin 16) (d : Fin 256) :
    View.ld x (Rect.unit ![0, h.val * 256] ![16, 256] inb) (ix2 r d : S16x256.Idx) = x (ix2 r (valCol h d)) :=
  View.ld_unit_apply_of _ _ _ _ _ _ fun a => by
    fin_cases a
    · exact (Nat.zero_add _).symm
    · rfl

theorem ld_state {e : EltTy} (x : Vec Ideal S1x4x128x256 e) (h : Fin 4) (inb) (k : Fin 128) (d : Fin 256) :
    View.ld x (Rect.unit ![0, h.val, 0, 0] ![1, 1, 128, 256] inb) (ix4 0 0 k d : S1x1x128x256.Idx) = x (ix4 0 h k d) :=
  View.ld_unit_apply_of _ _ _ _ _ _ fun a => by
    fin_cases a
    · rfl
    · rfl
    · exact (Nat.zero_add _).symm
    · exact (Nat.zero_add _).symm

/-! ## The buffers at the call's entry, and the blocks -/

variable (m : (ℓ : Loc nD τ sig) → Buf (Elt Ideal) ℓ)

abbrev aQ (c : Dev nD) : FVec Ideal S128x512 .bf16 := m ((c : Thread nD τ).loc main_arg0)
abbrev aK (c : Dev nD) : FVec Ideal S128x512 .bf16 := m ((c : Thread nD τ).loc main_arg1)
abbrev aV (c : Dev nD) : FVec Ideal S128x1024 .bf16 := m ((c : Thread nD τ).loc main_arg2)
abbrev aL (c : Dev nD) : FVec Ideal S128x512 .f32 := m ((c : Thread nD τ).loc main_arg3)
abbrev aZ (c : Dev nD) : FVec Ideal S128x1024 .bf16 := m ((c : Thread nD τ).loc main_arg4)
abbrev aG (c : Dev nD) : FVec Ideal S256 .f32 := m ((c : Thread nD τ).loc main_arg5)
abbrev aS (c : Dev nD) : FVec Ideal S8x4x128x256 .f32 := m ((c : Thread nD τ).loc main_arg6)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![t.val, 0, 0, 0] ∧ win0_7.index t = ![t.val, 0]
    ∧ win0_8.index t = ![t.val, 0, 0, 0] :=
  (by decide +kernel : ∀ t : Fin grid0.N, _)

/-- The stream a grid point works on. -/
abbrev strm (t : Fin cfg0.N) : Fin 8 := ⟨t.val, t.isLt⟩

theorem V_main_v0 (c : Dev nD) : V m c main_v0 = shapeCast S1x256 (aG m c) shapeCasts_S256_S1x256 := by
  simp only [V, hostOps0, List.flatten_cons, List.flatten_nil, List.append_nil, List.cons_append, List.nil_append]
  entry_read
  rfl

theorem blk0 (c : Dev nD) (t : Fin cfg0.N) (r : Fin 16) (d : Fin 512) :
    iblk m c 0 t (ix2 r d : S16x512.Idx) = aQ m c (ix2 (pos (strm t) r) d) := by
  have h : ((cfg0.win 0).blk t).view.emb (ix2 r d : S16x512.Idx) = (ix2 (pos (strm t) r) d : S128x512.Idx) := by
    blk_ext [idx t]
  exact (congrArg (V m c main_arg0) h).trans (by rw [V_main_arg0])

theorem blk1 (c : Dev nD) (t : Fin cfg0.N) (r : Fin 16) (d : Fin 512) :
    iblk m c 1 t (ix2 r d : S16x512.Idx) = aK m c (ix2 (pos (strm t) r) d) := by
  have h : ((cfg0.win 1).blk t).view.emb (ix2 r d : S16x512.Idx) = (ix2 (pos (strm t) r) d : S128x512.Idx) := by
    blk_ext [idx t]
  exact (congrArg (V m c main_arg1) h).trans (by rw [V_main_arg1])

theorem blk2 (c : Dev nD) (t : Fin cfg0.N) (r : Fin 16) (d : Fin 1024) :
    iblk m c 2 t (ix2 r d : S16x1024.Idx) = aV m c (ix2 (pos (strm t) r) d) := by
  have h : ((cfg0.win 2).blk t).view.emb (ix2 r d : S16x1024.Idx) = (ix2 (pos (strm t) r) d : S128x1024.Idx) := by
    blk_ext [idx t]
  exact (congrArg (V m c main_arg2) h).trans (by rw [V_main_arg2])

theorem blk3 (c : Dev nD) (t : Fin cfg0.N) (r : Fin 16) (d : Fin 512) :
    iblk m c 3 t (ix2 r d : S16x512.Idx) = aL m c (ix2 (pos (strm t) r) d) := by
  have h : ((cfg0.win 3).blk t).view.emb (ix2 r d : S16x512.Idx) = (ix2 (pos (strm t) r) d : S128x512.Idx) := by
    blk_ext [idx t]
  exact (congrArg (V m c main_arg3) h).trans (by rw [V_main_arg3])

theorem blk4 (c : Dev nD) (t : Fin cfg0.N) (r : Fin 16) (d : Fin 1024) :
    iblk m c 4 t (ix2 r d : S16x1024.Idx) = aZ m c (ix2 (pos (strm t) r) d) := by
  have h : ((cfg0.win 4).blk t).view.emb (ix2 r d : S16x1024.Idx) = (ix2 (pos (strm t) r) d : S128x1024.Idx) := by
    blk_ext [idx t]
  exact (congrArg (V m c main_arg4) h).trans (by rw [V_main_arg4])

theorem blk5 (c : Dev nD) (t : Fin cfg0.N) (d : Fin 256) :
    iblk m c 5 t (ix2 0 d : S1x256.Idx) = aG m c (ix1 d) := by
  have h : ((cfg0.win 5).blk t).view.emb (ix2 0 d : S1x256.Idx) = (ix2 0 d : S1x256.Idx) := by
    blk_ext [idx t]
  refine (congrArg (V m c main_v0) h).trans ?_
  rw [V_main_v0]
  pointwise

theorem blk6 (c : Dev nD) (t : Fin cfg0.N) (h : Fin 4) (k : Fin 128) (d : Fin 256) :
    iblk m c 6 t (ix4 0 h k d : S1x4x128x256.Idx) = aS m c (ix4 (strm t) h k d) := by
  have e : ((cfg0.win 6).blk t).view.emb (ix4 0 h k d : S1x4x128x256.Idx) = (ix4 (strm t) h k d : S8x4x128x256.Idx) := by
    blk_ext [idx t]
  exact (congrArg (V m c main_arg6) e).trans (by rw [V_main_arg6])

/-! ## One head of a grid point -/

theorem next_head (c : Dev nD) (t : Fin cfg0.N) (h : Fin 4) (i0 i1 i2 i3) (k : Fin 128) (d : Fin 256) :
    headNext (View.ld (iblk m c 1 t) (Rect.unit (s := S16x512) ![0, h.val * 128] ![16, 128] i0))
      (View.ld (iblk m c 3 t) (Rect.unit (s := S16x512) ![0, h.val * 128] ![16, 128] i1))
      (View.ld (iblk m c 2 t) (Rect.unit (s := S16x1024) ![0, h.val * 256] ![16, 256] i2))
      (View.ld (iblk m c 6 t) (Rect.unit (s := S1x4x128x256) ![0, h.val, 0, 0] ![1, 1, 128, 256] i3)) (ix4 0 0 k d)
      = nextAt (aK m c) (aL m c) (aV m c) (aS m c) (strm t) h k d := by
  refine (headNext_apply _ _ _ _ k d).trans ?_
  exact Gla.next_congr (fun i k => (ld_key _ h i0 i k).trans (blk1 m c t i _)) (fun i k => (ld_key _ h i1 i k).trans (blk3 m c t i _))
    (fun i d => (ld_val _ h i2 i d).trans (blk2 m c t i _)) (fun k d => (ld_state _ h i3 k d).trans (blk6 m c t h k d)) 15 k d

theorem out_head (c : Dev nD) (t : Fin cfg0.N) (h : Fin 4) (i0 i1 i2 i3 i4) (r : Fin 16) (d : Fin 256) :
    headOut (View.ld (iblk m c 0 t) (Rect.unit (s := S16x512) ![0, h.val * 128] ![16, 128] i4))
      (View.ld (iblk m c 1 t) (Rect.unit (s := S16x512) ![0, h.val * 128] ![16, 128] i0))
      (View.ld (iblk m c 3 t) (Rect.unit (s := S16x512) ![0, h.val * 128] ![16, 128] i1))
      (View.ld (iblk m c 2 t) (Rect.unit (s := S16x1024) ![0, h.val * 256] ![16, 256] i2))
      (View.ld (iblk m c 6 t) (Rect.unit (s := S1x4x128x256) ![0, h.val, 0, 0] ![1, 1, 128, 256] i3)) (ix2 r d)
      = outAt (aQ m c) (aK m c) (aL m c) (aV m c) (aS m c) (strm t) h r d := by
  refine (headOut_apply _ _ _ _ _ r d).trans ?_
  exact Gla.out_congr (fun i k => congrArg (fun x : EReal => x * Ideal.ofBits .f32 0x3DB504F3#32) ((ld_key _ h i4 i k).trans (blk0 m c t i _)))
    (fun i k => (ld_key _ h i0 i k).trans (blk1 m c t i _)) (fun i k => (ld_key _ h i1 i k).trans (blk3 m c t i _))
    (fun i d => (ld_val _ h i2 i d).trans (blk2 m c t i _)) (fun k d => (ld_state _ h i3 k d).trans (blk6 m c t h k d)) r d

theorem gate_head (c : Dev nD) (t : Fin cfg0.N) (h : Fin 4) (i0 i1 i2 i3 i4 i5) (r : Fin 16) (d : Fin 256) :
    headGate (headOut (View.ld (iblk m c 0 t) (Rect.unit (s := S16x512) ![0, h.val * 128] ![16, 128] i4))
      (View.ld (iblk m c 1 t) (Rect.unit (s := S16x512) ![0, h.val * 128] ![16, 128] i0))
      (View.ld (iblk m c 3 t) (Rect.unit (s := S16x512) ![0, h.val * 128] ![16, 128] i1))
      (View.ld (iblk m c 2 t) (Rect.unit (s := S16x1024) ![0, h.val * 256] ![16, 256] i2))
      (View.ld (iblk m c 6 t) (Rect.unit (s := S1x4x128x256) ![0, h.val, 0, 0] ![1, 1, 128, 256] i3)))
      (iblk m c 5 t) (View.ld (iblk m c 4 t) (Rect.unit (s := S16x1024) ![0, h.val * 256] ![16, 256] i5)) (ix2 r d)
      = gatedAt (aQ m c) (aK m c) (aL m c) (aV m c) (aZ m c) (aG m c) (aS m c) (strm t) h r d := by
  refine (headGate_apply _ _ _ r d).trans ?_
  exact Gla.gated_congr (fun i => out_head m c t h i0 i1 i2 i3 i4 r i) (blk5 m c t d) ((ld_val _ h i5 r d).trans (blk4 m c t r _)) d

/-! ## The output blocks -/

/-- The state's block. -/
def G8 (c : Dev nD) (t : Fin cfg0.N) (y : S1x4x128x256.Idx) : EReal :=
  nextAt (aK m c) (aL m c) (aV m c) (aS m c) (strm t) (y 1) (y 2) (y 3)

/-- The output's block. -/
def G7 (c : Dev nD) (t : Fin cfg0.N) (y : S16x1024.Idx) : EReal :=
  gatedAt (aQ m c) (aK m c) (aL m c) (aV m c) (aZ m c) (aG m c) (aS m c) (strm t)
    ⟨(y 1).val / 256, by have : (y 1).val < 1024 := (y 1).isLt; omega⟩ (y 0) ⟨(y 1).val % 256, by omega⟩

theorem piece8 (c : Dev nD) (t : Fin cfg0.N) (h : Fin 4) (i) (P : Vec Ideal S1x1x128x256 .f32)
    (hP : ∀ k d, P (ix4 0 0 k d) = nextAt (aK m c) (aL m c) (aV m c) (aS m c) (strm t) h k d) (j : S1x1x128x256.Idx) :
    P j = G8 m c t ((Rect.unit (s := S1x4x128x256) ![0, h.val, 0, 0] ![1, 1, 128, 256] i).emb j) := by
  idx_vars j
  obtain rfl : j0 = 0 := Subsingleton.elim _ _
  obtain rfl : j1 = 0 := Subsingleton.elim _ _
  rw [hP]
  unfold G8
  have e (a : Fin 4) := Rect.idx_unit_val (s := S1x4x128x256) ![0, h.val, 0, 0] ![1, 1, 128, 256] i (ix4 0 0 j2 j3) a
  congr 1
  · exact Fin.ext ((e 2).trans (Nat.zero_add _)).symm
  · exact Fin.ext ((e 3).trans (Nat.zero_add _)).symm

theorem piece7 (c : Dev nD) (t : Fin cfg0.N) (h : Fin 4) (i) (P : Vec Ideal S16x256 .bf16)
    (hP : ∀ r d, P (ix2 r d) = gatedAt (aQ m c) (aK m c) (aL m c) (aV m c) (aZ m c) (aG m c) (aS m c) (strm t) h r d) (j : S16x256.Idx) :
    P j = G7 m c t ((Rect.unit (s := S16x1024) ![0, h.val * 256] ![16, 256] i).emb j) := by
  idx_vars j
  rw [hP]
  unfold G7
  have e : (((Rect.unit (s := S16x1024) ![0, h.val * 256] ![16, 256] i).emb (ix2 j0 j1)) 1).val = h.val * 256 + j1.val :=
    Rect.idx_unit_val _ _ _ _ _
  congr 1
  · exact Fin.ext (by dsimp only; rw [e]; omega)
  · exact Fin.ext ((Rect.idx_unit_val _ _ _ _ _).trans (Nat.zero_add _)).symm
  · exact Fin.ext (by dsimp only; rw [e]; omega)

theorem cover8 (a : Fin 1) (h : Fin 4) (i) (k : Fin 128) (d : Fin 256) :
    (ix4 a h k d : S1x4x128x256.Idx) ∈ (Rect.unit (s := S1x4x128x256) ![0, h.val, 0, 0] ![1, 1, 128, 256] i).set :=
  Rect.mem_set_unit.mpr fun x => match x with
    | ⟨0, _⟩ => ⟨Nat.zero_le _, by show a.val < 0 + 1; omega⟩
    | ⟨1, _⟩ => ⟨le_refl h.val, Nat.lt_succ_self h.val⟩
    | ⟨2, _⟩ => ⟨Nat.zero_le _, by show k.val < 0 + 128; omega⟩
    | ⟨3, _⟩ => ⟨Nat.zero_le _, by show d.val < 0 + 256; omega⟩

theorem cover7 (h : Fin 4) (i) (r : Fin 16) (x : Fin 1024) (hx : x.val / 256 = h.val) :
    (ix2 r x : S16x1024.Idx) ∈ (Rect.unit (s := S16x1024) ![0, h.val * 256] ![16, 256] i).set :=
  Rect.mem_set_unit.mpr fun a => match a with
    | ⟨0, _⟩ => ⟨Nat.zero_le _, by show r.val < 0 + 16; omega⟩
    | ⟨1, _⟩ => ⟨by show h.val * 256 ≤ x.val; omega, by show x.val < h.val * 256 + 256; omega⟩

theorem point8 (c : Dev nD) (t : Fin cfg0.N) (y : S1x4x128x256.Idx) : (outsAt0 m c t).2 y = G8 m c t y := by
  unfold outsAt0
  frame_out
  simp (disch := first | decide | (intro a; fin_cases a <;> rfl)) only [↓View.readCov_skip, ↓View.readCov_fill]
  refine View.canon_append_of_piecesOf (Val := Elt Ideal) (e := .f32) (G8 m c t) [_] [_, _, _, _] ?_ y ?_
  · exact ⟨piece8 m c t 3 inb_S1x4x128x256_S1x1x128x256_0_3_0_0 _ (next_head m c t 3 _ _ _ _),
      piece8 m c t 2 inb_S1x4x128x256_S1x1x128x256_0_2_0_0 _ (next_head m c t 2 _ _ _ _),
      piece8 m c t 1 inb_S1x4x128x256_S1x1x128x256_0_1_0_0 _ (next_head m c t 1 _ _ _ _),
      piece8 m c t 0 inb_S1x4x128x256_S1x1x128x256_0_0_0_0 _ (next_head m c t 0 _ _ _ _), trivial⟩
  · idx_vars y
    fin_cases y1
    · exact ⟨_, .tail _ (.tail _ (.tail _ (.head _))), cover8 _ 0 inb_S1x4x128x256_S1x1x128x256_0_0_0_0 y2 y3⟩
    · exact ⟨_, .tail _ (.tail _ (.head _)), cover8 _ 1 inb_S1x4x128x256_S1x1x128x256_0_1_0_0 y2 y3⟩
    · exact ⟨_, .tail _ (.head _), cover8 _ 2 inb_S1x4x128x256_S1x1x128x256_0_2_0_0 y2 y3⟩
    · exact ⟨_, .head _, cover8 _ 3 inb_S1x4x128x256_S1x1x128x256_0_3_0_0 y2 y3⟩

theorem point7 (c : Dev nD) (t : Fin cfg0.N) (y : S16x1024.Idx) : (outsAt0 m c t).1 y = G7 m c t y := by
  unfold outsAt0
  frame_out
  simp (disch := first | decide | (intro a; fin_cases a <;> rfl)) only [↓View.readCov_skip, ↓View.readCov_fill]
  refine View.canon_append_of_piecesOf (Val := Elt Ideal) (e := .bf16) (G7 m c t) [] [_, _, _, _] ?_ y ?_
  · exact ⟨piece7 m c t 3 inb_S16x1024_S16x256_0_768 _ (gate_head m c t 3 _ _ _ _ _ _),
      piece7 m c t 2 inb_S16x1024_S16x256_0_512 _ (gate_head m c t 2 _ _ _ _ _ _),
      piece7 m c t 1 inb_S16x1024_S16x256_0_256 _ (gate_head m c t 1 _ _ _ _ _ _),
      piece7 m c t 0 inb_S16x1024_S16x256_0_0 _ (gate_head m c t 0 _ _ _ _ _ _), trivial⟩
  · idx_vars y
    rcases (by omega : y1.val / 256 = 0 ∨ y1.val / 256 = 1 ∨ y1.val / 256 = 2 ∨ y1.val / 256 = 3) with h | h | h | h
    · exact ⟨_, .tail _ (.tail _ (.tail _ (.head _))), cover7 0 inb_S16x1024_S16x256_0_0 y0 y1 h⟩
    · exact ⟨_, .tail _ (.tail _ (.head _)), cover7 1 inb_S16x1024_S16x256_0_256 y0 y1 h⟩
    · exact ⟨_, .tail _ (.head _), cover7 2 inb_S16x1024_S16x256_0_512 y0 y1 h⟩
    · exact ⟨_, .head _, cover7 3 inb_S16x1024_S16x256_0_768 y0 y1 h⟩

end Cert.SglaIdeal.Value

end
-- ==== Proof.GlaWindow.lean ====
module

public import proofs.«01_k».proof.Proof.Gla

/-! A running sum taken by a window: over `c` positions, the window of `c` places that ends at a position, with zeros
    before the first one. -/

@[expose] public section

noncomputable section

open Idealize.ShloMosaic

namespace Cert.Gla

/-- The window: `c` positions. -/
abbrev Win (c : ℕ) : Shape := ⟨4, ![1, c, 1, 1]⟩

/-- What it is moved over: `B` sequences of `c` positions, with four heads of 128 components. -/
abbrev Seqs (B c : ℕ) : Shape := ⟨4, ![B, c, 4, 128]⟩

/-- A place of the window is its position. -/
def placeEquiv (c : ℕ) : (Win c).Idx ≃ Fin c where
  toFun p := p 1
  invFun i := (ix4 0 i 0 0 : (Win c).Idx)
  left_inv p := funext fun a => match a with
    | ⟨0, _⟩ => Fin.ext (by have : (p 0).val < 1 := (p 0).isLt; show 0 = (p 0).val; omega)
    | ⟨1, _⟩ => rfl
    | ⟨2, _⟩ => Fin.ext (by have : (p 2).val < 1 := (p 2).isLt; show 0 = (p 2).val; omega)
    | ⟨3, _⟩ => Fin.ext (by have : (p 3).val < 1 := (p 3).isLt; show 0 = (p 3).val; omega)
  right_inv i := rfl

variable {B c : ℕ} (q : ℕ) (hq : q + 1 = c)
include hq

/-- One place of the window: the entry it falls on, where it falls on one. -/
theorem place (x : (Seqs B c).Idx → EReal) (b : Fin B) (i : Fin c) (h : Fin 4) (k : Fin 128) (p : (Win c).Idx) :
    (if hin : ∀ a : Fin 4, (![0, q, 0, 0] : Fin 4 → ℕ) a
        ≤ ((ix4 b i h k : (Seqs B c).Idx) a).val * (![1, 1, 1, 1] : Fin 4 → ℕ) a + (p a).val ∧
        ((ix4 b i h k : (Seqs B c).Idx) a).val * (![1, 1, 1, 1] : Fin 4 → ℕ) a + (p a).val - (![0, q, 0, 0] : Fin 4 → ℕ) a
          < (Seqs B c).size a
      then x fun a => ⟨((ix4 b i h k : (Seqs B c).Idx) a).val * (![1, 1, 1, 1] : Fin 4 → ℕ) a + (p a).val
        - (![0, q, 0, 0] : Fin 4 → ℕ) a, (hin a).2⟩ else 0)
      = if hc : c - 1 ≤ i.val + (placeEquiv c p).val ∧ i.val + (placeEquiv c p).val - (c - 1) < c then
          x (ix4 b ⟨i.val + (placeEquiv c p).val - (c - 1), hc.2⟩ h k) else 0 := by
  have e0 : (p 0).val = 0 := by have : (p 0).val < 1 := (p 0).isLt; omega
  have e2 : (p 2).val = 0 := by have : (p 2).val < 1 := (p 2).isLt; omega
  have e3 : (p 3).val = 0 := by have : (p 3).val < 1 := (p 3).isLt; omega
  have e1 : (placeEquiv c p).val = (p 1).val := rfl
  have hb := b.isLt
  by_cases hc : c - 1 ≤ i.val + (placeEquiv c p).val ∧ i.val + (placeEquiv c p).val - (c - 1) < c
  · rw [dif_pos hc, dif_pos]
    · refine congrArg x (funext fun a => match a with
        | ⟨0, _⟩ => Fin.ext (by show b.val * 1 + (p 0).val - 0 = b.val; omega)
        | ⟨1, _⟩ => Fin.ext (by show i.val * 1 + (p 1).val - q = i.val + (p 1).val - (c - 1); omega)
        | ⟨2, _⟩ => Fin.ext (by show h.val * 1 + (p 2).val - 0 = h.val; omega)
        | ⟨3, _⟩ => Fin.ext (by show k.val * 1 + (p 3).val - 0 = k.val; omega))
    · exact fun a => match a with
        | ⟨0, _⟩ => ⟨Nat.zero_le _, by show b.val * 1 + (p 0).val - 0 < B; omega⟩
        | ⟨1, _⟩ => ⟨by show q ≤ i.val * 1 + (p 1).val; omega, by show i.val * 1 + (p 1).val - q < c; omega⟩
        | ⟨2, _⟩ => ⟨Nat.zero_le _, by show h.val * 1 + (p 2).val - 0 < 4; omega⟩
        | ⟨3, _⟩ => ⟨Nat.zero_le _, by show k.val * 1 + (p 3).val - 0 < 128; omega⟩
  · rw [dif_neg hc, dif_neg]
    intro ha
    have h1 := ha 1
    have g1 : q ≤ i.val * 1 + (p 1).val := h1.1
    have g2 : i.val * 1 + (p 1).val - q < c := h1.2
    exact hc ⟨by omega, by omega⟩

omit hq in
/-- A choice does not depend on how its condition is decided. -/
theorem dite_any {p : Prop} (d e : Decidable p) (f : p → EReal) (g : ¬p → EReal) : @dite _ p d f g = @dite _ p e f g := by
  rw [Subsingleton.elim d e]

/-- The places of the window, summed, give the running sum. -/
theorem windowed (x : (Seqs B c).Idx → EReal) (z : EReal) (hz : z = 0) (b : Fin B) (i : Fin c) (h : Fin 4) (k : Fin 128)
    (f : EReal → Fin (Win c).numel → EReal) (hf : ∀ r n, f r n = r + if hin : ∀ a : Fin 4, (![0, q, 0, 0] : Fin 4 → ℕ) a
        ≤ ((ix4 b i h k : (Seqs B c).Idx) a).val * (![1, 1, 1, 1] : Fin 4 → ℕ) a + ((Win c).rowMajor.symm n a).val ∧
        ((ix4 b i h k : (Seqs B c).Idx) a).val * (![1, 1, 1, 1] : Fin 4 → ℕ) a + ((Win c).rowMajor.symm n a).val - (![0, q, 0, 0] : Fin 4 → ℕ) a
          < (Seqs B c).size a
      then x fun a => ⟨((ix4 b i h k : (Seqs B c).Idx) a).val * (![1, 1, 1, 1] : Fin 4 → ℕ) a + ((Win c).rowMajor.symm n a).val
        - (![0, q, 0, 0] : Fin 4 → ℕ) a, (hin a).2⟩ else z) :
    (List.finRange (Win c).numel).foldl f z = win (fun i => x (ix4 b i h k)) c i := by
  subst hz
  rw [funext fun r => funext fun n => (hf r n).trans (congrArg (r + ·) (place q hq x b i h k ((Win c).rowMajor.symm n))),
    foldl_add, ← win_reflect, Finset.sum_range]
  exact Fintype.sum_equiv ((Win c).rowMajor.symm.trans (placeEquiv c)) _ _ fun n => rfl

end Cert.Gla

end
-- ==== Proof.SglaRef.lean ====
module

public import proofs.«01_k».proof.Proof.SglaBlocks
public import proofs.«01_k».proof.Proof.GlaWindow
public import proofs.«01_k».proof.Proof.Gen.SglaRefIdeal.Read

/-! The running streams' gated linear attention: what the reference leaves in its two results. -/

@[expose] public section

set_option maxRecDepth 16384

noncomputable section

open Idealize.ShloMosaic Idealize.ShloMosaic.TcCoe Idealize.SL.Sem
open Idealize.ShloMosaic.Pipeline (Dat)

namespace Cert.SglaIdeal.Value

open Cert.SglaIdeal Cert.SglaIdeal.Gen Cert.SglaRefIdeal.Read

variable (x0 x1 : FVec Ideal S128x512 .bf16) (x2 : FVec Ideal S128x1024 .bf16) (x3 : FVec Ideal S128x512 .f32)
  (x4 : FVec Ideal S128x1024 .bf16) (x5 : FVec Ideal S256 .f32) (x6 : FVec Ideal S8x4x128x256 .f32)

open Cert.SglaRefIdeal in
theorem v6_apply (b : Fin 8) (i : Fin 16) (h : Fin 4) (k : Fin 128) :
    val_main_v6 (F := Ideal) x3 (ix4 b i h k) = x3 (ix2 (pos b i) (keyCol h k)) := by
  rw [val_main_v6_apply]
  blk_ext

open Cert.SglaRefIdeal in
theorem v9_apply (b : Fin 8) (i : Fin 16) (h : Fin 4) (k : Fin 128) :
    val_main_v9 (F := Ideal) x3 (ix4 b i h k) = Gla.cum (fun i k => x3 (ix2 (pos b i) (keyCol h k))) i k := by
  unfold val_main_v9 Host.reduceWindowAdd
  show Ideal.hostReduceWindowAdd _ _ _ _ _ _ _ _ = _
  unfold Ideal.hostReduceWindowAdd Host.reduceWindow
  have hz : val_main_call0_call0_v0 (F := Ideal) (Shape.Idx.first Gen.h_S_) = 0 := by
    pointwise [val_main_call0_call0_v0, val_main_call0_call0_cst]
  refine (Gla.windowed (B := 8) 15 rfl (val_main_v6 (F := Ideal) x3) _ hz b i h k _ fun r n => ?_).trans ?_
  · exact congrArg (r + ·) (Gla.dite_any _ _ _ _)
  · simp only [v6_apply]
    rfl

/-! ## The reference's values, one by one -/

section
open Cert.SglaRefIdeal

variable (b : Fin 8) (h : Fin 4)

theorem v3_apply (i : Fin 16) (k : Fin 128) : val_main_v3 (F := Ideal) x0 (ix4 b i h k)
    = x0 (ix2 (pos b i) (keyCol h k)) * Ideal.ofBits .f32 0x3DB504F3#32 := by
  have e : val_main_v1 (F := Ideal) x0 (ix4 b i h k) = x0 (ix2 (pos b i) (keyCol h k)) := by
    rw [val_main_v1_apply]
    pointwise [val_main_v0]
    blk_ext
  pointwise [val_main_v3, val_main_v2, val_main_cst, e]

theorem v7_apply (i : Fin 16) (k : Fin 128) : val_main_v7 (F := Ideal) x1 (ix4 b i h k) = x1 (ix2 (pos b i) (keyCol h k)) := by
  have e : val_main_v4 (F := Ideal) x1 (ix4 b i h k) = x1 (ix2 (pos b i) (keyCol h k)) := by
    rw [val_main_v4_apply]
    blk_ext
  pointwise [val_main_v7, e]

theorem v8_apply (i : Fin 16) (d : Fin 256) : val_main_v8 (F := Ideal) x2 (ix4 b i h d) = x2 (ix2 (pos b i) (valCol h d)) := by
  have e : val_main_v5 (F := Ideal) x2 (ix4 b i h d) = x2 (ix2 (pos b i) (valCol h d)) := by
    rw [val_main_v5_apply]
    blk_ext
  pointwise [val_main_v8, e]

theorem v11_apply (i : Fin 16) (k : Fin 128) : val_main_v11 (F := Ideal) x0 x3 (ix4 b i h k)
    = x0 (ix2 (pos b i) (keyCol h k)) * Ideal.ofBits .f32 0x3DB504F3#32
      * Ideal.exp (Gla.cum (fun i k => x3 (ix2 (pos b i) (keyCol h k))) i k) := by
  pointwise [val_main_v11, val_main_v10, v3_apply, v9_apply]

theorem v14_apply (i : Fin 16) (k : Fin 128) : val_main_v14 (F := Ideal) x1 x3 (ix4 b i h k)
    = x1 (ix2 (pos b i) (keyCol h k)) * Ideal.exp (-(Gla.cum (fun i k => x3 (ix2 (pos b i) (keyCol h k))) i k)) := by
  pointwise [val_main_v14, val_main_v13, val_main_v12, v7_apply, v9_apply]

theorem v17_apply (r i : Fin 16) : val_main_v17 (F := Ideal) x0 x1 x3 (ix4 b h r i)
    = ∑ k, (x0 (ix2 (pos b r) (keyCol h k)) * Ideal.ofBits .f32 0x3DB504F3#32
      * Ideal.exp (Gla.cum (fun i k => x3 (ix2 (pos b i) (keyCol h k))) r k))
      * (x1 (ix2 (pos b i) (keyCol h k)) * Ideal.exp (-(Gla.cum (fun i k => x3 (ix2 (pos b i) (keyCol h k))) i k))) := by
  rw [val_main_v17_apply]
  refine Finset.sum_congr rfl fun k _ => ?_
  rw [show lidx_main_v17 (ix4 b h r i) k = ix4 b r h k by blk_ext, show ridx_main_v17 (ix4 b h r i) k = ix4 b i h k by blk_ext,
    v11_apply, v14_apply]

theorem v18_apply (r i : Fin 16) : val_main_v18 (F := Ideal) x0 x1 x3 (ix4 b h r i)
    = Gla.causal (fun i k => x0 (ix2 (pos b i) (keyCol h k)) * Ideal.ofBits .f32 0x3DB504F3#32) (fun i k => x1 (ix2 (pos b i) (keyCol h k)))
      (fun i k => x3 (ix2 (pos b i) (keyCol h k))) r i := by
  have e1 : val_main_call2_v1 (F := Ideal) (ix4 b h r i) = if i.val ≤ r.val then 1#1 else 0#1 := by
    rw [val_main_call2_v1_apply, show idx_main_call2_v1 (ix4 b h r i) = ix2 r i by blk_ext, val_main_v16_apply, val_main_v15_apply,
      val_main_c_apply, val_main_call1_v4_apply, val_main_call1_v5_apply, val_main_call1_c_0_apply, val_main_call1_v2_apply,
      val_main_call1_v0_apply, val_main_call1_v1_apply, val_main_call1_c_apply, val_main_call1_v3_apply]
    show (if IntOp.cmpi .sge (BitVec.ofNat 32 r.val + 0#32) (BitVec.ofNat 32 i.val) = 1#1 then (1#1 : BitVec 1) else 0#1) = _
    rw [BitVec.add_zero]
    exact if_congr (reached i r) rfl rfl
  have e2 : val_main_call2_v2 (F := Ideal) (ix4 b h r i) = 0 := by
    rw [val_main_call2_v2_apply, val_main_call2_v0_apply, val_main_cst_0_apply]
    exact Ideal.ofBits_zero _
  rw [val_main_v18_apply, e1, e2, v17_apply]
  unfold Gla.causal
  by_cases hle : i.val ≤ r.val
  · rw [if_pos hle, if_pos hle]
    rfl
  · rw [if_neg hle, if_neg hle]
    rfl

theorem v35_apply (k : Fin 128) (d : Fin 256) : val_main_v35 (F := Ideal) x1 x2 x3 x6 (ix4 b h k d)
    = nextAt x1 x3 x2 x6 b h k d := by
  have e : ∀ k, val_main_v25 (F := Ideal) x3 (ix3 b h k) = Gla.cum (fun i k => x3 (ix2 (pos b i) (keyCol h k))) 15 k := fun k => by
    rw [val_main_v25_apply, val_main_v24_apply, ← v9_apply]
    blk_ext
  have e33 : ∀ i k, val_main_v33 (F := Ideal) x1 x3 (ix4 b i h k) = x1 (ix2 (pos b i) (keyCol h k))
      * Ideal.exp (Gla.cum (fun i k => x3 (ix2 (pos b i) (keyCol h k))) 15 k - Gla.cum (fun i k => x3 (ix2 (pos b i) (keyCol h k))) i k) := fun i k => by
    pointwise [val_main_v33, val_main_v32, val_main_v31, val_main_v30, v7_apply, v9_apply]
    rw [val_main_v24_apply, show idx_main_v24 (ix4 b 0 h k) = ix4 b 15 h k by blk_ext, v9_apply]
  have e34 : val_main_v34 (F := Ideal) x1 x2 x3 (ix4 b h k d) = ∑ i, x1 (ix2 (pos b i) (keyCol h k))
      * Ideal.exp (Gla.cum (fun i k => x3 (ix2 (pos b i) (keyCol h k))) 15 k - Gla.cum (fun i k => x3 (ix2 (pos b i) (keyCol h k))) i k)
      * x2 (ix2 (pos b i) (valCol h d)) := by
    rw [val_main_v34_apply]
    refine Finset.sum_congr rfl fun i _ => ?_
    rw [show lidx_main_v34 (ix4 b h k d) i = ix4 b i h k by blk_ext, show ridx_main_v34 (ix4 b h k d) i = ix4 b i h d by blk_ext,
      e33, v8_apply]
  pointwise [val_main_v35, val_main_v29, val_main_v28, val_main_v27, val_main_v26, e, e34, nextAt, Gla.next]
  rw [mul_comm]

theorem v23_apply (r : Fin 16) (d : Fin 256) : val_main_v23 (F := Ideal) x0 x1 x2 x3 x6 (ix4 b r h d)
    = outAt x0 x1 x3 x2 x6 b h r d := by
  have e20 : val_main_v20 (F := Ideal) x0 x3 x6 (ix4 b r h d)
      = ∑ k, (x0 (ix2 (pos b r) (keyCol h k)) * Ideal.ofBits .f32 0x3DB504F3#32
        * Ideal.exp (Gla.cum (fun i k => x3 (ix2 (pos b i) (keyCol h k))) r k)) * x6 (ix4 b h k d) := by
    rw [val_main_v20_apply, show idx_main_v20 (ix4 b r h d) = ix4 b h d r by blk_ext, val_main_v19_apply]
    refine Finset.sum_congr rfl fun k _ => ?_
    rw [show lidx_main_v19 (ix4 b h d r) k = ix4 b h k d by blk_ext, show ridx_main_v19 (ix4 b h d r) k = ix4 b r h k by blk_ext,
      v11_apply, mul_comm]
  have e22 : val_main_v22 (F := Ideal) x0 x1 x2 x3 (ix4 b r h d)
      = ∑ i, Gla.causal (fun i k => x0 (ix2 (pos b i) (keyCol h k)) * Ideal.ofBits .f32 0x3DB504F3#32)
        (fun i k => x1 (ix2 (pos b i) (keyCol h k))) (fun i k => x3 (ix2 (pos b i) (keyCol h k))) r i * x2 (ix2 (pos b i) (valCol h d)) := by
    rw [val_main_v22_apply, show idx_main_v22 (ix4 b r h d) = ix4 b h d r by blk_ext, val_main_v21_apply]
    refine Finset.sum_congr rfl fun i _ => ?_
    rw [show lidx_main_v21 (ix4 b h d r) i = ix4 b i h d by blk_ext, show ridx_main_v21 (ix4 b h d r) i = ix4 b h r i by blk_ext,
      v8_apply, v18_apply, mul_comm]
  pointwise [val_main_v23, e20, e22, outAt, Gla.out]

theorem v55_apply (r : Fin 16) (d : Fin 256) : val_main_v55 (F := Ideal) x0 x1 x2 x3 x4 x5 x6 (ix2 (pos b r) (valCol h d))
    = gatedAt x0 x1 x3 x2 x4 x5 x6 b h r d := by
  have e39 : val_main_v39 (F := Ideal) x0 x1 x2 x3 x6 (ix3 b r h) = ∑ i, outAt x0 x1 x3 x2 x6 b h r i * outAt x0 x1 x3 x2 x6 b h r i := by
    rw [val_main_v39_apply]
    have e : val_main_cst_1 (F := Ideal) (Shape.Idx.first Gen.h_S_) = 0 := by pointwise [val_main_cst_1]
    rw [e, zero_add]
    refine Finset.sum_congr rfl fun i _ => ?_
    rw [val_main_v38_apply, show idx_main_v39 (ix3 b r h) i = ix4 b r h i by blk_ext, v23_apply]
    rfl
  have e50 : val_main_v50 (F := Ideal) x0 x1 x2 x3 x5 x6 (ix4 b r h d)
      = outAt x0 x1 x3 x2 x6 b h r d * Ideal.rsqrt (Ideal.div (∑ i, outAt x0 x1 x3 x2 x6 b h r i * outAt x0 x1 x3 x2 x6 b h r i)
        (Ideal.ofBits .f32 0x43800000#32) + Ideal.ofBits .f32 0x358637BD#32) * x5 (ix1 d) := by
    pointwise [val_main_v50, val_main_v49, val_main_v48, val_main_v47, val_main_v46, val_main_v45, val_main_v44, val_main_v43, val_main_v42,
      val_main_v41, val_main_v40, val_main_cst_2, val_main_cst_3, e39, v23_apply]
  have e51 : val_main_v51 (F := Ideal) x0 x1 x2 x3 x5 x6 (ix3 b r (valCol h d)) = val_main_v50 (F := Ideal) x0 x1 x2 x3 x5 x6 (ix4 b r h d) := by
    rw [val_main_v51_apply]
    blk_ext
  have e37 : val_main_v37 (F := Ideal) x4 (ix3 b r (valCol h d)) = x4 (ix2 (pos b r) (valCol h d)) := by
    rw [val_main_v37_apply]
    pointwise [val_main_v36]
    blk_ext
  have e55 : val_main_v55 (F := Ideal) x0 x1 x2 x3 x4 x5 x6 (ix2 (pos b r) (valCol h d))
      = val_main_v53 (F := Ideal) x0 x1 x2 x3 x4 x5 x6 (ix3 b r (valCol h d)) := by
    rw [val_main_v55_apply]
    pointwise [val_main_v54]
    blk_ext
  rw [e55]
  pointwise [val_main_v53, val_main_v52, e51, e50, e37, val_main_call3_v5, val_main_call3_v4,
    val_main_call3_cst_0, val_main_call3_v3, val_main_call3_v2, val_main_call3_cst, val_main_call3_v1, val_main_call3_v0, gatedAt, Gla.gated]
  rw [Gla.div_one_add_exp (x4 (ix2 (pos b r) (valCol h d)))]

end

/-! ## The call's results -/

variable (m : (ℓ : Loc nD τ sig) → Buf (Elt Ideal) ℓ)

theorem back7 (c : Dev nD) (t : Fin cfg0.N) (y : S16x1024.Idx) : G7 m c t y
    = val_main_v55 (F := Ideal) (aQ m c) (aK m c) (aV m c) (aL m c) (aZ m c) (aG m c) (aS m c) ((win0_7.blk t).view.emb y) := by
  idx_vars y
  have e : (win0_7.blk t).view.emb (ix2 y0 y1 : S16x1024.Idx)
      = (ix2 (pos (strm t) y0) (valCol ⟨y1.val / 256, by omega⟩ ⟨y1.val % 256, by omega⟩) : S128x1024.Idx) := by
    blk_ext [idx t]
  exact ((congrArg (val_main_v55 (F := Ideal) (aQ m c) (aK m c) (aV m c) (aL m c) (aZ m c) (aG m c) (aS m c)) e).trans
    (v55_apply _ _ _ _ _ _ _ _ _ _ _)).symm

theorem back8 (c : Dev nD) (t : Fin cfg0.N) (y : S1x4x128x256.Idx) : G8 m c t y
    = val_main_v35 (F := Ideal) (aK m c) (aV m c) (aL m c) (aS m c) ((win0_8.blk t).view.emb y) := by
  idx_vars y
  have e : (win0_8.blk t).view.emb (ix4 y0 y1 y2 y3 : S1x4x128x256.Idx) = (ix4 (strm t) y1 y2 y3 : S8x4x128x256.Idx) := by
    blk_ext [idx t]
  exact ((congrArg (val_main_v35 (F := Ideal) (aK m c) (aV m c) (aL m c) (aS m c)) e).trans (v35_apply _ _ _ _ _ _ _ _)).symm

theorem final7 (c : Dev nD) : (dats m 0 c).arrAt 7 cfg0.N
    = val_main_v55 (F := Ideal) (aQ m c) (aK m c) (aV m c) (aL m c) (aZ m c) (aG m c) (aS m c) := by
  refine (dats m 0 c).arrAt_eq_of_covers 7 _ (by decide +kernel) fun t _ y => ?_
  blk_simp
  rw [after0_7]
  exact (point7 m c t _).trans (back7 m c t y)

theorem final8 (c : Dev nD) : (dats m 0 c).arrAt 8 cfg0.N
    = val_main_v35 (F := Ideal) (aK m c) (aV m c) (aL m c) (aS m c) := by
  refine (dats m 0 c).arrAt_eq_of_covers 8 _ (by decide +kernel) fun t _ y => ?_
  blk_simp
  rw [after0_8]
  exact (point8 m c t _).trans (back8 m c t y)

end Cert.SglaIdeal.Value

end
-- ==== Proof.SglaClaim.lean ====
module

public import proofs.«01_k».proof.Defs
public import proofs.«01_k».proof.Proof.SglaRef
public import proofs.«01_k».proof.Proof.Gen.Sgla.Frame
public import proofs.«01_k».proof.Proof.Gen.SglaIdeal.Frame
public import proofs.«01_k».proof.Proof.Gen.SglaRefIdeal.Run
public import Idealize.ShloMosaic.Adequacy
public import Idealize.ShloMosaic.Init

/-! The claims about the gated linear attention of the running streams. -/

@[expose] public section

set_option maxRecDepth 16384

noncomputable section

namespace Cert.SglaClaim

open Idealize.ShloMosaic Idealize.SL.Sem

/-- The reference ends with its arguments as it found them and every semaphore at zero. -/
theorem ref_frame : Cert.quiescent_SglaRefIdeal (hSglaRefIdeal := Cert.SglaRefIdeal.Gen.facts) :=
  fun m ρ _ => (θ_run Cert.SglaRefIdeal.defs _ _).mono
    (fun r h => ⟨fun c => (h c).2.2, Idealize.ShloMosaic.sem_eq_zero_of_no_sems (by decide) r.2⟩)
    (Cert.SglaRefIdeal.Value.run (F := Ideal) m ρ)

open Cert.SglaIdeal.Value in
/-- The kernel and the reference end with equal results. -/
theorem equal : Cert.algebraic_SglaIdeal_SglaRefIdeal (hSglaIdeal := Cert.SglaIdeal.Gen.facts)
    (hSglaRefIdeal := Cert.SglaRefIdeal.Gen.facts) := by
  intro m ρ m' ρ' _ hagree
  refine ⟨fun c => Cert.SglaRefIdeal.Read.val_main_v55 (F := Ideal) (aQ m c) (aK m c) (aV m c) (aL m c) (aZ m c) (aG m c) (aS m c),
    fun c => Cert.SglaRefIdeal.Read.val_main_v35 (F := Ideal) (aK m c) (aV m c) (aL m c) (aS m c), ?_, ?_⟩
  · refine (θ_run Cert.SglaIdeal.defs _ _).mono (fun r h c => ?_) (Cert.SglaIdeal.Value.run_blocks m ρ)
    obtain ⟨h0, h1, hargs⟩ := h c
    exact ⟨h0.trans (final7 m c), h1.trans (final8 m c), hargs⟩
  · refine (θ_run Cert.SglaRefIdeal.defs _ _).mono (fun r h c => ?_)
      (Cert.SglaRefIdeal.Value.run (F := Ideal) m' ρ')
    obtain ⟨a0, a1, a2, a3, a4, a5, a6⟩ := hagree c
    obtain ⟨h0, h1, hargs⟩ := h c
    have e0 := h0.trans (Cert.SglaRefIdeal.Read.val_main_v55_eq _ _)
    have e1 := h1.trans (Cert.SglaRefIdeal.Read.val_main_v35_eq _ _ _ _)
    clear h0 h1
    rw [a0, a1, a2, a3, a4, a5, a6] at e0
    rw [a1, a2, a3, a6] at e1
    exact ⟨e0, e1, hargs⟩

end Cert.SglaClaim

end
-- ==== Proof.GlaChunk.lean ====
module

public import proofs.«01_k».proof.Proof.Gla

/-! Gated linear attention on the reals: what the state and the outputs are when a sequence is worked through in chunks,
    each from the state its predecessor left. Both have a closed form over the whole sequence, in which no chunk occurs. -/

@[expose] public section

noncomputable section

open Idealize.ShloMosaic

namespace Cert.Gla

/-- A finite sum of reals, taken on the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section
variable (Q K L : ℕ → Fin 128 → ℝ) (V : ℕ → Fin 256 → ℝ)

/-- The log decay of the first `n` positions. -/
def pre (n : ℕ) (k : Fin 128) : ℝ := ∑ i ∈ Finset.range n, L i k

/-- The state after the first `n` positions, from zero. -/
def stateAt (n : ℕ) (k : Fin 128) (d : Fin 256) : ℝ :=
  ∑ s ∈ Finset.range n, K s k * Real.exp (pre L n k - pre L (s + 1) k) * V s d

/-- The output at position `t`. -/
def outputAt (t : ℕ) (d : Fin 256) : ℝ :=
  ∑ s ∈ Finset.range (t + 1), (∑ k, Q t k * K s k * Real.exp (pre L (t + 1) k - pre L (s + 1) k)) * V s d

theorem stateAt_zero (k : Fin 128) (d : Fin 256) : stateAt K L V 0 k d = 0 := rfl

/-- Up to position `r` of a chunk of `c`, the sum over the chunk stops there. -/
theorem sum_upto {M : Type} [AddCommMonoid M] (c : ℕ) (r : Fin c) (f : ℕ → M) :
    ∑ s ∈ Finset.range c, (if s ≤ r.val then f s else 0) = ∑ s ∈ Finset.range (r.val + 1), f s := by
  rw [← Finset.sum_filter]
  refine Finset.sum_congr (Finset.ext fun s => ?_) fun _ _ => rfl
  rw [Finset.mem_filter, Finset.mem_range, Finset.mem_range]
  have := r.isLt
  omega

/-- The running sum inside a chunk that starts at `a`. -/
theorem cum_coe {c : ℕ} (a : ℕ) (r : Fin c) (k : Fin 128) :
    cum (fun i k => (L (a + i.val) k : EReal)) r k = ((pre L (a + (r.val + 1)) k - pre L a k : ℝ) : EReal) := by
  unfold cum win
  rw [sum_upto c r fun i => (L (a + (r.val - i)) k : EReal), sum_coe]
  congr 1
  unfold pre
  rw [Finset.sum_range_add (fun i => L i k) a (r.val + 1), add_sub_cancel_left, ← Finset.sum_range_reflect]
  exact Finset.sum_congr rfl fun i hi => by
    rw [Nat.add_sub_cancel, Nat.sub_sub_self (Nat.lt_succ_iff.mp (Finset.mem_range.mp hi))]

/-- A state carried over a chunk of `c` positions. -/
theorem stateAt_add (a c : ℕ) (k : Fin 128) (d : Fin 256) : stateAt K L V a k d * Real.exp (pre L (a + c) k - pre L a k)
    + ∑ s ∈ Finset.range c, (K (a + s) k * Real.exp (pre L (a + c) k - pre L a k - (pre L (a + (s + 1)) k - pre L a k))) * V (a + s) d
      = stateAt K L V (a + c) k d := by
  unfold stateAt
  rw [Finset.sum_range_add, Finset.sum_mul]
  congr 1
  · refine Finset.sum_congr rfl fun s _ => ?_
    rw [show pre L (a + c) k - pre L (s + 1) k = (pre L a k - pre L (s + 1) k) + (pre L (a + c) k - pre L a k) by ring, Real.exp_add]
    ring
  · refine Finset.sum_congr rfl fun s _ => ?_
    rw [sub_sub_sub_cancel_right, ← Nat.add_assoc]

/-- An output from the state at the start of its chunk and the chunk's own positions. -/
theorem outputAt_add (a r : ℕ) (d : Fin 256) :
    (∑ k, (Q (a + r) k * Real.exp (pre L (a + (r + 1)) k - pre L a k)) * stateAt K L V a k d)
      + ∑ s ∈ Finset.range (r + 1), (∑ k, (Q (a + r) k * Real.exp (pre L (a + (r + 1)) k - pre L a k))
        * (K (a + s) k * Real.exp (-(pre L (a + (s + 1)) k - pre L a k)))) * V (a + s) d = outputAt Q K L V (a + r) d := by
  unfold outputAt stateAt
  rw [Nat.add_assoc a r 1, Finset.sum_range_add (fun s => (∑ k, Q (a + r) k * K s k * Real.exp (pre L (a + (r + 1)) k - pre L (s + 1) k)) * V s d)
    a (r + 1)]
  congr 1
  · simp only [Finset.mul_sum, Finset.sum_mul]
    rw [Finset.sum_comm]
    refine Finset.sum_congr rfl fun s _ => Finset.sum_congr rfl fun k _ => ?_
    rw [show pre L (a + (r + 1)) k - pre L (s + 1) k = (pre L (a + (r + 1)) k - pre L a k) + (pre L a k - pre L (s + 1) k) by ring,
      Real.exp_add]
    ring
  · refine Finset.sum_congr rfl fun s _ => ?_
    congr 1
    refine Finset.sum_congr rfl fun k _ => ?_
    rw [Nat.add_assoc a s 1, show pre L (a + (r + 1)) k - pre L (a + (s + 1)) k
      = (pre L (a + (r + 1)) k - pre L a k) + -(pre L (a + (s + 1)) k - pre L a k) by ring, Real.exp_add]
    ring

/-- The state a chunk of `c` positions leaves, the chunk starting at `a` with the state of the first `a` positions. -/
theorem next_coe {c : ℕ} (a : ℕ) (l : Fin c) (hl : l.val + 1 = c) (k : Fin 128) (d : Fin 256) :
    next (fun i k => (K (a + i.val) k : EReal)) (fun i k => (L (a + i.val) k : EReal)) (fun i d => (V (a + i.val) d : EReal))
      (fun k d => (stateAt K L V a k d : EReal)) l k d = (stateAt K L V (a + c) k d : EReal) := by
  unfold next
  simp only [cum_coe, ← EReal.coe_sub, Ideal.exp_coe, ← EReal.coe_mul, sum_coe, ← EReal.coe_add]
  rw [hl, ← stateAt_add, Finset.sum_range]

/-- The output at position `r` of that chunk. -/
theorem out_coe {c : ℕ} (a : ℕ) (r : Fin c) (d : Fin 256) :
    out (fun i k => (Q (a + i.val) k : EReal)) (fun i k => (K (a + i.val) k : EReal)) (fun i k => (L (a + i.val) k : EReal))
      (fun i d => (V (a + i.val) d : EReal)) (fun k d => (stateAt K L V a k d : EReal)) r d = (outputAt Q K L V (a + r.val) d : EReal) := by
  have hc : ∀ s : Fin c, causal (fun i k => (Q (a + i.val) k : EReal)) (fun i k => (K (a + i.val) k : EReal))
      (fun i k => (L (a + i.val) k : EReal)) r s * (V (a + s.val) d : EReal) = ((if s.val ≤ r.val then
        (∑ k, (Q (a + r.val) k * Real.exp (pre L (a + (r.val + 1)) k - pre L a k))
          * (K (a + s.val) k * Real.exp (-(pre L (a + (s.val + 1)) k - pre L a k)))) * V (a + s.val) d else 0 : ℝ) : EReal) := fun s => by
    unfold causal
    by_cases h : s.val ≤ r.val
    · rw [if_pos h, if_pos h]
      simp only [cum_coe, ← EReal.coe_neg, Ideal.exp_coe, ← EReal.coe_mul, sum_coe]
    · rw [if_neg h, if_neg h, zero_mul, EReal.coe_zero]
  unfold out
  simp only [hc]
  simp only [cum_coe, Ideal.exp_coe, ← EReal.coe_mul, sum_coe, ← EReal.coe_add]
  rw [← outputAt_add, ← Finset.sum_range (fun s => if s ≤ r.val then (∑ k, (Q (a + r.val) k * Real.exp (pre L (a + (r.val + 1)) k - pre L a k))
      * (K (a + s) k * Real.exp (-(pre L (a + (s + 1)) k - pre L a k)))) * V (a + s) d else 0), sum_upto]

end

end Cert.Gla

end
-- ==== Proof.PglaHead.lean ====
module

public import proofs.«01_k».proof.Proof.Gen.PglaIdeal.Value
public import proofs.«01_k».proof.Proof.GlaChunk
public import Idealize.ShloMosaic.Lib.Pipeline.ValueKit
public import Idealize.ShloMosaic.Lib.Pointwise

/-! The prompt's gated linear attention: what one head's stored values are at a chunk of 128 positions. -/

@[expose] public section

set_option maxRecDepth 16384

noncomputable section

open Idealize.ShloMosaic Idealize.ShloMosaic.TcCoe Idealize.SL.Sem

namespace Cert.PglaIdeal.Value

open Cert.PglaIdeal Cert.PglaIdeal.Gen

/-- The row numbers. -/
def rows : IVec S128x128 32 := iota .tc S128x128 32 [0] iota_S128x128_d0_w32

/-- One doubling step of the running sum: the rows from `n` on gain the row `n` places before. -/
def step (n : ℕ) (x : FVec Ideal S128x128 .f32) : FVec Ideal S128x128 .f32 :=
  addf x (select (cmpi .sge rows (broadcast S128x128 (BitVec.ofNat 32 n)))
    (dynamicRotate 0 (BitVec.ofNat 32 n) none x rotates_S128x128_d0) (broadcast S128x128 (Scalar.ofBits .f32 0x00000000#32)))

theorem reached : ∀ n r : Fin 128, (IntOp.cmpi .sge (BitVec.ofNat 32 r.val) (BitVec.ofNat 32 n.val) = 1#1) ↔ n.val ≤ r.val := by
  decide +kernel

theorem step_apply (n : Fin 128) (x : FVec Ideal S128x128 .f32) (r k : Fin 128) :
    step n.val x (ix2 r k) = x (ix2 r k) + if h : n.val ≤ r.val then x (ix2 ⟨r.val - n.val, by omega⟩ k) else 0 := by
  have hn : (BitVec.ofNat 32 n.val).toNat = n.val := by rw [BitVec.toNat_ofNat]; omega
  pointwise [step, rows]
  refine congrArg (x (ix2 r k) + ·) ?_
  by_cases h : n.val ≤ r.val
  · refine (if_pos ((reached n r).mpr h)).trans ?_
    rw [dif_pos h]
    exact congrArg (fun i => x (ix2 i k)) (Fin.ext (by dsimp only; rw [hn]; omega))
  · rw [dif_neg h]
    exact if_neg fun h' => h ((reached n r).mp h')

/-- The step doubles the window its argument sums over. -/
theorem step_win (n : Fin 128) (l x : FVec Ideal S128x128 .f32) (k : Fin 128)
    (hx : ∀ r, x (ix2 r k) = Gla.win (fun i => l (ix2 i k)) n.val r) (r : Fin 128) :
    step n.val x (ix2 r k) = Gla.win (fun i => l (ix2 i k)) (n.val + n.val) r := by
  rw [← Gla.win_double _ n.val r]
  refine (step_apply n x r k).trans ?_
  simp only [hx]

/-- The running sums, by seven doubling steps. -/
def sums (l : FVec Ideal S128x128 .f32) : FVec Ideal S128x128 .f32 :=
  step 64 (step 32 (step 16 (step 8 (step 4 (step 2 (step 1 l))))))

theorem cum_apply (l : FVec Ideal S128x128 .f32) (r k : Fin 128) : sums l (ix2 r k) = Gla.cum (fun i k => l (ix2 i k)) r k :=
  step_win 64 l _ k (step_win 32 l _ k (step_win 16 l _ k (step_win 8 l _ k (step_win 4 l _ k (step_win 2 l _ k
    (step_win 1 l _ k fun r => (Gla.win_one (fun i => l (ix2 i k)) r).symm)))))) r

/-- A head's output row, before the normalization. -/
def headOut (q k : Vec Ideal S128x128 .bf16) (l : Vec Ideal S128x128 .f32) (v : Vec Ideal S128x256 .bf16)
    (s : Vec Ideal S1x1x128x256 .f32) : FVec Ideal S128x256 .f32 :=
  k0_pay33 (F := Ideal) k0_pay3 (sums l) (k0_pay30 q) k v s

/-- A head's state after the chunk. -/
def headNext (k : Vec Ideal S128x128 .bf16) (l : Vec Ideal S128x128 .f32) (v : Vec Ideal S128x256 .bf16)
    (s : Vec Ideal S1x1x128x256 .f32) : FVec Ideal S1x1x128x256 .f32 :=
  k0_pay34 (F := Ideal) (sums l) (extractStridedSlice S1x128 ![127, 0] (sums l) slices_S128x128_o127_0_S1x128) k v s

/-- A head's output, normalized and gated. -/
def headGate (o : FVec Ideal S128x256 .f32) (g : Vec Ideal S1x256 .f32) (z : Vec Ideal S128x256 .bf16) : FVec Ideal S128x256 .bf16 :=
  k0_pay25 (F := Ideal) o g z

theorem headOut_apply (q k : Vec Ideal S128x128 .bf16) (l : Vec Ideal S128x128 .f32) (v : Vec Ideal S128x256 .bf16)
    (s : Vec Ideal S1x1x128x256 .f32) (r : Fin 128) (d : Fin 256) :
    headOut q k l v s (ix2 r d) = Gla.out (fun i k' => q (ix2 i k') * Ideal.ofBits .f32 0x3DB504F3#32) (fun i k' => k (ix2 i k'))
      (fun i k => l (ix2 i k)) (fun i d => v (ix2 i d)) (fun k d => s (ix4 0 0 k d)) r d := by
  pointwise [headOut, k0_pay33, k0_pay32, k0_pay31, k0_pay30, k0_pay3, cum_apply, Gla.out, Gla.causal]
  refine congrArg (_ + ·) (Finset.sum_congr rfl fun i _ => ?_)
  simp only [zero_sub]
  by_cases h : i.val ≤ r.val
  · rw [if_pos h]
    exact if_pos ((reached i r).mpr h)
  · rw [if_neg h, zero_mul]
    exact if_neg fun h' => h ((reached i r).mp h')

theorem headNext_apply (k : Vec Ideal S128x128 .bf16) (l : Vec Ideal S128x128 .f32) (v : Vec Ideal S128x256 .bf16)
    (s : Vec Ideal S1x1x128x256 .f32) (k' : Fin 128) (d : Fin 256) :
    headNext k l v s (ix4 0 0 k' d) = Gla.next (fun i k' => k (ix2 i k')) (fun i k => l (ix2 i k))
      (fun i d => v (ix2 i d)) (fun k d => s (ix4 0 0 k d)) 127 k' d := by
  pointwise [headNext, k0_pay34, k0_pay32, k0_pay31, cum_apply, Gla.next]
  rw [dite_eq_ite, ite_self]

theorem headGate_apply (o : FVec Ideal S128x256 .f32) (g : Vec Ideal S1x256 .f32) (z : Vec Ideal S128x256 .bf16) (r : Fin 128) (d : Fin 256) :
    headGate o g z (ix2 r d) = Gla.gated (fun i => o (ix2 r i)) (g (ix2 0 d)) (z (ix2 r d)) d := by
  pointwise [headGate, k0_pay25, Gla.gated]
  rw [zero_sub]

end Cert.PglaIdeal.Value

end
-- ==== Proof.PglaBlocks.lean ====
module

public import proofs.«01_k».proof.Proof.PglaHead
public import Idealize.ShloMosaic.Lib.Pipeline.ReadBack

/-! The prompt's gated linear attention: what one grid point leaves in its two output blocks, from the state it finds. -/

@[expose] public section

set_option maxRecDepth 16384

noncomputable section

open Idealize.ShloMosaic Idealize.ShloMosaic.TcCoe Idealize.SL.Sem
open Idealize.ShloMosaic.Pipeline (Dat)

namespace Cert.PglaIdeal.Value

open Cert.PglaIdeal Cert.PglaIdeal.Gen

/-- Component `k` of head `h`'s keys and component `d` of its values. -/
abbrev keyCol (h : Fin 4) (k : Fin 128) : Fin 512 := ⟨h.val * 128 + k.val, by omega⟩
abbrev valCol (h : Fin 4) (d : Fin 256) : Fin 1024 := ⟨h.val * 256 + d.val, by omega⟩

/-! ## One head's loads -/

theorem ld_key {e : EltTy} (x : Vec Ideal S128x512 e) (h : Fin 4) (inb) (r k : Fin 128) :
    View.ld x (Rect.unit ![0, h.val * 128] ![128, 128] inb) (ix2 r k : S128x128.Idx) = x (ix2 r (keyCol h k)) :=
  View.ld_unit_apply_of _ _ _ _ _ _ fun a => by
    fin_cases a
    · exact (Nat.zero_add _).symm
    · rfl

theorem ld_val {e : EltTy} (x : Vec Ideal S128x1024 e) (h : Fin 4) (inb) (r : Fin 128) (d : Fin 256) :
    View.ld x (Rect.unit ![0, h.val * 256] ![128, 256] inb) (ix2 r d : S128x256.Idx) = x (ix2 r (valCol h d)) :=
  View.ld_unit_apply_of _ _ _ _ _ _ fun a => by
    fin_cases a
    · exact (Nat.zero_add _).symm
    · rfl

theorem ld_state {e : EltTy} (x : Vec Ideal S1x4x128x256 e) (h : Fin 4) (inb) (k : Fin 128) (d : Fin 256) :
    View.ld x (Rect.unit ![0, h.val, 0, 0] ![1, 1, 128, 256] inb) (ix4 0 0 k d : S1x1x128x256.Idx) = x (ix4 0 h k d) :=
  View.ld_unit_apply_of _ _ _ _ _ _ fun a => by
    fin_cases a
    · rfl
    · rfl
    · exact (Nat.zero_add _).symm
    · exact (Nat.zero_add _).symm

/-! ## The buffers at the call's entry, and the blocks -/

variable (m : (ℓ : Loc nD τ sig) → Buf (Elt Ideal) ℓ)

abbrev aQ (c : Dev nD) : FVec Ideal S32768x512 .bf16 := m ((c : Thread nD τ).loc main_arg0)
abbrev aK (c : Dev nD) : FVec Ideal S32768x512 .bf16 := m ((c : Thread nD τ).loc main_arg1)
abbrev aV (c : Dev nD) : FVec Ideal S32768x1024 .bf16 := m ((c : Thread nD τ).loc main_arg2)
abbrev aL (c : Dev nD) : FVec Ideal S32768x512 .f32 := m ((c : Thread nD τ).loc main_arg3)
abbrev aZ (c : Dev nD) : FVec Ideal S32768x1024 .bf16 := m ((c : Thread nD τ).loc main_arg4)
abbrev aG (c : Dev nD) : FVec Ideal S256 .f32 := m ((c : Thread nD τ).loc main_arg5)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![t.val / 16, 0, 0, 0] ∧ win0_7.index t = ![t.val, 0]
    ∧ win0_8.index t = ![t.val / 16, 0, 0, 0] :=
  (by decide +kernel : ∀ t : Fin grid0.N, _)

/-- There are 256 grid points: sixteen sequences in sixteen chunks. -/
theorem lt_points (t : Fin cfg0.N) : t.val < 256 := t.isLt

/-- Row `r` of the chunk of grid point `t`. -/
abbrev row (t : Fin cfg0.N) (r : Fin 128) : Fin 32768 := ⟨t.val * 128 + r.val, by have := lt_points t; omega⟩

theorem V_main_v1 (c : Dev nD) : V m c main_v1 = shapeCast S1x256 (aG m c) shapeCasts_S256_S1x256 := by
  simp only [V, hostOps0, List.flatten_cons, List.flatten_nil, List.append_nil, List.cons_append, List.nil_append]
  entry_read
  rfl

theorem V_main_v0 (c : Dev nD) : V m c main_v0 = fun _ => Ideal.ofBits .f32 0x00000000#32 := by
  simp only [V, hostOps0, List.flatten_cons, List.flatten_nil, List.append_nil, List.cons_append, List.nil_append]
  entry_read
  rfl

theorem blk0 (c : Dev nD) (t : Fin cfg0.N) (r : Fin 128) (d : Fin 512) :
    iblk m c 0 t (ix2 r d : S128x512.Idx) = aQ m c (ix2 (row t r) d) := by
  have h : ((cfg0.win 0).blk t).view.emb (ix2 r d : S128x512.Idx) = (ix2 (row t r) d : S32768x512.Idx) := by
    blk_ext [idx t]
  exact (congrArg (V m c main_arg0) h).trans (by rw [V_main_arg0])

theorem blk1 (c : Dev nD) (t : Fin cfg0.N) (r : Fin 128) (d : Fin 512) :
    iblk m c 1 t (ix2 r d : S128x512.Idx) = aK m c (ix2 (row t r) d) := by
  have h : ((cfg0.win 1).blk t).view.emb (ix2 r d : S128x512.Idx) = (ix2 (row t r) d : S32768x512.Idx) := by
    blk_ext [idx t]
  exact (congrArg (V m c main_arg1) h).trans (by rw [V_main_arg1])

theorem blk2 (c : Dev nD) (t : Fin cfg0.N) (r : Fin 128) (d : Fin 1024) :
    iblk m c 2 t (ix2 r d : S128x1024.Idx) = aV m c (ix2 (row t r) d) := by
  have h : ((cfg0.win 2).blk t).view.emb (ix2 r d : S128x1024.Idx) = (ix2 (row t r) d : S32768x1024.Idx) := by
    blk_ext [idx t]
  exact (congrArg (V m c main_arg2) h).trans (by rw [V_main_arg2])

theorem blk3 (c : Dev nD) (t : Fin cfg0.N) (r : Fin 128) (d : Fin 512) :
    iblk m c 3 t (ix2 r d : S128x512.Idx) = aL m c (ix2 (row t r) d) := by
  have h : ((cfg0.win 3).blk t).view.emb (ix2 r d : S128x512.Idx) = (ix2 (row t r) d : S32768x512.Idx) := by
    blk_ext [idx t]
  exact (congrArg (V m c main_arg3) h).trans (by rw [V_main_arg3])

theorem blk4 (c : Dev nD) (t : Fin cfg0.N) (r : Fin 128) (d : Fin 1024) :
    iblk m c 4 t (ix2 r d : S128x1024.Idx) = aZ m c (ix2 (row t r) d) := by
  have h : ((cfg0.win 4).blk t).view.emb (ix2 r d : S128x1024.Idx) = (ix2 (row t r) d : S32768x1024.Idx) := by
    blk_ext [idx t]
  exact (congrArg (V m c main_arg4) h).trans (by rw [V_main_arg4])

theorem blk5 (c : Dev nD) (t : Fin cfg0.N) (d : Fin 256) :
    iblk m c 5 t (ix2 0 d : S1x256.Idx) = aG m c (ix1 d) := by
  have h : ((cfg0.win 5).blk t).view.emb (ix2 0 d : S1x256.Idx) = (ix2 0 d : S1x256.Idx) := by
    blk_ext [idx t]
  refine (congrArg (V m c main_v1) h).trans ?_
  rw [V_main_v1]
  pointwise

/-- The state carried in is zero. -/
theorem blk6 (c : Dev nD) (t : Fin cfg0.N) (y : S1x4x128x256.Idx) : iblk m c 6 t y = (0 : EReal) :=
  (congrFun (V_main_v0 m c) (((cfg0.win 6).blk t).view.emb y)).trans (Ideal.ofBits_zero _)

/-! ## One head of a grid point that finds the state `X` -/

/-- The state a head ends the chunk with. -/
def nextAt (c : Dev nD) (t : Fin cfg0.N) (X : Vec Ideal S1x4x128x256 .f32) (h : Fin 4) (k : Fin 128) (d : Fin 256) : EReal :=
  Gla.next (fun i k => aK m c (ix2 (row t i) (keyCol h k))) (fun i k => aL m c (ix2 (row t i) (keyCol h k)))
    (fun i d => aV m c (ix2 (row t i) (valCol h d))) (fun k d => X (ix4 0 h k d)) 127 k d

/-- The attention's output of a head, before its normalization. -/
def outAt (c : Dev nD) (t : Fin cfg0.N) (X : Vec Ideal S1x4x128x256 .f32) (h : Fin 4) (r : Fin 128) (d : Fin 256) : EReal :=
  Gla.out (fun i k => aQ m c (ix2 (row t i) (keyCol h k)) * Ideal.ofBits .f32 0x3DB504F3#32) (fun i k => aK m c (ix2 (row t i) (keyCol h k)))
    (fun i k => aL m c (ix2 (row t i) (keyCol h k))) (fun i d => aV m c (ix2 (row t i) (valCol h d))) (fun k d => X (ix4 0 h k d)) r d

/-- The output: the head's row, normalized, scaled and gated. -/
def gatedAt (c : Dev nD) (t : Fin cfg0.N) (X : Vec Ideal S1x4x128x256 .f32) (h : Fin 4) (r : Fin 128) (d : Fin 256) : EReal :=
  Gla.gated (fun i => outAt m c t X h r i) (aG m c (ix1 d)) (aZ m c (ix2 (row t r) (valCol h d))) d

theorem next_head (c : Dev nD) (t : Fin cfg0.N) (X : Vec Ideal S1x4x128x256 .f32) (h : Fin 4) (i0 i1 i2 i3) (k : Fin 128) (d : Fin 256) :
    headNext (View.ld (iblk m c 1 t) (Rect.unit (s := S128x512) ![0, h.val * 128] ![128, 128] i0))
      (View.ld (iblk m c 3 t) (Rect.unit (s := S128x512) ![0, h.val * 128] ![128, 128] i1))
      (View.ld (iblk m c 2 t) (Rect.unit (s := S128x1024) ![0, h.val * 256] ![128, 256] i2))
      (View.ld X (Rect.unit (s := S1x4x128x256) ![0, h.val, 0, 0] ![1, 1, 128, 256] i3)) (ix4 0 0 k d)
      = nextAt m c t X h k d := by
  refine (headNext_apply _ _ _ _ k d).trans ?_
  exact Gla.next_congr (fun i k => (ld_key _ h i0 i k).trans (blk1 m c t i _)) (fun i k => (ld_key _ h i1 i k).trans (blk3 m c t i _))
    (fun i d => (ld_val _ h i2 i d).trans (blk2 m c t i _)) (fun k d => ld_state X h i3 k d) 127 k d

theorem out_head (c : Dev nD) (t : Fin cfg0.N) (X : Vec Ideal S1x4x128x256 .f32) (h : Fin 4) (i0 i1 i2 i3 i4) (r : Fin 128) (d : Fin 256) :
    headOut (View.ld (iblk m c 0 t) (Rect.unit (s := S128x512) ![0, h.val * 128] ![128, 128] i4))
      (View.ld (iblk m c 1 t) (Rect.unit (s := S128x512) ![0, h.val * 128] ![128, 128] i0))
      (View.ld (iblk m c 3 t) (Rect.unit (s := S128x512) ![0, h.val * 128] ![128, 128] i1))
      (View.ld (iblk m c 2 t) (Rect.unit (s := S128x1024) ![0, h.val * 256] ![128, 256] i2))
      (View.ld X (Rect.unit (s := S1x4x128x256) ![0, h.val, 0, 0] ![1, 1, 128, 256] i3)) (ix2 r d)
      = outAt m c t X h r d := by
  refine (headOut_apply _ _ _ _ _ r d).trans ?_
  exact Gla.out_congr (fun i k => congrArg (fun x : EReal => x * Ideal.ofBits .f32 0x3DB504F3#32) ((ld_key _ h i4 i k).trans (blk0 m c t i _)))
    (fun i k => (ld_key _ h i0 i k).trans (blk1 m c t i _)) (fun i k => (ld_key _ h i1 i k).trans (blk3 m c t i _))
    (fun i d => (ld_val _ h i2 i d).trans (blk2 m c t i _)) (fun k d => ld_state X h i3 k d) r d

theorem gate_head (c : Dev nD) (t : Fin cfg0.N) (X : Vec Ideal S1x4x128x256 .f32) (h : Fin 4) (i0 i1 i2 i3 i4 i5) (r : Fin 128) (d : Fin 256) :
    headGate (headOut (View.ld (iblk m c 0 t) (Rect.unit (s := S128x512) ![0, h.val * 128] ![128, 128] i4))
      (View.ld (iblk m c 1 t) (Rect.unit (s := S128x512) ![0, h.val * 128] ![128, 128] i0))
      (View.ld (iblk m c 3 t) (Rect.unit (s := S128x512) ![0, h.val * 128] ![128, 128] i1))
      (View.ld (iblk m c 2 t) (Rect.unit (s := S128x1024) ![0, h.val * 256] ![128, 256] i2))
      (View.ld X (Rect.unit (s := S1x4x128x256) ![0, h.val, 0, 0] ![1, 1, 128, 256] i3)))
      (iblk m c 5 t) (View.ld (iblk m c 4 t) (Rect.unit (s := S128x1024) ![0, h.val * 256] ![128, 256] i5)) (ix2 r d)
      = gatedAt m c t X h r d := by
  refine (headGate_apply _ _ _ r d).trans ?_
  exact Gla.gated_congr (fun i => out_head m c t X h i0 i1 i2 i3 i4 r i) (blk5 m c t d) ((ld_val _ h i5 r d).trans (blk4 m c t r _)) d

/-! ## The output blocks -/

/-- The state's block. -/
def G8 (c : Dev nD) (t : Fin cfg0.N) (X : Vec Ideal S1x4x128x256 .f32) (y : S1x4x128x256.Idx) : EReal :=
  nextAt m c t X (y 1) (y 2) (y 3)

/-- The output's block. -/
def G7 (c : Dev nD) (t : Fin cfg0.N) (X : Vec Ideal S1x4x128x256 .f32) (y : S128x1024.Idx) : EReal :=
  gatedAt m c t X ⟨(y 1).val / 256, by have : (y 1).val < 1024 := (y 1).isLt; omega⟩ (y 0) ⟨(y 1).val % 256, by omega⟩

theorem piece8 (c : Dev nD) (t : Fin cfg0.N) (X : Vec Ideal S1x4x128x256 .f32) (h : Fin 4) (i) (P : Vec Ideal S1x1x128x256 .f32)
    (hP : ∀ k d, P (ix4 0 0 k d) = nextAt m c t X h k d) (j : S1x1x128x256.Idx) :
    P j = G8 m c t X ((Rect.unit (s := S1x4x128x256) ![0, h.val, 0, 0] ![1, 1, 128, 256] i).emb j) := by
  idx_vars j
  obtain rfl : j0 = 0 := Subsingleton.elim _ _
  obtain rfl : j1 = 0 := Subsingleton.elim _ _
  rw [hP]
  unfold G8
  have e (a : Fin 4) := Rect.idx_unit_val (s := S1x4x128x256) ![0, h.val, 0, 0] ![1, 1, 128, 256] i (ix4 0 0 j2 j3) a
  congr 1
  · exact Fin.ext ((e 2).trans (Nat.zero_add _)).symm
  · exact Fin.ext ((e 3).trans (Nat.zero_add _)).symm

theorem piece7 (c : Dev nD) (t : Fin cfg0.N) (X : Vec Ideal S1x4x128x256 .f32) (h : Fin 4) (i) (P : Vec Ideal S128x256 .bf16)
    (hP : ∀ r d, P (ix2 r d) = gatedAt m c t X h r d) (j : S128x256.Idx) :
    P j = G7 m c t X ((Rect.unit (s := S128x1024) ![0, h.val * 256] ![128, 256] i).emb j) := by
  idx_vars j
  rw [hP]
  unfold G7
  have e : (((Rect.unit (s := S128x1024) ![0, h.val * 256] ![128, 256] i).emb (ix2 j0 j1)) 1).val = h.val * 256 + j1.val :=
    Rect.idx_unit_val _ _ _ _ _
  congr 1
  · exact Fin.ext (by dsimp only; rw [e]; omega)
  · exact Fin.ext ((Rect.idx_unit_val _ _ _ _ _).trans (Nat.zero_add _)).symm
  · exact Fin.ext (by dsimp only; rw [e]; omega)

theorem cover8 (a : Fin 1) (h : Fin 4) (i) (k : Fin 128) (d : Fin 256) :
    (ix4 a h k d : S1x4x128x256.Idx) ∈ (Rect.unit (s := S1x4x128x256) ![0, h.val, 0, 0] ![1, 1, 128, 256] i).set :=
  Rect.mem_set_unit.mpr fun x => match x with
    | ⟨0, _⟩ => ⟨Nat.zero_le _, by show a.val < 0 + 1; omega⟩
    | ⟨1, _⟩ => ⟨le_refl h.val, Nat.lt_succ_self h.val⟩
    | ⟨2, _⟩ => ⟨Nat.zero_le _, by show k.val < 0 + 128; omega⟩
    | ⟨3, _⟩ => ⟨Nat.zero_le _, by show d.val < 0 + 256; omega⟩

theorem cover7 (h : Fin 4) (i) (r : Fin 128) (x : Fin 1024) (hx : x.val / 256 = h.val) :
    (ix2 r x : S128x1024.Idx) ∈ (Rect.unit (s := S128x1024) ![0, h.val * 256] ![128, 256] i).set :=
  Rect.mem_set_unit.mpr fun a => match a with
    | ⟨0, _⟩ => ⟨Nat.zero_le _, by show r.val < 0 + 128; omega⟩
    | ⟨1, _⟩ => ⟨by show h.val * 256 ≤ x.val; omega, by show x.val < h.val * 256 + 256; omega⟩

theorem point8_A (c : Dev nD) (t : Fin cfg0.N) (h0 : t.val % 16 = 0) (y : S1x4x128x256.Idx) :
    (outsAt0 m c t.val t.isLt).2 y = G8 m c t (iblk m c 6 t) y := by
  rw [outsAt0_A m c t h0]
  frame_out
  simp (disch := first | decide | (intro a; fin_cases a <;> rfl)) only [↓View.readCov_skip, ↓View.readCov_fill]
  refine View.canon_append_of_piecesOf (Val := Elt Ideal) (e := .f32) (G8 m c t (iblk m c 6 t)) [_] [_, _, _, _] ?_ y ?_
  · exact ⟨piece8 m c t _ 3 inb_S1x4x128x256_S1x1x128x256_0_3_0_0 _ (next_head m c t _ 3 _ _ _ _),
      piece8 m c t _ 2 inb_S1x4x128x256_S1x1x128x256_0_2_0_0 _ (next_head m c t _ 2 _ _ _ _),
      piece8 m c t _ 1 inb_S1x4x128x256_S1x1x128x256_0_1_0_0 _ (next_head m c t _ 1 _ _ _ _),
      piece8 m c t _ 0 inb_S1x4x128x256_S1x1x128x256_0_0_0_0 _ (next_head m c t _ 0 _ _ _ _), trivial⟩
  · idx_vars y
    fin_cases y1
    · exact ⟨_, .tail _ (.tail _ (.tail _ (.head _))), cover8 _ 0 inb_S1x4x128x256_S1x1x128x256_0_0_0_0 y2 y3⟩
    · exact ⟨_, .tail _ (.tail _ (.head _)), cover8 _ 1 inb_S1x4x128x256_S1x1x128x256_0_1_0_0 y2 y3⟩
    · exact ⟨_, .tail _ (.head _), cover8 _ 2 inb_S1x4x128x256_S1x1x128x256_0_2_0_0 y2 y3⟩
    · exact ⟨_, .head _, cover8 _ 3 inb_S1x4x128x256_S1x1x128x256_0_3_0_0 y2 y3⟩

theorem point8_B (c : Dev nD) (t : Fin cfg0.N) (h0 : ¬t.val % 16 = 0) (y : S1x4x128x256.Idx) :
    (outsAt0 m c t.val t.isLt).2 y
      = G8 m c t (outsAt0 m c (t.val - 1) (Nat.lt_of_le_of_lt (Nat.sub_le _ _) t.isLt)).2 y := by
  rw [outsAt0_B m c t h0]
  frame_out
  refine View.canon_append_of_piecesOf (Val := Elt Ideal) (e := .f32) (G8 m c t _) [] [_, _, _, _] ?_ y ?_
  · exact ⟨piece8 m c t _ 3 inb_S1x4x128x256_S1x1x128x256_0_3_0_0 _ (next_head m c t _ 3 _ _ _ _),
      piece8 m c t _ 2 inb_S1x4x128x256_S1x1x128x256_0_2_0_0 _ (next_head m c t _ 2 _ _ _ _),
      piece8 m c t _ 1 inb_S1x4x128x256_S1x1x128x256_0_1_0_0 _ (next_head m c t _ 1 _ _ _ _),
      piece8 m c t _ 0 inb_S1x4x128x256_S1x1x128x256_0_0_0_0 _ (next_head m c t _ 0 _ _ _ _), trivial⟩
  · idx_vars y
    fin_cases y1
    · exact ⟨_, .tail _ (.tail _ (.tail _ (.head _))), cover8 _ 0 inb_S1x4x128x256_S1x1x128x256_0_0_0_0 y2 y3⟩
    · exact ⟨_, .tail _ (.tail _ (.head _)), cover8 _ 1 inb_S1x4x128x256_S1x1x128x256_0_1_0_0 y2 y3⟩
    · exact ⟨_, .tail _ (.head _), cover8 _ 2 inb_S1x4x128x256_S1x1x128x256_0_2_0_0 y2 y3⟩
    · exact ⟨_, .head _, cover8 _ 3 inb_S1x4x128x256_S1x1x128x256_0_3_0_0 y2 y3⟩

theorem point7_A (c : Dev nD) (t : Fin cfg0.N) (h0 : t.val % 16 = 0) (y : S128x1024.Idx) :
    (outsAt0 m c t.val t.isLt).1 y = G7 m c t (iblk m c 6 t) y := by
  rw [outsAt0_A m c t h0]
  frame_out
  simp (disch := first | decide | (intro a; fin_cases a <;> rfl)) only [↓View.readCov_skip, ↓View.readCov_fill]
  refine View.canon_append_of_piecesOf (Val := Elt Ideal) (e := .bf16) (G7 m c t (iblk m c 6 t)) [] [_, _, _, _] ?_ y ?_
  · exact ⟨piece7 m c t _ 3 inb_S128x1024_S128x256_0_768 _ (gate_head m c t _ 3 _ _ _ _ _ _),
      piece7 m c t _ 2 inb_S128x1024_S128x256_0_512 _ (gate_head m c t _ 2 _ _ _ _ _ _),
      piece7 m c t _ 1 inb_S128x1024_S128x256_0_256 _ (gate_head m c t _ 1 _ _ _ _ _ _),
      piece7 m c t _ 0 inb_S128x1024_S128x256_0_0 _ (gate_head m c t _ 0 _ _ _ _ _ _), trivial⟩
  · idx_vars y
    rcases (by omega : y1.val / 256 = 0 ∨ y1.val / 256 = 1 ∨ y1.val / 256 = 2 ∨ y1.val / 256 = 3) with h | h | h | h
    · exact ⟨_, .tail _ (.tail _ (.tail _ (.head _))), cover7 0 inb_S128x1024_S128x256_0_0 y0 y1 h⟩
    · exact ⟨_, .tail _ (.tail _ (.head _)), cover7 1 inb_S128x1024_S128x256_0_256 y0 y1 h⟩
    · exact ⟨_, .tail _ (.head _), cover7 2 inb_S128x1024_S128x256_0_512 y0 y1 h⟩
    · exact ⟨_, .head _, cover7 3 inb_S128x1024_S128x256_0_768 y0 y1 h⟩

theorem point7_B (c : Dev nD) (t : Fin cfg0.N) (h0 : ¬t.val % 16 = 0) (y : S128x1024.Idx) :
    (outsAt0 m c t.val t.isLt).1 y
      = G7 m c t (outsAt0 m c (t.val - 1) (Nat.lt_of_le_of_lt (Nat.sub_le _ _) t.isLt)).2 y := by
  rw [outsAt0_B m c t h0]
  frame_out
  refine View.canon_append_of_piecesOf (Val := Elt Ideal) (e := .bf16) (G7 m c t _) [] [_, _, _, _] ?_ y ?_
  · exact ⟨piece7 m c t _ 3 inb_S128x1024_S128x256_0_768 _ (gate_head m c t _ 3 _ _ _ _ _ _),
      piece7 m c t _ 2 inb_S128x1024_S128x256_0_512 _ (gate_head m c t _ 2 _ _ _ _ _ _),
      piece7 m c t _ 1 inb_S128x1024_S128x256_0_256 _ (gate_head m c t _ 1 _ _ _ _ _ _),
      piece7 m c t _ 0 inb_S128x1024_S128x256_0_0 _ (gate_head m c t _ 0 _ _ _ _ _ _), trivial⟩
  · idx_vars y
    rcases (by omega : y1.val / 256 = 0 ∨ y1.val / 256 = 1 ∨ y1.val / 256 = 2 ∨ y1.val / 256 = 3) with h | h | h | h
    · exact ⟨_, .tail _ (.tail _ (.tail _ (.head _))), cover7 0 inb_S128x1024_S128x256_0_0 y0 y1 h⟩
    · exact ⟨_, .tail _ (.tail _ (.head _)), cover7 1 inb_S128x1024_S128x256_0_256 y0 y1 h⟩
    · exact ⟨_, .tail _ (.head _), cover7 2 inb_S128x1024_S128x256_0_512 y0 y1 h⟩
    · exact ⟨_, .head _, cover7 3 inb_S128x1024_S128x256_0_768 y0 y1 h⟩

end Cert.PglaIdeal.Value

end
-- ==== Proof.PglaRef.lean ====
module

public import proofs.«01_k».proof.Proof.PglaBlocks
public import proofs.«01_k».proof.Proof.GlaWindow
public import proofs.«01_k».proof.Proof.Gen.PglaRefIdeal.Read

/-! The prompt's gated linear attention: what the reference leaves in its two results. -/

@[expose] public section

set_option maxRecDepth 16384

noncomputable section

open Idealize.ShloMosaic Idealize.ShloMosaic.TcCoe Idealize.SL.Sem
open Idealize.ShloMosaic.Pipeline (Dat)

namespace Cert.PglaIdeal.Value

open Cert.PglaIdeal Cert.PglaIdeal.Gen Cert.PglaRefIdeal.Read

/-- Position `i` of sequence `b`. -/
abbrev pos (b : Fin 16) (i : Fin 2048) : Fin 32768 := ⟨b.val * 2048 + i.val, by omega⟩

/-- Comparing two small naturals as signed words compares them. -/
theorem reached_word (s r : ℕ) (hs : s < 2048) (hr : r < 2048) :
    IntOp.cmpi .sge (BitVec.ofNat 32 r) (BitVec.ofNat 32 s) = 1#1 ↔ s ≤ r := by
  have e (n : ℕ) (hn : n < 2048) : (BitVec.ofNat 32 n).toInt = n := by
    rw [BitVec.toInt_eq_toNat_of_lt (by rw [BitVec.toNat_ofNat]; omega), BitVec.toNat_ofNat, Nat.mod_eq_of_lt (by omega)]
  show BitVec.ofBool ((BitVec.ofNat 32 s).sle (BitVec.ofNat 32 r)) = 1#1 ↔ s ≤ r
  rw [BitVec.sle, e s hs, e r hr]
  by_cases h : s ≤ r
  · simp [h]
  · simp [h]

variable (x0 x1 : FVec Ideal S32768x512 .bf16) (x2 : FVec Ideal S32768x1024 .bf16) (x3 : FVec Ideal S32768x512 .f32)
  (x4 : FVec Ideal S32768x1024 .bf16) (x5 : FVec Ideal S256 .f32)

/-- The state a head ends the sequence with. -/
def refNext (b : Fin 16) (h : Fin 4) (k : Fin 128) (d : Fin 256) : EReal :=
  Gla.next (fun i k => x1 (ix2 (pos b i) (keyCol h k))) (fun i k => x3 (ix2 (pos b i) (keyCol h k)))
    (fun i d => x2 (ix2 (pos b i) (valCol h d))) (fun _ _ => 0) 2047 k d

/-- The attention's output at a position, before its normalization. -/
def refOut (b : Fin 16) (h : Fin 4) (r : Fin 2048) (d : Fin 256) : EReal :=
  Gla.out (fun i k => x0 (ix2 (pos b i) (keyCol h k)) * Ideal.ofBits .f32 0x3DB504F3#32) (fun i k => x1 (ix2 (pos b i) (keyCol h k)))
    (fun i k => x3 (ix2 (pos b i) (keyCol h k))) (fun i d => x2 (ix2 (pos b i) (valCol h d))) (fun _ _ => 0) r d

/-- The output at a position: the head's row, normalized, scaled and gated. -/
def refGated (b : Fin 16) (h : Fin 4) (r : Fin 2048) (d : Fin 256) : EReal :=
  Gla.gated (fun i => refOut x0 x1 x2 x3 b h r i) (x5 (ix1 d)) (x4 (ix2 (pos b r) (valCol h d))) d

open Cert.PglaRefIdeal in
theorem v7_apply (b : Fin 16) (i : Fin 2048) (h : Fin 4) (k : Fin 128) :
    val_main_v7 (F := Ideal) x3 (ix4 b i h k) = x3 (ix2 (pos b i) (keyCol h k)) := by
  rw [val_main_v7_apply]
  blk_ext

open Cert.PglaRefIdeal in
theorem v10_apply (b : Fin 16) (i : Fin 2048) (h : Fin 4) (k : Fin 128) :
    val_main_v10 (F := Ideal) x3 (ix4 b i h k) = Gla.cum (fun i k => x3 (ix2 (pos b i) (keyCol h k))) i k := by
  unfold val_main_v10 Host.reduceWindowAdd
  show Ideal.hostReduceWindowAdd _ _ _ _ _ _ _ _ = _
  unfold Ideal.hostReduceWindowAdd Host.reduceWindow
  have hz : val_main_call0_call0_v0 (F := Ideal) (Shape.Idx.first Gen.h_S_) = 0 := by
    pointwise [val_main_call0_call0_v0, val_main_call0_call0_cst]
  refine (Gla.windowed (B := 16) 2047 rfl (val_main_v7 (F := Ideal) x3) _ hz b i h k _ fun r n => ?_).trans ?_
  · exact congrArg (r + ·) (Gla.dite_any _ _ _ _)
  · simp only [v7_apply]
    rfl

/-! ## The reference's values, one by one -/

open Cert.PglaRefIdeal in
theorem v6_apply (j : Cert.PglaRefIdeal.S16x4x128x256.Idx) : val_main_v6 (F := Ideal) j = 0 := by
  pointwise [val_main_v6, val_main_cst_0]

section
open Cert.PglaRefIdeal

variable (b : Fin 16) (h : Fin 4)

theorem v3_apply (i : Fin 2048) (k : Fin 128) : val_main_v3 (F := Ideal) x0 (ix4 b i h k)
    = x0 (ix2 (pos b i) (keyCol h k)) * Ideal.ofBits .f32 0x3DB504F3#32 := by
  have e : val_main_v1 (F := Ideal) x0 (ix4 b i h k) = x0 (ix2 (pos b i) (keyCol h k)) := by
    rw [val_main_v1_apply]
    pointwise [val_main_v0]
    blk_ext
  pointwise [val_main_v3, val_main_v2, val_main_cst, e]

theorem v8_apply (i : Fin 2048) (k : Fin 128) : val_main_v8 (F := Ideal) x1 (ix4 b i h k) = x1 (ix2 (pos b i) (keyCol h k)) := by
  have e : val_main_v4 (F := Ideal) x1 (ix4 b i h k) = x1 (ix2 (pos b i) (keyCol h k)) := by
    rw [val_main_v4_apply]
    blk_ext
  pointwise [val_main_v8, e]

theorem v9_apply (i : Fin 2048) (d : Fin 256) : val_main_v9 (F := Ideal) x2 (ix4 b i h d) = x2 (ix2 (pos b i) (valCol h d)) := by
  have e : val_main_v5 (F := Ideal) x2 (ix4 b i h d) = x2 (ix2 (pos b i) (valCol h d)) := by
    rw [val_main_v5_apply]
    blk_ext
  pointwise [val_main_v9, e]

theorem v12_apply (i : Fin 2048) (k : Fin 128) : val_main_v12 (F := Ideal) x0 x3 (ix4 b i h k)
    = x0 (ix2 (pos b i) (keyCol h k)) * Ideal.ofBits .f32 0x3DB504F3#32
      * Ideal.exp (Gla.cum (fun i k => x3 (ix2 (pos b i) (keyCol h k))) i k) := by
  pointwise [val_main_v12, val_main_v11, v3_apply, v10_apply]

theorem v15_apply (i : Fin 2048) (k : Fin 128) : val_main_v15 (F := Ideal) x1 x3 (ix4 b i h k)
    = x1 (ix2 (pos b i) (keyCol h k)) * Ideal.exp (-(Gla.cum (fun i k => x3 (ix2 (pos b i) (keyCol h k))) i k)) := by
  pointwise [val_main_v15, val_main_v14, val_main_v13, v8_apply, v10_apply]

theorem v18_apply (r i : Fin 2048) : val_main_v18 (F := Ideal) x0 x1 x3 (ix4 b h r i)
    = ∑ k, (x0 (ix2 (pos b r) (keyCol h k)) * Ideal.ofBits .f32 0x3DB504F3#32
      * Ideal.exp (Gla.cum (fun i k => x3 (ix2 (pos b i) (keyCol h k))) r k))
      * (x1 (ix2 (pos b i) (keyCol h k)) * Ideal.exp (-(Gla.cum (fun i k => x3 (ix2 (pos b i) (keyCol h k))) i k))) := by
  rw [val_main_v18_apply]
  refine Finset.sum_congr rfl fun k _ => ?_
  rw [show lidx_main_v18 (ix4 b h r i) k = ix4 b r h k by blk_ext, show ridx_main_v18 (ix4 b h r i) k = ix4 b i h k by blk_ext,
    v12_apply, v15_apply]

theorem v19_apply (r i : Fin 2048) : val_main_v19 (F := Ideal) x0 x1 x3 (ix4 b h r i)
    = Gla.causal (fun i k => x0 (ix2 (pos b i) (keyCol h k)) * Ideal.ofBits .f32 0x3DB504F3#32) (fun i k => x1 (ix2 (pos b i) (keyCol h k)))
      (fun i k => x3 (ix2 (pos b i) (keyCol h k))) r i := by
  have e1 : val_main_call2_v1 (F := Ideal) (ix4 b h r i) = if i.val ≤ r.val then 1#1 else 0#1 := by
    rw [val_main_call2_v1_apply, show idx_main_call2_v1 (ix4 b h r i) = ix2 r i by blk_ext, val_main_v17_apply, val_main_v16_apply,
      val_main_c_apply, val_main_call1_v4_apply, val_main_call1_v5_apply, val_main_call1_c_0_apply, val_main_call1_v2_apply,
      val_main_call1_v0_apply, val_main_call1_v1_apply, val_main_call1_c_apply, val_main_call1_v3_apply]
    show (if IntOp.cmpi .sge (BitVec.ofNat 32 r.val + 0#32) (BitVec.ofNat 32 i.val) = 1#1 then (1#1 : BitVec 1) else 0#1) = _
    rw [BitVec.add_zero]
    exact if_congr (reached_word i.val r.val i.isLt r.isLt) rfl rfl
  have e2 : val_main_call2_v2 (F := Ideal) (ix4 b h r i) = 0 := by
    rw [val_main_call2_v2_apply, val_main_call2_v0_apply, val_main_cst_1_apply]
    exact Ideal.ofBits_zero _
  rw [val_main_v19_apply, e1, e2, v18_apply]
  unfold Gla.causal
  by_cases hle : i.val ≤ r.val
  · rw [if_pos hle, if_pos hle]
    rfl
  · rw [if_neg hle, if_neg hle]
    rfl

theorem v36_apply (k : Fin 128) (d : Fin 256) : val_main_v36 (F := Ideal) x1 x2 x3 (ix4 b h k d)
    = refNext x1 x2 x3 b h k d := by
  have e : ∀ k, val_main_v26 (F := Ideal) x3 (ix3 b h k) = Gla.cum (fun i k => x3 (ix2 (pos b i) (keyCol h k))) 2047 k := fun k => by
    rw [val_main_v26_apply, show idx_main_v26 (ix3 b h k) = ix4 b 0 h k by blk_ext, val_main_v25_apply,
      show idx_main_v25 (ix4 b 0 h k) = ix4 b 2047 h k by blk_ext, v10_apply]
  have e33 : ∀ i k, val_main_v34 (F := Ideal) x1 x3 (ix4 b i h k) = x1 (ix2 (pos b i) (keyCol h k))
      * Ideal.exp (Gla.cum (fun i k => x3 (ix2 (pos b i) (keyCol h k))) 2047 k - Gla.cum (fun i k => x3 (ix2 (pos b i) (keyCol h k))) i k) := fun i k => by
    pointwise [val_main_v34, val_main_v33, val_main_v32, val_main_v31, v8_apply, v10_apply]
    rw [val_main_v25_apply, show idx_main_v25 (ix4 b 0 h k) = ix4 b 2047 h k by blk_ext, v10_apply]
  have e34 : val_main_v35 (F := Ideal) x1 x2 x3 (ix4 b h k d) = ∑ i, x1 (ix2 (pos b i) (keyCol h k))
      * Ideal.exp (Gla.cum (fun i k => x3 (ix2 (pos b i) (keyCol h k))) 2047 k - Gla.cum (fun i k => x3 (ix2 (pos b i) (keyCol h k))) i k)
      * x2 (ix2 (pos b i) (valCol h d)) := by
    rw [val_main_v35_apply]
    refine Finset.sum_congr rfl fun i _ => ?_
    rw [show lidx_main_v35 (ix4 b h k d) i = ix4 b i h k by blk_ext, show ridx_main_v35 (ix4 b h k d) i = ix4 b i h d by blk_ext,
      e33, v9_apply]
  pointwise [val_main_v36, val_main_v30, val_main_v29, val_main_v28, val_main_v27, e, e34, refNext, Gla.next]
  rw [mul_comm, v6_apply]

theorem v24_apply (r : Fin 2048) (d : Fin 256) : val_main_v24 (F := Ideal) x0 x1 x2 x3 (ix4 b r h d)
    = refOut x0 x1 x2 x3 b h r d := by
  have e20 : val_main_v21 (F := Ideal) x0 x3 (ix4 b r h d)
      = ∑ k, (x0 (ix2 (pos b r) (keyCol h k)) * Ideal.ofBits .f32 0x3DB504F3#32
        * Ideal.exp (Gla.cum (fun i k => x3 (ix2 (pos b i) (keyCol h k))) r k)) * (0 : EReal) := by
    rw [val_main_v21_apply, show idx_main_v21 (ix4 b r h d) = ix4 b h d r by blk_ext, val_main_v20_apply]
    refine Finset.sum_congr rfl fun k _ => ?_
    rw [show lidx_main_v20 (ix4 b h d r) k = ix4 b h k d by blk_ext, show ridx_main_v20 (ix4 b h d r) k = ix4 b r h k by blk_ext,
      v12_apply, mul_comm, v6_apply]
  have e22 : val_main_v23 (F := Ideal) x0 x1 x2 x3 (ix4 b r h d)
      = ∑ i, Gla.causal (fun i k => x0 (ix2 (pos b i) (keyCol h k)) * Ideal.ofBits .f32 0x3DB504F3#32)
        (fun i k => x1 (ix2 (pos b i) (keyCol h k))) (fun i k => x3 (ix2 (pos b i) (keyCol h k))) r i * x2 (ix2 (pos b i) (valCol h d)) := by
    rw [val_main_v23_apply, show idx_main_v23 (ix4 b r h d) = ix4 b h d r by blk_ext, val_main_v22_apply]
    refine Finset.sum_congr rfl fun i _ => ?_
    rw [show lidx_main_v22 (ix4 b h d r) i = ix4 b i h d by blk_ext, show ridx_main_v22 (ix4 b h d r) i = ix4 b h r i by blk_ext,
      v9_apply, v19_apply, mul_comm]
  pointwise [val_main_v24, e20, e22, refOut, Gla.out]

theorem v56_apply (r : Fin 2048) (d : Fin 256) : val_main_v56 (F := Ideal) x0 x1 x2 x3 x4 x5 (ix2 (pos b r) (valCol h d))
    = refGated x0 x1 x2 x3 x4 x5 b h r d := by
  have e39 : val_main_v40 (F := Ideal) x0 x1 x2 x3 (ix3 b r h) = ∑ i, refOut x0 x1 x2 x3 b h r i * refOut x0 x1 x2 x3 b h r i := by
    rw [val_main_v40_apply]
    have e : val_main_cst_2 (F := Ideal) (Shape.Idx.first Gen.h_S_) = 0 := by pointwise [val_main_cst_2]
    rw [e, zero_add]
    refine Finset.sum_congr rfl fun i _ => ?_
    rw [val_main_v39_apply, show idx_main_v40 (ix3 b r h) i = ix4 b r h i by blk_ext, v24_apply]
    rfl
  have e50 : val_main_v51 (F := Ideal) x0 x1 x2 x3 x5 (ix4 b r h d)
      = refOut x0 x1 x2 x3 b h r d * Ideal.rsqrt (Ideal.div (∑ i, refOut x0 x1 x2 x3 b h r i * refOut x0 x1 x2 x3 b h r i)
        (Ideal.ofBits .f32 0x43800000#32) + Ideal.ofBits .f32 0x358637BD#32) * x5 (ix1 d) := by
    pointwise [val_main_v51, val_main_v50, val_main_v49, val_main_v48, val_main_v47, val_main_v46, val_main_v45, val_main_v44, val_main_v43,
      val_main_v42, val_main_v41, val_main_cst_3, val_main_cst_4, e39, v24_apply]
  have e51 : val_main_v52 (F := Ideal) x0 x1 x2 x3 x5 (ix3 b r (valCol h d)) = val_main_v51 (F := Ideal) x0 x1 x2 x3 x5 (ix4 b r h d) := by
    rw [val_main_v52_apply]
    blk_ext
  have e37 : val_main_v38 (F := Ideal) x4 (ix3 b r (valCol h d)) = x4 (ix2 (pos b r) (valCol h d)) := by
    rw [val_main_v38_apply]
    pointwise [val_main_v37]
    blk_ext
  have e55 : val_main_v56 (F := Ideal) x0 x1 x2 x3 x4 x5 (ix2 (pos b r) (valCol h d))
      = val_main_v54 (F := Ideal) x0 x1 x2 x3 x4 x5 (ix3 b r (valCol h d)) := by
    rw [val_main_v56_apply]
    pointwise [val_main_v55]
    blk_ext
  rw [e55]
  pointwise [val_main_v54, val_main_v53, e51, e50, e37, val_main_call3_v5, val_main_call3_v4,
    val_main_call3_cst_0, val_main_call3_v3, val_main_call3_v2, val_main_call3_cst, val_main_call3_v1, val_main_call3_v0, refGated, Gla.gated]
  rw [Gla.div_one_add_exp (x4 (ix2 (pos b r) (valCol h d)))]

end

end Cert.PglaIdeal.Value

end
-- ==== Proof.PglaValue.lean ====
module

public import proofs.«01_k».proof.Proof.PglaRef
public import proofs.«01_k».proof.Proof.GlaChunk

/-! The prompt's gated linear attention where its queries, keys, values and log decays are reals: the chunks, each with the
    state the one before it left, give what the whole sequence gives at once. -/

@[expose] public section

set_option maxRecDepth 16384

noncomputable section

open Idealize.ShloMosaic Idealize.ShloMosaic.TcCoe Idealize.SL.Sem
open Idealize.ShloMosaic.Pipeline (Dat)

namespace Cert.PglaIdeal.Value

open Cert.PglaIdeal Cert.PglaIdeal.Gen Cert.PglaRefIdeal.Read

/-! ## The operands as reals -/

theorem coe_real {x : EReal} (h : ∃ r : ℝ, x = r) : x = (x.toReal : EReal) := by
  obtain ⟨r, rfl⟩ := h
  rfl

/-- The factor on the queries is a real. -/
theorem scale_real : ∃ r : ℝ, Ideal.ofBits .f32 0x3DB504F3#32 = r := by
  simp [Ideal.ofBits, Ideal.ieee]
  exact ⟨_, rfl⟩

theorem scaled_real {x : EReal} (h : ∃ r : ℝ, x = r) : ∃ r : ℝ, x * Ideal.ofBits .f32 0x3DB504F3#32 = r := by
  obtain ⟨r, rfl⟩ := h
  obtain ⟨s, hs⟩ := scale_real
  exact ⟨r * s, by rw [hs, EReal.coe_mul]⟩

/-- Position `n` of sequence `b`, counted from the sequence's start. -/
abbrev posAt (b : Fin 16) (n : ℕ) : Fin 32768 := ⟨b.val * 2048 + n % 2048, by omega⟩

/-- Head `h` of sequence `b`: its scaled queries, its keys or log decays, and its values. -/
def realQ (x : FVec Ideal S32768x512 .bf16) (b : Fin 16) (h : Fin 4) (n : ℕ) (k : Fin 128) : ℝ :=
  (x (ix2 (posAt b n) (keyCol h k)) * Ideal.ofBits .f32 0x3DB504F3#32 : EReal).toReal
def realK {φ : FTy} (x : FVec Ideal S32768x512 φ) (b : Fin 16) (h : Fin 4) (n : ℕ) (k : Fin 128) : ℝ :=
  (x (ix2 (posAt b n) (keyCol h k)) : EReal).toReal
def realV (x : FVec Ideal S32768x1024 .bf16) (b : Fin 16) (h : Fin 4) (n : ℕ) (d : Fin 256) : ℝ :=
  (x (ix2 (posAt b n) (valCol h d)) : EReal).toReal

theorem pos_at (b : Fin 16) (i : Fin 2048) : pos b i = posAt b (0 + i.val) :=
  Fin.ext (by dsimp only; omega)

/-- The sequence a grid point works on. -/
abbrev sqn (t : Fin cfg0.N) : Fin 16 := ⟨t.val / 16, by have := lt_points t; omega⟩

theorem row_at (t : Fin cfg0.N) (i : Fin 128) : row t i = posAt (sqn t) (t.val % 16 * 128 + i.val) :=
  Fin.ext (by have := lt_points t; dsimp only; omega)

/-! ## The reference -/

section
variable {x0 x1 : FVec Ideal S32768x512 .bf16} {x2 : FVec Ideal S32768x1024 .bf16} {x3 : FVec Ideal S32768x512 .f32}
  (hQ : ∀ i, ∃ r : ℝ, x0 i = r) (hK : ∀ i, ∃ r : ℝ, x1 i = r) (hV : ∀ i, ∃ r : ℝ, x2 i = r) (hL : ∀ i, ∃ r : ℝ, x3 i = r)

include hK hV hL

theorem refNext_coe (b : Fin 16) (h : Fin 4) (k : Fin 128) (d : Fin 256) :
    refNext x1 x2 x3 b h k d = (Gla.stateAt (realK x1 b h) (realK x3 b h) (realV x2 b h) 2048 k d : EReal) := by
  refine (Gla.next_congr (fun i k => ?_) (fun i k => ?_) (fun i d => ?_) (fun k d => ?_) 2047 k d).trans
    ((Gla.next_coe (realK x1 b h) (realK x3 b h) (realV x2 b h) 0 (2047 : Fin 2048) rfl k d).trans (by rw [Nat.zero_add]))
  · rw [pos_at]; exact coe_real (hK _)
  · rw [pos_at]; exact coe_real (hL _)
  · rw [pos_at]; exact coe_real (hV _)
  · rw [Gla.stateAt_zero, EReal.coe_zero]

include hQ

theorem refOut_coe (b : Fin 16) (h : Fin 4) (r : Fin 2048) (d : Fin 256) : refOut x0 x1 x2 x3 b h r d
    = (Gla.outputAt (realQ x0 b h) (realK x1 b h) (realK x3 b h) (realV x2 b h) r.val d : EReal) := by
  refine (Gla.out_congr (fun i k => ?_) (fun i k => ?_) (fun i k => ?_) (fun i d => ?_) (fun k d => ?_) r d).trans
    ((Gla.out_coe (realQ x0 b h) (realK x1 b h) (realK x3 b h) (realV x2 b h) 0 r d).trans (by rw [Nat.zero_add]))
  · rw [pos_at]; exact coe_real (scaled_real (hQ _))
  · rw [pos_at]; exact coe_real (hK _)
  · rw [pos_at]; exact coe_real (hL _)
  · rw [pos_at]; exact coe_real (hV _)
  · rw [Gla.stateAt_zero, EReal.coe_zero]

end

/-! ## The kernel's chunks -/

variable (m : (ℓ : Loc nD τ sig) → Buf (Elt Ideal) ℓ)

/-- The state a grid point finds: the one carried in at a sequence's first chunk, the one left by the chunk before elsewhere. -/
def found (c : Dev nD) (t : Fin cfg0.N) : Vec Ideal S1x4x128x256 .f32 :=
  if t.val % 16 = 0 then iblk m c 6 t else (outsAt0 m c (t.val - 1) (Nat.lt_of_le_of_lt (Nat.sub_le _ _) t.isLt)).2

theorem point8 (c : Dev nD) (t : Fin cfg0.N) (y : S1x4x128x256.Idx) :
    (outsAt0 m c t.val t.isLt).2 y = G8 m c t (found m c t) y := by
  unfold found
  by_cases h0 : t.val % 16 = 0
  · rw [if_pos h0]; exact point8_A m c t h0 y
  · rw [if_neg h0]; exact point8_B m c t h0 y

theorem point7 (c : Dev nD) (t : Fin cfg0.N) (y : S128x1024.Idx) :
    (outsAt0 m c t.val t.isLt).1 y = G7 m c t (found m c t) y := by
  unfold found
  by_cases h0 : t.val % 16 = 0
  · rw [if_pos h0]; exact point7_A m c t h0 y
  · rw [if_neg h0]; exact point7_B m c t h0 y

variable (c : Dev nD)

/-- Head `h`'s state after the first `n` positions of sequence `b`. -/
abbrev stateOf (b : Fin 16) (h : Fin 4) (n : ℕ) (k : Fin 128) (d : Fin 256) : ℝ :=
  Gla.stateAt (realK (aK m c) b h) (realK (aL m c) b h) (realV (aV m c) b h) n k d

variable (hQ : ∀ i, ∃ r : ℝ, aQ m c i = r) (hK : ∀ i, ∃ r : ℝ, aK m c i = r) (hV : ∀ i, ∃ r : ℝ, aV m c i = r)
  (hL : ∀ i, ∃ r : ℝ, aL m c i = r)
include hK hV hL

theorem nextAt_coe (t : Fin cfg0.N) (X : Vec Ideal S1x4x128x256 .f32) (h : Fin 4) (k : Fin 128) (d : Fin 256)
    (hX : ∀ k d, X (ix4 0 h k d) = (stateOf m c (sqn t) h (t.val % 16 * 128) k d : EReal)) :
    nextAt m c t X h k d = (stateOf m c (sqn t) h (t.val % 16 * 128 + 128) k d : EReal) := by
  refine (Gla.next_congr (fun i k => ?_) (fun i k => ?_) (fun i d => ?_) hX 127 k d).trans
    (Gla.next_coe _ _ _ (t.val % 16 * 128) (127 : Fin 128) rfl k d)
  · rw [row_at]; exact coe_real (hK _)
  · rw [row_at]; exact coe_real (hL _)
  · rw [row_at]; exact coe_real (hV _)

/-- The state found is that of the sequence's positions before the chunk. -/
theorem found_coe : ∀ (n : ℕ) (hn : n < cfg0.N) (h : Fin 4) (k : Fin 128) (d : Fin 256),
    found m c ⟨n, hn⟩ (ix4 0 h k d) = (stateOf m c (sqn ⟨n, hn⟩) h (n % 16 * 128) k d : EReal) := by
  intro n
  induction n with
  | zero =>
    intro hn h k d
    unfold found
    rw [if_pos (show (⟨0, hn⟩ : Fin cfg0.N).val % 16 = 0 from rfl)]
    exact (blk6 m c _ _).trans EReal.coe_zero.symm
  | succ n ih =>
    intro hn h k d
    by_cases h0 : (n + 1) % 16 = 0
    · unfold found
      rw [if_pos h0, h0]
      exact (blk6 m c _ _).trans EReal.coe_zero.symm
    · have hn' : n < cfg0.N := Nat.lt_of_succ_lt hn
      have e : found m c ⟨n + 1, hn⟩ (ix4 0 h k d) = (outsAt0 m c n hn').2 (ix4 0 h k d) := by
        unfold found
        rw [if_neg h0]
        rfl
      rw [e, point8 m c ⟨n, hn'⟩ (ix4 0 h k d)]
      refine (nextAt_coe m c hK hV hL ⟨n, hn'⟩ _ h k d (ih hn' h)).trans ?_
      have es : sqn ⟨n, hn'⟩ = sqn ⟨n + 1, hn⟩ := Fin.ext (by dsimp only; omega)
      rw [es, show (⟨n, hn'⟩ : Fin cfg0.N).val % 16 * 128 + 128 = (n + 1) % 16 * 128 by dsimp only; omega]

include hQ

theorem outAt_coe (t : Fin cfg0.N) (h : Fin 4) (r : Fin 128) (d : Fin 256) : outAt m c t (found m c t) h r d
    = (Gla.outputAt (realQ (aQ m c) (sqn t) h) (realK (aK m c) (sqn t) h) (realK (aL m c) (sqn t) h) (realV (aV m c) (sqn t) h)
      (t.val % 16 * 128 + r.val) d : EReal) := by
  refine (Gla.out_congr (fun i k => ?_) (fun i k => ?_) (fun i k => ?_) (fun i d => ?_) (fun k d => ?_) r d).trans
    (Gla.out_coe (realQ (aQ m c) (sqn t) h) (realK (aK m c) (sqn t) h) (realK (aL m c) (sqn t) h) (realV (aV m c) (sqn t) h)
      (t.val % 16 * 128) r d)
  · rw [row_at]; exact coe_real (scaled_real (hQ _))
  · rw [row_at]; exact coe_real (hK _)
  · rw [row_at]; exact coe_real (hL _)
  · rw [row_at]; exact coe_real (hV _)
  · exact found_coe m c hK hV hL t.val t.isLt h k d

/-! ## The call's results -/

/-- Row `r` of a grid point's chunk as a position of its sequence. -/
abbrev place (t : Fin cfg0.N) (r : Fin 128) : Fin 2048 := ⟨t.val % 16 * 128 + r.val, by omega⟩

theorem back7 (t : Fin cfg0.N) (y : S128x1024.Idx) : G7 m c t (found m c t) y
    = val_main_v56 (F := Ideal) (aQ m c) (aK m c) (aV m c) (aL m c) (aZ m c) (aG m c) ((win0_7.blk t).view.emb y) := by
  idx_vars y
  have er : row t y0 = pos (sqn t) (place t y0) := Fin.ext (by have := lt_points t; dsimp only; omega)
  have e : (win0_7.blk t).view.emb (ix2 y0 y1 : S128x1024.Idx)
      = (ix2 (row t y0) (valCol ⟨y1.val / 256, by omega⟩ ⟨y1.val % 256, by omega⟩) : S32768x1024.Idx) := by
    blk_ext [idx t]
  refine Eq.trans ?_ ((congrArg (val_main_v56 (F := Ideal) (aQ m c) (aK m c) (aV m c) (aL m c) (aZ m c) (aG m c))
    (e.trans (by rw [er]))).trans (v56_apply _ _ _ _ _ _ (sqn t) _ (place t y0) _)).symm
  have ez := congrArg (fun p => aZ m c (ix2 p (valCol ⟨y1.val / 256, by omega⟩ ⟨y1.val % 256, by omega⟩))) er
  refine Gla.gated_congr (fun i => ?_) rfl ez _
  exact (outAt_coe m c hQ hK hV hL t _ y0 i).trans (refOut_coe hQ hK hV hL (sqn t) _ (place t y0) i).symm

omit hQ in
theorem back8 (t : Fin cfg0.N) (ht : t.val % 16 = 15) (y : S1x4x128x256.Idx) : G8 m c t (found m c t) y
    = val_main_v36 (F := Ideal) (aK m c) (aV m c) (aL m c) ((win0_8.blk t).view.emb y) := by
  idx_vars y
  have e : (win0_8.blk t).view.emb (ix4 y0 y1 y2 y3 : S1x4x128x256.Idx) = (ix4 (sqn t) y1 y2 y3 : S16x4x128x256.Idx) := by
    blk_ext [idx t]
  refine Eq.trans ?_ ((congrArg (val_main_v36 (F := Ideal) (aK m c) (aV m c) (aL m c)) e).trans (v36_apply _ _ _ _ _ _ _)).symm
  refine (nextAt_coe m c hK hV hL t _ y1 y2 y3 (found_coe m c hK hV hL t.val t.isLt y1)).trans ?_
  rw [ht]
  exact (refNext_coe hK hV hL (sqn t) y1 y2 y3).symm

theorem final7 : (dats m 0 c).arrAt 7 cfg0.N
    = val_main_v56 (F := Ideal) (aQ m c) (aK m c) (aV m c) (aL m c) (aZ m c) (aG m c) := by
  refine (dats m 0 c).arrAt_eq_of_covers 7 _ (by decide +kernel) fun t _ y => ?_
  blk_simp
  rw [after0_7]
  exact (point7 m c t _).trans (back7 m c hQ hK hV hL t y)

omit hQ in
theorem final8 : (dats m 0 c).arrAt 8 cfg0.N = val_main_v36 (F := Ideal) (aK m c) (aV m c) (aL m c) := by
  refine (dats m 0 c).arrAt_eq_of_covers 8 _ (by decide +kernel) fun t hf y => ?_
  blk_simp
  rw [after0_8]
  exact (point8 m c t _).trans (back8 m c hK hV hL t ((flush0_8 t).mp hf) y)

end Cert.PglaIdeal.Value

end
-- ==== Proof.PglaClaim.lean ====
module

public import proofs.«01_k».proof.Defs
public import proofs.«01_k».proof.Proof.PglaValue
public import proofs.«01_k».proof.Proof.SwaClaim
public import proofs.«01_k».proof.Proof.Gen.Pgla.Frame
public import proofs.«01_k».proof.Proof.Gen.PglaIdeal.Frame
public import proofs.«01_k».proof.Proof.Gen.PglaRefIdeal.Run
public import proofs.«01_k».proof.Proof.Gen.Pre_gla_finite

/-! The claims about the prompt's gated linear attention: where the queries, keys, values and log decays are finite the
    kernel's two results are the reference's, and both programs leave their arguments alone. -/

@[expose] public section

set_option maxRecDepth 16384

noncomputable section

namespace Cert.PglaClaim

open Idealize.ShloMosaic Idealize.SL.Sem

/-- The reference ends with its arguments as it found them and every semaphore at zero. -/
theorem ref_frame : Cert.quiescent_PglaRefIdeal (hPglaRefIdeal := Cert.PglaRefIdeal.Gen.facts) :=
  fun m ρ _ => (θ_run Cert.PglaRefIdeal.defs _ _).mono
    (fun r h => ⟨fun c => (h c).2.2, Idealize.ShloMosaic.sem_eq_zero_of_no_sems (by decide) r.2⟩)
    (Cert.PglaRefIdeal.Value.run (F := Ideal) m ρ)

/-- Where the precondition holds the queries, the keys, the values and the log decays are reals. -/
theorem reals (Q K : FVec Ideal Cert.PglaIdeal.S32768x512 .bf16) (V : FVec Ideal Cert.PglaIdeal.S32768x1024 .bf16)
    (L : FVec Ideal Cert.PglaIdeal.S32768x512 .f32) (Z : FVec Ideal Cert.PglaIdeal.S32768x1024 .bf16)
    (G : FVec Ideal Cert.PglaIdeal.S256 .f32) (h : Cert.Pre_gla_finite.fn (F := Ideal) Q K V L Z G = fun _ => 1#1) :
    (∀ i, ∃ r : ℝ, Q i = r) ∧ (∀ i, ∃ r : ℝ, K i = r) ∧ (∀ i, ∃ r : ℝ, V i = r) ∧ (∀ i, ∃ r : ℝ, L i = r) := by
  have and1 : ∀ a b : BitVec 1, IntOp.andi a b = 1#1 → a = 1#1 ∧ b = 1#1 := by decide
  obtain ⟨h1, hL⟩ := and1 _ _ (congrFun h ix0)
  obtain ⟨h2, hV⟩ := and1 _ _ h1
  obtain ⟨hQ, hK⟩ := and1 _ _ h2
  exact ⟨fun i => SwaClaim.real_of_abs_lt _ (Host.reduce_andi_all _ _ _ _ _ hQ i),
    fun i => SwaClaim.real_of_abs_lt _ (Host.reduce_andi_all _ _ _ _ _ hK i),
    fun i => SwaClaim.real_of_abs_lt _ (Host.reduce_andi_all _ _ _ _ _ hV i),
    fun i => SwaClaim.real_of_abs_lt _ (Host.reduce_andi_all _ _ _ _ _ hL i)⟩

open Cert.PglaIdeal.Value in
/-- Where the precondition holds the kernel and the reference end with equal results. -/
theorem equal : Cert.algebraic_PglaIdeal_PglaRefIdeal_pre_gla_finite (hPglaIdeal := Cert.PglaIdeal.Gen.facts)
    (hPglaRefIdeal := Cert.PglaRefIdeal.Gen.facts) (hPre_gla_finite := Cert.Pre_gla_finite.Gen.facts) := by
  intro m ρ m' ρ' hpre hagree
  refine ⟨fun c => Cert.PglaRefIdeal.Read.val_main_v56 (F := Ideal) (aQ m c) (aK m c) (aV m c) (aL m c) (aZ m c) (aG m c),
    fun c => Cert.PglaRefIdeal.Read.val_main_v36 (F := Ideal) (aK m c) (aV m c) (aL m c), ?_, ?_⟩
  · refine (θ_run Cert.PglaIdeal.defs _ _).mono (fun r h c => ?_) (Cert.PglaIdeal.Value.run_blocks m ρ)
    obtain ⟨h0, h1, hargs⟩ := h c
    obtain ⟨hQ, hK, hV, hL⟩ := reals (aQ m c) (aK m c) (aV m c) (aL m c) (aZ m c) (aG m c) (hpre c)
    exact ⟨h0.trans (final7 m c hQ hK hV hL), h1.trans (final8 m c hK hV hL), hargs⟩
  · refine (θ_run Cert.PglaRefIdeal.defs _ _).mono (fun r h c => ?_)
      (Cert.PglaRefIdeal.Value.run (F := Ideal) m' ρ')
    obtain ⟨a0, a1, a2, a3, a4, a5⟩ := hagree c
    obtain ⟨h0, h1, hargs⟩ := h c
    have e0 := h0.trans (Cert.PglaRefIdeal.Read.val_main_v56_eq _ _)
    have e1 := h1.trans (Cert.PglaRefIdeal.Read.val_main_v36_eq _ _ _)
    clear h0 h1
    rw [a0, a1, a2, a3, a4, a5] at e0
    rw [a1, a2, a3] at e1
    exact ⟨e0, e1, hargs⟩

end Cert.PglaClaim

end
-- ==== Proof.SswaHead.lean ====
module

public import proofs.«01_k».proof.Proof.Gen.SswaIdeal.Value
public import proofs.«01_k».proof.Proof.Softmax
public import Idealize.ShloMosaic.Lib.Pipeline.ValueKit
public import Idealize.ShloMosaic.Lib.Pointwise

/-! One block of the running streams' attention: each query head's rows of one stream against its cache and its own new keys
    and values, with the sink. -/

@[expose] public section

set_option maxRecDepth 16384

noncomputable section

open Idealize.ShloMosaic Idealize.ShloMosaic.TcCoe Idealize.SL.Sem

namespace Cert.SswaIdeal.Value

open Cert.SswaIdeal Cert.SswaIdeal.Gen

/-- The named mask is minus infinity. -/
theorem mask_bot : Named.named (F := Ideal) κ "mask" (φ := .f32) 0xF149F2CA#32 = ⊥ :=
  IdealRules.named_const.ideal_named_scalar _ _ _ _ rfl

/-- The scores of a stack of query rows: the scaled inner product where the window allows it, else masked. -/
def scores (Q : FVec Ideal S128x64 .bf16) (K : FVec Ideal S256x64 .bf16) (ok : IVec S128x256 1) :
    FVec Ideal S128x256 .f32 :=
  select ok (mulf (matmul dot_S128x64_S256x64_S128x256_1_1_0_0_n_n none Q K (constant S128x256 .f32 0x00000000#32))
    (broadcast S128x256 (Scalar.ofBits .f32 0x3E000000#32))) (broadcast S128x256 (Named.named κ "mask" 0xF149F2CA#32))

/-- The rows' maximum, the sink among the scores. -/
def top (s : FVec Ideal S128x256 .f32) (z : FVec Ideal S128x1 .f32) : FVec Ideal S128x1 .f32 :=
  maximumf (shapeCast S128x1 (multiReduction .maximumf [1] S128 s 0xFF800000#32 reduces_S128x256_S128 (.inl rfl) rfl)
    shapeCasts_S128_S128x1) z

/-- The rows' exponentials. -/
def pexp (s : FVec Ideal S128x256 .f32) (z : FVec Ideal S128x1 .f32) : FVec Ideal S128x256 .f32 :=
  exp (subf s (broadcastTo S128x256 (top s z) broadcasts_S128x1_S128x256))

/-- The stack's attention: the weighted values over the sum of the weights and the sink's. -/
def attend (V : FVec Ideal S256x64 .bf16) (s : FVec Ideal S128x256 .f32) (z : FVec Ideal S128x1 .f32) :
    FVec Ideal S128x64 .f32 :=
  divf (matmul dot_S128x256_S256x64_S128x64_1_0_0_1_n_n none (truncf .bf16 (pexp s z) bitsLt_bf16_f32) V
      (constant S128x64 .f32 0x00000000#32))
    (broadcastTo S128x64 (addf (shapeCast S128x1 (multiReduction .add [1] S128 (pexp s z) 0x00000000#32
      reduces_S128x256_S128 (.inl rfl) rfl) shapeCasts_S128_S128x1) (exp (subf z (top s z)))) broadcasts_S128x1_S128x64)

/-- The heads' stacks back side by side. -/
def unstack (x : FVec Ideal S128x64 .f32) : FVec Ideal S16x512 .f32 :=
  concatenate S16x512 1 [⟨S16x64, extractStridedSlice S16x64 ![0, 0] x slices_S128x64_o0_0_S16x64⟩,
    ⟨S16x64, extractStridedSlice S16x64 ![16, 0] x slices_S128x64_o16_0_S16x64⟩,
    ⟨S16x64, extractStridedSlice S16x64 ![32, 0] x slices_S128x64_o32_0_S16x64⟩,
    ⟨S16x64, extractStridedSlice S16x64 ![48, 0] x slices_S128x64_o48_0_S16x64⟩,
    ⟨S16x64, extractStridedSlice S16x64 ![64, 0] x slices_S128x64_o64_0_S16x64⟩,
    ⟨S16x64, extractStridedSlice S16x64 ![80, 0] x slices_S128x64_o80_0_S16x64⟩,
    ⟨S16x64, extractStridedSlice S16x64 ![96, 0] x slices_S128x64_o96_0_S16x64⟩,
    ⟨S16x64, extractStridedSlice S16x64 ![112, 0] x slices_S128x64_o112_0_S16x64⟩]
    concatenates_S16x64_S16x64_S16x64_S16x64_S16x64_S16x64_S16x64_S16x64_S16x512_d1

theorem scores_apply (Q : FVec Ideal S128x64 .bf16) (K : FVec Ideal S256x64 .bf16) (ok : IVec S128x256 1)
    (R : Fin 128) (i : Fin 256) : scores Q K ok (ix2 R i)
      = if ok (ix2 R i) = 1#1 then (∑ k : Fin 64, Q (ix2 R k) * K (ix2 i k)) * Ideal.ofBits .f32 0x3E000000#32 else ⊥ := by
  pointwise [scores, mask_bot]
  rfl

theorem top_apply (s : FVec Ideal S128x256 .f32) (z : FVec Ideal S128x1 .f32) (R : Fin 128) :
    top s z (ix2 R 0) = max (Finset.univ.fold max ⊥ fun i : Fin 256 => s (ix2 R i)) (z (ix2 R 0)) := by
  pointwise [top, Ideal.multiReduction_maximumf_single, Softmax.neg_inf]

theorem pexp_apply (s : FVec Ideal S128x256 .f32) (z : FVec Ideal S128x1 .f32) (R : Fin 128) (i : Fin 256) :
    pexp s z (ix2 R i) = Ideal.exp (s (ix2 R i) - top s z (ix2 R 0)) := by
  pointwise [pexp]

theorem attend_apply (V : FVec Ideal S256x64 .bf16) (s : FVec Ideal S128x256 .f32) (z : FVec Ideal S128x1 .f32)
    (R : Fin 128) (d : Fin 64) : attend V s z (ix2 R d)
      = Ideal.div (∑ i : Fin 256, Ideal.exp (s (ix2 R i) - top s z (ix2 R 0)) * V (ix2 i d))
          ((∑ i : Fin 256, Ideal.exp (s (ix2 R i) - top s z (ix2 R 0))) + Ideal.exp (z (ix2 R 0) - top s z (ix2 R 0))) := by
  pointwise [attend, pexp_apply]

theorem unstack_apply (x : FVec Ideal S128x64 .f32) (g : Fin 8) (r : Fin 16) (d : Fin 64) :
    unstack x (ix2 r ⟨g.val * 64 + d.val, by omega⟩) = x (ix2 ⟨g.val * 16 + r.val, by omega⟩ d) := by
  have key : ∀ {a a' : Fin 128} {b b' : Fin 64}, a.val = a'.val → b.val = b'.val → x (ix2 a b) = x (ix2 a' b') :=
    fun h h' => by rw [Fin.ext h, Fin.ext h']
  pointwise [unstack]
  split_ifs <;> exact key (by dsimp only; omega) (by dsimp only; omega)

/-- The kernel's window: the cache's rows and the stream's own new ones, not the padding after them. -/
theorem mask_apply (R : Fin 128) (i : Fin 256) : k0_pay5 (ix2 R i) = 1#1 ↔ i.val < 144 := by
  have h : ∀ i : Fin 256, IntOp.cmpi .slt (BitVec.ofNat 32 i.val) 144#32 = 1#1 ↔ i.val < 144 := by decide +kernel
  pointwise [k0_pay5]
  exact h i

/-- The first head group's queries, stacked. -/
def stack0 (q : Vec Ideal S16x1024 .bf16) : FVec Ideal S128x64 .bf16 :=
  concatenate S128x64 0 [⟨S16x64, extractStridedSlice S16x64 ![0, 0] q slices_S16x1024_o0_0_S16x64⟩,
    ⟨S16x64, extractStridedSlice S16x64 ![0, 64] q slices_S16x1024_o0_64_S16x64⟩,
    ⟨S16x64, extractStridedSlice S16x64 ![0, 128] q slices_S16x1024_o0_128_S16x64⟩,
    ⟨S16x64, extractStridedSlice S16x64 ![0, 192] q slices_S16x1024_o0_192_S16x64⟩,
    ⟨S16x64, extractStridedSlice S16x64 ![0, 256] q slices_S16x1024_o0_256_S16x64⟩,
    ⟨S16x64, extractStridedSlice S16x64 ![0, 320] q slices_S16x1024_o0_320_S16x64⟩,
    ⟨S16x64, extractStridedSlice S16x64 ![0, 384] q slices_S16x1024_o0_384_S16x64⟩,
    ⟨S16x64, extractStridedSlice S16x64 ![0, 448] q slices_S16x1024_o0_448_S16x64⟩]
    concatenates_S16x64_S16x64_S16x64_S16x64_S16x64_S16x64_S16x64_S16x64_S128x64_d0

/-- The second head group's. -/
def stack1 (q : Vec Ideal S16x1024 .bf16) : FVec Ideal S128x64 .bf16 :=
  concatenate S128x64 0 [⟨S16x64, extractStridedSlice S16x64 ![0, 512] q slices_S16x1024_o0_512_S16x64⟩,
    ⟨S16x64, extractStridedSlice S16x64 ![0, 576] q slices_S16x1024_o0_576_S16x64⟩,
    ⟨S16x64, extractStridedSlice S16x64 ![0, 640] q slices_S16x1024_o0_640_S16x64⟩,
    ⟨S16x64, extractStridedSlice S16x64 ![0, 704] q slices_S16x1024_o0_704_S16x64⟩,
    ⟨S16x64, extractStridedSlice S16x64 ![0, 768] q slices_S16x1024_o0_768_S16x64⟩,
    ⟨S16x64, extractStridedSlice S16x64 ![0, 832] q slices_S16x1024_o0_832_S16x64⟩,
    ⟨S16x64, extractStridedSlice S16x64 ![0, 896] q slices_S16x1024_o0_896_S16x64⟩,
    ⟨S16x64, extractStridedSlice S16x64 ![0, 960] q slices_S16x1024_o0_960_S16x64⟩]
    concatenates_S16x64_S16x64_S16x64_S16x64_S16x64_S16x64_S16x64_S16x64_S128x64_d0

set_option maxHeartbeats 2000000 in
theorem stack0_apply (q : Vec Ideal S16x1024 .bf16) (g : Fin 8) (r : Fin 16) (d : Fin 64) :
    stack0 q (ix2 ⟨g.val * 16 + r.val, by omega⟩ d) = q (ix2 r ⟨g.val * 64 + d.val, by omega⟩) := by
  have key : ∀ {a a' : Fin 16} {b b' : Fin 1024}, a.val = a'.val → b.val = b'.val → q (ix2 a b) = q (ix2 a' b') :=
    fun h h' => by rw [Fin.ext h, Fin.ext h']
  pointwise [stack0]
  split_ifs <;> exact key (by dsimp only; omega) (by dsimp only; omega)

set_option maxHeartbeats 2000000 in
theorem stack1_apply (q : Vec Ideal S16x1024 .bf16) (g : Fin 8) (r : Fin 16) (d : Fin 64) :
    stack1 q (ix2 ⟨g.val * 16 + r.val, by omega⟩ d) = q (ix2 r ⟨512 + g.val * 64 + d.val, by omega⟩) := by
  have key : ∀ {a a' : Fin 16} {b b' : Fin 1024}, a.val = a'.val → b.val = b'.val → q (ix2 a b) = q (ix2 a' b') :=
    fun h h' => by rw [Fin.ext h, Fin.ext h']
  pointwise [stack1]
  split_ifs <;> exact key (by dsimp only; omega) (by dsimp only; omega)

/-- The half of the window's keys or values that a head group takes. -/
def half0 (x : FVec Ideal S256x128 .bf16) : FVec Ideal S256x64 .bf16 :=
  extractStridedSlice S256x64 ![0, 0] x slices_S256x128_o0_0_S256x64
def half1 (x : FVec Ideal S256x128 .bf16) : FVec Ideal S256x64 .bf16 :=
  extractStridedSlice S256x64 ![0, 64] x slices_S256x128_o0_64_S256x64

theorem half0_apply (x : FVec Ideal S256x128 .bf16) (i : Fin 256) (d : Fin 64) :
    half0 x (ix2 i d) = x (ix2 i ⟨d.val, by omega⟩) := by pointwise [half0]
theorem half1_apply (x : FVec Ideal S256x128 .bf16) (i : Fin 256) (d : Fin 64) :
    half1 x (ix2 i d) = x (ix2 i ⟨64 + d.val, by omega⟩) := by pointwise [half1]

/-- A head group's sinks, one per stacked row. -/
def sinkCol (z : Vec Ideal S1x128x1 .f32) : FVec Ideal S128x1 .f32 := shapeCast S128x1 z shapeCasts_S1x128x1_S128x1

theorem sinkCol_apply (z : Vec Ideal S1x128x1 .f32) (R : Fin 128) : sinkCol z (ix2 R 0) = z (ix3 0 R 0) := by
  pointwise [sinkCol]

/-- One block's output: each head group's attention over its half of the keys and values, the two side by side. -/
theorem out_eq (x0 : Vec Ideal S16x1024 .bf16) (x1 x2 : Vec Ideal S128x128 .f32) (x3 x4 : Vec Ideal S16x128 .f32)
    (x5 : Vec Ideal S2x128x1 .f32) : out0_6 x0 x1 x2 x3 x4 x5
      = truncf .bf16 (concatenate S16x1024 1
          [⟨S16x512, unstack (attend (half0 (k0_pay3 x4 x2)) (scores (stack0 x0) (half0 (k0_pay3 x3 x1)) k0_pay5)
            (sinkCol (View.ld x5 r0_3)))⟩,
          ⟨S16x512, unstack (attend (half1 (k0_pay3 x4 x2)) (scores (stack1 x0) (half1 (k0_pay3 x3 x1)) k0_pay5)
            (sinkCol (View.ld x5 r0_4)))⟩]
          concatenates_S16x512_S16x512_S16x1024_d1) bitsLt_bf16_f32 := by
  have h2 : (![0, 0] : Fin 2 → Nat) = fun _ => 0 := by funext a; fin_cases a <;> rfl
  unfold_out out0_6
  rw [View.canon_unit_zero h2, show View.ld x0 r0_2 = x0 from View.ld_unit_zero h2 _ x0,
    show View.ld x1 r0_1 = x1 from View.ld_unit_zero h2 _ x1, show View.ld x2 r0_1 = x2 from View.ld_unit_zero h2 _ x2,
    show View.ld x3 r0_0 = x3 from View.ld_unit_zero h2 _ x3, show View.ld x4 r0_0 = x4 from View.ld_unit_zero h2 _ x4]
  rfl

end Cert.SswaIdeal.Value

end
-- ==== Proof.SswaBlocks.lean ====
module

public import proofs.«01_k».proof.Proof.SswaHead
public import proofs.«01_k».proof.Proof.SwaBlocks

/-! The running streams' attention call: what each of its blocks holds, as the softmax over the stream's cache and its own
    new rows. -/

@[expose] public section

set_option maxRecDepth 16384

noncomputable section

open Idealize.ShloMosaic Idealize.ShloMosaic.TcCoe Idealize.SL.Sem
open Idealize.ShloMosaic.Pipeline (Dat)

namespace Cert.SswaIdeal.Value

open Cert.SswaIdeal Cert.SswaIdeal.Gen
open Cert.SwaIdeal.Value (real_sum scale_real)

/-! ## The attention of one query row -/

/-- The keys or values of stream `b`, its cache's and then its own new ones, at position `p`, head `j`, component `d`. -/
def keyRow (new : FVec Ideal S128x128 .f32) (past : FVec Ideal S8x128x2x64 .f32) (b : Fin 8) (p : Fin 144) (j : Fin 2)
    (d : Fin 64) : EReal :=
  if h : p.val < 128 then past (ix4 b ⟨p.val, h⟩ j d)
  else new (ix2 ⟨b.val * 16 + (p.val - 128), by omega⟩ ⟨j.val * 64 + d.val, by omega⟩)

/-- The row's score against position `p`. -/
def score (Q : FVec Ideal S128x1024 .bf16) (K : FVec Ideal S128x128 .f32) (CK : FVec Ideal S8x128x2x64 .f32) (b : Fin 8)
    (r : Fin 16) (j : Fin 2) (g : Fin 8) (p : Fin 144) : EReal :=
  (∑ k : Fin 64, Q (ix2 ⟨b.val * 16 + r.val, by omega⟩ ⟨(j.val * 8 + g.val) * 64 + k.val, by omega⟩) * keyRow K CK b p j k)
    * Ideal.ofBits .f32 0x3E000000#32

/-- The scores with the sink after them. -/
def withSink (s : Fin 144 → EReal) (z : EReal) : Fin 145 → EReal :=
  Fin.lastCases (motive := fun _ : Fin (144 + 1) => EReal) z s

/-- The softmax over the positions and the sink, weighting the values. -/
def sinkMean (s w : Fin 144 → EReal) (z : EReal) : EReal :=
  ∑ p, w p * Ideal.div (Ideal.exp (s p - Finset.univ.fold max ⊥ (withSink s z)))
    (∑ i, Ideal.exp (withSink s z i - Finset.univ.fold max ⊥ (withSink s z)))

/-- The attention's output for row `r` of stream `b`, query head `(j, g)`, component `d`. -/
def attn (Q : FVec Ideal S128x1024 .bf16) (K V : FVec Ideal S128x128 .f32) (CK CV : FVec Ideal S8x128x2x64 .f32)
    (S : FVec Ideal S16 .f32) (b : Fin 8) (r : Fin 16) (j : Fin 2) (g : Fin 8) (d : Fin 64) : EReal :=
  sinkMean (score Q K CK b r j g) (fun p => keyRow V CV b p j d) (S (ix1 ⟨j.val * 8 + g.val, by omega⟩))

theorem score_ne_top (Q : FVec Ideal S128x1024 .bf16) (K : FVec Ideal S128x128 .f32) (CK : FVec Ideal S8x128x2x64 .f32)
    (hQ : ∀ i, ∃ r : ℝ, Q i = r) (hK : ∀ i, ∃ r : ℝ, K i = r) (hCK : ∀ i, ∃ r : ℝ, CK i = r) (b : Fin 8) (r : Fin 16)
    (j : Fin 2) (g : Fin 8) (p : Fin 144) : score Q K CK b r j g p ≠ ⊤ := by
  unfold score
  obtain ⟨x, hx⟩ := real_sum Finset.univ (fun k : Fin 64 =>
    Q (ix2 ⟨b.val * 16 + r.val, by omega⟩ ⟨(j.val * 8 + g.val) * 64 + k.val, by omega⟩) * keyRow K CK b p j k)
    (fun k => by
      obtain ⟨a, ha⟩ := hQ (ix2 ⟨b.val * 16 + r.val, by omega⟩ ⟨(j.val * 8 + g.val) * 64 + k.val, by omega⟩)
      have hk : ∃ r : ℝ, keyRow K CK b p j k = r := by
        unfold keyRow
        split
        · exact hCK _
        · exact hK _
      obtain ⟨a', ha'⟩ := hk
      exact ⟨a * a', by rw [ha, ha', EReal.coe_mul]⟩)
  obtain ⟨a, ha⟩ := scale_real
  rw [hx, ha, ← EReal.coe_mul]
  exact EReal.coe_ne_top _

/-- The stack's attention at one row, when its unmasked scores are `s'`. -/
theorem attend_eq (V : FVec Ideal S256x64 .bf16) (s : FVec Ideal S128x256 .f32) (z : FVec Ideal S128x1 .f32)
    (R : Fin 128) (d : Fin 64) (s' w' : Fin 144 → EReal) (e : Fin 144 → Fin 256) (sink : ℝ) (hz : z (ix2 R 0) = sink)
    (he : Function.Injective e) (hs : ∀ p, s (ix2 R (e p)) = s' p)
    (hout : ∀ i, (∀ p, e p ≠ i) → s (ix2 R i) = ⊥) (ht : ∀ p, s' p ≠ ⊤) (hw : ∀ p, w' p = V (ix2 (e p) d)) :
    attend V s z (ix2 R d) = sinkMean s' w' sink := by
  have hs' : s' = fun p => s (ix2 R (e p)) := funext fun p => (hs p).symm
  rw [attend_apply, top_apply, hz]
  subst hs'
  refine Softmax.weighted_eq (fun i => s (ix2 R i)) (fun i => V (ix2 i d)) sink e he (fun i => ?_) hout w' (fun p _ => hw p) _ _
    rfl rfl
  by_cases h : ∃ p, e p = i
  · obtain ⟨p, rfl⟩ := h
    exact ht p
  · rw [hout i fun p hp => h ⟨p, hp⟩]
    exact bot_ne_top

/-! ## The buffers at the call's entry, and the blocks -/

variable (m : (ℓ : Loc nD τ sig) → Buf (Elt Ideal) ℓ)

abbrev aQ (c : Dev nD) : FVec Ideal S128x1024 .bf16 := m ((c : Thread nD τ).loc main_arg0)
abbrev aK (c : Dev nD) : FVec Ideal S128x128 .f32 := m ((c : Thread nD τ).loc main_arg1)
abbrev aV (c : Dev nD) : FVec Ideal S128x128 .f32 := m ((c : Thread nD τ).loc main_arg2)
abbrev aCK (c : Dev nD) : FVec Ideal S8x128x2x64 .f32 := m ((c : Thread nD τ).loc main_arg3)
abbrev aCV (c : Dev nD) : FVec Ideal S8x128x2x64 .f32 := m ((c : Thread nD τ).loc main_arg4)
abbrev aS (c : Dev nD) : FVec Ideal S16 .f32 := m ((c : Thread nD τ).loc main_arg5)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0, 0] ∧ win0_6.index t = ![t.val, 0] :=
  (by decide +kernel : ∀ t : Fin grid0.N, _)

theorem V_main_v0 (c : Dev nD) : V m c main_v0 = shapeCast S1024x128 (aCK m c) shapeCasts_S8x128x2x64_S1024x128 := by
  simp only [V, hostOps0, List.flatten_cons, List.flatten_nil,
    List.append_nil, List.cons_append, List.nil_append]
  entry_read
  rfl

theorem V_main_v1 (c : Dev nD) : V m c main_v1 = shapeCast S1024x128 (aCV m c) shapeCasts_S8x128x2x64_S1024x128 := by
  simp only [V, hostOps0, List.flatten_cons, List.flatten_nil,
    List.append_nil, List.cons_append, List.nil_append]
  entry_read
  rfl

theorem V_main_v5 (c : Dev nD) : V m c main_v5 = shapeCast S2x128x1 (shapeCast S2x128
    (broadcastInDim S2x8x16 ![0, 1] bcast_S2x8_S2x8x16_0_1 (shapeCast S2x8 (aS m c) shapeCasts_S16_S2x8))
    shapeCasts_S2x8x16_S2x128) shapeCasts_S2x128_S2x128x1 := by
  simp only [V, hostOps0, List.flatten_cons, List.flatten_nil,
    List.append_nil, List.cons_append, List.nil_append]
  entry_read
  rfl

theorem N_eq (t : Fin cfg0.N) : t.val < 8 := t.isLt

theorem blk0 (c : Dev nD) (t : Fin cfg0.N) (r : Fin 16) (d : Fin 1024) :
    iblk m c 0 t (ix2 r d : S16x1024.Idx) = aQ m c (ix2 ⟨t.val * 16 + r.val, by have := N_eq t; omega⟩ d) := by
  have ht := N_eq t
  have h : ((cfg0.win 0).blk t).view.emb (ix2 r d : S16x1024.Idx)
      = (ix2 ⟨t.val * 16 + r.val, by omega⟩ d : S128x1024.Idx) := by
    blk_ext [idx t]
  exact (congrArg (V m c main_arg0) h).trans (by rw [V_main_arg0])

theorem blk1 (c : Dev nD) (t : Fin cfg0.N) (r : Fin 128) (j : Fin 2) (d : Fin 64) :
    iblk m c 1 t (ix2 r ⟨j.val * 64 + d.val, by omega⟩ : S128x128.Idx) = aCK m c (ix4 ⟨t.val, N_eq t⟩ r j d) := by
  have ht := N_eq t
  have h : ((cfg0.win 1).blk t).view.emb (ix2 r ⟨j.val * 64 + d.val, by omega⟩ : S128x128.Idx)
      = (ix2 ⟨t.val * 128 + r.val, by omega⟩ ⟨j.val * 64 + d.val, by omega⟩ : S1024x128.Idx) := by
    blk_ext [idx t]
  refine (congrArg (V m c main_v0) h).trans ?_
  rw [V_main_v0]
  pointwise
  blk_ext

theorem blk2 (c : Dev nD) (t : Fin cfg0.N) (r : Fin 128) (j : Fin 2) (d : Fin 64) :
    iblk m c 2 t (ix2 r ⟨j.val * 64 + d.val, by omega⟩ : S128x128.Idx) = aCV m c (ix4 ⟨t.val, N_eq t⟩ r j d) := by
  have ht := N_eq t
  have h : ((cfg0.win 2).blk t).view.emb (ix2 r ⟨j.val * 64 + d.val, by omega⟩ : S128x128.Idx)
      = (ix2 ⟨t.val * 128 + r.val, by omega⟩ ⟨j.val * 64 + d.val, by omega⟩ : S1024x128.Idx) := by
    blk_ext [idx t]
  refine (congrArg (V m c main_v1) h).trans ?_
  rw [V_main_v1]
  pointwise
  blk_ext

theorem blk3 (c : Dev nD) (t : Fin cfg0.N) (r : Fin 16) (d : Fin 128) :
    iblk m c 3 t (ix2 r d : S16x128.Idx) = aK m c (ix2 ⟨t.val * 16 + r.val, by have := N_eq t; omega⟩ d) := by
  have ht := N_eq t
  have h : ((cfg0.win 3).blk t).view.emb (ix2 r d : S16x128.Idx)
      = (ix2 ⟨t.val * 16 + r.val, by omega⟩ d : S128x128.Idx) := by
    blk_ext [idx t]
  exact (congrArg (V m c main_arg1) h).trans (by rw [V_main_arg1])

theorem blk4 (c : Dev nD) (t : Fin cfg0.N) (r : Fin 16) (d : Fin 128) :
    iblk m c 4 t (ix2 r d : S16x128.Idx) = aV m c (ix2 ⟨t.val * 16 + r.val, by have := N_eq t; omega⟩ d) := by
  have ht := N_eq t
  have h : ((cfg0.win 4).blk t).view.emb (ix2 r d : S16x128.Idx)
      = (ix2 ⟨t.val * 16 + r.val, by omega⟩ d : S128x128.Idx) := by
    blk_ext [idx t]
  exact (congrArg (V m c main_arg2) h).trans (by rw [V_main_arg2])

theorem blk5 (c : Dev nD) (t : Fin cfg0.N) (j : Fin 2) (g : Fin 8) (r : Fin 16) :
    iblk m c 5 t (ix3 j ⟨g.val * 16 + r.val, by omega⟩ 0 : S2x128x1.Idx) = aS m c (ix1 ⟨j.val * 8 + g.val, by omega⟩) := by
  have h : ((cfg0.win 5).blk t).view.emb (ix3 j ⟨g.val * 16 + r.val, by omega⟩ 0 : S2x128x1.Idx)
      = (ix3 j ⟨g.val * 16 + r.val, by omega⟩ 0 : S2x128x1.Idx) := by
    blk_ext [idx t]
  refine (congrArg (V m c main_v5) h).trans ?_
  rw [V_main_v5]
  pointwise
  blk_ext

/-- The window's keys, where they are a key of the stream. -/
theorem keys_apply (x3 : Vec Ideal S16x128 .f32) (x1 : Vec Ideal S128x128 .f32) (new : FVec Ideal S128x128 .f32)
    (past : FVec Ideal S8x128x2x64 .f32) (t : Fin 8)
    (h3 : ∀ (r : Fin 16) (d : Fin 128), x3 (ix2 r d) = new (ix2 ⟨t.val * 16 + r.val, by omega⟩ d))
    (h1 : ∀ (r : Fin 128) (j : Fin 2) (d : Fin 64), x1 (ix2 r ⟨j.val * 64 + d.val, by omega⟩) = past (ix4 t r j d))
    (p : Fin 144) (j : Fin 2) (d : Fin 64) :
    k0_pay3 x3 x1 (ix2 ⟨p.val, by omega⟩ ⟨j.val * 64 + d.val, by omega⟩) = keyRow new past t p j d := by
  pointwise [k0_pay3, keyRow, h3]
  by_cases h : p.val < 128
  · rw [dif_pos h, dif_pos h]
    exact h1 _ j d
  · rw [dif_neg h, dif_neg h, dif_pos (by omega)]

/-- One row of one head's stack: the attention of the query row it holds. -/
theorem row_attn (c : Dev nD) (t : Fin cfg0.N) (hQr : ∀ i, ∃ r : ℝ, aQ m c i = r) (hKr : ∀ i, ∃ r : ℝ, aK m c i = r)
    (hCr : ∀ i, ∃ r : ℝ, aCK m c i = r) (hSr : ∀ i, ∃ r : ℝ, aS m c i = r) (j : Fin 2) (g : Fin 8) (r : Fin 16) (d : Fin 64)
    (Q : FVec Ideal S128x64 .bf16) (K V : FVec Ideal S256x64 .bf16) (z : FVec Ideal S128x1 .f32)
    (hQ : ∀ k, Q (ix2 ⟨g.val * 16 + r.val, by omega⟩ k)
      = aQ m c (ix2 ⟨t.val * 16 + r.val, by have := N_eq t; omega⟩ ⟨(j.val * 8 + g.val) * 64 + k.val, by omega⟩))
    (hK : ∀ i k, K (ix2 i k) = k0_pay3 (iblk m c 3 t) (iblk m c 1 t) (ix2 i ⟨j.val * 64 + k.val, by omega⟩))
    (hV : ∀ i k, V (ix2 i k) = k0_pay3 (iblk m c 4 t) (iblk m c 2 t) (ix2 i ⟨j.val * 64 + k.val, by omega⟩))
    (hz : z (ix2 ⟨g.val * 16 + r.val, by omega⟩ 0) = aS m c (ix1 ⟨j.val * 8 + g.val, by omega⟩)) :
    attend V (scores Q K k0_pay5) z (ix2 ⟨g.val * 16 + r.val, by omega⟩ d)
      = attn (aQ m c) (aK m c) (aV m c) (aCK m c) (aCV m c) (aS m c) ⟨t.val, N_eq t⟩ r j g d := by
  obtain ⟨sink, hsink⟩ := hSr (ix1 ⟨j.val * 8 + g.val, by omega⟩)
  have hk := fun p k => keys_apply (iblk m c 3 t) (iblk m c 1 t) (aK m c) (aCK m c) ⟨t.val, N_eq t⟩ (blk3 m c t) (blk1 m c t) p j k
  have hv := fun p k => keys_apply (iblk m c 4 t) (iblk m c 2 t) (aV m c) (aCV m c) ⟨t.val, N_eq t⟩ (blk4 m c t) (blk2 m c t) p j k
  unfold attn
  rw [hsink]
  refine attend_eq V _ z _ d _ _ (fun p => ⟨p.val, by omega⟩) sink (hz.trans hsink) ?_ ?_ ?_
    (score_ne_top _ _ _ hQr hKr hCr _ _ j g) ?_
  · intro a b h
    have := congrArg Fin.val h
    exact Fin.ext this
  · intro p
    rw [scores_apply, if_pos ((mask_apply _ _).mpr p.isLt)]
    unfold score
    congr 1
    refine Finset.sum_congr rfl fun k _ => ?_
    rw [hQ k, hK, hk p k]
  · intro i hi
    rw [scores_apply, if_neg]
    intro h
    exact hi ⟨i.val, (mask_apply _ _).mp h⟩ rfl
  · intro p
    rw [hV, hv p d]

/-- What point `t` stores at row `r`, query head `(j, g)`, component `d`. -/
theorem out_apply (c : Dev nD) (t : Fin cfg0.N) (hQr : ∀ i, ∃ r : ℝ, aQ m c i = r) (hKr : ∀ i, ∃ r : ℝ, aK m c i = r)
    (hCr : ∀ i, ∃ r : ℝ, aCK m c i = r) (hSr : ∀ i, ∃ r : ℝ, aS m c i = r) (r : Fin 16) (j : Fin 2) (g : Fin 8) (d : Fin 64) :
    out0_6 (iblk m c 0 t) (iblk m c 1 t) (iblk m c 2 t) (iblk m c 3 t) (iblk m c 4 t) (iblk m c 5 t)
        (ix2 r ⟨(j.val * 8 + g.val) * 64 + d.val, by omega⟩)
      = attn (aQ m c) (aK m c) (aV m c) (aCK m c) (aCV m c) (aS m c) ⟨t.val, N_eq t⟩ r j g d := by
  have hz0 : View.ld (iblk m c 5 t) r0_3 (ix3 0 ⟨g.val * 16 + r.val, by omega⟩ 0) = aS m c (ix1 ⟨0 * 8 + g.val, by omega⟩) := by
    refine Eq.trans ?_ (blk5 m c t 0 g r)
    refine congrArg (iblk m c 5 t) (funext fun a => ?_)
    fin_cases a <;> refine Fin.ext ((Rect.idx_unit_val _ _ _ _ _).trans ?_)
    · rfl
    · exact Nat.zero_add _
    · rfl
  have hz1 : View.ld (iblk m c 5 t) r0_4 (ix3 0 ⟨g.val * 16 + r.val, by omega⟩ 0) = aS m c (ix1 ⟨1 * 8 + g.val, by omega⟩) := by
    refine Eq.trans ?_ (blk5 m c t 1 g r)
    refine congrArg (iblk m c 5 t) (funext fun a => ?_)
    fin_cases a <;> refine Fin.ext ((Rect.idx_unit_val _ _ _ _ _).trans ?_)
    · rfl
    · exact Nat.zero_add _
    · rfl
  have key : ∀ {a a' : Fin 512} {x : FVec Ideal S16x512 .f32}, a.val = a'.val → x (ix2 r a) = x (ix2 r a') :=
    fun h => by rw [Fin.ext h]
  rw [out_eq]
  fin_cases j
  · have hA := row_attn m c t hQr hKr hCr hSr 0 g r d (stack0 (iblk m c 0 t)) (half0 (k0_pay3 (iblk m c 3 t) (iblk m c 1 t)))
      (half0 (k0_pay3 (iblk m c 4 t) (iblk m c 2 t))) (sinkCol (View.ld (iblk m c 5 t) r0_3))
      (fun k => by rw [stack0_apply, blk0]; exact congrArg (fun o => aQ m c (ix2 _ o)) (Fin.ext (by simp)))
      (fun i k => by rw [half0_apply]; exact congrArg (fun o => k0_pay3 _ _ (ix2 i o)) (Fin.ext (by simp)))
      (fun i k => by rw [half0_apply]; exact congrArg (fun o => k0_pay3 _ _ (ix2 i o)) (Fin.ext (by simp)))
      (by rw [sinkCol_apply, hz0]; rfl)
    refine Eq.trans ?_ ((unstack_apply _ g r d).trans hA)
    pointwise
    rw [dif_pos (by omega)]
    rfl
  · have hA := row_attn m c t hQr hKr hCr hSr 1 g r d (stack1 (iblk m c 0 t)) (half1 (k0_pay3 (iblk m c 3 t) (iblk m c 1 t)))
      (half1 (k0_pay3 (iblk m c 4 t) (iblk m c 2 t))) (sinkCol (View.ld (iblk m c 5 t) r0_4))
      (fun k => by rw [stack1_apply, blk0]; exact congrArg (fun o => aQ m c (ix2 _ o)) (Fin.ext (by simp; omega)))
      (fun i k => by rw [half1_apply]; exact congrArg (fun o => k0_pay3 _ _ (ix2 i o)) (Fin.ext (by simp)))
      (fun i k => by rw [half1_apply]; exact congrArg (fun o => k0_pay3 _ _ (ix2 i o)) (Fin.ext (by simp)))
      (by rw [sinkCol_apply, hz1]; rfl)
    refine Eq.trans ?_ ((unstack_apply _ g r d).trans hA)
    pointwise
    rw [dif_neg (by omega)]
    exact key (by dsimp only; omega)

end Cert.SswaIdeal.Value

end
-- ==== Proof.SswaRef.lean ====
module

public import proofs.«01_k».proof.Proof.SswaBlocks
public import proofs.«01_k».proof.Proof.Gen.SswaRefIdeal.Read

/-! The running streams' attention of the reference at one row, head and component, and the kernel's result as it. -/

@[expose] public section

set_option maxRecDepth 16384

noncomputable section

open Idealize.ShloMosaic Idealize.ShloMosaic.TcCoe Idealize.SL.Sem

namespace Cert.SswaIdeal.Value

open Cert.SswaRefIdeal Cert.SswaRefIdeal.Read

variable (Q : FVec Ideal S128x1024 .bf16) (K V : FVec Ideal S128x128 .f32) (CK CV : FVec Ideal S8x128x2x64 .f32)
  (S : FVec Ideal S16 .f32)

/-- A stream's keys: its cache's and then its own. -/
theorem v4_apply (b : Fin 8) (p : Fin 144) (j : Fin 2) (k : Fin 64) :
    val_main_v4 (F := Ideal) K CK (ix4 b p j k) = keyRow K CK b p j k := by
  pointwise [val_main_v4, val_main_v2, keyRow]

/-- The values are joined as the keys are. -/
theorem v5_apply (b : Fin 8) (p : Fin 144) (j : Fin 2) (k : Fin 64) :
    val_main_v5 (F := Ideal) V CV (ix4 b p j k) = keyRow V CV b p j k :=
  v4_apply V CV b p j k

/-- A row's scores. -/
theorem v9_apply (b : Fin 8) (j : Fin 2) (g : Fin 8) (r : Fin 16) (p : Fin 144) :
    val_main_v9 (F := Ideal) Q K CK (ix5 b j g r p) = score Q K CK b r j g p := by
  have key : ∀ {a a' : Fin 128} {o o' : Fin 1024}, a.val = a'.val → o.val = o'.val → Q (ix2 a o) = Q (ix2 a' o') :=
    fun h h' => by rw [Fin.ext h, Fin.ext h']
  unfold score
  pointwise [val_main_v9, val_main_v8, val_main_cst, val_main_v7, val_main_v6, val_main_v1, val_main_v0, v4_apply]
  congr 1
  refine Finset.sum_congr rfl fun x _ => ?_
  rw [mul_comm]
  exact congrArg (· * _) (key rfl (by dsimp only; omega))

/-- The scores and the sink. -/
theorem v13_apply (b : Fin 8) (j : Fin 2) (g : Fin 8) (r : Fin 16) (i : Fin 145) :
    val_main_v13 (F := Ideal) Q K CK S (ix5 b j g r i)
      = withSink (score Q K CK b r j g) (S (ix1 ⟨j.val * 8 + g.val, by omega⟩)) i := by
  pointwise [val_main_v13, v9_apply, val_main_v12, val_main_v11, val_main_v10]
  by_cases h : i.val < 144
  · rw [dif_pos h]
    exact (Fin.lastCases_castSucc (motive := fun _ : Fin (144 + 1) => EReal) (i := ⟨i.val, h⟩) ..).symm
  · rw [dif_neg h]
    have : i = Fin.last 144 := Fin.ext (by rw [Fin.val_last]; omega)
    rw [this]
    exact (Fin.lastCases_last (motive := fun _ : Fin (144 + 1) => EReal) ..).symm

/-- The reduced index with the position put back. -/
theorem lift_ix (h : S8x2x8x16x145.Reduces [4] S8x2x8x16) (b : Fin 8) (j : Fin 2) (g : Fin 8) (r : Fin 16)
    (k : Fin 145) : h.lift (ix4 b j g r) k = ix5 b j g r k := by
  funext a
  apply Fin.ext
  fin_cases a <;> rfl

theorem v14_apply (b : Fin 8) (j : Fin 2) (g : Fin 8) (r : Fin 16) :
    val_main_v14 (F := Ideal) Q K CK S (ix4 b j g r)
      = Finset.univ.fold max ⊥ (withSink (score Q K CK b r j g) (S (ix1 ⟨j.val * 8 + g.val, by omega⟩))) := by
  have h : S8x2x8x16x145.Reduces [4] S8x2x8x16 := by decide
  unfold val_main_v14
  rw [Host.reduce_eq_fold_single FloatOps.maximumf _ _ _ h]
  have hf : (val_main_v13 (F := Ideal) Q K CK S ∘ h.lift (ix4 b j g r))
      = withSink (score Q K CK b r j g) (S (ix1 ⟨j.val * 8 + g.val, by omega⟩)) :=
    funext fun k => (congrArg _ (lift_ix h b j g r k)).trans (v13_apply Q K CK S b j g r k)
  rw [hf]
  exact congrArg (fun x => Finset.fold max x _ (Finset.univ : Finset (Fin 145))) Softmax.neg_inf

theorem v16_apply (b : Fin 8) (j : Fin 2) (g : Fin 8) (r : Fin 16) :
    val_main_v16 (F := Ideal) Q K CK S (ix4 b j g r) = val_main_v14 (F := Ideal) Q K CK S (ix4 b j g r) := by
  rw [val_main_v16_apply, val_main_v15_apply]
  generalize val_main_v14 (F := Ideal) Q K CK S (ix4 b j g r) = y
  exact (congrArg (max · y) Softmax.neg_inf).trans (max_eq_right bot_le)

theorem v20_apply (b : Fin 8) (j : Fin 2) (g : Fin 8) (r : Fin 16) (i : Fin 145) :
    val_main_v20 (F := Ideal) Q K CK S (ix5 b j g r i)
      = Ideal.exp (val_main_v13 (F := Ideal) Q K CK S (ix5 b j g r i) - val_main_v14 (F := Ideal) Q K CK S (ix4 b j g r)) := by
  pointwise [val_main_v20, val_main_v19, val_main_v18, val_main_v17, v16_apply]

theorem v21_apply (b : Fin 8) (j : Fin 2) (g : Fin 8) (r : Fin 16) :
    val_main_v21 (F := Ideal) Q K CK S (ix4 b j g r)
      = ∑ i : Fin 145, val_main_v20 (F := Ideal) Q K CK S (ix5 b j g r i) := by
  have h : S8x2x8x16x145.Reduces [4] S8x2x8x16 := by decide
  unfold val_main_v21
  refine (Ideal.hostReduceAdd_single _ h _ _ _).trans ?_
  have h0 : val_main_cst_2 (F := Ideal) ix0 = 0 := by pointwise [val_main_cst_2]
  refine (congrArg (· + _) h0).trans ((zero_add _).trans ?_)
  exact Finset.sum_congr rfl fun k _ => congrArg _ (lift_ix h b j g r k)

theorem withSink_cast (s : Fin 144 → EReal) (z : EReal) (p : Fin 144) (h : p.val < 145) : withSink s z ⟨p.val, h⟩ = s p :=
  Fin.lastCases_castSucc (motive := fun _ : Fin (144 + 1) => EReal) ..

/-- The reference's weights of the positions. -/
theorem v25_apply (b : Fin 8) (j : Fin 2) (g : Fin 8) (r : Fin 16) (p : Fin 144) :
    val_main_v25 (F := Ideal) Q K CK S (ix5 b j g r p)
      = Ideal.div (val_main_v20 (F := Ideal) Q K CK S (ix5 b j g r ⟨p.val, by omega⟩)) (val_main_v21 (F := Ideal) Q K CK S (ix4 b j g r)) := by
  pointwise [val_main_v25, val_main_v24, val_main_v23, val_main_v22]

theorem v26_apply (b : Fin 8) (j : Fin 2) (g : Fin 8) (r : Fin 16) (d : Fin 64) :
    (∑ p : Fin 144, keyRow V CV b p j d * val_main_v25 (F := Ideal) Q K CK S (ix5 b j g r p)) = attn Q K V CK CV S b r j g d := by
  unfold attn sinkMean
  refine Finset.sum_congr rfl fun p _ => ?_
  rw [v25_apply, v21_apply]
  simp only [v20_apply, v14_apply, v13_apply]
  rw [withSink_cast]

/-- The reference's attention. -/
theorem ref_apply (b : Fin 8) (r : Fin 16) (j : Fin 2) (g : Fin 8) (d : Fin 64) :
    val_main_v29 (F := Ideal) Q K V CK CV S (ix2 ⟨b.val * 16 + r.val, by omega⟩ ⟨(j.val * 8 + g.val) * 64 + d.val, by omega⟩)
      = attn Q K V CK CV S b r j g d := by
  refine Eq.trans ?_ (v26_apply Q K V CK CV S b j g r d)
  pointwise [val_main_v29, val_main_v28, val_main_v27, val_main_v26, v5_apply]

variable (m : (ℓ : Loc Cert.SswaIdeal.nD Cert.SswaIdeal.τ Cert.SswaIdeal.sig) → Buf (Elt Ideal) ℓ)

open Cert.SswaIdeal Cert.SswaIdeal.Gen in
/-- What each point stores is the reference's result there. -/
theorem point6 (c : Dev Cert.SswaIdeal.nD) (t : Fin cfg0.N) (hQr : ∀ i, ∃ r : ℝ, aQ m c i = r) (hKr : ∀ i, ∃ r : ℝ, aK m c i = r)
    (hCr : ∀ i, ∃ r : ℝ, aCK m c i = r) (hSr : ∀ i, ∃ r : ℝ, aS m c i = r) (y : Cert.SswaIdeal.S16x1024.Idx) :
    out0_6 (iblk m c 0 t) (iblk m c 1 t) (iblk m c 2 t) (iblk m c 3 t) (iblk m c 4 t) (iblk m c 5 t) y
      = val_main_v29 (F := Ideal) (aQ m c) (aK m c) (aV m c) (aCK m c) (aCV m c) (aS m c) (((cfg0.win 6).blk t).view.emb y) := by
  have hN := N_eq t
  idx_vars y
  have hy : y1 = ⟨((⟨y1.val / 512, by omega⟩ : Fin 2).val * 8 + (⟨y1.val / 64 % 8, by omega⟩ : Fin 8).val) * 64
      + (⟨y1.val % 64, by omega⟩ : Fin 64).val, by dsimp only; omega⟩ := Fin.ext (by dsimp only; omega)
  have h : ((cfg0.win 6).blk t).view.emb (ix2 y0 y1 : Cert.SswaIdeal.S16x1024.Idx)
      = (ix2 ⟨(⟨t.val, hN⟩ : Fin 8).val * 16 + y0.val, by dsimp only; omega⟩ y1 : Cert.SswaIdeal.S128x1024.Idx) := by
    blk_ext [idx t]
  rw [h, hy]
  exact (out_apply m c t hQr hKr hCr hSr y0 _ _ _).trans (ref_apply _ _ _ _ _ _ _ _ _ _ _).symm

open Cert.SswaIdeal Cert.SswaIdeal.Gen in
/-- The kernel's result array is the reference's. -/
theorem final6 (c : Dev Cert.SswaIdeal.nD) (hQr : ∀ i, ∃ r : ℝ, aQ m c i = r) (hKr : ∀ i, ∃ r : ℝ, aK m c i = r)
    (hCr : ∀ i, ∃ r : ℝ, aCK m c i = r) (hSr : ∀ i, ∃ r : ℝ, aS m c i = r) :
    (dats m 0 c).arrAt 6 cfg0.N = val_main_v29 (F := Ideal) (aQ m c) (aK m c) (aV m c) (aCK m c) (aCV m c) (aS m c) := by
  refine (dats m 0 c).arrAt_eq_of_covers 6 _ (by decide +kernel) fun t _ y => ?_
  blk_simp
  rw [after0_6]
  exact point6 m c t hQr hKr hCr hSr y

end Cert.SswaIdeal.Value

end
-- ==== Proof.SswaClaim.lean ====
module

public import proofs.«01_k».proof.Defs
public import proofs.«01_k».proof.Proof.SswaRef
public import proofs.«01_k».proof.Proof.SwaClaim
public import proofs.«01_k».proof.Proof.Gen.Sswa.Frame
public import proofs.«01_k».proof.Proof.Gen.SswaIdeal.Frame
public import proofs.«01_k».proof.Proof.Gen.SswaRefIdeal.Run
public import proofs.«01_k».proof.Proof.Gen.Pre_ssw_finite
public import Idealize.ShloMosaic.Lib.ReduceAll
public import Idealize.ShloMosaic.Adequacy
public import Idealize.ShloMosaic.Init

/-! The claims about the running streams' attention: where the queries, the keys, the caches' keys and the sinks are finite the
    kernel's result is the reference's, and both programs leave their arguments alone. -/

@[expose] public section

set_option maxRecDepth 16384

noncomputable section

namespace Cert.SswaClaim

open Idealize.ShloMosaic Idealize.SL.Sem
open Cert.SwaClaim (real_of_abs_lt)

/-- The reference ends with its arguments as it found them and every semaphore at zero. -/
theorem ref_frame : Cert.quiescent_SswaRefIdeal (hSswaRefIdeal := Cert.SswaRefIdeal.Gen.facts) :=
  fun m ρ _ => (θ_run Cert.SswaRefIdeal.defs _ _).mono
    (fun r h => ⟨fun c => (h c).2, Idealize.ShloMosaic.sem_eq_zero_of_no_sems (by decide) r.2⟩)
    (Cert.SswaRefIdeal.Value.run (F := Ideal) m ρ)

/-- Where the precondition holds the queries, the keys, the caches' keys and the sinks are reals. -/
theorem reals (Q : FVec Ideal Cert.SswaIdeal.S128x1024 .bf16) (K V : FVec Ideal Cert.SswaIdeal.S128x128 .f32)
    (CK CV : FVec Ideal Cert.SswaIdeal.S8x128x2x64 .f32) (S : FVec Ideal Cert.SswaIdeal.S16 .f32)
    (h : Cert.Pre_ssw_finite.fn (F := Ideal) Q K V CK CV S = fun _ => 1#1) :
    (∀ i, ∃ r : ℝ, Q i = r) ∧ (∀ i, ∃ r : ℝ, K i = r) ∧ (∀ i, ∃ r : ℝ, CK i = r) ∧ (∀ i, ∃ r : ℝ, S i = r) := by
  have and1 : ∀ a b : BitVec 1, IntOp.andi a b = 1#1 → a = 1#1 ∧ b = 1#1 := by decide
  have h0 := congrFun h ix0
  obtain ⟨h1, hS⟩ := and1 _ _ h0
  obtain ⟨h2, hCK⟩ := and1 _ _ h1
  obtain ⟨hQ, hK⟩ := and1 _ _ h2
  exact ⟨fun i => real_of_abs_lt _ (Host.reduce_andi_all _ _ _ _ _ hQ i),
    fun i => real_of_abs_lt _ (Host.reduce_andi_all _ _ _ _ _ hK i),
    fun i => real_of_abs_lt _ (Host.reduce_andi_all _ _ _ _ _ hCK i),
    fun i => real_of_abs_lt _ (Host.reduce_andi_all _ _ _ _ _ hS i)⟩

open Cert.SswaIdeal.Value in
/-- Where the precondition holds the kernel and the reference end with equal results. -/
theorem equal : Cert.algebraic_SswaIdeal_SswaRefIdeal_pre_ssw_finite (hSswaIdeal := Cert.SswaIdeal.Gen.facts)
    (hSswaRefIdeal := Cert.SswaRefIdeal.Gen.facts) (hPre_ssw_finite := Cert.Pre_ssw_finite.Gen.facts) := by
  intro m ρ m' ρ' hpre hagree
  refine ⟨fun c => Cert.SswaRefIdeal.Read.val_main_v29 (F := Ideal) (aQ m c) (aK m c) (aV m c) (aCK m c) (aCV m c) (aS m c), ?_, ?_⟩
  · refine (θ_run Cert.SswaIdeal.defs _ _).mono (fun r h c => ?_) (Cert.SswaIdeal.Value.run_blocks m ρ)
    obtain ⟨h0, hargs⟩ := h c
    obtain ⟨hQ, hK, hCK, hS⟩ := reals (aQ m c) (aK m c) (aV m c) (aCK m c) (aCV m c) (aS m c) (hpre c)
    exact ⟨h0.trans (final6 m c hQ hK hCK hS), hargs⟩
  · refine (θ_run Cert.SswaRefIdeal.defs _ _).mono (fun r h c => ?_)
      (Cert.SswaRefIdeal.Value.run (F := Ideal) m' ρ')
    obtain ⟨a0, a1, a2, a3, a4, a5⟩ := hagree c
    obtain ⟨h0, hargs⟩ := h c
    have e0 := h0.trans (Cert.SswaRefIdeal.Read.val_main_v29_eq m' c)
    clear h0
    rw [a0, a1, a2, a3, a4, a5] at e0
    exact ⟨e0, hargs⟩

end Cert.SswaClaim

end
-- ==== Proof.SoutprojValue.lean ====
module

public import proofs.«01_k».proof.Proof.Gen.SoutprojIdeal.Value
public import proofs.«01_k».proof.Proof.Gen.SoutprojRefIdeal.Read
public import proofs.«01_k».proof.Proof.OutprojValue
public import Idealize.ShloMosaic.Lib.Pipeline.ValueKit
public import Idealize.ShloMosaic.Lib.Pointwise

/-! What the output projection of the running streams leaves: its own rows of the two arrays hold the residual sum and
    its normalized and modulated copy, equal to the reference's, and the prompt's rows are as they were handed in. -/

@[expose] public section

set_option maxRecDepth 16384

noncomputable section

open Idealize.ShloMosaic Idealize.ShloMosaic.TcCoe Idealize.SL.Sem
open Idealize.ShloMosaic.Pipeline (Dat)

namespace Cert.SoutprojIdeal.Value

open Cert.SoutprojIdeal Cert.SoutprojIdeal.Gen

variable (m : (ℓ : Loc nD τ sig) → Buf (Elt Ideal) ℓ)

/-- The residual sum of sample `b`'s draft row `s`: the activations plus the gate (component 2 of the sample's row of
    the modulation) times the two attentions' rows against the two halves of the projection. -/
def res (A B : FVec Ideal S128x1024 .bf16) (X : FVec Ideal S8x16x2048 .f32) (M : FVec Ideal S24x12288 .f32)
    (W : FVec Ideal S2048x2048 .f32) (b : Fin 8) (s : Fin 16) (d : Fin 2048) : EReal :=
  X (ix3 b s d) + M (ix2 ⟨16 + b.val, by omega⟩ ⟨4096 + d.val, by omega⟩)
    * ((∑ k : Fin 1024, A (ix2 ⟨b.val * 16 + s.val, by omega⟩ k) * W (ix2 ⟨k.val, by omega⟩ d))
      + ∑ k : Fin 1024, B (ix2 ⟨b.val * 16 + s.val, by omega⟩ k) * W (ix2 ⟨1024 + k.val, by omega⟩ d))

/-- Its normalized copy: the row's RMS normalization times the gain, scaled by `1 + sc` and shifted by `sh`, the
    modulation's components 4 and 3. -/
def hn (A B : FVec Ideal S128x1024 .bf16) (X : FVec Ideal S8x16x2048 .f32) (M : FVec Ideal S24x12288 .f32)
    (G : FVec Ideal S2048 .f32) (W : FVec Ideal S2048x2048 .f32) (b : Fin 8) (s : Fin 16) (d : Fin 2048) : EReal :=
  res A B X M W b s d * Ideal.rsqrt (Ideal.div (∑ k : Fin 2048, res A B X M W b s k * res A B X M W b s k)
      (Ideal.ofBits .f32 0x45000000#32) + Ideal.ofBits .f32 0x358637BD#32) * G (ix1 d)
    * (1 + M (ix2 ⟨16 + b.val, by omega⟩ ⟨8192 + d.val, by omega⟩)) + M (ix2 ⟨16 + b.val, by omega⟩ ⟨6144 + d.val, by omega⟩)

/-- The call has one point: every input is its whole array, and the output block is the last 128 rows. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_10.index t = ![256, 0] ∧ win0_11.index t = ![256, 0] :=
  (by decide +kernel : ∀ t : Fin grid0.N, _)

/-- The sample a row belongs to. -/
def smp (r : Fin 128) : Fin 8 := ⟨r.val / 16, by omega⟩
/-- The row's place within its sample. -/
def pos (r : Fin 128) : Fin 16 := ⟨r.val % 16, by omega⟩

/-- The arguments as launched: the two attentions' rows, the activations, the modulation table, the gain, the
    projection, and the two arrays whose last rows the call fills. -/
abbrev aA (c : Dev nD) : FVec Ideal S128x1024 .bf16 := m ((c : Thread nD τ).loc main_arg0)
abbrev aB (c : Dev nD) : FVec Ideal S128x1024 .bf16 := m ((c : Thread nD τ).loc main_arg1)
abbrev aX (c : Dev nD) : FVec Ideal S8x16x2048 .f32 := m ((c : Thread nD τ).loc main_arg2)
abbrev aM (c : Dev nD) : FVec Ideal S24x12288 .f32 := m ((c : Thread nD τ).loc main_arg3)
abbrev aG (c : Dev nD) : FVec Ideal S2048 .f32 := m ((c : Thread nD τ).loc main_arg4)
abbrev aW (c : Dev nD) : FVec Ideal S2048x2048 .f32 := m ((c : Thread nD τ).loc main_arg5)
abbrev aP (c : Dev nD) : FVec Ideal S32896x2048 .f32 := m ((c : Thread nD τ).loc main_arg10)
abbrev aQ (c : Dev nD) : FVec Ideal S32896x2048 .f32 := m ((c : Thread nD τ).loc main_arg11)

/-! ## What the host line hands to the call -/

/-- One component of the modulation's last eight rows, each repeated for the sixteen rows of its sample. -/
def modRows (k : Nat) (M : FVec Ideal S24x12288 .f32) (h : S128x6x2048.Slices ![0, k, 0] S128x1x2048) : FVec Ideal S128x2048 .f32 :=
  shapeCast S128x2048 (extractStridedSlice S128x1x2048 ![0, k, 0] (shapeCast S128x6x2048
    (broadcastInDim S8x16x6x2048 ![0, 2, 3] bcast_S8x6x2048_S8x16x6x2048_0_2_3
      (shapeCast S8x6x2048 (extractStridedSlice S8x12288 ![16, 0] M slices_S24x12288_S8x12288_16_0) shapeCasts_S8x12288_S8x6x2048))
    shapeCasts_S8x16x6x2048_S128x6x2048) h) shapeCasts_S128x1x2048_S128x2048

theorem V_main_arg0 (c : Dev nD) : V m c main_arg0 = aA m c := by
  simp only [V, hostOps0, hostOps0_1, hostOps0_2, hostOps0_3, hostOps0_4, List.flatten_cons, List.flatten_nil,
    List.append_nil, List.cons_append, List.nil_append]
  entry_read
  rfl

theorem V_main_arg1 (c : Dev nD) : V m c main_arg1 = aB m c := by
  simp only [V, hostOps0, hostOps0_1, hostOps0_2, hostOps0_3, hostOps0_4, List.flatten_cons, List.flatten_nil,
    List.append_nil, List.cons_append, List.nil_append]
  entry_read
  rfl

theorem V_main_v26 (c : Dev nD) : V m c main_v26 = shapeCast S128x2048 (aX m c) shapeCasts_S8x16x2048_S128x2048 := by
  simp only [V, hostOps0, hostOps0_1, hostOps0_2, hostOps0_3, hostOps0_4, List.flatten_cons, List.flatten_nil,
    List.append_nil, List.cons_append, List.nil_append]
  entry_read
  rfl

theorem V_main_v19 (c : Dev nD) : V m c main_v19 = modRows 2 (aM m c) slices_S128x6x2048_S128x1x2048_0_2_0 := by
  simp only [V, hostOps0, hostOps0_1, hostOps0_2, hostOps0_3, hostOps0_4, List.flatten_cons, List.flatten_nil,
    List.append_nil, List.cons_append, List.nil_append]
  entry_read
  rfl

theorem V_main_v21 (c : Dev nD) : V m c main_v21 = modRows 3 (aM m c) slices_S128x6x2048_S128x1x2048_0_3_0 := by
  simp only [V, hostOps0, hostOps0_1, hostOps0_2, hostOps0_3, hostOps0_4, List.flatten_cons, List.flatten_nil,
    List.append_nil, List.cons_append, List.nil_append]
  entry_read
  rfl

theorem V_main_v23 (c : Dev nD) : V m c main_v23 = modRows 4 (aM m c) slices_S128x6x2048_S128x1x2048_0_4_0 := by
  simp only [V, hostOps0, hostOps0_1, hostOps0_2, hostOps0_3, hostOps0_4, List.flatten_cons, List.flatten_nil,
    List.append_nil, List.cons_append, List.nil_append]
  entry_read
  rfl

theorem V_main_v27 (c : Dev nD) : V m c main_v27 = (truncf .bf16 (aW m c) bitsLt_bf16_f32 : FVec Ideal S2048x2048 .bf16) := by
  simp only [V, hostOps0, hostOps0_1, hostOps0_2, hostOps0_3, hostOps0_4, List.flatten_cons, List.flatten_nil,
    List.append_nil, List.cons_append, List.nil_append]
  entry_read
  rfl

theorem V_main_v28 (c : Dev nD) : V m c main_v28 = shapeCast S1x2048 (aG m c) shapeCasts_S2048_S1x2048 := by
  simp only [V, hostOps0, hostOps0_1, hostOps0_2, hostOps0_3, hostOps0_4, List.flatten_cons, List.flatten_nil,
    List.append_nil, List.cons_append, List.nil_append]
  entry_read
  rfl

theorem V_main_v29_0 (c : Dev nD) : V m c main_v29_0 = aP m c := by
  simp only [V, hostOps0, hostOps0_1, hostOps0_2, hostOps0_3, hostOps0_4, List.flatten_cons, List.flatten_nil,
    List.append_nil, List.cons_append, List.nil_append]
  entry_read
  rfl

theorem V_main_v29_1 (c : Dev nD) : V m c main_v29_1 = aQ m c := by
  simp only [V, hostOps0, hostOps0_1, hostOps0_2, hostOps0_3, hostOps0_4, List.flatten_cons, List.flatten_nil,
    List.append_nil, List.cons_append, List.nil_append]
  entry_read
  rfl

/-! ## The input blocks at coordinates -/

theorem blk0 (c : Dev nD) (t : Fin cfg0.N) (r : Fin 128) (k : Fin 1024) :
    iblk m c 0 t (ix2 r k : S128x1024.Idx) = aA m c (ix2 ⟨(smp r).val * 16 + (pos r).val, by omega⟩ k) := by
  have h : ((cfg0.win 0).blk t).view.emb (ix2 r k : S128x1024.Idx)
      = (ix2 ⟨(smp r).val * 16 + (pos r).val, by omega⟩ k : S128x1024.Idx) := by
    blk_ext [idx t, smp, pos]
  exact (congrArg (V m c main_arg0) h).trans (by rw [V_main_arg0])

theorem blk1 (c : Dev nD) (t : Fin cfg0.N) (r : Fin 128) (k : Fin 1024) :
    iblk m c 1 t (ix2 r k : S128x1024.Idx) = aB m c (ix2 ⟨(smp r).val * 16 + (pos r).val, by omega⟩ k) := by
  have h : ((cfg0.win 1).blk t).view.emb (ix2 r k : S128x1024.Idx)
      = (ix2 ⟨(smp r).val * 16 + (pos r).val, by omega⟩ k : S128x1024.Idx) := by
    blk_ext [idx t, smp, pos]
  exact (congrArg (V m c main_arg1) h).trans (by rw [V_main_arg1])

theorem blk2 (c : Dev nD) (t : Fin cfg0.N) (r : Fin 128) (d : Fin 2048) :
    iblk m c 2 t (ix2 r d : S128x2048.Idx) = aX m c (ix3 (smp r) (pos r) d) := by
  have h : ((cfg0.win 2).blk t).view.emb (ix2 r d : S128x2048.Idx) = (ix2 r d : S128x2048.Idx) := by
    blk_ext [idx t]
  refine (congrArg (V m c main_v26) h).trans ?_
  rw [V_main_v26]
  pointwise
  blk_ext [smp, pos]

theorem blk3 (c : Dev nD) (t : Fin cfg0.N) (r : Fin 128) (d : Fin 2048) :
    iblk m c 3 t (ix2 r d : S128x2048.Idx) = aM m c (ix2 ⟨16 + (smp r).val, by omega⟩ ⟨4096 + d.val, by omega⟩) := by
  have h : ((cfg0.win 3).blk t).view.emb (ix2 r d : S128x2048.Idx) = (ix2 r d : S128x2048.Idx) := by
    blk_ext [idx t]
  refine (congrArg (V m c main_v19) h).trans ?_
  rw [V_main_v19]
  pointwise [modRows]
  blk_ext [smp]

theorem blk4 (c : Dev nD) (t : Fin cfg0.N) (r : Fin 128) (d : Fin 2048) :
    iblk m c 4 t (ix2 r d : S128x2048.Idx) = aM m c (ix2 ⟨16 + (smp r).val, by omega⟩ ⟨6144 + d.val, by omega⟩) := by
  have h : ((cfg0.win 4).blk t).view.emb (ix2 r d : S128x2048.Idx) = (ix2 r d : S128x2048.Idx) := by
    blk_ext [idx t]
  refine (congrArg (V m c main_v21) h).trans ?_
  rw [V_main_v21]
  pointwise [modRows]
  blk_ext [smp]

theorem blk5 (c : Dev nD) (t : Fin cfg0.N) (r : Fin 128) (d : Fin 2048) :
    iblk m c 5 t (ix2 r d : S128x2048.Idx) = aM m c (ix2 ⟨16 + (smp r).val, by omega⟩ ⟨8192 + d.val, by omega⟩) := by
  have h : ((cfg0.win 5).blk t).view.emb (ix2 r d : S128x2048.Idx) = (ix2 r d : S128x2048.Idx) := by
    blk_ext [idx t]
  refine (congrArg (V m c main_v23) h).trans ?_
  rw [V_main_v23]
  pointwise [modRows]
  blk_ext [smp]

theorem blk6 (c : Dev nD) (t : Fin cfg0.N) (d : Fin 2048) :
    iblk m c 6 t (ix2 0 d : S1x2048.Idx) = aG m c (ix1 d) := by
  have h : ((cfg0.win 6).blk t).view.emb (ix2 0 d : S1x2048.Idx) = (ix2 0 d : S1x2048.Idx) := by
    blk_ext [idx t]
  refine (congrArg (V m c main_v28) h).trans ?_
  rw [V_main_v28]
  pointwise

theorem blk7 (c : Dev nD) (t : Fin cfg0.N) (k d : Fin 2048) :
    iblk m c 7 t (ix2 k d : S2048x2048.Idx) = aW m c (ix2 k d) := by
  have h : ((cfg0.win 7).blk t).view.emb (ix2 k d : S2048x2048.Idx) = (ix2 k d : S2048x2048.Idx) := by
    blk_ext [idx t]
  refine (congrArg (V m c main_v27) h).trans ?_
  rw [V_main_v27]
  pointwise

/-! ## What the point leaves -/

/-- The two halves of the projection, as the call loads them. -/
def top (x : Vec Ideal S2048x2048 .bf16) : Vec Ideal S1024x2048 .bf16 :=
  View.ld x (Rect.unit (s := S2048x2048) ![0, 0] ![1024, 2048] inb_S2048x2048_S1024x2048_0_0)
def bot (x : Vec Ideal S2048x2048 .bf16) : Vec Ideal S1024x2048 .bf16 :=
  View.ld x (Rect.unit (s := S2048x2048) ![1024, 0] ![1024, 2048] inb_S2048x2048_S1024x2048_1024_0)

theorem top_apply (x : Vec Ideal S2048x2048 .bf16) (k : Fin 1024) (d : Fin 2048) :
    top x (ix2 k d) = x (ix2 ⟨k.val, by omega⟩ d) := by
  refine congrArg x (funext fun a => ?_)
  fin_cases a <;> refine Fin.ext ((Rect.idx_unit_val _ _ _ _ _).trans ?_)
  · exact Nat.zero_add _
  · exact Nat.zero_add _

theorem bot_apply (x : Vec Ideal S2048x2048 .bf16) (k : Fin 1024) (d : Fin 2048) :
    bot x (ix2 k d) = x (ix2 ⟨1024 + k.val, by omega⟩ d) := by
  refine congrArg x (funext fun a => ?_)
  fin_cases a <;> refine Fin.ext ((Rect.idx_unit_val _ _ _ _ _).trans ?_)
  · rfl
  · exact Nat.zero_add _

theorem pay2_apply (c : Dev nD) (t : Fin cfg0.N) (r : Fin 128) (d : Fin 2048) :
    k0_pay2 (iblk m c 0 t) (top (iblk m c 7 t)) (iblk m c 1 t) (bot (iblk m c 7 t)) (iblk m c 2 t) (iblk m c 3 t) (ix2 r d)
      = res (aA m c) (aB m c) (aX m c) (aM m c) (aW m c) (smp r) (pos r) d := by
  pointwise [k0_pay2, res, top_apply, bot_apply, blk0, blk1, blk2, blk3, blk7]

theorem pay5_apply (c : Dev nD) (t : Fin cfg0.N) (r : Fin 128) (d : Fin 2048) :
    k0_pay5 (k0_pay3 (iblk m c 0 t) (top (iblk m c 7 t)) (iblk m c 1 t) (bot (iblk m c 7 t)) (iblk m c 2 t) (iblk m c 3 t) (iblk m c 6 t))
        (k0_pay4 (iblk m c 5 t)) (iblk m c 4 t) (ix2 r d)
      = hn (aA m c) (aB m c) (aX m c) (aM m c) (aG m c) (aW m c) (smp r) (pos r) d := by
  pointwise [k0_pay5, k0_pay4, k0_pay3, hn, pay2_apply, blk4, blk5, blk6]

theorem point10 (c : Dev nD) (t : Fin cfg0.N) (r : Fin 128) (d : Fin 2048) :
    (outsAt0 m c t).1 (ix2 r d) = res (aA m c) (aB m c) (aX m c) (aM m c) (aW m c) (smp r) (pos r) d := by
  unfold outsAt0
  frame_out
  exact pay2_apply m c t r d

theorem point11 (c : Dev nD) (t : Fin cfg0.N) (r : Fin 128) (d : Fin 2048) :
    (outsAt0 m c t).2.1 (ix2 r d) = hn (aA m c) (aB m c) (aX m c) (aM m c) (aG m c) (aW m c) (smp r) (pos r) d := by
  unfold outsAt0
  frame_out
  exact pay5_apply m c t r d

/-! ## The reference at coordinates -/

theorem ref_cat_lo (A B : FVec Ideal S128x1024 .bf16) (b : Fin 8) (s : Fin 16) (k : Fin 1024) :
    Cert.SoutprojRefIdeal.Read.val_main_v12 (F := Ideal) A B (ix3 b s ⟨k.val, by omega⟩) = A (ix2 ⟨b.val * 16 + s.val, by omega⟩ k) := by
  open Cert.SoutprojRefIdeal.Read in
  pointwise [val_main_v12, val_main_v11, val_main_v10, val_main_v9, val_main_v8]

theorem ref_cat_hi (A B : FVec Ideal S128x1024 .bf16) (b : Fin 8) (s : Fin 16) (k : Fin 1024) :
    Cert.SoutprojRefIdeal.Read.val_main_v12 (F := Ideal) A B (ix3 b s ⟨1024 + k.val, by omega⟩) = B (ix2 ⟨b.val * 16 + s.val, by omega⟩ k) := by
  open Cert.SoutprojRefIdeal.Read in
  pointwise [val_main_v12, val_main_v11, val_main_v10, val_main_v9, val_main_v8]

theorem ref_dot (A B : FVec Ideal S128x1024 .bf16) (W : FVec Ideal S2048x2048 .f32) (b : Fin 8) (s : Fin 16) (d : Fin 2048) :
    Cert.SoutprojRefIdeal.Read.val_main_v13 (F := Ideal) A B W (ix3 b s d)
      = (∑ k : Fin 1024, A (ix2 ⟨b.val * 16 + s.val, by omega⟩ k) * W (ix2 ⟨k.val, by omega⟩ d))
      + ∑ k : Fin 1024, B (ix2 ⟨b.val * 16 + s.val, by omega⟩ k) * W (ix2 ⟨1024 + k.val, by omega⟩ d) := by
  have h : Cert.SoutprojRefIdeal.Read.val_main_v13 (F := Ideal) A B W (ix3 b s d)
      = ∑ k : Fin 2048, Cert.SoutprojRefIdeal.Read.val_main_v12 (F := Ideal) A B (ix3 b s k) * W (ix2 k d) := by
    open Cert.SoutprojRefIdeal.Read in
    pointwise [val_main_v13]
  rw [h, Cert.OutprojIdeal.Value.sum_halves]
  simp only [ref_cat_lo, ref_cat_hi]

theorem ref_res (A B : FVec Ideal S128x1024 .bf16) (X : FVec Ideal S8x16x2048 .f32) (M : FVec Ideal S24x12288 .f32)
    (W : FVec Ideal S2048x2048 .f32) (b : Fin 8) (s : Fin 16) (d : Fin 2048) :
    Cert.SoutprojRefIdeal.Read.val_main_v16 (F := Ideal) A B X M W (ix3 b s d) = res A B X M W b s d := by
  open Cert.SoutprojRefIdeal.Read in
  pointwise [res, val_main_v16, val_main_v15, val_main_v14, ref_dot, val_main_v4, val_main_v1, val_main_v0]

theorem ref_hn (A B : FVec Ideal S128x1024 .bf16) (X : FVec Ideal S8x16x2048 .f32) (M : FVec Ideal S24x12288 .f32)
    (G : FVec Ideal S2048 .f32) (W : FVec Ideal S2048x2048 .f32) (b : Fin 8) (s : Fin 16) (d : Fin 2048) :
    Cert.SoutprojRefIdeal.Read.val_main_v35 (F := Ideal) A B X M G W (ix3 b s d) = hn A B X M G W b s d := by
  open Cert.SoutprojRefIdeal.Read in
  pointwise [hn, ref_res, val_main_v35, val_main_v34, val_main_v33, val_main_v32, val_main_v31, val_main_v30, val_main_cst_2,
    val_main_v29, val_main_v28, val_main_v27, val_main_v26, val_main_v25, val_main_v24, val_main_v23, val_main_v22,
    val_main_cst_1, val_main_v21, val_main_v20, val_main_cst_0, val_main_v19, val_main_v18, val_main_cst, val_main_v17,
    val_main_v6, val_main_v5, val_main_v1, val_main_v0]

theorem smp_eq (r : Fin 128) (h) : (⟨r.val / 16, h⟩ : Fin 8) = smp r := rfl
theorem pos_eq (r : Fin 128) (h) : (⟨r.val % 16, h⟩ : Fin 16) = pos r := rfl

theorem ref_x1_new (A B : FVec Ideal S128x1024 .bf16) (X : FVec Ideal S8x16x2048 .f32) (M : FVec Ideal S24x12288 .f32)
    (W : FVec Ideal S2048x2048 .f32) (P : FVec Ideal S32896x2048 .f32) (r : Fin 128) (d : Fin 2048) :
    Cert.SoutprojRefIdeal.Read.val_main_v38 (F := Ideal) A B X M W P (ix2 ⟨32768 + r.val, by omega⟩ d) = res A B X M W (smp r) (pos r) d := by
  open Cert.SoutprojRefIdeal.Read in
  pointwise [val_main_v38, val_main_v37, ref_res, smp_eq, pos_eq]

theorem ref_x1_old (A B : FVec Ideal S128x1024 .bf16) (X : FVec Ideal S8x16x2048 .f32) (M : FVec Ideal S24x12288 .f32)
    (W : FVec Ideal S2048x2048 .f32) (P : FVec Ideal S32896x2048 .f32) (i : Fin 32768) (d : Fin 2048) :
    Cert.SoutprojRefIdeal.Read.val_main_v38 (F := Ideal) A B X M W P (ix2 ⟨i.val, by omega⟩ d) = P (ix2 ⟨i.val, by omega⟩ d) := by
  open Cert.SoutprojRefIdeal.Read in
  pointwise [val_main_v38, val_main_v36]

theorem ref_h2_new (A B : FVec Ideal S128x1024 .bf16) (X : FVec Ideal S8x16x2048 .f32) (M : FVec Ideal S24x12288 .f32)
    (G : FVec Ideal S2048 .f32) (W : FVec Ideal S2048x2048 .f32) (Q : FVec Ideal S32896x2048 .f32) (r : Fin 128) (d : Fin 2048) :
    Cert.SoutprojRefIdeal.Read.val_main_v41 (F := Ideal) A B X M G W Q (ix2 ⟨32768 + r.val, by omega⟩ d) = hn A B X M G W (smp r) (pos r) d := by
  open Cert.SoutprojRefIdeal.Read in
  pointwise [val_main_v41, val_main_v40, ref_hn, smp_eq, pos_eq]

theorem ref_h2_old (A B : FVec Ideal S128x1024 .bf16) (X : FVec Ideal S8x16x2048 .f32) (M : FVec Ideal S24x12288 .f32)
    (G : FVec Ideal S2048 .f32) (W : FVec Ideal S2048x2048 .f32) (Q : FVec Ideal S32896x2048 .f32) (i : Fin 32768) (d : Fin 2048) :
    Cert.SoutprojRefIdeal.Read.val_main_v41 (F := Ideal) A B X M G W Q (ix2 ⟨i.val, by omega⟩ d) = Q (ix2 ⟨i.val, by omega⟩ d) := by
  open Cert.SoutprojRefIdeal.Read in
  pointwise [val_main_v41, val_main_v39]

/-! ## The arrays after the run -/

theorem emb10 (t : Fin cfg0.N) (r : Fin 128) (d : Fin 2048) :
    ((cfg0.win 10).blk t).view.emb (ix2 r d : S128x2048.Idx) = (ix2 ⟨32768 + r.val, by omega⟩ d : S32896x2048.Idx) := by
  blk_ext [idx t]

theorem emb11 (t : Fin cfg0.N) (r : Fin 128) (d : Fin 2048) :
    ((cfg0.win 11).blk t).view.emb (ix2 r d : S128x2048.Idx) = (ix2 ⟨32768 + r.val, by omega⟩ d : S32896x2048.Idx) := by
  blk_ext [idx t]

open Cert.SoutprojRefIdeal.Read in
theorem last10 (c : Dev nD) : (dats m 0 c).arrAt 10 (cfgs 0).N
    = fun i => if 32768 ≤ (i 0 : ℕ) then val_main_v38 (F := Ideal) (aA m c) (aB m c) (aX m c) (aM m c) (aW m c) (aP m c) i
        else V m c main_v29_0 i := by
  refine (dats m 0 c).arrAt_eq_of_coversWhere 10 _ (fun β => 256 ≤ β 0) (by decide +kernel) (fun t _ y => ?_)
    (fun j => by blk_simp [Pipeline.Window.cell_apply]; omega)
  blk_simp
  rw [after0_10]
  obtain ⟨r, d, rfl⟩ : ∃ (r : Fin 128) (d : Fin 2048), y = (ix2 r d : S128x2048.Idx) := ⟨_, _, (ix2_eta (n0 := 128) (n1 := 2048) _).symm⟩
  refine (point10 m c t r d).trans ?_
  exact ((congrArg _ (emb10 t r d)).trans (ref_x1_new _ _ _ _ _ _ r d)).symm

open Cert.SoutprojRefIdeal.Read in
theorem last11 (c : Dev nD) : (dats m 0 c).arrAt 11 (cfgs 0).N
    = fun i => if 32768 ≤ (i 0 : ℕ) then val_main_v41 (F := Ideal) (aA m c) (aB m c) (aX m c) (aM m c) (aG m c) (aW m c) (aQ m c) i
        else V m c main_v29_1 i := by
  refine (dats m 0 c).arrAt_eq_of_coversWhere 11 _ (fun β => 256 ≤ β 0) (by decide +kernel) (fun t _ y => ?_)
    (fun j => by blk_simp [Pipeline.Window.cell_apply]; omega)
  blk_simp
  rw [after0_11]
  obtain ⟨r, d, rfl⟩ : ∃ (r : Fin 128) (d : Fin 2048), y = (ix2 r d : S128x2048.Idx) := ⟨_, _, (ix2_eta (n0 := 128) (n1 := 2048) _).symm⟩
  refine (point11 m c t r d).trans ?_
  exact ((congrArg _ (emb11 t r d)).trans (ref_h2_new _ _ _ _ _ _ _ r d)).symm

open Cert.SoutprojRefIdeal.Read in
theorem final10 (c : Dev nD) : (dats m 0 c).arrAt 10 (cfgs 0).N
    = val_main_v38 (F := Ideal) (aA m c) (aB m c) (aX m c) (aM m c) (aW m c) (aP m c) := by
  rw [last10, V_main_v29_0]
  funext j
  split
  · rfl
  · rename_i hj
    obtain ⟨i, d, rfl⟩ : ∃ (i : Fin 32896) (d : Fin 2048), j = (ix2 i d : S32896x2048.Idx) := ⟨_, _, (ix2_eta (n0 := 32896) (n1 := 2048) _).symm⟩
    exact (ref_x1_old (aA m c) (aB m c) (aX m c) (aM m c) (aW m c) (aP m c) ⟨i.val, Nat.lt_of_not_le hj⟩ d).symm

open Cert.SoutprojRefIdeal.Read in
theorem final11 (c : Dev nD) : (dats m 0 c).arrAt 11 (cfgs 0).N
    = val_main_v41 (F := Ideal) (aA m c) (aB m c) (aX m c) (aM m c) (aG m c) (aW m c) (aQ m c) := by
  rw [last11, V_main_v29_1]
  funext j
  split
  · rfl
  · rename_i hj
    obtain ⟨i, d, rfl⟩ : ∃ (i : Fin 32896) (d : Fin 2048), j = (ix2 i d : S32896x2048.Idx) := ⟨_, _, (ix2_eta (n0 := 32896) (n1 := 2048) _).symm⟩
    exact (ref_h2_old (aA m c) (aB m c) (aX m c) (aM m c) (aG m c) (aW m c) (aQ m c) ⟨i.val, Nat.lt_of_not_le hj⟩ d).symm

end Cert.SoutprojIdeal.Value

end
-- ==== Proof.SoutprojClaim.lean ====
module

public import proofs.«01_k».proof.Defs
public import proofs.«01_k».proof.Proof.SoutprojValue
public import proofs.«01_k».proof.Proof.Gen.Soutproj.Frame
public import proofs.«01_k».proof.Proof.Gen.SoutprojIdeal.Frame
public import proofs.«01_k».proof.Proof.Gen.SoutprojRefIdeal.Run
public import Idealize.ShloMosaic.Adequacy
public import Idealize.ShloMosaic.Init

/-! The claims about the output projection of the running streams: its kernel leaves what the reference leaves, in the
    streams' rows and in the prompt's, and both programs leave their arguments alone. -/

@[expose] public section

set_option maxRecDepth 16384

noncomputable section

namespace Cert.SoutprojClaim

open Idealize.ShloMosaic Idealize.SL.Sem

/-- The reference ends with its arguments as it found them and every semaphore at zero. -/
theorem ref_frame : Cert.quiescent_SoutprojRefIdeal (hSoutprojRefIdeal := Cert.SoutprojRefIdeal.Gen.facts) :=
  fun m ρ _ => (θ_run Cert.SoutprojRefIdeal.defs _ _).mono
    (fun r h => ⟨fun c => (h c).2.2, Idealize.ShloMosaic.sem_eq_zero_of_no_sems (by decide) r.2⟩)
    (Cert.SoutprojRefIdeal.Value.run (F := Ideal) m ρ)

open Cert.SoutprojIdeal.Value in
/-- The kernel and the reference end with equal results. -/
theorem equal : Cert.algebraic_SoutprojIdeal_SoutprojRefIdeal (hSoutprojIdeal := Cert.SoutprojIdeal.Gen.facts)
    (hSoutprojRefIdeal := Cert.SoutprojRefIdeal.Gen.facts) := by
  intro m ρ m' ρ' _ hagree
  refine ⟨fun c => Cert.SoutprojRefIdeal.Read.val_main_v38 (F := Ideal) (aA m c) (aB m c) (aX m c) (aM m c) (aW m c) (aP m c),
    fun c => Cert.SoutprojRefIdeal.Read.val_main_v41 (F := Ideal) (aA m c) (aB m c) (aX m c) (aM m c) (aG m c) (aW m c) (aQ m c), ?_, ?_⟩
  · refine (θ_run Cert.SoutprojIdeal.defs _ _).mono (fun r h c => ?_) (Cert.SoutprojIdeal.Value.run_blocks m ρ)
    obtain ⟨h0, h1, -, hargs⟩ := h c
    exact ⟨h0.trans (final10 m c), h1.trans (final11 m c), hargs⟩
  · refine (θ_run Cert.SoutprojRefIdeal.defs _ _).mono (fun r h c => ?_)
      (Cert.SoutprojRefIdeal.Value.run (F := Ideal) m' ρ')
    obtain ⟨a0, a1, a2, a3, a4, a5, -, -, -, -, a10, a11, -⟩ := hagree c
    obtain ⟨h0, h1, hargs⟩ := h c
    have e0 := h0.trans (Cert.SoutprojRefIdeal.Read.val_main_v38_eq _ _ _ _ _ _)
    clear h0
    have e1 := h1.trans (Cert.SoutprojRefIdeal.Read.val_main_v41_eq m' c)
    clear h1
    rw [a0, a1, a2, a3, a5, a10] at e0
    rw [a0, a1, a2, a3, a4, a5, a11] at e1
    exact ⟨e0, e1, hargs⟩

end Cert.SoutprojClaim

end
-- ==== Proof.SprojValue.lean ====
module

public import proofs.«01_k».proof.Proof.Gen.SprojIdeal.Value
public import proofs.«01_k».proof.Proof.Gen.SprojRefIdeal.Read
public import proofs.«01_k».proof.Proof.ProjValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SprojIdeal.Value

open Cert.SprojIdeal Cert.SprojIdeal.Gen

variable (m : (ℓ : Loc nD τ sig) → Buf (Elt Ideal) ℓ)

/-- The modulated, normalized activations of sample `b`'s draft row `s`: the row's RMS normalization times the gain, scaled
    by `1 + sc` and shifted by `sh`, where `sh` is component 0 and `sc` component 1 of the sample's row of the modulation. -/
def hn (X : FVec Ideal S8x16x2048 .f32) (M : FVec Ideal S24x12288 .f32) (G : FVec Ideal S2048 .f32)
    (b : Fin 8) (s : Fin 16) (d : Fin 2048) : EReal :=
  X (ix3 b s d) * Ideal.rsqrt (Ideal.div (∑ k : Fin 2048, X (ix3 b s k) * X (ix3 b s k)) (Ideal.ofBits .f32 0x45000000#32)
      + Ideal.ofBits .f32 0x358637BD#32) * G (ix1 d)
    * (1 + M (ix2 ⟨16 + b.val, by omega⟩ ⟨2048 + d.val, by omega⟩)) + M (ix2 ⟨16 + b.val, by omega⟩ ⟨d.val, by omega⟩)

/-- The call has one point, and every window's block is its whole array. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![0, 0] ∧ win0_15.index t = ![0, 0] :=
  (by decide +kernel : ∀ t : Fin grid0.N, _)

/-- The sample a row belongs to. -/
def smp (r : Fin 128) : Fin 8 := ⟨r.val / 16, by omega⟩
/-- The row's place within its sample. -/
def pos (r : Fin 128) : Fin 16 := ⟨r.val % 16, by omega⟩

/-- The arguments as launched: the activations, the modulation table, the gain, the input projection, the gate's
    second factor and its bias. -/
abbrev aX (c : Dev nD) : FVec Ideal S8x16x2048 .f32 := m ((c : Thread nD τ).loc main_arg0)
abbrev aM (c : Dev nD) : FVec Ideal S24x12288 .f32 := m ((c : Thread nD τ).loc main_arg1)
abbrev aG (c : Dev nD) : FVec Ideal S2048 .f32 := m ((c : Thread nD τ).loc main_arg2)
abbrev aW (c : Dev nD) : FVec Ideal S2048x4368 .f32 := m ((c : Thread nD τ).loc main_arg3)
abbrev aU (c : Dev nD) : FVec Ideal S16x512 .f32 := m ((c : Thread nD τ).loc main_arg4)
abbrev aB (c : Dev nD) : FVec Ideal S512 .f32 := m ((c : Thread nD τ).loc main_arg5)

/-! ## What the host line hands to the call -/

/-- The columns of the projection that are used at their own width. -/
def wMain (W : FVec Ideal S2048x4368 .f32) : FVec Ideal S2048x4352 .bf16 :=
  truncf .bf16 (extractStridedSlice S2048x4352 ![0, 0] W slices_S2048x4368_S2048x4352_0_0) bitsLt_bf16_f32
/-- The gate's sixteen columns, padded with zeros to 128. -/
def wAb (W : FVec Ideal S2048x4368 .f32) : FVec Ideal S2048x128 .bf16 :=
  truncf .bf16 (pad S2048x128 ![0, 0] ![0, 112] ![0, 0] (extractStridedSlice S2048x16 ![0, 4352] W slices_S2048x4368_S2048x16_0_4352)
    (sitofp (F := Ideal) .f32 (constantI S_ 32 0#32)) pads_S2048x16_S2048x128_000_01120 h_S_) bitsLt_bf16_f32
/-- The gate's second factor, its sixteen rows padded with zeros to 128. -/
def wGate (U : FVec Ideal S16x512 .f32) : FVec Ideal S128x512 .bf16 :=
  truncf .bf16 (pad S128x512 ![0, 0] ![112, 0] ![0, 0] U
    (sitofp (F := Ideal) .f32 (constantI S_ 32 0#32)) pads_S16x512_S128x512_01120_000 h_S_) bitsLt_bf16_f32

/-- One component of the modulation's last eight rows, each repeated for the sixteen rows of its sample. -/
def modRows (k : Nat) (M : FVec Ideal S24x12288 .f32) (h : S128x6x2048.Slices ![0, k, 0] S128x1x2048) : FVec Ideal S128x2048 .f32 :=
  shapeCast S128x2048 (extractStridedSlice S128x1x2048 ![0, k, 0] (shapeCast S128x6x2048
    (broadcastInDim S8x16x6x2048 ![0, 2, 3] bcast_S8x6x2048_S8x16x6x2048_0_2_3
      (shapeCast S8x6x2048 (extractStridedSlice S8x12288 ![16, 0] M slices_S24x12288_S8x12288_16_0) shapeCasts_S8x12288_S8x6x2048))
    shapeCasts_S8x16x6x2048_S128x6x2048) h) shapeCasts_S128x1x2048_S128x2048

theorem V_main_v23 (c : Dev nD) : V m c main_v23 = shapeCast S128x2048 (aX m c) shapeCasts_S8x16x2048_S128x2048 := by
  simp only [V, hostOps0, hostOps0_1, hostOps0_2, hostOps0_3, hostOps0_4, List.flatten_cons, List.flatten_nil,
    List.append_nil, List.cons_append, List.nil_append]
  entry_read
  rfl

theorem V_main_v12 (c : Dev nD) : V m c main_v12 = modRows 0 (aM m c) slices_S128x6x2048_S128x1x2048_0_0_0 := by
  simp only [V, hostOps0, hostOps0_1, hostOps0_2, hostOps0_3, hostOps0_4, List.flatten_cons, List.flatten_nil,
    List.append_nil, List.cons_append, List.nil_append]
  entry_read
  rfl

theorem V_main_v14 (c : Dev nD) : V m c main_v14 = modRows 1 (aM m c) slices_S128x6x2048_S128x1x2048_0_1_0 := by
  simp only [V, hostOps0, hostOps0_1, hostOps0_2, hostOps0_3, hostOps0_4, List.flatten_cons, List.flatten_nil,
    List.append_nil, List.cons_append, List.nil_append]
  entry_read
  rfl

theorem V_main_v24 (c : Dev nD) : V m c main_v24 = shapeCast S1x2048 (aG m c) shapeCasts_S2048_S1x2048 := by
  simp only [V, hostOps0, hostOps0_1, hostOps0_2, hostOps0_3, hostOps0_4, List.flatten_cons, List.flatten_nil,
    List.append_nil, List.cons_append, List.nil_append]
  entry_read
  rfl

theorem V_main_v25 (c : Dev nD) : V m c main_v25 = shapeCast S1x512 (aB m c) shapeCasts_S512_S1x512 := by
  simp only [V, hostOps0, hostOps0_1, hostOps0_2, hostOps0_3, hostOps0_4, List.flatten_cons, List.flatten_nil,
    List.append_nil, List.cons_append, List.nil_append]
  entry_read
  rfl

theorem V_main_v1 (c : Dev nD) : V m c main_v1 = wMain (aW m c) := by
  simp only [V, hostOps0, hostOps0_1, hostOps0_2, hostOps0_3, hostOps0_4, List.flatten_cons, List.flatten_nil,
    List.append_nil, List.cons_append, List.nil_append]
  entry_read
  rfl

theorem V_main_v4 (c : Dev nD) : V m c main_v4 = wAb (aW m c) := by
  simp only [V, hostOps0, hostOps0_1, hostOps0_2, hostOps0_3, hostOps0_4, List.flatten_cons, List.flatten_nil,
    List.append_nil, List.cons_append, List.nil_append]
  entry_read
  rfl

theorem V_main_v6 (c : Dev nD) : V m c main_v6 = wGate (aU m c) := by
  simp only [V, hostOps0, hostOps0_1, hostOps0_2, hostOps0_3, hostOps0_4, List.flatten_cons, List.flatten_nil,
    List.append_nil, List.cons_append, List.nil_append]
  entry_read
  rfl

/-! ## The input blocks at coordinates -/

theorem blk0 (c : Dev nD) (t : Fin cfg0.N) (r : Fin 128) (d : Fin 2048) :
    iblk m c 0 t (ix2 r d : S128x2048.Idx) = aX m c (ix3 (smp r) (pos r) d) := by
  have h : ((cfg0.win 0).blk t).view.emb (ix2 r d : S128x2048.Idx) = (ix2 r d : S128x2048.Idx) := by
    blk_ext [idx t]
  refine (congrArg (V m c main_v23) h).trans ?_
  rw [V_main_v23]
  pointwise
  blk_ext [smp, pos]

theorem blk1 (c : Dev nD) (t : Fin cfg0.N) (r : Fin 128) (d : Fin 2048) :
    iblk m c 1 t (ix2 r d : S128x2048.Idx) = aM m c (ix2 ⟨16 + (smp r).val, by omega⟩ ⟨d.val, by omega⟩) := by
  have h : ((cfg0.win 1).blk t).view.emb (ix2 r d : S128x2048.Idx) = (ix2 r d : S128x2048.Idx) := by
    blk_ext [idx t]
  refine (congrArg (V m c main_v12) h).trans ?_
  rw [V_main_v12]
  pointwise [modRows]
  blk_ext [smp]

theorem blk2 (c : Dev nD) (t : Fin cfg0.N) (r : Fin 128) (d : Fin 2048) :
    iblk m c 2 t (ix2 r d : S128x2048.Idx) = aM m c (ix2 ⟨16 + (smp r).val, by omega⟩ ⟨2048 + d.val, by omega⟩) := by
  have h : ((cfg0.win 2).blk t).view.emb (ix2 r d : S128x2048.Idx) = (ix2 r d : S128x2048.Idx) := by
    blk_ext [idx t]
  refine (congrArg (V m c main_v14) h).trans ?_
  rw [V_main_v14]
  pointwise [modRows]
  blk_ext [smp]

theorem blk3 (c : Dev nD) (t : Fin cfg0.N) (d : Fin 2048) :
    iblk m c 3 t (ix2 0 d : S1x2048.Idx) = aG m c (ix1 d) := by
  have h : ((cfg0.win 3).blk t).view.emb (ix2 0 d : S1x2048.Idx) = (ix2 0 d : S1x2048.Idx) := by
    blk_ext [idx t]
  refine (congrArg (V m c main_v24) h).trans ?_
  rw [V_main_v24]
  pointwise

theorem blk4 (c : Dev nD) (t : Fin cfg0.N) (k : Fin 2048) (o : Fin 4352) :
    iblk m c 4 t (ix2 k o : S2048x4352.Idx) = aW m c (ix2 k ⟨o.val, by omega⟩) := by
  have h : ((cfg0.win 4).blk t).view.emb (ix2 k o : S2048x4352.Idx) = (ix2 k o : S2048x4352.Idx) := by
    blk_ext [idx t]
  refine (congrArg (V m c main_v1) h).trans ?_
  rw [V_main_v1]
  pointwise [wMain]
  blk_ext

/-- A padded gate column beyond the sixteenth is zero. -/
theorem blk5 (c : Dev nD) (t : Fin cfg0.N) (k : Fin 2048) (o : Fin 128) :
    iblk m c 5 t (ix2 k o : S2048x128.Idx) = if h : o.val < 16 then aW m c (ix2 k ⟨4352 + o.val, by omega⟩) else 0 := by
  have h : ((cfg0.win 5).blk t).view.emb (ix2 k o : S2048x128.Idx) = (ix2 k o : S2048x128.Idx) := by
    blk_ext [idx t]
  refine (congrArg (V m c main_v4) h).trans ?_
  rw [V_main_v4]
  pointwise [wAb, Cert.ProjIdeal.Value.sitofp_zero]

theorem blk6 (c : Dev nD) (t : Fin cfg0.N) (k : Fin 128) (o : Fin 512) :
    iblk m c 6 t (ix2 k o : S128x512.Idx) = if h : k.val < 16 then aU m c (ix2 ⟨k.val, h⟩ o) else 0 := by
  have h : ((cfg0.win 6).blk t).view.emb (ix2 k o : S128x512.Idx) = (ix2 k o : S128x512.Idx) := by
    blk_ext [idx t]
  refine (congrArg (V m c main_v6) h).trans ?_
  rw [V_main_v6]
  pointwise [wGate, Cert.ProjIdeal.Value.sitofp_zero]

theorem blk7 (c : Dev nD) (t : Fin cfg0.N) (o : Fin 512) :
    iblk m c 7 t (ix2 0 o : S1x512.Idx) = aB m c (ix1 o) := by
  have h : ((cfg0.win 7).blk t).view.emb (ix2 0 o : S1x512.Idx) = (ix2 0 o : S1x512.Idx) := by
    blk_ext [idx t]
  refine (congrArg (V m c main_v25) h).trans ?_
  rw [V_main_v25]
  pointwise

/-! ## The activations, in the call and in the reference -/

theorem pay2_apply (c : Dev nD) (t : Fin cfg0.N) (r : Fin 128) (d : Fin 2048) :
    k0_pay2 (iblk m c 0 t) (iblk m c 3 t) (iblk m c 2 t) (iblk m c 1 t) (ix2 r d)
      = hn (aX m c) (aM m c) (aG m c) (smp r) (pos r) d := by
  pointwise [k0_pay2, hn, blk0, blk1, blk2, blk3]

/-- The activations as the later stores name them. -/
theorem pay13_eq (x0 : Vec Ideal S128x2048 .f32) (x1 x2 : Vec Ideal S128x2048 .f32) (x3 : Vec Ideal S1x2048 .f32)
    (x4 : Vec Ideal S2048x4352 .bf16) (x5 : Vec Ideal S2048x128 .bf16) (x6 : Vec Ideal S128x512 .bf16) (x7 : Vec Ideal S1x512 .f32) :
    k0_pay13 x0 x1 x2 x3 x4 x5 x6 x7 = k0_pay2 x0 x3 x2 x1 := by
  have h2 : (![0, 0] : Fin 2 → Nat) = fun _ => 0 := by funext a; fin_cases a <;> rfl
  unfold k0_pay13
  rw [show View.ld x0 r0_0 = x0 from View.ld_unit_zero h2 _ x0, show View.ld x3 r0_1 = x3 from View.ld_unit_zero h2 _ x3,
    show View.ld x2 r0_0 = x2 from View.ld_unit_zero h2 _ x2, show View.ld x1 r0_0 = x1 from View.ld_unit_zero h2 _ x1]

theorem ref_hn (X : FVec Ideal S8x16x2048 .f32) (M : FVec Ideal S24x12288 .f32) (G : FVec Ideal S2048 .f32)
    (b : Fin 8) (s : Fin 16) (d : Fin 2048) :
    Cert.SprojRefIdeal.Read.val_main_v26 (F := Ideal) X M G (ix3 b s d) = hn X M G b s d := by
  open Cert.SprojRefIdeal.Read in
  pointwise [hn, val_main_v26, val_main_v25, val_main_v24, val_main_v23, val_main_v22, val_main_v21, val_main_cst_2, val_main_v20,
    val_main_v19, val_main_v18, val_main_v17, val_main_v16, val_main_v15, val_main_v14, val_main_v13, val_main_cst_1, val_main_v12,
    val_main_v11, val_main_cst_0, val_main_v10, val_main_v9, val_main_cst, val_main_v8, val_main_v3, val_main_v2, val_main_v1, val_main_v0]

/-- The reference's projection: one row of the activations against one column. -/
theorem ref_proj (X : FVec Ideal S8x16x2048 .f32) (M : FVec Ideal S24x12288 .f32) (G : FVec Ideal S2048 .f32)
    (W : FVec Ideal S2048x4368 .f32) (b : Fin 8) (s : Fin 16) (o : Fin 4368) :
    Cert.SprojRefIdeal.Read.val_main_v27 (F := Ideal) X M G W (ix3 b s o) = ∑ k : Fin 2048, hn X M G b s k * W (ix2 k o) := by
  open Cert.SprojRefIdeal.Read in
  pointwise [val_main_v27, ref_hn]

/-! ## Each result array -/

theorem smp_eq (r : Fin 128) (h) : (⟨r.val / 16, h⟩ : Fin 8) = smp r := rfl
theorem pos_eq (r : Fin 128) (h) : (⟨r.val % 16, h⟩ : Fin 16) = pos r := rfl

open Cert.SprojRefIdeal.Read in
theorem point8 (c : Dev nD) (t : Fin cfg0.N) (y : S128x1024.Idx) :
    out0_8 (iblk m c 0 t) (iblk m c 1 t) (iblk m c 2 t) (iblk m c 3 t) (iblk m c 4 t) (iblk m c 5 t) (iblk m c 6 t) (iblk m c 7 t) y
      = val_main_v44 (F := Ideal) (aX m c) (aM m c) (aG m c) (aW m c) (((cfg0.win 8).blk t).view.emb y) := by
  frame_out
  idx_vars y
  have h : ((cfg0.win 8).blk t).view.emb (ix2 y0 y1 : S128x1024.Idx) = (ix2 y0 y1 : S128x1024.Idx) := by
    blk_ext [idx t]
  rw [h]
  pointwise [k0_pay3, pay2_apply, blk4, val_main_v44, val_main_v43, val_main_v28, ref_proj, smp_eq, pos_eq]

open Cert.SprojRefIdeal.Read in
theorem point9 (c : Dev nD) (t : Fin cfg0.N) (y : S128x128.Idx) :
    out0_9 (iblk m c 0 t) (iblk m c 1 t) (iblk m c 2 t) (iblk m c 3 t) (iblk m c 4 t) (iblk m c 5 t) (iblk m c 6 t) (iblk m c 7 t) y
      = val_main_v45 (F := Ideal) (aX m c) (aM m c) (aG m c) (aW m c) (((cfg0.win 9).blk t).view.emb y) := by
  frame_out
  idx_vars y
  have h : ((cfg0.win 9).blk t).view.emb (ix2 y0 y1 : S128x128.Idx) = (ix2 y0 y1 : S128x128.Idx) := by
    blk_ext [idx t]
  rw [h]
  pointwise [k0_pay5, k0_pay4, pay2_apply, blk4, val_main_v45, val_main_v29, ref_proj, smp_eq, pos_eq]

open Cert.SprojRefIdeal.Read in
theorem point10 (c : Dev nD) (t : Fin cfg0.N) (y : S128x128.Idx) :
    out0_10 (iblk m c 0 t) (iblk m c 1 t) (iblk m c 2 t) (iblk m c 3 t) (iblk m c 4 t) (iblk m c 5 t) (iblk m c 6 t) (iblk m c 7 t) y
      = val_main_v46 (F := Ideal) (aX m c) (aM m c) (aG m c) (aW m c) (((cfg0.win 10).blk t).view.emb y) := by
  frame_out
  idx_vars y
  have h : ((cfg0.win 10).blk t).view.emb (ix2 y0 y1 : S128x128.Idx) = (ix2 y0 y1 : S128x128.Idx) := by
    blk_ext [idx t]
  rw [h]
  pointwise [k0_pay6, k0_pay4, pay2_apply, blk4, val_main_v46, val_main_v30, ref_proj, smp_eq, pos_eq]
  simp only [show 1024 + (128 + y1.val) = 1152 + y1.val by omega]

open Cert.SprojRefIdeal.Read in
theorem point11 (c : Dev nD) (t : Fin cfg0.N) (y : S128x512.Idx) :
    out0_11 (iblk m c 0 t) (iblk m c 1 t) (iblk m c 2 t) (iblk m c 3 t) (iblk m c 4 t) (iblk m c 5 t) (iblk m c 6 t) (iblk m c 7 t) y
      = val_main_v48 (F := Ideal) (aX m c) (aM m c) (aG m c) (aW m c) (((cfg0.win 11).blk t).view.emb y) := by
  frame_out
  idx_vars y
  have h : ((cfg0.win 11).blk t).view.emb (ix2 y0 y1 : S128x512.Idx) = (ix2 y0 y1 : S128x512.Idx) := by
    blk_ext [idx t]
  rw [h]
  pointwise [k0_pay7, pay13_eq, pay2_apply, blk4, val_main_v48, val_main_v47, val_main_v31, ref_proj, smp_eq, pos_eq]

open Cert.SprojRefIdeal.Read in
theorem point12 (c : Dev nD) (t : Fin cfg0.N) (y : S128x512.Idx) :
    out0_12 (iblk m c 0 t) (iblk m c 1 t) (iblk m c 2 t) (iblk m c 3 t) (iblk m c 4 t) (iblk m c 5 t) (iblk m c 6 t) (iblk m c 7 t) y
      = val_main_v50 (F := Ideal) (aX m c) (aM m c) (aG m c) (aW m c) (((cfg0.win 12).blk t).view.emb y) := by
  frame_out
  idx_vars y
  have h : ((cfg0.win 12).blk t).view.emb (ix2 y0 y1 : S128x512.Idx) = (ix2 y0 y1 : S128x512.Idx) := by
    blk_ext [idx t]
  rw [h]
  pointwise [k0_pay8, pay13_eq, pay2_apply, blk4, val_main_v50, val_main_v49, val_main_v32, ref_proj, smp_eq, pos_eq]

open Cert.SprojRefIdeal.Read in
theorem point13 (c : Dev nD) (t : Fin cfg0.N) (y : S128x1024.Idx) :
    out0_13 (iblk m c 0 t) (iblk m c 1 t) (iblk m c 2 t) (iblk m c 3 t) (iblk m c 4 t) (iblk m c 5 t) (iblk m c 6 t) (iblk m c 7 t) y
      = val_main_v52 (F := Ideal) (aX m c) (aM m c) (aG m c) (aW m c) (((cfg0.win 13).blk t).view.emb y) := by
  frame_out
  idx_vars y
  have h : ((cfg0.win 13).blk t).view.emb (ix2 y0 y1 : S128x1024.Idx) = (ix2 y0 y1 : S128x1024.Idx) := by
    blk_ext [idx t]
  rw [h]
  pointwise [k0_pay9, pay13_eq, pay2_apply, blk4, val_main_v52, val_main_v51, val_main_v33, ref_proj, smp_eq, pos_eq]

open Cert.SprojRefIdeal.Read in
theorem point14 (c : Dev nD) (t : Fin cfg0.N) (y : S128x1024.Idx) :
    out0_14 (iblk m c 0 t) (iblk m c 1 t) (iblk m c 2 t) (iblk m c 3 t) (iblk m c 4 t) (iblk m c 5 t) (iblk m c 6 t) (iblk m c 7 t) y
      = val_main_v54 (F := Ideal) (aX m c) (aM m c) (aG m c) (aW m c) (((cfg0.win 14).blk t).view.emb y) := by
  frame_out
  idx_vars y
  have h : ((cfg0.win 14).blk t).view.emb (ix2 y0 y1 : S128x1024.Idx) = (ix2 y0 y1 : S128x1024.Idx) := by
    blk_ext [idx t]
  rw [h]
  pointwise [k0_pay10, pay13_eq, pay2_apply, blk4, val_main_v54, val_main_v53, val_main_v34, ref_proj, smp_eq, pos_eq]

open Cert.SprojRefIdeal.Read in
theorem point15 (c : Dev nD) (t : Fin cfg0.N) (y : S128x512.Idx) :
    out0_15 (iblk m c 0 t) (iblk m c 1 t) (iblk m c 2 t) (iblk m c 3 t) (iblk m c 4 t) (iblk m c 5 t) (iblk m c 6 t) (iblk m c 7 t) y
      = val_main_v55 (F := Ideal) (aX m c) (aM m c) (aG m c) (aW m c) (aU m c) (aB m c) (((cfg0.win 15).blk t).view.emb y) := by
  frame_out
  idx_vars y
  have h : ((cfg0.win 15).blk t).view.emb (ix2 y0 y1 : S128x512.Idx) = (ix2 y0 y1 : S128x512.Idx) := by
    blk_ext [idx t]
  rw [h]
  pointwise [k0_pay1, k0_pay11, k0_pay12, pay13_eq, pay2_apply, blk5, blk6, blk7, val_main_v55, val_main_v42, val_main_v41, val_main_cst_3, val_main_v40, val_main_call0_call0_cst, val_main_call0_call0_v0, val_main_call0_call0_v1, val_main_call0_call0_v10, val_main_call0_call0_v11, val_main_call0_call0_v2, val_main_call0_call0_v3, val_main_call0_call0_v4, val_main_call0_call0_v5, val_main_call0_call0_v6, val_main_call0_call0_v7, val_main_call0_call0_v8, val_main_call0_call0_v9, val_main_call0_v0, val_main_call0_v1, val_main_v39, val_main_v38, val_main_v37, val_main_v36, val_main_v35, ref_proj, smp_eq, pos_eq, Cert.ProjIdeal.Value.absf_eq]
  simp only [mul_zero, Finset.sum_const_zero, add_zero, ne_eq, not_true_eq_false, if_false]
  rw [Cert.ProjIdeal.Value.log_sigmoid_eq]

/-! ## The arrays after the run -/

open Cert.SprojRefIdeal.Read in
theorem final8 (c : Dev nD) : (dats m 0 c).arrAt 8 (cfgs 0).N = val_main_v44 (F := Ideal) (aX m c) (aM m c) (aG m c) (aW m c) := by
  refine (dats m 0 c).arrAt_eq_of_covers 8 _ (by decide +kernel) fun t _ y => ?_
  blk_simp
  rw [after0_8]
  exact point8 m c t y

open Cert.SprojRefIdeal.Read in
theorem final9 (c : Dev nD) : (dats m 0 c).arrAt 9 (cfgs 0).N = val_main_v45 (F := Ideal) (aX m c) (aM m c) (aG m c) (aW m c) := by
  refine (dats m 0 c).arrAt_eq_of_covers 9 _ (by decide +kernel) fun t _ y => ?_
  blk_simp
  rw [after0_9]
  exact point9 m c t y

open Cert.SprojRefIdeal.Read in
theorem final10 (c : Dev nD) : (dats m 0 c).arrAt 10 (cfgs 0).N = val_main_v46 (F := Ideal) (aX m c) (aM m c) (aG m c) (aW m c) := by
  refine (dats m 0 c).arrAt_eq_of_covers 10 _ (by decide +kernel) fun t _ y => ?_
  blk_simp
  rw [after0_10]
  exact point10 m c t y

open Cert.SprojRefIdeal.Read in
theorem final11 (c : Dev nD) : (dats m 0 c).arrAt 11 (cfgs 0).N = val_main_v48 (F := Ideal) (aX m c) (aM m c) (aG m c) (aW m c) := by
  refine (dats m 0 c).arrAt_eq_of_covers 11 _ (by decide +kernel) fun t _ y => ?_
  blk_simp
  rw [after0_11]
  exact point11 m c t y

open Cert.SprojRefIdeal.Read in
theorem final12 (c : Dev nD) : (dats m 0 c).arrAt 12 (cfgs 0).N = val_main_v50 (F := Ideal) (aX m c) (aM m c) (aG m c) (aW m c) := by
  refine (dats m 0 c).arrAt_eq_of_covers 12 _ (by decide +kernel) fun t _ y => ?_
  blk_simp
  rw [after0_12]
  exact point12 m c t y

open Cert.SprojRefIdeal.Read in
theorem final13 (c : Dev nD) : (dats m 0 c).arrAt 13 (cfgs 0).N = val_main_v52 (F := Ideal) (aX m c) (aM m c) (aG m c) (aW m c) := by
  refine (dats m 0 c).arrAt_eq_of_covers 13 _ (by decide +kernel) fun t _ y => ?_
  blk_simp
  rw [after0_13]
  exact point13 m c t y

open Cert.SprojRefIdeal.Read in
theorem final14 (c : Dev nD) : (dats m 0 c).arrAt 14 (cfgs 0).N = val_main_v54 (F := Ideal) (aX m c) (aM m c) (aG m c) (aW m c) := by
  refine (dats m 0 c).arrAt_eq_of_covers 14 _ (by decide +kernel) fun t _ y => ?_
  blk_simp
  rw [after0_14]
  exact point14 m c t y

open Cert.SprojRefIdeal.Read in
theorem final15 (c : Dev nD) : (dats m 0 c).arrAt 15 (cfgs 0).N
    = val_main_v55 (F := Ideal) (aX m c) (aM m c) (aG m c) (aW m c) (aU m c) (aB m c) := by
  refine (dats m 0 c).arrAt_eq_of_covers 15 _ (by decide +kernel) fun t _ y => ?_
  blk_simp
  rw [after0_15]
  exact point15 m c t y

end Cert.SprojIdeal.Value

end
-- ==== Proof.SprojClaim.lean ====
module

public import proofs.«01_k».proof.Defs
public import proofs.«01_k».proof.Proof.SprojValue
public import proofs.«01_k».proof.Proof.Gen.Sproj.Frame
public import proofs.«01_k».proof.Proof.Gen.SprojIdeal.Frame
public import proofs.«01_k».proof.Proof.Gen.SprojRefIdeal.Run
public import Idealize.ShloMosaic.Adequacy
public import Idealize.ShloMosaic.Init

/-! The claims about the call that projects the samples: what its kernel leaves in its eight results is what the
    reference's eight results hold, and both programs leave their arguments alone. -/

@[expose] public section

set_option maxRecDepth 16384

noncomputable section

namespace Cert.SprojClaim

open Idealize.ShloMosaic Idealize.SL.Sem

/-- The reference ends with its arguments as it found them and every semaphore at zero. -/
theorem ref_frame : Cert.quiescent_SprojRefIdeal (hSprojRefIdeal := Cert.SprojRefIdeal.Gen.facts) :=
  fun m ρ _ => (θ_run Cert.SprojRefIdeal.defs _ _).mono
    (fun r h => ⟨fun c => ⟨(h c).2.2.2.2.2.2.2.2.1, (h c).2.2.2.2.2.2.2.2.2.1, (h c).2.2.2.2.2.2.2.2.2.2.1,
        (h c).2.2.2.2.2.2.2.2.2.2.2.1, (h c).2.2.2.2.2.2.2.2.2.2.2.2.1, (h c).2.2.2.2.2.2.2.2.2.2.2.2.2⟩,
      Idealize.ShloMosaic.sem_eq_zero_of_no_sems (by decide) r.2⟩)
    (Cert.SprojRefIdeal.Value.run (F := Ideal) m ρ)

open Cert.SprojIdeal.Value in
/-- The kernel and the reference end with equal results. -/
theorem equal : Cert.algebraic_SprojIdeal_SprojRefIdeal (hSprojIdeal := Cert.SprojIdeal.Gen.facts)
    (hSprojRefIdeal := Cert.SprojRefIdeal.Gen.facts) := by
  intro m ρ m' ρ' _ hagree
  refine ⟨fun c => Cert.SprojRefIdeal.Read.val_main_v44 (F := Ideal) (aX m c) (aM m c) (aG m c) (aW m c),
    fun c => Cert.SprojRefIdeal.Read.val_main_v45 (F := Ideal) (aX m c) (aM m c) (aG m c) (aW m c),
    fun c => Cert.SprojRefIdeal.Read.val_main_v46 (F := Ideal) (aX m c) (aM m c) (aG m c) (aW m c),
    fun c => Cert.SprojRefIdeal.Read.val_main_v48 (F := Ideal) (aX m c) (aM m c) (aG m c) (aW m c),
    fun c => Cert.SprojRefIdeal.Read.val_main_v50 (F := Ideal) (aX m c) (aM m c) (aG m c) (aW m c),
    fun c => Cert.SprojRefIdeal.Read.val_main_v52 (F := Ideal) (aX m c) (aM m c) (aG m c) (aW m c),
    fun c => Cert.SprojRefIdeal.Read.val_main_v54 (F := Ideal) (aX m c) (aM m c) (aG m c) (aW m c),
    fun c => Cert.SprojRefIdeal.Read.val_main_v55 (F := Ideal) (aX m c) (aM m c) (aG m c) (aW m c) (aU m c) (aB m c),
    ?_, ?_⟩
  · refine (θ_run Cert.SprojIdeal.defs _ _).mono (fun r h c => ?_) (Cert.SprojIdeal.Value.run_blocks m ρ)
    obtain ⟨h0, h1, h2, h3, h4, h5, h6, h7, hargs⟩ := h c
    exact ⟨h0.trans (final8 m c), h1.trans (final9 m c), h2.trans (final10 m c),
      h3.trans (final11 m c), h4.trans (final12 m c), h5.trans (final13 m c),
      h6.trans (final14 m c), h7.trans (final15 m c), hargs⟩
  · refine (θ_run Cert.SprojRefIdeal.defs _ _).mono (fun r h c => ?_)
      (Cert.SprojRefIdeal.Value.run (F := Ideal) m' ρ')
    obtain ⟨a0, a1, a2, a3, a4, a5⟩ := hagree c
    obtain ⟨h0, h1, h2, h3, h4, h5, h6, h7, hargs⟩ := h c
    have e0 := h0.trans (Cert.SprojRefIdeal.Read.val_main_v44_eq _ _ _ _)
    clear h0
    have e1 := h1.trans (Cert.SprojRefIdeal.Read.val_main_v45_eq _ _ _ _)
    clear h1
    have e2 := h2.trans (Cert.SprojRefIdeal.Read.val_main_v46_eq _ _ _ _)
    clear h2
    have e3 := h3.trans (Cert.SprojRefIdeal.Read.val_main_v48_eq _ _ _ _)
    clear h3
    have e4 := h4.trans (Cert.SprojRefIdeal.Read.val_main_v50_eq _ _ _ _)
    clear h4
    have e5 := h5.trans (Cert.SprojRefIdeal.Read.val_main_v52_eq _ _ _ _)
    clear h5
    have e6 := h6.trans (Cert.SprojRefIdeal.Read.val_main_v54_eq _ _ _ _)
    clear h6
    have e7 := h7.trans (Cert.SprojRefIdeal.Read.val_main_v55_eq m' c)
    clear h7
    rw [a0, a1, a2, a3] at e0
    rw [a0, a1, a2, a3] at e1
    rw [a0, a1, a2, a3] at e2
    rw [a0, a1, a2, a3] at e3
    rw [a0, a1, a2, a3] at e4
    rw [a0, a1, a2, a3] at e5
    rw [a0, a1, a2, a3] at e6
    rw [a0, a1, a2, a3, a4, a5] at e7
    exact ⟨e0, e1, e2, e3, e4, e5, e6, e7, hargs⟩

end Cert.SprojClaim

end
-- ==== Proof.AdalnValue.lean ====
module

public import proofs.«01_k».proof.Proof.Gen.AdalnIdeal.Value
public import proofs.«01_k».proof.Proof.Gen.AdalnRefIdeal.Read
public import Idealize.ShloMosaic.Lib.Pipeline.ValueKit
public import Idealize.ShloMosaic.Lib.Pointwise

/-! The modulation table: what the call leaves in it is the reference's table. -/

@[expose] public section

set_option maxRecDepth 16384

noncomputable section

open Idealize.ShloMosaic Idealize.ShloMosaic.TcCoe Idealize.SL.Sem
open Idealize.ShloMosaic.Pipeline (Dat)

namespace Cert.AdalnIdeal.Value

open Cert.AdalnIdeal Cert.AdalnIdeal.Gen

variable (m : (ℓ : Loc nD τ sig) → Buf (Elt Ideal) ℓ)

/-- The conditioning's row `r`: the prompt's sixteen, then the samples' eight. -/
def cond (P : FVec Ideal S16x2048 .f32) (Q : FVec Ideal S8x2048 .f32) (r : Fin 24) (k : Fin 2048) : EReal :=
  if h : r.val < 16 then P (ix2 ⟨r.val, h⟩ k) else Q (ix2 ⟨r.val - 16, by omega⟩ k)

/-- A row of the table: the conditioning times its sigmoid, against a column of the weights, plus the bias. -/
def table (P : FVec Ideal S16x2048 .f32) (Q : FVec Ideal S8x2048 .f32) (W : FVec Ideal S2048x12288 .f32)
    (B : FVec Ideal S12288 .f32) (r : Fin 24) (o : Fin 12288) : EReal :=
  (∑ k : Fin 2048, cond P Q r k * Ideal.div 1 (1 + Ideal.exp (-(cond P Q r k))) * W (ix2 k o)) + B (ix1 o)

/-- The grid's points: each window's block index. -/
theorem idx : ∀ t : Fin cfg0.N, win0_0.index t = ![0, 0] ∧ win0_1.index t = ![0, t.val] ∧ win0_2.index t = ![0, t.val]
    ∧ win0_3.index t = ![0, t.val] ∧ t.val < 12 :=
  (by decide +kernel : ∀ t : Fin grid0.N, _)

/-- The arguments as launched: the prompt's and the samples' conditioning, the weights and the bias. -/
abbrev aP (c : Dev nD) : FVec Ideal S16x2048 .f32 := m ((c : Thread nD τ).loc main_arg0)
abbrev aQ (c : Dev nD) : FVec Ideal S8x2048 .f32 := m ((c : Thread nD τ).loc main_arg1)
abbrev aW (c : Dev nD) : FVec Ideal S2048x12288 .f32 := m ((c : Thread nD τ).loc main_arg2)
abbrev aB (c : Dev nD) : FVec Ideal S12288 .f32 := m ((c : Thread nD τ).loc main_arg3)

/-- The two groups' conditioning, stacked. -/
def stacked (P : FVec Ideal S16x2048 .f32) (Q : FVec Ideal S8x2048 .f32) : FVec Ideal S24x2048 .f32 :=
  concatenate S24x2048 0 [⟨S16x2048, P⟩, ⟨S8x2048, Q⟩] concatenates_S16x2048_S8x2048_S24x2048_d0

theorem V_main_v0 (c : Dev nD) : V m c main_v0 = stacked (aP m c) (aQ m c) := by
  simp only [V, hostOps0, List.flatten_cons, List.flatten_nil, List.append_nil, List.cons_append, List.nil_append]
  entry_read
  rfl

theorem V_main_v1 (c : Dev nD) : V m c main_v1 = shapeCast S1x12288 (aB m c) shapeCasts_S12288_S1x12288 := by
  simp only [V, hostOps0, List.flatten_cons, List.flatten_nil, List.append_nil, List.cons_append, List.nil_append]
  entry_read
  rfl

theorem V_main_arg2 (c : Dev nD) : V m c main_arg2 = aW m c := by
  simp only [V, hostOps0, List.flatten_cons, List.flatten_nil, List.append_nil, List.cons_append, List.nil_append]
  entry_read
  rfl

/-! ## The input blocks at coordinates -/

theorem stacked_apply (P : FVec Ideal S16x2048 .f32) (Q : FVec Ideal S8x2048 .f32) (r : Fin 24) (k : Fin 2048) :
    stacked P Q (ix2 r k) = cond P Q r k := by
  pointwise [stacked, cond]

theorem blk0 (c : Dev nD) (t : Fin cfg0.N) (r : Fin 24) (k : Fin 2048) :
    iblk m c 0 t (ix2 r k : S24x2048.Idx) = cond (aP m c) (aQ m c) r k := by
  have h : ((cfg0.win 0).blk t).view.emb (ix2 r k : S24x2048.Idx) = (ix2 r k : S24x2048.Idx) := by
    blk_ext [idx t]
  refine (congrArg (V m c main_v0) h).trans ?_
  rw [V_main_v0]
  exact stacked_apply _ _ r k

theorem blk1 (c : Dev nD) (t : Fin cfg0.N) (k : Fin 2048) (o : Fin 1024) :
    iblk m c 1 t (ix2 k o : S2048x1024.Idx) = aW m c (ix2 k ⟨t.val * 1024 + o.val, by have := (idx t).2.2.2.2; omega⟩) := by
  have ht := (idx t).2.2.2.2
  have h : ((cfg0.win 1).blk t).view.emb (ix2 k o : S2048x1024.Idx) = (ix2 k ⟨t.val * 1024 + o.val, by omega⟩ : S2048x12288.Idx) := by
    blk_ext [idx t]
  exact (congrArg (V m c main_arg2) h).trans (by rw [V_main_arg2])

theorem blk2 (c : Dev nD) (t : Fin cfg0.N) (o : Fin 1024) :
    iblk m c 2 t (ix2 0 o : S1x1024.Idx) = aB m c (ix1 ⟨t.val * 1024 + o.val, by have := (idx t).2.2.2.2; omega⟩) := by
  have ht := (idx t).2.2.2.2
  have h : ((cfg0.win 2).blk t).view.emb (ix2 0 o : S1x1024.Idx) = (ix2 0 ⟨t.val * 1024 + o.val, by omega⟩ : S1x12288.Idx) := by
    blk_ext [idx t]
  refine (congrArg (V m c main_v1) h).trans ?_
  rw [V_main_v1]
  pointwise

/-! ## The table, in the call and in the reference -/

/-- The kernel divides by `1 + exp (-x)`; the reference multiplies by the quotient of one. -/
theorem silu_eq (x : EReal) : Ideal.div x (1 + Ideal.exp (0 - x)) = x * Ideal.div 1 (1 + Ideal.exp (-x)) := by
  rw [sub_eq_add_neg, zero_add]
  have h : (1 + Ideal.exp (-x) : EReal) ≠ 0 := by
    have hp : (0 : EReal) ≤ Ideal.exp (-x) := by
      induction (-x) with
      | bot => exact le_of_eq Ideal.exp_bot.symm
      | top => exact (show (0 : EReal) ≤ ⊤ from le_top)
      | coe r => rw [Ideal.exp_coe]; exact_mod_cast (Real.exp_pos r).le
    exact ne_of_gt (lt_of_lt_of_le zero_lt_one (le_add_of_nonneg_right hp))
  show (if _ then _ else _) = x * (if _ then _ else _)
  rw [if_neg h, if_neg h, one_mul]

theorem ref_prompt (P : FVec Ideal S16x2048 .f32) (W : FVec Ideal S2048x12288 .f32) (B : FVec Ideal S12288 .f32) (r : Fin 16) (o : Fin 12288) :
    Cert.AdalnRefIdeal.Read.val_main_v4 (F := Ideal) P W B (ix2 r o)
      = (∑ k : Fin 2048, P (ix2 r k) * Ideal.div 1 (1 + Ideal.exp (-(P (ix2 r k)))) * W (ix2 k o)) + B (ix1 o) := by
  open Cert.AdalnRefIdeal.Read in
  pointwise [val_main_v4, val_main_v3, val_main_v2, val_main_v1, val_main_v0, val_main_call0_v5, val_main_call0_v4,
    val_main_call0_cst_0, val_main_call0_v3, val_main_call0_v2, val_main_call0_cst, val_main_call0_v1, val_main_call0_v0]

theorem ref_sample (Q : FVec Ideal S8x2048 .f32) (W : FVec Ideal S2048x12288 .f32) (B : FVec Ideal S12288 .f32) (r : Fin 8) (o : Fin 12288) :
    Cert.AdalnRefIdeal.Read.val_main_v9 (F := Ideal) Q W B (ix2 r o)
      = (∑ k : Fin 2048, Q (ix2 r k) * Ideal.div 1 (1 + Ideal.exp (-(Q (ix2 r k)))) * W (ix2 k o)) + B (ix1 o) := by
  open Cert.AdalnRefIdeal.Read in
  pointwise [val_main_v9, val_main_v8, val_main_v7, val_main_v6, val_main_v5, val_main_call1_v5, val_main_call1_v4,
    val_main_call1_cst_0, val_main_call1_v3, val_main_call1_v2, val_main_call1_cst, val_main_call1_v1, val_main_call1_v0]

theorem ref_table (P : FVec Ideal S16x2048 .f32) (Q : FVec Ideal S8x2048 .f32) (W : FVec Ideal S2048x12288 .f32)
    (B : FVec Ideal S12288 .f32) (r : Fin 24) (o : Fin 12288) :
    Cert.AdalnRefIdeal.Read.val_main_v10 (F := Ideal) P Q W B (ix2 r o) = table P Q W B r o := by
  open Cert.AdalnRefIdeal.Read in
  pointwise [val_main_v10, ref_prompt, ref_sample]
  unfold table cond
  split <;> rfl

open Cert.AdalnRefIdeal.Read in
theorem point3 (c : Dev nD) (t : Fin cfg0.N) (y : S24x1024.Idx) :
    out0_3 (iblk m c 0 t) (iblk m c 1 t) (iblk m c 2 t) y
      = val_main_v10 (F := Ideal) (aP m c) (aQ m c) (aW m c) (aB m c) (((cfg0.win 3).blk t).view.emb y) := by
  frame_out
  idx_vars y
  have ht := (idx t).2.2.2.2
  have h : ((cfg0.win 3).blk t).view.emb (ix2 y0 y1 : S24x1024.Idx) = (ix2 y0 ⟨t.val * 1024 + y1.val, by omega⟩ : S24x12288.Idx) := by
    blk_ext [idx t]
  rw [h, ref_table]
  pointwise [k0_pay1, table, blk0, blk1, blk2]
  simp only [silu_eq]

open Cert.AdalnRefIdeal.Read in
/-- The table after the run. -/
theorem final3 (c : Dev nD) : (dats m 0 c).arrAt 3 (cfgs 0).N = val_main_v10 (F := Ideal) (aP m c) (aQ m c) (aW m c) (aB m c) := by
  refine (dats m 0 c).arrAt_eq_of_covers 3 _ (by decide +kernel) fun t _ y => ?_
  blk_simp
  rw [after0_3]
  exact point3 m c t y

end Cert.AdalnIdeal.Value
-- ==== Proof.AdalnClaim.lean ====
module

public import proofs.«01_k».proof.Defs
public import proofs.«01_k».proof.Proof.AdalnValue
public import proofs.«01_k».proof.Proof.Gen.Adaln.Frame
public import proofs.«01_k».proof.Proof.Gen.AdalnIdeal.Frame
public import proofs.«01_k».proof.Proof.Gen.AdalnRefIdeal.Run
public import Idealize.ShloMosaic.Adequacy
public import Idealize.ShloMosaic.Init

/-! The claims about the modulation table: its kernel's result is the reference's, and both programs leave their
    arguments alone. -/

@[expose] public section

set_option maxRecDepth 16384

noncomputable section

namespace Cert.AdalnClaim

open Idealize.ShloMosaic Idealize.SL.Sem

/-- The reference ends with its arguments as it found them and every semaphore at zero. -/
theorem ref_frame : Cert.quiescent_AdalnRefIdeal (hAdalnRefIdeal := Cert.AdalnRefIdeal.Gen.facts) :=
  fun m ρ _ => (θ_run Cert.AdalnRefIdeal.defs _ _).mono
    (fun r h => ⟨fun c => (h c).2, Idealize.ShloMosaic.sem_eq_zero_of_no_sems (by decide) r.2⟩)
    (Cert.AdalnRefIdeal.Value.run (F := Ideal) m ρ)

open Cert.AdalnIdeal.Value in
/-- The kernel and the reference end with equal results. -/
theorem equal : Cert.algebraic_AdalnIdeal_AdalnRefIdeal (hAdalnIdeal := Cert.AdalnIdeal.Gen.facts)
    (hAdalnRefIdeal := Cert.AdalnRefIdeal.Gen.facts) := by
  intro m ρ m' ρ' _ hagree
  refine ⟨fun c => Cert.AdalnRefIdeal.Read.val_main_v10 (F := Ideal) (aP m c) (aQ m c) (aW m c) (aB m c), ?_, ?_⟩
  · refine (θ_run Cert.AdalnIdeal.defs _ _).mono (fun r h c => ?_) (Cert.AdalnIdeal.Value.run_blocks m ρ)
    obtain ⟨h0, hargs⟩ := h c
    exact ⟨h0.trans (final3 m c), hargs⟩
  · refine (θ_run Cert.AdalnRefIdeal.defs _ _).mono (fun r h c => ?_)
      (Cert.AdalnRefIdeal.Value.run (F := Ideal) m' ρ')
    obtain ⟨a0, a1, a2, a3⟩ := hagree c
    obtain ⟨h0, hargs⟩ := h c
    have e0 := h0.trans (Cert.AdalnRefIdeal.Read.val_main_v10_eq _ _ _ _)
    clear h0
    rw [a0, a1, a2, a3] at e0
    exact ⟨e0, hargs⟩

end Cert.AdalnClaim

end
-- ==== Proof.lean ====
/- The proof of the certificate's claim: every frame, every named constant and every equality of
   results, each proved in a module of its own. -/
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.SwaIdeal.Value
public import proofs.«01_k».proof.Proof.Gen.ProjIdeal.Value
public import proofs.«01_k».proof.Proof.Gen.SwaRefIdeal.Run
public import proofs.«01_k».proof.Proof.Gen.SwaRefIdeal.Read
public import proofs.«01_k».proof.Proof.Gen.ProjRefIdeal.Run
public import proofs.«01_k».proof.Proof.Gen.ProjRefIdeal.Read
public import proofs.«01_k».proof.Proof.ProjClaim
public import proofs.«01_k».proof.Proof.SwaClaim
public import proofs.«01_k».proof.Proof.Gen.Pre_swa_finite
public import proofs.«01_k».proof.Proof.OutprojClaim
public import proofs.«01_k».proof.Proof.SglaClaim
public import proofs.«01_k».proof.Proof.PglaClaim
public import proofs.«01_k».proof.Proof.SswaClaim
public import proofs.«01_k».proof.Proof.SoutprojClaim
public import proofs.«01_k».proof.Proof.SprojClaim
public import proofs.«01_k».proof.Proof.AdalnClaim
public import proofs.«01_k».proof.Proof.Gen.AdalnIdeal.Value
public import proofs.«01_k».proof.Proof.Gen.AdalnRefIdeal.Run
public import proofs.«01_k».proof.Proof.Gen.AdalnRefIdeal.Read
public import proofs.«01_k».proof.Proof.Gen.SprojIdeal.Value
public import proofs.«01_k».proof.Proof.Gen.SprojRefIdeal.Run
public import proofs.«01_k».proof.Proof.Gen.SprojRefIdeal.Read
public import proofs.«01_k».proof.Proof.Gen.PglaIdeal.Value
public import proofs.«01_k».proof.Proof.Gen.PglaRefIdeal.Run
public import proofs.«01_k».proof.Proof.Gen.PglaRefIdeal.Read
public import proofs.«01_k».proof.Proof.Gen.Pgla.Frame
public import proofs.«01_k».proof.Proof.Gen.PglaIdeal.Frame
public import proofs.«01_k».proof.Proof.Gen.Pre_gla_finite
public import proofs.«01_k».proof.Proof.Gen.SswaIdeal.Value
public import proofs.«01_k».proof.Proof.Gen.SswaRefIdeal.Run
public import proofs.«01_k».proof.Proof.Gen.SswaRefIdeal.Read
public import proofs.«01_k».proof.Proof.Gen.Sswa.Frame
public import proofs.«01_k».proof.Proof.Gen.SswaIdeal.Frame
public import proofs.«01_k».proof.Proof.Gen.Pre_ssw_finite
public import proofs.«01_k».proof.Proof.Gen.SoutprojIdeal.Value
public import proofs.«01_k».proof.Proof.Gen.SoutprojRefIdeal.Run
public import proofs.«01_k».proof.Proof.Gen.SoutprojRefIdeal.Read
public import proofs.«01_k».proof.Proof.Gen.Soutproj.Frame
public import proofs.«01_k».proof.Proof.Gen.SoutprojIdeal.Frame
public import proofs.«01_k».proof.Proof.Gen.SglaIdeal.Value
public import proofs.«01_k».proof.Proof.Gen.SglaRefIdeal.Run
public import proofs.«01_k».proof.Proof.Gen.SglaRefIdeal.Read
public import proofs.«01_k».proof.Proof.Gen.OutprojIdeal.Value
public import proofs.«01_k».proof.Proof.Gen.OutprojRefIdeal.Run
public import proofs.«01_k».proof.Proof.Gen.OutprojRefIdeal.Read
public import proofs.«01_k».proof.Proof.Gen.Adaln.Frame
public import proofs.«01_k».proof.Proof.Gen.AdalnIdeal.Frame
public import proofs.«01_k».proof.Proof.Gen.Sproj.Frame
public import proofs.«01_k».proof.Proof.Gen.SprojIdeal.Frame
public import proofs.«01_k».proof.Proof.Gen.Sgla.Frame
public import proofs.«01_k».proof.Proof.Gen.SglaIdeal.Frame
public import proofs.«01_k».proof.Proof.Gen.Outproj.Frame
public import proofs.«01_k».proof.Proof.Gen.OutprojIdeal.Frame
public import proofs.«01_k».proof.Proof.Gen.On_prompt_rows
public import Idealize.ShloMosaic.Adequacy
public import Idealize.ShloMosaic.Init

@[expose] public section

noncomputable section

namespace Cert.Proof

open Idealize.ShloMosaic Idealize.SL.Sem Cert.Swa

theorem claim : Cert.Claim :=
  ⟨Cert.Swa.Gen.facts, Cert.SwaIdeal.Gen.facts, Cert.SwaRefIdeal.Gen.facts, Cert.Proj.Gen.facts,
    Cert.ProjIdeal.Gen.facts, Cert.ProjRefIdeal.Gen.facts, Cert.Adaln.Gen.facts, Cert.AdalnIdeal.Gen.facts,
    Cert.AdalnRefIdeal.Gen.facts, Cert.Sproj.Gen.facts, Cert.SprojIdeal.Gen.facts,
    Cert.SprojRefIdeal.Gen.facts, Cert.Sgla.Gen.facts, Cert.SglaIdeal.Gen.facts, Cert.SglaRefIdeal.Gen.facts,
    Cert.Outproj.Gen.facts, Cert.OutprojIdeal.Gen.facts, Cert.OutprojRefIdeal.Gen.facts,
    Cert.Pgla.Gen.facts, Cert.PglaIdeal.Gen.facts, Cert.PglaRefIdeal.Gen.facts,
    Cert.Sswa.Gen.facts, Cert.SswaIdeal.Gen.facts, Cert.SswaRefIdeal.Gen.facts,
    Cert.Soutproj.Gen.facts, Cert.SoutprojIdeal.Gen.facts, Cert.SoutprojRefIdeal.Gen.facts,
    Cert.Pre_swa_finite.Gen.facts, Cert.Pre_gla_finite.Gen.facts, Cert.Pre_ssw_finite.Gen.facts,
    Cert.On_prompt_rows.Gen.facts,
    fun m ρ _ => Cert.Swa.Gen.frame m ρ,
    fun m ρ _ => Cert.SwaIdeal.Gen.frame m ρ,
    fun m ρ _ => Cert.SwaIdeal.Gen.frame m ρ,
    Cert.SwaClaim.ref_frame,
    fun m ρ _ => Cert.SwaClaim.ref_frame m ρ trivial,
    fun m ρ _ => Cert.Proj.Gen.frame m ρ,
    fun m ρ _ => Cert.ProjIdeal.Gen.frame m ρ,
    Cert.ProjClaim.ref_frame,
    fun m ρ _ => Cert.Adaln.Gen.frame m ρ,
    fun m ρ _ => Cert.AdalnIdeal.Gen.frame m ρ,
    Cert.AdalnClaim.ref_frame,
    fun m ρ _ => Cert.Sproj.Gen.frame m ρ,
    fun m ρ _ => Cert.SprojIdeal.Gen.frame m ρ,
    Cert.SprojClaim.ref_frame,
    fun m ρ _ => Cert.Sgla.Gen.frame m ρ,
    fun m ρ _ => Cert.SglaIdeal.Gen.frame m ρ,
    Cert.SglaClaim.ref_frame,
    fun m ρ _ => Cert.Outproj.Gen.frame m ρ,
    fun m ρ _ => Cert.OutprojIdeal.Gen.frame m ρ,
    Cert.OutprojClaim.ref_frame,
    fun m ρ _ => Cert.Pgla.Gen.frame m ρ,
    fun m ρ _ => Cert.PglaIdeal.Gen.frame m ρ,
    fun m ρ _ => Cert.PglaIdeal.Gen.frame m ρ,
    Cert.PglaClaim.ref_frame,
    fun m ρ _ => Cert.PglaClaim.ref_frame m ρ trivial,
    fun m ρ _ => Cert.Sswa.Gen.frame m ρ,
    fun m ρ _ => Cert.SswaIdeal.Gen.frame m ρ,
    fun m ρ _ => Cert.SswaIdeal.Gen.frame m ρ,
    Cert.SswaClaim.ref_frame,
    fun m ρ _ => Cert.SswaClaim.ref_frame m ρ trivial,
    fun m ρ _ => Cert.Soutproj.Gen.frame m ρ,
    fun m ρ _ => Cert.SoutprojIdeal.Gen.frame m ρ,
    Cert.SoutprojClaim.ref_frame,
    IdealRules.named_const.statement Cert.SwaIdeal.κ "mask" .f32 0xF149F2CA#32 ⊥ rfl,
    Cert.SwaClaim.equal,
    trivial,
    Cert.ProjClaim.equal,
    trivial,
    Cert.AdalnClaim.equal,
    trivial,
    Cert.SprojClaim.equal,
    trivial,
    Cert.SglaClaim.equal,
    trivial,
    Cert.OutprojClaim.equal,
    trivial,
    Cert.PglaClaim.equal,
    IdealRules.named_const.statement Cert.SswaIdeal.κ "mask" .f32 0xF149F2CA#32 ⊥ rfl,
    Cert.SswaClaim.equal,
    trivial,
    Cert.SoutprojClaim.equal⟩

end Cert.Proof

end
